-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpIdeal_finite_inp [hPre_finite_inp : Cert.Pre_finite_inp.Facts] (m : (ℓ : Loc Cert.InpIdeal.nD Cert.InpIdeal.τ Cert.InpIdeal.sig) → Buf (Elt Ideal) ℓ) : Prop :=
  ∀ c : Dev Cert.InpIdeal.nD,
    (Cert.Pre_finite_inp.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4))).1 = (fun _ => 1#1)
    ∧ (Cert.Pre_finite_inp.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4))).2.1 = (fun _ => 1#1)
    ∧ (Cert.Pre_finite_inp.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4))).2.2.1 = (fun _ => 1#1)
    ∧ (Cert.Pre_finite_inp.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4))).2.2.2 = (fun _ => 1#1)

def Pre_InpRefIdeal (m : (ℓ : Loc Cert.InpRefIdeal.nD Cert.InpRefIdeal.τ Cert.InpRefIdeal.sig) → Buf (Elt Ideal) ℓ) : Prop :=
  True

def Pre_InpRefIdeal_finite_inp [hPre_finite_inp : Cert.Pre_finite_inp.Facts] (m : (ℓ : Loc Cert.InpRefIdeal.nD Cert.InpRefIdeal.τ Cert.InpRefIdeal.sig) → Buf (Elt Ideal) ℓ) : Prop :=
  ∀ c : Dev Cert.InpRefIdeal.nD,
    (Cert.Pre_finite_inp.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4))).1 = (fun _ => 1#1)
    ∧ (Cert.Pre_finite_inp.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4))).2.1 = (fun _ => 1#1)
    ∧ (Cert.Pre_finite_inp.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4))).2.2.1 = (fun _ => 1#1)
    ∧ (Cert.Pre_finite_inp.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4))).2.2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_finite_mlp [hPre_finite_mlp : Cert.Pre_finite_mlp.Facts] (m : (ℓ : Loc Cert.MlpIdeal.nD Cert.MlpIdeal.τ Cert.MlpIdeal.sig) → Buf (Elt Ideal) ℓ) : Prop :=
  ∀ c : Dev Cert.MlpIdeal.nD,
    (Cert.Pre_finite_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).1 = (fun _ => 1#1)
    ∧ (Cert.Pre_finite_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).2.1 = (fun _ => 1#1)
    ∧ (Cert.Pre_finite_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).2.2.1 = (fun _ => 1#1)
    ∧ (Cert.Pre_finite_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).2.2.2.1 = (fun _ => 1#1)
    ∧ (Cert.Pre_finite_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).2.2.2.2.1 = (fun _ => 1#1)
    ∧ (Cert.Pre_finite_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).2.2.2.2.2 = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_finite_mlp [hPre_finite_mlp : Cert.Pre_finite_mlp.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.2.1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.2.2.1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.2.2.2.1 = (fun _ => 1#1)
    ∧ (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.2.2.2.2 = (fun _ => 1#1)

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttRefIdeal (m : (ℓ : Loc Cert.AttRefIdeal.nD Cert.AttRefIdeal.τ Cert.AttRefIdeal.sig) → Buf (Elt Ideal) ℓ) : Prop :=
  True

def Pre_Mixf (m : (ℓ : Loc Cert.Mixf.nD Cert.Mixf.τ Cert.Mixf.sig) → Buf (Elt Bits) ℓ) : Prop :=
  True

def Pre_MixfIdeal (m : (ℓ : Loc Cert.MixfIdeal.nD Cert.MixfIdeal.τ Cert.MixfIdeal.sig) → Buf (Elt Ideal) ℓ) : Prop :=
  True

def Pre_MixfRefIdeal (m : (ℓ : Loc Cert.MixfRefIdeal.nD Cert.MixfRefIdeal.τ Cert.MixfRefIdeal.sig) → Buf (Elt Ideal) ℓ) : Prop :=
  True

def Pre_Mm (m : (ℓ : Loc Cert.Mm.nD Cert.Mm.τ Cert.Mm.sig) → Buf (Elt Bits) ℓ) : Prop :=
  True

def Pre_MmIdeal (m : (ℓ : Loc Cert.MmIdeal.nD Cert.MmIdeal.τ Cert.MmIdeal.sig) → Buf (Elt Ideal) ℓ) : Prop :=
  True

def Pre_MmRefIdeal (m : (ℓ : Loc Cert.MmRefIdeal.nD Cert.MmRefIdeal.τ Cert.MmRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ r.2.sem = fun _ => 0)

def quiescent_InpIdeal_pre_finite_inp [hInpIdeal : Cert.InpIdeal.Facts] [hPre_finite_inp : Cert.Pre_finite_inp.Facts] : Prop :=
  ∀ (m : (ℓ : Loc Cert.InpIdeal.nD Cert.InpIdeal.τ Cert.InpIdeal.sig) → Buf (Elt Ideal) ℓ) (g : Dev Cert.InpIdeal.nD → PrngReg), Pre_InpIdeal_finite_inp m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4))
      ∧ r.2.sem = fun _ => 0)

def quiescent_InpRefIdeal_pre_finite_inp [hInpRefIdeal : Cert.InpRefIdeal.Facts] [hPre_finite_inp : Cert.Pre_finite_inp.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal_finite_inp m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpIdeal_pre_finite_mlp [hMlpIdeal : Cert.MlpIdeal.Facts] [hPre_finite_mlp : Cert.Pre_finite_mlp.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_finite_mlp m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_MlpRefIdeal_pre_finite_mlp [hMlpRefIdeal : Cert.MlpRefIdeal.Facts] [hPre_finite_mlp : Cert.Pre_finite_mlp.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_finite_mlp m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1)
      ∧ r.2.mem ((c.tc : Thread Cert.Att.nD Cert.Att.τ).loc Cert.Att.main_arg2) = m ((c.tc : Thread Cert.Att.nD Cert.Att.τ).loc Cert.Att.main_arg2)
      ∧ r.2.mem ((c.tc : Thread Cert.Att.nD Cert.Att.τ).loc Cert.Att.main_arg3) = m ((c.tc : Thread Cert.Att.nD Cert.Att.τ).loc Cert.Att.main_arg3)
      ∧ r.2.mem ((c.tc : Thread Cert.Att.nD Cert.Att.τ).loc Cert.Att.main_arg4) = m ((c.tc : Thread Cert.Att.nD Cert.Att.τ).loc Cert.Att.main_arg4))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
      ∧ r.2.mem ((c.tc : Thread Cert.AttIdeal.nD Cert.AttIdeal.τ).loc Cert.AttIdeal.main_arg3) = m ((c.tc : Thread Cert.AttIdeal.nD Cert.AttIdeal.τ).loc Cert.AttIdeal.main_arg3)
      ∧ r.2.mem ((c.tc : Thread Cert.AttIdeal.nD Cert.AttIdeal.τ).loc Cert.AttIdeal.main_arg4) = m ((c.tc : Thread Cert.AttIdeal.nD Cert.AttIdeal.τ).loc Cert.AttIdeal.main_arg4))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2)
      ∧ r.2.mem ((c.tc : Thread Cert.AttRefIdeal.nD Cert.AttRefIdeal.τ).loc Cert.AttRefIdeal.main_arg3) = m ((c.tc : Thread Cert.AttRefIdeal.nD Cert.AttRefIdeal.τ).loc Cert.AttRefIdeal.main_arg3)
      ∧ r.2.mem ((c.tc : Thread Cert.AttRefIdeal.nD Cert.AttRefIdeal.τ).loc Cert.AttRefIdeal.main_arg4) = m ((c.tc : Thread Cert.AttRefIdeal.nD Cert.AttRefIdeal.τ).loc Cert.AttRefIdeal.main_arg4))
      ∧ r.2.sem = fun _ => 0)

def quiescent_Mixf [hMixf : Cert.Mixf.Facts] : Prop :=
  ∀ (m : (ℓ : Loc Cert.Mixf.nD Cert.Mixf.τ Cert.Mixf.sig) → Buf (Elt Bits) ℓ) (g : Dev Cert.Mixf.nD → PrngReg), Pre_Mixf m →
    θ_run (Cert.Mixf.defs (F := Bits)) (onTc (τ := Cert.Mixf.τ) (Cert.Mixf.main (F := Bits))) ⟨m, fun _ => 0, g⟩ (fun r => (∀ c : Dev Cert.Mixf.nD,
      r.2.mem ((c.tc : Thread Cert.Mixf.nD Cert.Mixf.τ).loc Cert.Mixf.main_arg0) = m ((c.tc : Thread Cert.Mixf.nD Cert.Mixf.τ).loc Cert.Mixf.main_arg0)
      ∧ r.2.mem ((c.tc : Thread Cert.Mixf.nD Cert.Mixf.τ).loc Cert.Mixf.main_arg1) = m ((c.tc : Thread Cert.Mixf.nD Cert.Mixf.τ).loc Cert.Mixf.main_arg1)
      ∧ r.2.mem ((c.tc : Thread Cert.Mixf.nD Cert.Mixf.τ).loc Cert.Mixf.main_arg2) = m ((c.tc : Thread Cert.Mixf.nD Cert.Mixf.τ).loc Cert.Mixf.main_arg2)
      ∧ r.2.mem ((c.tc : Thread Cert.Mixf.nD Cert.Mixf.τ).loc Cert.Mixf.main_arg3) = m ((c.tc : Thread Cert.Mixf.nD Cert.Mixf.τ).loc Cert.Mixf.main_arg3)
      ∧ r.2.mem ((c.tc : Thread Cert.Mixf.nD Cert.Mixf.τ).loc Cert.Mixf.main_arg4) = m ((c.tc : Thread Cert.Mixf.nD Cert.Mixf.τ).loc Cert.Mixf.main_arg4)
      ∧ r.2.mem ((c.tc : Thread Cert.Mixf.nD Cert.Mixf.τ).loc Cert.Mixf.main_arg5) = m ((c.tc : Thread Cert.Mixf.nD Cert.Mixf.τ).loc Cert.Mixf.main_arg5)
      ∧ r.2.mem ((c.tc : Thread Cert.Mixf.nD Cert.Mixf.τ).loc Cert.Mixf.main_arg6) = m ((c.tc : Thread Cert.Mixf.nD Cert.Mixf.τ).loc Cert.Mixf.main_arg6)
      ∧ r.2.mem ((c.tc : Thread Cert.Mixf.nD Cert.Mixf.τ).loc Cert.Mixf.main_arg7) = m ((c.tc : Thread Cert.Mixf.nD Cert.Mixf.τ).loc Cert.Mixf.main_arg7))
      ∧ r.2.sem = fun _ => 0)

def quiescent_MixfIdeal [hMixfIdeal : Cert.MixfIdeal.Facts] : Prop :=
  ∀ (m : (ℓ : Loc Cert.MixfIdeal.nD Cert.MixfIdeal.τ Cert.MixfIdeal.sig) → Buf (Elt Ideal) ℓ) (g : Dev Cert.MixfIdeal.nD → PrngReg), Pre_MixfIdeal m →
    θ_run (Cert.MixfIdeal.defs (F := Ideal)) (onTc (τ := Cert.MixfIdeal.τ) (Cert.MixfIdeal.main (F := Ideal))) ⟨m, fun _ => 0, g⟩ (fun r => (∀ c : Dev Cert.MixfIdeal.nD,
      r.2.mem ((c.tc : Thread Cert.MixfIdeal.nD Cert.MixfIdeal.τ).loc Cert.MixfIdeal.main_arg0) = m ((c.tc : Thread Cert.MixfIdeal.nD Cert.MixfIdeal.τ).loc Cert.MixfIdeal.main_arg0)
      ∧ r.2.mem ((c.tc : Thread Cert.MixfIdeal.nD Cert.MixfIdeal.τ).loc Cert.MixfIdeal.main_arg1) = m ((c.tc : Thread Cert.MixfIdeal.nD Cert.MixfIdeal.τ).loc Cert.MixfIdeal.main_arg1)
      ∧ r.2.mem ((c.tc : Thread Cert.MixfIdeal.nD Cert.MixfIdeal.τ).loc Cert.MixfIdeal.main_arg2) = m ((c.tc : Thread Cert.MixfIdeal.nD Cert.MixfIdeal.τ).loc Cert.MixfIdeal.main_arg2)
      ∧ r.2.mem ((c.tc : Thread Cert.MixfIdeal.nD Cert.MixfIdeal.τ).loc Cert.MixfIdeal.main_arg3) = m ((c.tc : Thread Cert.MixfIdeal.nD Cert.MixfIdeal.τ).loc Cert.MixfIdeal.main_arg3)
      ∧ r.2.mem ((c.tc : Thread Cert.MixfIdeal.nD Cert.MixfIdeal.τ).loc Cert.MixfIdeal.main_arg4) = m ((c.tc : Thread Cert.MixfIdeal.nD Cert.MixfIdeal.τ).loc Cert.MixfIdeal.main_arg4)
      ∧ r.2.mem ((c.tc : Thread Cert.MixfIdeal.nD Cert.MixfIdeal.τ).loc Cert.MixfIdeal.main_arg5) = m ((c.tc : Thread Cert.MixfIdeal.nD Cert.MixfIdeal.τ).loc Cert.MixfIdeal.main_arg5)
      ∧ r.2.mem ((c.tc : Thread Cert.MixfIdeal.nD Cert.MixfIdeal.τ).loc Cert.MixfIdeal.main_arg6) = m ((c.tc : Thread Cert.MixfIdeal.nD Cert.MixfIdeal.τ).loc Cert.MixfIdeal.main_arg6)
      ∧ r.2.mem ((c.tc : Thread Cert.MixfIdeal.nD Cert.MixfIdeal.τ).loc Cert.MixfIdeal.main_arg7) = m ((c.tc : Thread Cert.MixfIdeal.nD Cert.MixfIdeal.τ).loc Cert.MixfIdeal.main_arg7))
      ∧ r.2.sem = fun _ => 0)

def quiescent_MixfRefIdeal [hMixfRefIdeal : Cert.MixfRefIdeal.Facts] : Prop :=
  ∀ (m : (ℓ : Loc Cert.MixfRefIdeal.nD Cert.MixfRefIdeal.τ Cert.MixfRefIdeal.sig) → Buf (Elt Ideal) ℓ) (g : Dev Cert.MixfRefIdeal.nD → PrngReg), Pre_MixfRefIdeal m →
    θ_run (Cert.MixfRefIdeal.defs (F := Ideal)) (onTc (τ := Cert.MixfRefIdeal.τ) (Cert.MixfRefIdeal.main (F := Ideal))) ⟨m, fun _ => 0, g⟩ (fun r => (∀ c : Dev Cert.MixfRefIdeal.nD,
      r.2.mem ((c.tc : Thread Cert.MixfRefIdeal.nD Cert.MixfRefIdeal.τ).loc Cert.MixfRefIdeal.main_arg0) = m ((c.tc : Thread Cert.MixfRefIdeal.nD Cert.MixfRefIdeal.τ).loc Cert.MixfRefIdeal.main_arg0)
      ∧ r.2.mem ((c.tc : Thread Cert.MixfRefIdeal.nD Cert.MixfRefIdeal.τ).loc Cert.MixfRefIdeal.main_arg1) = m ((c.tc : Thread Cert.MixfRefIdeal.nD Cert.MixfRefIdeal.τ).loc Cert.MixfRefIdeal.main_arg1)
      ∧ r.2.mem ((c.tc : Thread Cert.MixfRefIdeal.nD Cert.MixfRefIdeal.τ).loc Cert.MixfRefIdeal.main_arg2) = m ((c.tc : Thread Cert.MixfRefIdeal.nD Cert.MixfRefIdeal.τ).loc Cert.MixfRefIdeal.main_arg2)
      ∧ r.2.mem ((c.tc : Thread Cert.MixfRefIdeal.nD Cert.MixfRefIdeal.τ).loc Cert.MixfRefIdeal.main_arg3) = m ((c.tc : Thread Cert.MixfRefIdeal.nD Cert.MixfRefIdeal.τ).loc Cert.MixfRefIdeal.main_arg3)
      ∧ r.2.mem ((c.tc : Thread Cert.MixfRefIdeal.nD Cert.MixfRefIdeal.τ).loc Cert.MixfRefIdeal.main_arg4) = m ((c.tc : Thread Cert.MixfRefIdeal.nD Cert.MixfRefIdeal.τ).loc Cert.MixfRefIdeal.main_arg4)
      ∧ r.2.mem ((c.tc : Thread Cert.MixfRefIdeal.nD Cert.MixfRefIdeal.τ).loc Cert.MixfRefIdeal.main_arg5) = m ((c.tc : Thread Cert.MixfRefIdeal.nD Cert.MixfRefIdeal.τ).loc Cert.MixfRefIdeal.main_arg5)
      ∧ r.2.mem ((c.tc : Thread Cert.MixfRefIdeal.nD Cert.MixfRefIdeal.τ).loc Cert.MixfRefIdeal.main_arg6) = m ((c.tc : Thread Cert.MixfRefIdeal.nD Cert.MixfRefIdeal.τ).loc Cert.MixfRefIdeal.main_arg6)
      ∧ r.2.mem ((c.tc : Thread Cert.MixfRefIdeal.nD Cert.MixfRefIdeal.τ).loc Cert.MixfRefIdeal.main_arg7) = m ((c.tc : Thread Cert.MixfRefIdeal.nD Cert.MixfRefIdeal.τ).loc Cert.MixfRefIdeal.main_arg7))
      ∧ r.2.sem = fun _ => 0)

def quiescent_Mm [hMm : Cert.Mm.Facts] : Prop :=
  ∀ (m : (ℓ : Loc Cert.Mm.nD Cert.Mm.τ Cert.Mm.sig) → Buf (Elt Bits) ℓ) (g : Dev Cert.Mm.nD → PrngReg), Pre_Mm m →
    θ_run (Cert.Mm.defs (F := Bits)) (onTc (τ := Cert.Mm.τ) (Cert.Mm.main (F := Bits))) ⟨m, fun _ => 0, g⟩ (fun r => (∀ c : Dev Cert.Mm.nD,
      r.2.mem ((c.tc : Thread Cert.Mm.nD Cert.Mm.τ).loc Cert.Mm.main_arg0) = m ((c.tc : Thread Cert.Mm.nD Cert.Mm.τ).loc Cert.Mm.main_arg0)
      ∧ r.2.mem ((c.tc : Thread Cert.Mm.nD Cert.Mm.τ).loc Cert.Mm.main_arg1) = m ((c.tc : Thread Cert.Mm.nD Cert.Mm.τ).loc Cert.Mm.main_arg1))
      ∧ r.2.sem = fun _ => 0)

def quiescent_MmIdeal [hMmIdeal : Cert.MmIdeal.Facts] : Prop :=
  ∀ (m : (ℓ : Loc Cert.MmIdeal.nD Cert.MmIdeal.τ Cert.MmIdeal.sig) → Buf (Elt Ideal) ℓ) (g : Dev Cert.MmIdeal.nD → PrngReg), Pre_MmIdeal m →
    θ_run (Cert.MmIdeal.defs (F := Ideal)) (onTc (τ := Cert.MmIdeal.τ) (Cert.MmIdeal.main (F := Ideal))) ⟨m, fun _ => 0, g⟩ (fun r => (∀ c : Dev Cert.MmIdeal.nD,
      r.2.mem ((c.tc : Thread Cert.MmIdeal.nD Cert.MmIdeal.τ).loc Cert.MmIdeal.main_arg0) = m ((c.tc : Thread Cert.MmIdeal.nD Cert.MmIdeal.τ).loc Cert.MmIdeal.main_arg0)
      ∧ r.2.mem ((c.tc : Thread Cert.MmIdeal.nD Cert.MmIdeal.τ).loc Cert.MmIdeal.main_arg1) = m ((c.tc : Thread Cert.MmIdeal.nD Cert.MmIdeal.τ).loc Cert.MmIdeal.main_arg1))
      ∧ r.2.sem = fun _ => 0)

def quiescent_MmRefIdeal [hMmRefIdeal : Cert.MmRefIdeal.Facts] : Prop :=
  ∀ (m : (ℓ : Loc Cert.MmRefIdeal.nD Cert.MmRefIdeal.τ Cert.MmRefIdeal.sig) → Buf (Elt Ideal) ℓ) (g : Dev Cert.MmRefIdeal.nD → PrngReg), Pre_MmRefIdeal m →
    θ_run (Cert.MmRefIdeal.defs (F := Ideal)) (onTc (τ := Cert.MmRefIdeal.τ) (Cert.MmRefIdeal.main (F := Ideal))) ⟨m, fun _ => 0, g⟩ (fun r => (∀ c : Dev Cert.MmRefIdeal.nD,
      r.2.mem ((c.tc : Thread Cert.MmRefIdeal.nD Cert.MmRefIdeal.τ).loc Cert.MmRefIdeal.main_arg0) = m ((c.tc : Thread Cert.MmRefIdeal.nD Cert.MmRefIdeal.τ).loc Cert.MmRefIdeal.main_arg0)
      ∧ r.2.mem ((c.tc : Thread Cert.MmRefIdeal.nD Cert.MmRefIdeal.τ).loc Cert.MmRefIdeal.main_arg1) = m ((c.tc : Thread Cert.MmRefIdeal.nD Cert.MmRefIdeal.τ).loc Cert.MmRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4)
      ∧ r.2.mem ((c.tc : Thread Cert.Adam.nD Cert.Adam.τ).loc Cert.Adam.main_arg5) = m ((c.tc : Thread Cert.Adam.nD Cert.Adam.τ).loc Cert.Adam.main_arg5)
      ∧ r.2.mem ((c.tc : Thread Cert.Adam.nD Cert.Adam.τ).loc Cert.Adam.main_arg6) = m ((c.tc : Thread Cert.Adam.nD Cert.Adam.τ).loc Cert.Adam.main_arg6)
      ∧ r.2.mem ((c.tc : Thread Cert.Adam.nD Cert.Adam.τ).loc Cert.Adam.main_arg7) = m ((c.tc : Thread Cert.Adam.nD Cert.Adam.τ).loc Cert.Adam.main_arg7)
      ∧ r.2.mem ((c.tc : Thread Cert.Adam.nD Cert.Adam.τ).loc Cert.Adam.main_arg8) = m ((c.tc : Thread Cert.Adam.nD Cert.Adam.τ).loc Cert.Adam.main_arg8)
      ∧ r.2.mem ((c.tc : Thread Cert.Adam.nD Cert.Adam.τ).loc Cert.Adam.main_arg9) = m ((c.tc : Thread Cert.Adam.nD Cert.Adam.τ).loc Cert.Adam.main_arg9)
      ∧ r.2.mem ((c.tc : Thread Cert.Adam.nD Cert.Adam.τ).loc Cert.Adam.main_arg10) = m ((c.tc : Thread Cert.Adam.nD Cert.Adam.τ).loc Cert.Adam.main_arg10)
      ∧ r.2.mem ((c.tc : Thread Cert.Adam.nD Cert.Adam.τ).loc Cert.Adam.main_arg11) = m ((c.tc : Thread Cert.Adam.nD Cert.Adam.τ).loc Cert.Adam.main_arg11)
      ∧ r.2.mem ((c.tc : Thread Cert.Adam.nD Cert.Adam.τ).loc Cert.Adam.main_arg12) = m ((c.tc : Thread Cert.Adam.nD Cert.Adam.τ).loc Cert.Adam.main_arg12)
      ∧ r.2.mem ((c.tc : Thread Cert.Adam.nD Cert.Adam.τ).loc Cert.Adam.main_arg13) = m ((c.tc : Thread Cert.Adam.nD Cert.Adam.τ).loc Cert.Adam.main_arg13)
      ∧ r.2.mem ((c.tc : Thread Cert.Adam.nD Cert.Adam.τ).loc Cert.Adam.main_arg14) = m ((c.tc : Thread Cert.Adam.nD Cert.Adam.τ).loc Cert.Adam.main_arg14)
      ∧ r.2.mem ((c.tc : Thread Cert.Adam.nD Cert.Adam.τ).loc Cert.Adam.main_arg15) = m ((c.tc : Thread Cert.Adam.nD Cert.Adam.τ).loc Cert.Adam.main_arg15)
      ∧ r.2.mem ((c.tc : Thread Cert.Adam.nD Cert.Adam.τ).loc Cert.Adam.main_arg16) = m ((c.tc : Thread Cert.Adam.nD Cert.Adam.τ).loc Cert.Adam.main_arg16)
      ∧ r.2.mem ((c.tc : Thread Cert.Adam.nD Cert.Adam.τ).loc Cert.Adam.main_arg17) = m ((c.tc : Thread Cert.Adam.nD Cert.Adam.τ).loc Cert.Adam.main_arg17)
      ∧ r.2.mem ((c.tc : Thread Cert.Adam.nD Cert.Adam.τ).loc Cert.Adam.main_arg18) = m ((c.tc : Thread Cert.Adam.nD Cert.Adam.τ).loc Cert.Adam.main_arg18)
      ∧ r.2.mem ((c.tc : Thread Cert.Adam.nD Cert.Adam.τ).loc Cert.Adam.main_arg19) = m ((c.tc : Thread Cert.Adam.nD Cert.Adam.τ).loc Cert.Adam.main_arg19)
      ∧ r.2.mem ((c.tc : Thread Cert.Adam.nD Cert.Adam.τ).loc Cert.Adam.main_arg20) = m ((c.tc : Thread Cert.Adam.nD Cert.Adam.τ).loc Cert.Adam.main_arg20)
      ∧ r.2.mem ((c.tc : Thread Cert.Adam.nD Cert.Adam.τ).loc Cert.Adam.main_arg21) = m ((c.tc : Thread Cert.Adam.nD Cert.Adam.τ).loc Cert.Adam.main_arg21)
      ∧ r.2.mem ((c.tc : Thread Cert.Adam.nD Cert.Adam.τ).loc Cert.Adam.main_arg22) = m ((c.tc : Thread Cert.Adam.nD Cert.Adam.τ).loc Cert.Adam.main_arg22)
      ∧ r.2.mem ((c.tc : Thread Cert.Adam.nD Cert.Adam.τ).loc Cert.Adam.main_arg23) = m ((c.tc : Thread Cert.Adam.nD Cert.Adam.τ).loc Cert.Adam.main_arg23))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
      ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
      ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
      ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7)
      ∧ r.2.mem ((c.tc : Thread Cert.AdamIdeal.nD Cert.AdamIdeal.τ).loc Cert.AdamIdeal.main_arg8) = m ((c.tc : Thread Cert.AdamIdeal.nD Cert.AdamIdeal.τ).loc Cert.AdamIdeal.main_arg8)
      ∧ r.2.mem ((c.tc : Thread Cert.AdamIdeal.nD Cert.AdamIdeal.τ).loc Cert.AdamIdeal.main_arg9) = m ((c.tc : Thread Cert.AdamIdeal.nD Cert.AdamIdeal.τ).loc Cert.AdamIdeal.main_arg9)
      ∧ r.2.mem ((c.tc : Thread Cert.AdamIdeal.nD Cert.AdamIdeal.τ).loc Cert.AdamIdeal.main_arg10) = m ((c.tc : Thread Cert.AdamIdeal.nD Cert.AdamIdeal.τ).loc Cert.AdamIdeal.main_arg10)
      ∧ r.2.mem ((c.tc : Thread Cert.AdamIdeal.nD Cert.AdamIdeal.τ).loc Cert.AdamIdeal.main_arg11) = m ((c.tc : Thread Cert.AdamIdeal.nD Cert.AdamIdeal.τ).loc Cert.AdamIdeal.main_arg11)
      ∧ r.2.mem ((c.tc : Thread Cert.AdamIdeal.nD Cert.AdamIdeal.τ).loc Cert.AdamIdeal.main_arg12) = m ((c.tc : Thread Cert.AdamIdeal.nD Cert.AdamIdeal.τ).loc Cert.AdamIdeal.main_arg12)
      ∧ r.2.mem ((c.tc : Thread Cert.AdamIdeal.nD Cert.AdamIdeal.τ).loc Cert.AdamIdeal.main_arg13) = m ((c.tc : Thread Cert.AdamIdeal.nD Cert.AdamIdeal.τ).loc Cert.AdamIdeal.main_arg13)
      ∧ r.2.mem ((c.tc : Thread Cert.AdamIdeal.nD Cert.AdamIdeal.τ).loc Cert.AdamIdeal.main_arg14) = m ((c.tc : Thread Cert.AdamIdeal.nD Cert.AdamIdeal.τ).loc Cert.AdamIdeal.main_arg14)
      ∧ r.2.mem ((c.tc : Thread Cert.AdamIdeal.nD Cert.AdamIdeal.τ).loc Cert.AdamIdeal.main_arg15) = m ((c.tc : Thread Cert.AdamIdeal.nD Cert.AdamIdeal.τ).loc Cert.AdamIdeal.main_arg15)
      ∧ r.2.mem ((c.tc : Thread Cert.AdamIdeal.nD Cert.AdamIdeal.τ).loc Cert.AdamIdeal.main_arg16) = m ((c.tc : Thread Cert.AdamIdeal.nD Cert.AdamIdeal.τ).loc Cert.AdamIdeal.main_arg16)
      ∧ r.2.mem ((c.tc : Thread Cert.AdamIdeal.nD Cert.AdamIdeal.τ).loc Cert.AdamIdeal.main_arg17) = m ((c.tc : Thread Cert.AdamIdeal.nD Cert.AdamIdeal.τ).loc Cert.AdamIdeal.main_arg17)
      ∧ r.2.mem ((c.tc : Thread Cert.AdamIdeal.nD Cert.AdamIdeal.τ).loc Cert.AdamIdeal.main_arg18) = m ((c.tc : Thread Cert.AdamIdeal.nD Cert.AdamIdeal.τ).loc Cert.AdamIdeal.main_arg18)
      ∧ r.2.mem ((c.tc : Thread Cert.AdamIdeal.nD Cert.AdamIdeal.τ).loc Cert.AdamIdeal.main_arg19) = m ((c.tc : Thread Cert.AdamIdeal.nD Cert.AdamIdeal.τ).loc Cert.AdamIdeal.main_arg19)
      ∧ r.2.mem ((c.tc : Thread Cert.AdamIdeal.nD Cert.AdamIdeal.τ).loc Cert.AdamIdeal.main_arg20) = m ((c.tc : Thread Cert.AdamIdeal.nD Cert.AdamIdeal.τ).loc Cert.AdamIdeal.main_arg20)
      ∧ r.2.mem ((c.tc : Thread Cert.AdamIdeal.nD Cert.AdamIdeal.τ).loc Cert.AdamIdeal.main_arg21) = m ((c.tc : Thread Cert.AdamIdeal.nD Cert.AdamIdeal.τ).loc Cert.AdamIdeal.main_arg21)
      ∧ r.2.mem ((c.tc : Thread Cert.AdamIdeal.nD Cert.AdamIdeal.τ).loc Cert.AdamIdeal.main_arg22) = m ((c.tc : Thread Cert.AdamIdeal.nD Cert.AdamIdeal.τ).loc Cert.AdamIdeal.main_arg22)
      ∧ r.2.mem ((c.tc : Thread Cert.AdamIdeal.nD Cert.AdamIdeal.τ).loc Cert.AdamIdeal.main_arg23) = m ((c.tc : Thread Cert.AdamIdeal.nD Cert.AdamIdeal.τ).loc Cert.AdamIdeal.main_arg23))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4)
      ∧ r.2.mem ((c.tc : Thread Cert.AdamRefIdeal.nD Cert.AdamRefIdeal.τ).loc Cert.AdamRefIdeal.main_arg5) = m ((c.tc : Thread Cert.AdamRefIdeal.nD Cert.AdamRefIdeal.τ).loc Cert.AdamRefIdeal.main_arg5)
      ∧ r.2.mem ((c.tc : Thread Cert.AdamRefIdeal.nD Cert.AdamRefIdeal.τ).loc Cert.AdamRefIdeal.main_arg6) = m ((c.tc : Thread Cert.AdamRefIdeal.nD Cert.AdamRefIdeal.τ).loc Cert.AdamRefIdeal.main_arg6)
      ∧ r.2.mem ((c.tc : Thread Cert.AdamRefIdeal.nD Cert.AdamRefIdeal.τ).loc Cert.AdamRefIdeal.main_arg7) = m ((c.tc : Thread Cert.AdamRefIdeal.nD Cert.AdamRefIdeal.τ).loc Cert.AdamRefIdeal.main_arg7)
      ∧ r.2.mem ((c.tc : Thread Cert.AdamRefIdeal.nD Cert.AdamRefIdeal.τ).loc Cert.AdamRefIdeal.main_arg8) = m ((c.tc : Thread Cert.AdamRefIdeal.nD Cert.AdamRefIdeal.τ).loc Cert.AdamRefIdeal.main_arg8)
      ∧ r.2.mem ((c.tc : Thread Cert.AdamRefIdeal.nD Cert.AdamRefIdeal.τ).loc Cert.AdamRefIdeal.main_arg9) = m ((c.tc : Thread Cert.AdamRefIdeal.nD Cert.AdamRefIdeal.τ).loc Cert.AdamRefIdeal.main_arg9)
      ∧ r.2.mem ((c.tc : Thread Cert.AdamRefIdeal.nD Cert.AdamRefIdeal.τ).loc Cert.AdamRefIdeal.main_arg10) = m ((c.tc : Thread Cert.AdamRefIdeal.nD Cert.AdamRefIdeal.τ).loc Cert.AdamRefIdeal.main_arg10)
      ∧ r.2.mem ((c.tc : Thread Cert.AdamRefIdeal.nD Cert.AdamRefIdeal.τ).loc Cert.AdamRefIdeal.main_arg11) = m ((c.tc : Thread Cert.AdamRefIdeal.nD Cert.AdamRefIdeal.τ).loc Cert.AdamRefIdeal.main_arg11)
      ∧ r.2.mem ((c.tc : Thread Cert.AdamRefIdeal.nD Cert.AdamRefIdeal.τ).loc Cert.AdamRefIdeal.main_arg12) = m ((c.tc : Thread Cert.AdamRefIdeal.nD Cert.AdamRefIdeal.τ).loc Cert.AdamRefIdeal.main_arg12)
      ∧ r.2.mem ((c.tc : Thread Cert.AdamRefIdeal.nD Cert.AdamRefIdeal.τ).loc Cert.AdamRefIdeal.main_arg13) = m ((c.tc : Thread Cert.AdamRefIdeal.nD Cert.AdamRefIdeal.τ).loc Cert.AdamRefIdeal.main_arg13)
      ∧ r.2.mem ((c.tc : Thread Cert.AdamRefIdeal.nD Cert.AdamRefIdeal.τ).loc Cert.AdamRefIdeal.main_arg14) = m ((c.tc : Thread Cert.AdamRefIdeal.nD Cert.AdamRefIdeal.τ).loc Cert.AdamRefIdeal.main_arg14)
      ∧ r.2.mem ((c.tc : Thread Cert.AdamRefIdeal.nD Cert.AdamRefIdeal.τ).loc Cert.AdamRefIdeal.main_arg15) = m ((c.tc : Thread Cert.AdamRefIdeal.nD Cert.AdamRefIdeal.τ).loc Cert.AdamRefIdeal.main_arg15)
      ∧ r.2.mem ((c.tc : Thread Cert.AdamRefIdeal.nD Cert.AdamRefIdeal.τ).loc Cert.AdamRefIdeal.main_arg16) = m ((c.tc : Thread Cert.AdamRefIdeal.nD Cert.AdamRefIdeal.τ).loc Cert.AdamRefIdeal.main_arg16)
      ∧ r.2.mem ((c.tc : Thread Cert.AdamRefIdeal.nD Cert.AdamRefIdeal.τ).loc Cert.AdamRefIdeal.main_arg17) = m ((c.tc : Thread Cert.AdamRefIdeal.nD Cert.AdamRefIdeal.τ).loc Cert.AdamRefIdeal.main_arg17)
      ∧ r.2.mem ((c.tc : Thread Cert.AdamRefIdeal.nD Cert.AdamRefIdeal.τ).loc Cert.AdamRefIdeal.main_arg18) = m ((c.tc : Thread Cert.AdamRefIdeal.nD Cert.AdamRefIdeal.τ).loc Cert.AdamRefIdeal.main_arg18)
      ∧ r.2.mem ((c.tc : Thread Cert.AdamRefIdeal.nD Cert.AdamRefIdeal.τ).loc Cert.AdamRefIdeal.main_arg19) = m ((c.tc : Thread Cert.AdamRefIdeal.nD Cert.AdamRefIdeal.τ).loc Cert.AdamRefIdeal.main_arg19)
      ∧ r.2.mem ((c.tc : Thread Cert.AdamRefIdeal.nD Cert.AdamRefIdeal.τ).loc Cert.AdamRefIdeal.main_arg20) = m ((c.tc : Thread Cert.AdamRefIdeal.nD Cert.AdamRefIdeal.τ).loc Cert.AdamRefIdeal.main_arg20)
      ∧ r.2.mem ((c.tc : Thread Cert.AdamRefIdeal.nD Cert.AdamRefIdeal.τ).loc Cert.AdamRefIdeal.main_arg21) = m ((c.tc : Thread Cert.AdamRefIdeal.nD Cert.AdamRefIdeal.τ).loc Cert.AdamRefIdeal.main_arg21)
      ∧ r.2.mem ((c.tc : Thread Cert.AdamRefIdeal.nD Cert.AdamRefIdeal.τ).loc Cert.AdamRefIdeal.main_arg22) = m ((c.tc : Thread Cert.AdamRefIdeal.nD Cert.AdamRefIdeal.τ).loc Cert.AdamRefIdeal.main_arg22)
      ∧ r.2.mem ((c.tc : Thread Cert.AdamRefIdeal.nD Cert.AdamRefIdeal.τ).loc Cert.AdamRefIdeal.main_arg23) = m ((c.tc : Thread Cert.AdamRefIdeal.nD Cert.AdamRefIdeal.τ).loc Cert.AdamRefIdeal.main_arg23))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2)
      ∧ r.2.mem ((c.tc : Thread Cert.Dw.nD Cert.Dw.τ).loc Cert.Dw.main_arg3) = m ((c.tc : Thread Cert.Dw.nD Cert.Dw.τ).loc Cert.Dw.main_arg3)
      ∧ r.2.mem ((c.tc : Thread Cert.Dw.nD Cert.Dw.τ).loc Cert.Dw.main_arg4) = m ((c.tc : Thread Cert.Dw.nD Cert.Dw.τ).loc Cert.Dw.main_arg4))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
      ∧ r.2.mem ((c.tc : Thread Cert.DwIdeal.nD Cert.DwIdeal.τ).loc Cert.DwIdeal.main_arg3) = m ((c.tc : Thread Cert.DwIdeal.nD Cert.DwIdeal.τ).loc Cert.DwIdeal.main_arg3)
      ∧ r.2.mem ((c.tc : Thread Cert.DwIdeal.nD Cert.DwIdeal.τ).loc Cert.DwIdeal.main_arg4) = m ((c.tc : Thread Cert.DwIdeal.nD Cert.DwIdeal.τ).loc Cert.DwIdeal.main_arg4))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2)
      ∧ r.2.mem ((c.tc : Thread Cert.DwRefIdeal.nD Cert.DwRefIdeal.τ).loc Cert.DwRefIdeal.main_arg3) = m ((c.tc : Thread Cert.DwRefIdeal.nD Cert.DwRefIdeal.τ).loc Cert.DwRefIdeal.main_arg3)
      ∧ r.2.mem ((c.tc : Thread Cert.DwRefIdeal.nD Cert.DwRefIdeal.τ).loc Cert.DwRefIdeal.main_arg4) = m ((c.tc : Thread Cert.DwRefIdeal.nD Cert.DwRefIdeal.τ).loc Cert.DwRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)) (v4 : (c : Dev Cert.KernelIdeal.nD) → Buf (Elt Ideal) ((c.tc : Thread Cert.KernelIdeal.nD Cert.KernelIdeal.τ).loc Cert.KernelIdeal.main_v11_4)) (v5 : (c : Dev Cert.KernelIdeal.nD) → Buf (Elt Ideal) ((c.tc : Thread Cert.KernelIdeal.nD Cert.KernelIdeal.τ).loc Cert.KernelIdeal.main_v11_5)) (v6 : (c : Dev Cert.KernelIdeal.nD) → Buf (Elt Ideal) ((c.tc : Thread Cert.KernelIdeal.nD Cert.KernelIdeal.τ).loc Cert.KernelIdeal.main_v11_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_v11_4) = v4 c
          ∧ r.2.mem ((c.tc : Thread Cert.KernelIdeal.nD Cert.KernelIdeal.τ).loc Cert.KernelIdeal.main_v11_5) = v5 c
          ∧ r.2.mem ((c.tc : Thread Cert.KernelIdeal.nD Cert.KernelIdeal.τ).loc Cert.KernelIdeal.main_v11_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_v58) = v3 c
          ∧ r.2.mem ((c.tc : Thread Cert.ReferenceIdeal.nD Cert.ReferenceIdeal.τ).loc Cert.ReferenceIdeal.main_v72) = v4 c
          ∧ r.2.mem ((c.tc : Thread Cert.ReferenceIdeal.nD Cert.ReferenceIdeal.τ).loc Cert.ReferenceIdeal.main_v73) = v5 c
          ∧ r.2.mem ((c.tc : Thread Cert.ReferenceIdeal.nD Cert.ReferenceIdeal.τ).loc Cert.ReferenceIdeal.main_v74) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Inp_InpIdeal : Prop :=
  True

def algebraic_InpIdeal_InpRefIdeal_pre_finite_inp [hInpIdeal : Cert.InpIdeal.Facts] [hInpRefIdeal : Cert.InpRefIdeal.Facts] [hPre_finite_inp : Cert.Pre_finite_inp.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal_finite_inp m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)) →
    ∃ (v0 : (c : Dev Cert.InpIdeal.nD) → Buf (Elt Ideal) ((c.tc : Thread Cert.InpIdeal.nD Cert.InpIdeal.τ).loc Cert.InpIdeal.main_v12_0)) (v1 : (c : Dev Cert.InpIdeal.nD) → Buf (Elt Ideal) ((c.tc : Thread Cert.InpIdeal.nD Cert.InpIdeal.τ).loc Cert.InpIdeal.main_v12_1)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v12_0) = v0 c
          ∧ r.2.mem ((c.tc : Thread Cert.InpIdeal.nD Cert.InpIdeal.τ).loc Cert.InpIdeal.main_v12_1) = v1 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v40) = v0 c
          ∧ r.2.mem ((c.tc : Thread Cert.InpRefIdeal.nD Cert.InpRefIdeal.τ).loc Cert.InpRefIdeal.main_v41) = v1 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4))

def preserves_Mlp_MlpIdeal : Prop :=
  True

def algebraic_MlpIdeal_MlpRefIdeal_pre_finite_mlp [hMlpIdeal : Cert.MlpIdeal.Facts] [hMlpRefIdeal : Cert.MlpRefIdeal.Facts] [hPre_finite_mlp : Cert.Pre_finite_mlp.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_finite_mlp m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v6_0)) (v1 : (c : Dev Cert.MlpIdeal.nD) → Buf (Elt Ideal) ((c.tc : Thread Cert.MlpIdeal.nD Cert.MlpIdeal.τ).loc Cert.MlpIdeal.main_v6_1)) (v2 : (c : Dev Cert.MlpIdeal.nD) → Buf (Elt Ideal) ((c.tc : Thread Cert.MlpIdeal.nD Cert.MlpIdeal.τ).loc Cert.MlpIdeal.main_v6_2)) (v3 : (c : Dev Cert.MlpIdeal.nD) → Buf (Elt Ideal) ((c.tc : Thread Cert.MlpIdeal.nD Cert.MlpIdeal.τ).loc Cert.MlpIdeal.main_v6_3)) (v4 : (c : Dev Cert.MlpIdeal.nD) → Buf (Elt Ideal) ((c.tc : Thread Cert.MlpIdeal.nD Cert.MlpIdeal.τ).loc Cert.MlpIdeal.main_v6_4)) (v5 : (c : Dev Cert.MlpIdeal.nD) → Buf (Elt Ideal) ((c.tc : Thread Cert.MlpIdeal.nD Cert.MlpIdeal.τ).loc Cert.MlpIdeal.main_v6_5)) (v6 : (c : Dev Cert.MlpIdeal.nD) → Buf (Elt Ideal) ((c.tc : Thread Cert.MlpIdeal.nD Cert.MlpIdeal.τ).loc Cert.MlpIdeal.main_v6_6)) (v7 : (c : Dev Cert.MlpIdeal.nD) → Buf (Elt Ideal) ((c.tc : Thread Cert.MlpIdeal.nD Cert.MlpIdeal.τ).loc Cert.MlpIdeal.main_v6_7)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v6_0) = v0 c
          ∧ r.2.mem ((c.tc : Thread Cert.MlpIdeal.nD Cert.MlpIdeal.τ).loc Cert.MlpIdeal.main_v6_1) = v1 c
          ∧ r.2.mem ((c.tc : Thread Cert.MlpIdeal.nD Cert.MlpIdeal.τ).loc Cert.MlpIdeal.main_v6_2) = v2 c
          ∧ r.2.mem ((c.tc : Thread Cert.MlpIdeal.nD Cert.MlpIdeal.τ).loc Cert.MlpIdeal.main_v6_3) = v3 c
          ∧ r.2.mem ((c.tc : Thread Cert.MlpIdeal.nD Cert.MlpIdeal.τ).loc Cert.MlpIdeal.main_v6_4) = v4 c
          ∧ r.2.mem ((c.tc : Thread Cert.MlpIdeal.nD Cert.MlpIdeal.τ).loc Cert.MlpIdeal.main_v6_5) = v5 c
          ∧ r.2.mem ((c.tc : Thread Cert.MlpIdeal.nD Cert.MlpIdeal.τ).loc Cert.MlpIdeal.main_v6_6) = v6 c
          ∧ r.2.mem ((c.tc : Thread Cert.MlpIdeal.nD Cert.MlpIdeal.τ).loc Cert.MlpIdeal.main_v6_7) = v7 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v106) = v0 c
          ∧ r.2.mem ((c.tc : Thread Cert.MlpRefIdeal.nD Cert.MlpRefIdeal.τ).loc Cert.MlpRefIdeal.main_v107) = v1 c
          ∧ r.2.mem ((c.tc : Thread Cert.MlpRefIdeal.nD Cert.MlpRefIdeal.τ).loc Cert.MlpRefIdeal.main_v108) = v2 c
          ∧ r.2.mem ((c.tc : Thread Cert.MlpRefIdeal.nD Cert.MlpRefIdeal.τ).loc Cert.MlpRefIdeal.main_v109) = v3 c
          ∧ r.2.mem ((c.tc : Thread Cert.MlpRefIdeal.nD Cert.MlpRefIdeal.τ).loc Cert.MlpRefIdeal.main_v110) = v4 c
          ∧ r.2.mem ((c.tc : Thread Cert.MlpRefIdeal.nD Cert.MlpRefIdeal.τ).loc Cert.MlpRefIdeal.main_v111) = v5 c
          ∧ r.2.mem ((c.tc : Thread Cert.MlpRefIdeal.nD Cert.MlpRefIdeal.τ).loc Cert.MlpRefIdeal.main_v112) = v6 c
          ∧ r.2.mem ((c.tc : Thread Cert.MlpRefIdeal.nD Cert.MlpRefIdeal.τ).loc Cert.MlpRefIdeal.main_v105) = v7 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_Att_AttIdeal : Prop :=
  IdealRules.named_const.Statement Cert.AttIdeal.κ "mask" .f32 0xF149F2CA#32 ⊥

def preserves_Mixf_MixfIdeal : Prop :=
  True

def algebraic_MixfIdeal_MixfRefIdeal [hMixfIdeal : Cert.MixfIdeal.Facts] [hMixfRefIdeal : Cert.MixfRefIdeal.Facts] : Prop :=
  ∀ (m : (ℓ : Loc Cert.MixfIdeal.nD Cert.MixfIdeal.τ Cert.MixfIdeal.sig) → Buf (Elt Ideal) ℓ) (g : Dev Cert.MixfIdeal.nD → PrngReg)
    (m' : (ℓ : Loc Cert.MixfRefIdeal.nD Cert.MixfRefIdeal.τ Cert.MixfRefIdeal.sig) → Buf (Elt Ideal) ℓ) (g' : Dev Cert.MixfRefIdeal.nD → PrngReg), Pre_MixfIdeal m →
    (∀ c : Dev Cert.MixfIdeal.nD,
      m' ((c.tc : Thread Cert.MixfRefIdeal.nD Cert.MixfRefIdeal.τ).loc Cert.MixfRefIdeal.main_arg0) = m ((c.tc : Thread Cert.MixfIdeal.nD Cert.MixfIdeal.τ).loc Cert.MixfIdeal.main_arg0)
      ∧ m' ((c.tc : Thread Cert.MixfRefIdeal.nD Cert.MixfRefIdeal.τ).loc Cert.MixfRefIdeal.main_arg1) = m ((c.tc : Thread Cert.MixfIdeal.nD Cert.MixfIdeal.τ).loc Cert.MixfIdeal.main_arg1)
      ∧ m' ((c.tc : Thread Cert.MixfRefIdeal.nD Cert.MixfRefIdeal.τ).loc Cert.MixfRefIdeal.main_arg2) = m ((c.tc : Thread Cert.MixfIdeal.nD Cert.MixfIdeal.τ).loc Cert.MixfIdeal.main_arg2)
      ∧ m' ((c.tc : Thread Cert.MixfRefIdeal.nD Cert.MixfRefIdeal.τ).loc Cert.MixfRefIdeal.main_arg3) = m ((c.tc : Thread Cert.MixfIdeal.nD Cert.MixfIdeal.τ).loc Cert.MixfIdeal.main_arg3)
      ∧ m' ((c.tc : Thread Cert.MixfRefIdeal.nD Cert.MixfRefIdeal.τ).loc Cert.MixfRefIdeal.main_arg4) = m ((c.tc : Thread Cert.MixfIdeal.nD Cert.MixfIdeal.τ).loc Cert.MixfIdeal.main_arg4)
      ∧ m' ((c.tc : Thread Cert.MixfRefIdeal.nD Cert.MixfRefIdeal.τ).loc Cert.MixfRefIdeal.main_arg5) = m ((c.tc : Thread Cert.MixfIdeal.nD Cert.MixfIdeal.τ).loc Cert.MixfIdeal.main_arg5)
      ∧ m' ((c.tc : Thread Cert.MixfRefIdeal.nD Cert.MixfRefIdeal.τ).loc Cert.MixfRefIdeal.main_arg6) = m ((c.tc : Thread Cert.MixfIdeal.nD Cert.MixfIdeal.τ).loc Cert.MixfIdeal.main_arg6)
      ∧ m' ((c.tc : Thread Cert.MixfRefIdeal.nD Cert.MixfRefIdeal.τ).loc Cert.MixfRefIdeal.main_arg7) = m ((c.tc : Thread Cert.MixfIdeal.nD Cert.MixfIdeal.τ).loc Cert.MixfIdeal.main_arg7)) →
    ∃ (v0 : (c : Dev Cert.MixfIdeal.nD) → Buf (Elt Ideal) ((c.tc : Thread Cert.MixfIdeal.nD Cert.MixfIdeal.τ).loc Cert.MixfIdeal.main_v10_0)) (v1 : (c : Dev Cert.MixfIdeal.nD) → Buf (Elt Ideal) ((c.tc : Thread Cert.MixfIdeal.nD Cert.MixfIdeal.τ).loc Cert.MixfIdeal.main_v10_1)) (v2 : (c : Dev Cert.MixfIdeal.nD) → Buf (Elt Ideal) ((c.tc : Thread Cert.MixfIdeal.nD Cert.MixfIdeal.τ).loc Cert.MixfIdeal.main_v10_2)) (v3 : (c : Dev Cert.MixfIdeal.nD) → Buf (Elt Ideal) ((c.tc : Thread Cert.MixfIdeal.nD Cert.MixfIdeal.τ).loc Cert.MixfIdeal.main_v10_3)),
      θ_run (Cert.MixfIdeal.defs (F := Ideal)) (onTc (τ := Cert.MixfIdeal.τ) (Cert.MixfIdeal.main (F := Ideal))) ⟨m, fun _ => 0, g⟩ (fun r => ∀ c : Dev Cert.MixfIdeal.nD,
          r.2.mem ((c.tc : Thread Cert.MixfIdeal.nD Cert.MixfIdeal.τ).loc Cert.MixfIdeal.main_v10_0) = v0 c
          ∧ r.2.mem ((c.tc : Thread Cert.MixfIdeal.nD Cert.MixfIdeal.τ).loc Cert.MixfIdeal.main_v10_1) = v1 c
          ∧ r.2.mem ((c.tc : Thread Cert.MixfIdeal.nD Cert.MixfIdeal.τ).loc Cert.MixfIdeal.main_v10_2) = v2 c
          ∧ r.2.mem ((c.tc : Thread Cert.MixfIdeal.nD Cert.MixfIdeal.τ).loc Cert.MixfIdeal.main_v10_3) = v3 c
          ∧ r.2.mem ((c.tc : Thread Cert.MixfIdeal.nD Cert.MixfIdeal.τ).loc Cert.MixfIdeal.main_arg0) = m ((c.tc : Thread Cert.MixfIdeal.nD Cert.MixfIdeal.τ).loc Cert.MixfIdeal.main_arg0)
          ∧ r.2.mem ((c.tc : Thread Cert.MixfIdeal.nD Cert.MixfIdeal.τ).loc Cert.MixfIdeal.main_arg1) = m ((c.tc : Thread Cert.MixfIdeal.nD Cert.MixfIdeal.τ).loc Cert.MixfIdeal.main_arg1)
          ∧ r.2.mem ((c.tc : Thread Cert.MixfIdeal.nD Cert.MixfIdeal.τ).loc Cert.MixfIdeal.main_arg2) = m ((c.tc : Thread Cert.MixfIdeal.nD Cert.MixfIdeal.τ).loc Cert.MixfIdeal.main_arg2)
          ∧ r.2.mem ((c.tc : Thread Cert.MixfIdeal.nD Cert.MixfIdeal.τ).loc Cert.MixfIdeal.main_arg3) = m ((c.tc : Thread Cert.MixfIdeal.nD Cert.MixfIdeal.τ).loc Cert.MixfIdeal.main_arg3)
          ∧ r.2.mem ((c.tc : Thread Cert.MixfIdeal.nD Cert.MixfIdeal.τ).loc Cert.MixfIdeal.main_arg4) = m ((c.tc : Thread Cert.MixfIdeal.nD Cert.MixfIdeal.τ).loc Cert.MixfIdeal.main_arg4)
          ∧ r.2.mem ((c.tc : Thread Cert.MixfIdeal.nD Cert.MixfIdeal.τ).loc Cert.MixfIdeal.main_arg5) = m ((c.tc : Thread Cert.MixfIdeal.nD Cert.MixfIdeal.τ).loc Cert.MixfIdeal.main_arg5)
          ∧ r.2.mem ((c.tc : Thread Cert.MixfIdeal.nD Cert.MixfIdeal.τ).loc Cert.MixfIdeal.main_arg6) = m ((c.tc : Thread Cert.MixfIdeal.nD Cert.MixfIdeal.τ).loc Cert.MixfIdeal.main_arg6)
          ∧ r.2.mem ((c.tc : Thread Cert.MixfIdeal.nD Cert.MixfIdeal.τ).loc Cert.MixfIdeal.main_arg7) = m ((c.tc : Thread Cert.MixfIdeal.nD Cert.MixfIdeal.τ).loc Cert.MixfIdeal.main_arg7))
      ∧ θ_run (Cert.MixfRefIdeal.defs (F := Ideal)) (onTc (τ := Cert.MixfRefIdeal.τ) (Cert.MixfRefIdeal.main (F := Ideal))) ⟨m', fun _ => 0, g'⟩ (fun r => ∀ c : Dev Cert.MixfRefIdeal.nD,
          r.2.mem ((c.tc : Thread Cert.MixfRefIdeal.nD Cert.MixfRefIdeal.τ).loc Cert.MixfRefIdeal.main_v30) = v0 c
          ∧ r.2.mem ((c.tc : Thread Cert.MixfRefIdeal.nD Cert.MixfRefIdeal.τ).loc Cert.MixfRefIdeal.main_v31) = v1 c
          ∧ r.2.mem ((c.tc : Thread Cert.MixfRefIdeal.nD Cert.MixfRefIdeal.τ).loc Cert.MixfRefIdeal.main_v32) = v2 c
          ∧ r.2.mem ((c.tc : Thread Cert.MixfRefIdeal.nD Cert.MixfRefIdeal.τ).loc Cert.MixfRefIdeal.main_v35) = v3 c
          ∧ r.2.mem ((c.tc : Thread Cert.MixfRefIdeal.nD Cert.MixfRefIdeal.τ).loc Cert.MixfRefIdeal.main_arg0) = m' ((c.tc : Thread Cert.MixfRefIdeal.nD Cert.MixfRefIdeal.τ).loc Cert.MixfRefIdeal.main_arg0)
          ∧ r.2.mem ((c.tc : Thread Cert.MixfRefIdeal.nD Cert.MixfRefIdeal.τ).loc Cert.MixfRefIdeal.main_arg1) = m' ((c.tc : Thread Cert.MixfRefIdeal.nD Cert.MixfRefIdeal.τ).loc Cert.MixfRefIdeal.main_arg1)
          ∧ r.2.mem ((c.tc : Thread Cert.MixfRefIdeal.nD Cert.MixfRefIdeal.τ).loc Cert.MixfRefIdeal.main_arg2) = m' ((c.tc : Thread Cert.MixfRefIdeal.nD Cert.MixfRefIdeal.τ).loc Cert.MixfRefIdeal.main_arg2)
          ∧ r.2.mem ((c.tc : Thread Cert.MixfRefIdeal.nD Cert.MixfRefIdeal.τ).loc Cert.MixfRefIdeal.main_arg3) = m' ((c.tc : Thread Cert.MixfRefIdeal.nD Cert.MixfRefIdeal.τ).loc Cert.MixfRefIdeal.main_arg3)
          ∧ r.2.mem ((c.tc : Thread Cert.MixfRefIdeal.nD Cert.MixfRefIdeal.τ).loc Cert.MixfRefIdeal.main_arg4) = m' ((c.tc : Thread Cert.MixfRefIdeal.nD Cert.MixfRefIdeal.τ).loc Cert.MixfRefIdeal.main_arg4)
          ∧ r.2.mem ((c.tc : Thread Cert.MixfRefIdeal.nD Cert.MixfRefIdeal.τ).loc Cert.MixfRefIdeal.main_arg5) = m' ((c.tc : Thread Cert.MixfRefIdeal.nD Cert.MixfRefIdeal.τ).loc Cert.MixfRefIdeal.main_arg5)
          ∧ r.2.mem ((c.tc : Thread Cert.MixfRefIdeal.nD Cert.MixfRefIdeal.τ).loc Cert.MixfRefIdeal.main_arg6) = m' ((c.tc : Thread Cert.MixfRefIdeal.nD Cert.MixfRefIdeal.τ).loc Cert.MixfRefIdeal.main_arg6)
          ∧ r.2.mem ((c.tc : Thread Cert.MixfRefIdeal.nD Cert.MixfRefIdeal.τ).loc Cert.MixfRefIdeal.main_arg7) = m' ((c.tc : Thread Cert.MixfRefIdeal.nD Cert.MixfRefIdeal.τ).loc Cert.MixfRefIdeal.main_arg7))

def preserves_Mm_MmIdeal : Prop :=
  True

def algebraic_MmIdeal_MmRefIdeal [hMmIdeal : Cert.MmIdeal.Facts] [hMmRefIdeal : Cert.MmRefIdeal.Facts] : Prop :=
  ∀ (m : (ℓ : Loc Cert.MmIdeal.nD Cert.MmIdeal.τ Cert.MmIdeal.sig) → Buf (Elt Ideal) ℓ) (g : Dev Cert.MmIdeal.nD → PrngReg)
    (m' : (ℓ : Loc Cert.MmRefIdeal.nD Cert.MmRefIdeal.τ Cert.MmRefIdeal.sig) → Buf (Elt Ideal) ℓ) (g' : Dev Cert.MmRefIdeal.nD → PrngReg), Pre_MmIdeal m →
    (∀ c : Dev Cert.MmIdeal.nD,
      m' ((c.tc : Thread Cert.MmRefIdeal.nD Cert.MmRefIdeal.τ).loc Cert.MmRefIdeal.main_arg0) = m ((c.tc : Thread Cert.MmIdeal.nD Cert.MmIdeal.τ).loc Cert.MmIdeal.main_arg0)
      ∧ m' ((c.tc : Thread Cert.MmRefIdeal.nD Cert.MmRefIdeal.τ).loc Cert.MmRefIdeal.main_arg1) = m ((c.tc : Thread Cert.MmIdeal.nD Cert.MmIdeal.τ).loc Cert.MmIdeal.main_arg1)) →
    ∃ (v0 : (c : Dev Cert.MmIdeal.nD) → Buf (Elt Ideal) ((c.tc : Thread Cert.MmIdeal.nD Cert.MmIdeal.τ).loc Cert.MmIdeal.main_v2)),
      θ_run (Cert.MmIdeal.defs (F := Ideal)) (onTc (τ := Cert.MmIdeal.τ) (Cert.MmIdeal.main (F := Ideal))) ⟨m, fun _ => 0, g⟩ (fun r => ∀ c : Dev Cert.MmIdeal.nD,
          r.2.mem ((c.tc : Thread Cert.MmIdeal.nD Cert.MmIdeal.τ).loc Cert.MmIdeal.main_v2) = v0 c
          ∧ r.2.mem ((c.tc : Thread Cert.MmIdeal.nD Cert.MmIdeal.τ).loc Cert.MmIdeal.main_arg0) = m ((c.tc : Thread Cert.MmIdeal.nD Cert.MmIdeal.τ).loc Cert.MmIdeal.main_arg0)
          ∧ r.2.mem ((c.tc : Thread Cert.MmIdeal.nD Cert.MmIdeal.τ).loc Cert.MmIdeal.main_arg1) = m ((c.tc : Thread Cert.MmIdeal.nD Cert.MmIdeal.τ).loc Cert.MmIdeal.main_arg1))
      ∧ θ_run (Cert.MmRefIdeal.defs (F := Ideal)) (onTc (τ := Cert.MmRefIdeal.τ) (Cert.MmRefIdeal.main (F := Ideal))) ⟨m', fun _ => 0, g'⟩ (fun r => ∀ c : Dev Cert.MmRefIdeal.nD,
          r.2.mem ((c.tc : Thread Cert.MmRefIdeal.nD Cert.MmRefIdeal.τ).loc Cert.MmRefIdeal.main_v5) = v0 c
          ∧ r.2.mem ((c.tc : Thread Cert.MmRefIdeal.nD Cert.MmRefIdeal.τ).loc Cert.MmRefIdeal.main_arg0) = m' ((c.tc : Thread Cert.MmRefIdeal.nD Cert.MmRefIdeal.τ).loc Cert.MmRefIdeal.main_arg0)
          ∧ r.2.mem ((c.tc : Thread Cert.MmRefIdeal.nD Cert.MmRefIdeal.τ).loc Cert.MmRefIdeal.main_arg1) = m' ((c.tc : Thread Cert.MmRefIdeal.nD Cert.MmRefIdeal.τ).loc Cert.MmRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)
      ∧ m' ((c.tc : Thread Cert.AdamRefIdeal.nD Cert.AdamRefIdeal.τ).loc Cert.AdamRefIdeal.main_arg5) = m ((c.tc : Thread Cert.AdamIdeal.nD Cert.AdamIdeal.τ).loc Cert.AdamIdeal.main_arg5)
      ∧ m' ((c.tc : Thread Cert.AdamRefIdeal.nD Cert.AdamRefIdeal.τ).loc Cert.AdamRefIdeal.main_arg6) = m ((c.tc : Thread Cert.AdamIdeal.nD Cert.AdamIdeal.τ).loc Cert.AdamIdeal.main_arg6)
      ∧ m' ((c.tc : Thread Cert.AdamRefIdeal.nD Cert.AdamRefIdeal.τ).loc Cert.AdamRefIdeal.main_arg7) = m ((c.tc : Thread Cert.AdamIdeal.nD Cert.AdamIdeal.τ).loc Cert.AdamIdeal.main_arg7)
      ∧ m' ((c.tc : Thread Cert.AdamRefIdeal.nD Cert.AdamRefIdeal.τ).loc Cert.AdamRefIdeal.main_arg8) = m ((c.tc : Thread Cert.AdamIdeal.nD Cert.AdamIdeal.τ).loc Cert.AdamIdeal.main_arg8)
      ∧ m' ((c.tc : Thread Cert.AdamRefIdeal.nD Cert.AdamRefIdeal.τ).loc Cert.AdamRefIdeal.main_arg9) = m ((c.tc : Thread Cert.AdamIdeal.nD Cert.AdamIdeal.τ).loc Cert.AdamIdeal.main_arg9)
      ∧ m' ((c.tc : Thread Cert.AdamRefIdeal.nD Cert.AdamRefIdeal.τ).loc Cert.AdamRefIdeal.main_arg10) = m ((c.tc : Thread Cert.AdamIdeal.nD Cert.AdamIdeal.τ).loc Cert.AdamIdeal.main_arg10)
      ∧ m' ((c.tc : Thread Cert.AdamRefIdeal.nD Cert.AdamRefIdeal.τ).loc Cert.AdamRefIdeal.main_arg11) = m ((c.tc : Thread Cert.AdamIdeal.nD Cert.AdamIdeal.τ).loc Cert.AdamIdeal.main_arg11)
      ∧ m' ((c.tc : Thread Cert.AdamRefIdeal.nD Cert.AdamRefIdeal.τ).loc Cert.AdamRefIdeal.main_arg12) = m ((c.tc : Thread Cert.AdamIdeal.nD Cert.AdamIdeal.τ).loc Cert.AdamIdeal.main_arg12)
      ∧ m' ((c.tc : Thread Cert.AdamRefIdeal.nD Cert.AdamRefIdeal.τ).loc Cert.AdamRefIdeal.main_arg13) = m ((c.tc : Thread Cert.AdamIdeal.nD Cert.AdamIdeal.τ).loc Cert.AdamIdeal.main_arg13)
      ∧ m' ((c.tc : Thread Cert.AdamRefIdeal.nD Cert.AdamRefIdeal.τ).loc Cert.AdamRefIdeal.main_arg14) = m ((c.tc : Thread Cert.AdamIdeal.nD Cert.AdamIdeal.τ).loc Cert.AdamIdeal.main_arg14)
      ∧ m' ((c.tc : Thread Cert.AdamRefIdeal.nD Cert.AdamRefIdeal.τ).loc Cert.AdamRefIdeal.main_arg15) = m ((c.tc : Thread Cert.AdamIdeal.nD Cert.AdamIdeal.τ).loc Cert.AdamIdeal.main_arg15)
      ∧ m' ((c.tc : Thread Cert.AdamRefIdeal.nD Cert.AdamRefIdeal.τ).loc Cert.AdamRefIdeal.main_arg16) = m ((c.tc : Thread Cert.AdamIdeal.nD Cert.AdamIdeal.τ).loc Cert.AdamIdeal.main_arg16)
      ∧ m' ((c.tc : Thread Cert.AdamRefIdeal.nD Cert.AdamRefIdeal.τ).loc Cert.AdamRefIdeal.main_arg17) = m ((c.tc : Thread Cert.AdamIdeal.nD Cert.AdamIdeal.τ).loc Cert.AdamIdeal.main_arg17)
      ∧ m' ((c.tc : Thread Cert.AdamRefIdeal.nD Cert.AdamRefIdeal.τ).loc Cert.AdamRefIdeal.main_arg18) = m ((c.tc : Thread Cert.AdamIdeal.nD Cert.AdamIdeal.τ).loc Cert.AdamIdeal.main_arg18)
      ∧ m' ((c.tc : Thread Cert.AdamRefIdeal.nD Cert.AdamRefIdeal.τ).loc Cert.AdamRefIdeal.main_arg19) = m ((c.tc : Thread Cert.AdamIdeal.nD Cert.AdamIdeal.τ).loc Cert.AdamIdeal.main_arg19)
      ∧ m' ((c.tc : Thread Cert.AdamRefIdeal.nD Cert.AdamRefIdeal.τ).loc Cert.AdamRefIdeal.main_arg20) = m ((c.tc : Thread Cert.AdamIdeal.nD Cert.AdamIdeal.τ).loc Cert.AdamIdeal.main_arg20)
      ∧ m' ((c.tc : Thread Cert.AdamRefIdeal.nD Cert.AdamRefIdeal.τ).loc Cert.AdamRefIdeal.main_arg21) = m ((c.tc : Thread Cert.AdamIdeal.nD Cert.AdamIdeal.τ).loc Cert.AdamIdeal.main_arg21)
      ∧ m' ((c.tc : Thread Cert.AdamRefIdeal.nD Cert.AdamRefIdeal.τ).loc Cert.AdamRefIdeal.main_arg22) = m ((c.tc : Thread Cert.AdamIdeal.nD Cert.AdamIdeal.τ).loc Cert.AdamIdeal.main_arg22)
      ∧ m' ((c.tc : Thread Cert.AdamRefIdeal.nD Cert.AdamRefIdeal.τ).loc Cert.AdamRefIdeal.main_arg23) = m ((c.tc : Thread Cert.AdamIdeal.nD Cert.AdamIdeal.τ).loc Cert.AdamIdeal.main_arg23)) →
    ∃ (v0 : (c : Dev Cert.AdamIdeal.nD) → Buf (Elt Ideal) ((c.tc : Thread Cert.AdamIdeal.nD Cert.AdamIdeal.τ).loc Cert.AdamIdeal.main_v137)) (v1 : (c : Dev Cert.AdamIdeal.nD) → Buf (Elt Ideal) ((c.tc : Thread Cert.AdamIdeal.nD Cert.AdamIdeal.τ).loc Cert.AdamIdeal.main_v149)) (v2 : (c : Dev Cert.AdamIdeal.nD) → Buf (Elt Ideal) ((c.tc : Thread Cert.AdamIdeal.nD Cert.AdamIdeal.τ).loc Cert.AdamIdeal.main_v163)) (v3 : (c : Dev Cert.AdamIdeal.nD) → Buf (Elt Ideal) ((c.tc : Thread Cert.AdamIdeal.nD Cert.AdamIdeal.τ).loc Cert.AdamIdeal.main_v168)) (v4 : (c : Dev Cert.AdamIdeal.nD) → Buf (Elt Ideal) ((c.tc : Thread Cert.AdamIdeal.nD Cert.AdamIdeal.τ).loc Cert.AdamIdeal.main_v178)) (v5 : (c : Dev Cert.AdamIdeal.nD) → Buf (Elt Ideal) ((c.tc : Thread Cert.AdamIdeal.nD Cert.AdamIdeal.τ).loc Cert.AdamIdeal.main_v189)) (v6 : (c : Dev Cert.AdamIdeal.nD) → Buf (Elt Ideal) ((c.tc : Thread Cert.AdamIdeal.nD Cert.AdamIdeal.τ).loc Cert.AdamIdeal.main_v191)) (v7 : (c : Dev Cert.AdamIdeal.nD) → Buf (Elt Ideal) ((c.tc : Thread Cert.AdamIdeal.nD Cert.AdamIdeal.τ).loc Cert.AdamIdeal.main_v203)) (v8 : (c : Dev Cert.AdamIdeal.nD) → Buf (Elt Ideal) ((c.tc : Thread Cert.AdamIdeal.nD Cert.AdamIdeal.τ).loc Cert.AdamIdeal.main_v217)) (v9 : (c : Dev Cert.AdamIdeal.nD) → Buf (Elt Ideal) ((c.tc : Thread Cert.AdamIdeal.nD Cert.AdamIdeal.τ).loc Cert.AdamIdeal.main_v222)) (v10 : (c : Dev Cert.AdamIdeal.nD) → Buf (Elt Ideal) ((c.tc : Thread Cert.AdamIdeal.nD Cert.AdamIdeal.τ).loc Cert.AdamIdeal.main_v232)) (v11 : (c : Dev Cert.AdamIdeal.nD) → Buf (Elt Ideal) ((c.tc : Thread Cert.AdamIdeal.nD Cert.AdamIdeal.τ).loc Cert.AdamIdeal.main_v243)) (v12 : (c : Dev Cert.AdamIdeal.nD) → Buf (Elt Ideal) ((c.tc : Thread Cert.AdamIdeal.nD Cert.AdamIdeal.τ).loc Cert.AdamIdeal.main_v245)) (v13 : (c : Dev Cert.AdamIdeal.nD) → Buf (Elt Ideal) ((c.tc : Thread Cert.AdamIdeal.nD Cert.AdamIdeal.τ).loc Cert.AdamIdeal.main_v257)) (v14 : (c : Dev Cert.AdamIdeal.nD) → Buf (Elt Ideal) ((c.tc : Thread Cert.AdamIdeal.nD Cert.AdamIdeal.τ).loc Cert.AdamIdeal.main_v271)) (v15 : (c : Dev Cert.AdamIdeal.nD) → Buf (Elt Ideal) ((c.tc : Thread Cert.AdamIdeal.nD Cert.AdamIdeal.τ).loc Cert.AdamIdeal.main_v276)) (v16 : (c : Dev Cert.AdamIdeal.nD) → Buf (Elt Ideal) ((c.tc : Thread Cert.AdamIdeal.nD Cert.AdamIdeal.τ).loc Cert.AdamIdeal.main_v286)) (v17 : (c : Dev Cert.AdamIdeal.nD) → Buf (Elt Ideal) ((c.tc : Thread Cert.AdamIdeal.nD Cert.AdamIdeal.τ).loc Cert.AdamIdeal.main_v297)) (v18 : (c : Dev Cert.AdamIdeal.nD) → Buf (Elt Ideal) ((c.tc : Thread Cert.AdamIdeal.nD Cert.AdamIdeal.τ).loc Cert.AdamIdeal.main_v299)) (v19 : (c : Dev Cert.AdamIdeal.nD) → Buf (Elt Ideal) ((c.tc : Thread Cert.AdamIdeal.nD Cert.AdamIdeal.τ).loc Cert.AdamIdeal.main_v311)) (v20 : (c : Dev Cert.AdamIdeal.nD) → Buf (Elt Ideal) ((c.tc : Thread Cert.AdamIdeal.nD Cert.AdamIdeal.τ).loc Cert.AdamIdeal.main_v325)) (v21 : (c : Dev Cert.AdamIdeal.nD) → Buf (Elt Ideal) ((c.tc : Thread Cert.AdamIdeal.nD Cert.AdamIdeal.τ).loc Cert.AdamIdeal.main_v330)) (v22 : (c : Dev Cert.AdamIdeal.nD) → Buf (Elt Ideal) ((c.tc : Thread Cert.AdamIdeal.nD Cert.AdamIdeal.τ).loc Cert.AdamIdeal.main_v340)) (v23 : (c : Dev Cert.AdamIdeal.nD) → Buf (Elt Ideal) ((c.tc : Thread Cert.AdamIdeal.nD Cert.AdamIdeal.τ).loc Cert.AdamIdeal.main_v351)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v137) = v0 c
          ∧ r.2.mem ((c.tc : Thread Cert.AdamIdeal.nD Cert.AdamIdeal.τ).loc Cert.AdamIdeal.main_v149) = v1 c
          ∧ r.2.mem ((c.tc : Thread Cert.AdamIdeal.nD Cert.AdamIdeal.τ).loc Cert.AdamIdeal.main_v163) = v2 c
          ∧ r.2.mem ((c.tc : Thread Cert.AdamIdeal.nD Cert.AdamIdeal.τ).loc Cert.AdamIdeal.main_v168) = v3 c
          ∧ r.2.mem ((c.tc : Thread Cert.AdamIdeal.nD Cert.AdamIdeal.τ).loc Cert.AdamIdeal.main_v178) = v4 c
          ∧ r.2.mem ((c.tc : Thread Cert.AdamIdeal.nD Cert.AdamIdeal.τ).loc Cert.AdamIdeal.main_v189) = v5 c
          ∧ r.2.mem ((c.tc : Thread Cert.AdamIdeal.nD Cert.AdamIdeal.τ).loc Cert.AdamIdeal.main_v191) = v6 c
          ∧ r.2.mem ((c.tc : Thread Cert.AdamIdeal.nD Cert.AdamIdeal.τ).loc Cert.AdamIdeal.main_v203) = v7 c
          ∧ r.2.mem ((c.tc : Thread Cert.AdamIdeal.nD Cert.AdamIdeal.τ).loc Cert.AdamIdeal.main_v217) = v8 c
          ∧ r.2.mem ((c.tc : Thread Cert.AdamIdeal.nD Cert.AdamIdeal.τ).loc Cert.AdamIdeal.main_v222) = v9 c
          ∧ r.2.mem ((c.tc : Thread Cert.AdamIdeal.nD Cert.AdamIdeal.τ).loc Cert.AdamIdeal.main_v232) = v10 c
          ∧ r.2.mem ((c.tc : Thread Cert.AdamIdeal.nD Cert.AdamIdeal.τ).loc Cert.AdamIdeal.main_v243) = v11 c
          ∧ r.2.mem ((c.tc : Thread Cert.AdamIdeal.nD Cert.AdamIdeal.τ).loc Cert.AdamIdeal.main_v245) = v12 c
          ∧ r.2.mem ((c.tc : Thread Cert.AdamIdeal.nD Cert.AdamIdeal.τ).loc Cert.AdamIdeal.main_v257) = v13 c
          ∧ r.2.mem ((c.tc : Thread Cert.AdamIdeal.nD Cert.AdamIdeal.τ).loc Cert.AdamIdeal.main_v271) = v14 c
          ∧ r.2.mem ((c.tc : Thread Cert.AdamIdeal.nD Cert.AdamIdeal.τ).loc Cert.AdamIdeal.main_v276) = v15 c
          ∧ r.2.mem ((c.tc : Thread Cert.AdamIdeal.nD Cert.AdamIdeal.τ).loc Cert.AdamIdeal.main_v286) = v16 c
          ∧ r.2.mem ((c.tc : Thread Cert.AdamIdeal.nD Cert.AdamIdeal.τ).loc Cert.AdamIdeal.main_v297) = v17 c
          ∧ r.2.mem ((c.tc : Thread Cert.AdamIdeal.nD Cert.AdamIdeal.τ).loc Cert.AdamIdeal.main_v299) = v18 c
          ∧ r.2.mem ((c.tc : Thread Cert.AdamIdeal.nD Cert.AdamIdeal.τ).loc Cert.AdamIdeal.main_v311) = v19 c
          ∧ r.2.mem ((c.tc : Thread Cert.AdamIdeal.nD Cert.AdamIdeal.τ).loc Cert.AdamIdeal.main_v325) = v20 c
          ∧ r.2.mem ((c.tc : Thread Cert.AdamIdeal.nD Cert.AdamIdeal.τ).loc Cert.AdamIdeal.main_v330) = v21 c
          ∧ r.2.mem ((c.tc : Thread Cert.AdamIdeal.nD Cert.AdamIdeal.τ).loc Cert.AdamIdeal.main_v340) = v22 c
          ∧ r.2.mem ((c.tc : Thread Cert.AdamIdeal.nD Cert.AdamIdeal.τ).loc Cert.AdamIdeal.main_v351) = v23 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
          ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
          ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
          ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7)
          ∧ r.2.mem ((c.tc : Thread Cert.AdamIdeal.nD Cert.AdamIdeal.τ).loc Cert.AdamIdeal.main_arg8) = m ((c.tc : Thread Cert.AdamIdeal.nD Cert.AdamIdeal.τ).loc Cert.AdamIdeal.main_arg8)
          ∧ r.2.mem ((c.tc : Thread Cert.AdamIdeal.nD Cert.AdamIdeal.τ).loc Cert.AdamIdeal.main_arg9) = m ((c.tc : Thread Cert.AdamIdeal.nD Cert.AdamIdeal.τ).loc Cert.AdamIdeal.main_arg9)
          ∧ r.2.mem ((c.tc : Thread Cert.AdamIdeal.nD Cert.AdamIdeal.τ).loc Cert.AdamIdeal.main_arg10) = m ((c.tc : Thread Cert.AdamIdeal.nD Cert.AdamIdeal.τ).loc Cert.AdamIdeal.main_arg10)
          ∧ r.2.mem ((c.tc : Thread Cert.AdamIdeal.nD Cert.AdamIdeal.τ).loc Cert.AdamIdeal.main_arg11) = m ((c.tc : Thread Cert.AdamIdeal.nD Cert.AdamIdeal.τ).loc Cert.AdamIdeal.main_arg11)
          ∧ r.2.mem ((c.tc : Thread Cert.AdamIdeal.nD Cert.AdamIdeal.τ).loc Cert.AdamIdeal.main_arg12) = m ((c.tc : Thread Cert.AdamIdeal.nD Cert.AdamIdeal.τ).loc Cert.AdamIdeal.main_arg12)
          ∧ r.2.mem ((c.tc : Thread Cert.AdamIdeal.nD Cert.AdamIdeal.τ).loc Cert.AdamIdeal.main_arg13) = m ((c.tc : Thread Cert.AdamIdeal.nD Cert.AdamIdeal.τ).loc Cert.AdamIdeal.main_arg13)
          ∧ r.2.mem ((c.tc : Thread Cert.AdamIdeal.nD Cert.AdamIdeal.τ).loc Cert.AdamIdeal.main_arg14) = m ((c.tc : Thread Cert.AdamIdeal.nD Cert.AdamIdeal.τ).loc Cert.AdamIdeal.main_arg14)
          ∧ r.2.mem ((c.tc : Thread Cert.AdamIdeal.nD Cert.AdamIdeal.τ).loc Cert.AdamIdeal.main_arg15) = m ((c.tc : Thread Cert.AdamIdeal.nD Cert.AdamIdeal.τ).loc Cert.AdamIdeal.main_arg15)
          ∧ r.2.mem ((c.tc : Thread Cert.AdamIdeal.nD Cert.AdamIdeal.τ).loc Cert.AdamIdeal.main_arg16) = m ((c.tc : Thread Cert.AdamIdeal.nD Cert.AdamIdeal.τ).loc Cert.AdamIdeal.main_arg16)
          ∧ r.2.mem ((c.tc : Thread Cert.AdamIdeal.nD Cert.AdamIdeal.τ).loc Cert.AdamIdeal.main_arg17) = m ((c.tc : Thread Cert.AdamIdeal.nD Cert.AdamIdeal.τ).loc Cert.AdamIdeal.main_arg17)
          ∧ r.2.mem ((c.tc : Thread Cert.AdamIdeal.nD Cert.AdamIdeal.τ).loc Cert.AdamIdeal.main_arg18) = m ((c.tc : Thread Cert.AdamIdeal.nD Cert.AdamIdeal.τ).loc Cert.AdamIdeal.main_arg18)
          ∧ r.2.mem ((c.tc : Thread Cert.AdamIdeal.nD Cert.AdamIdeal.τ).loc Cert.AdamIdeal.main_arg19) = m ((c.tc : Thread Cert.AdamIdeal.nD Cert.AdamIdeal.τ).loc Cert.AdamIdeal.main_arg19)
          ∧ r.2.mem ((c.tc : Thread Cert.AdamIdeal.nD Cert.AdamIdeal.τ).loc Cert.AdamIdeal.main_arg20) = m ((c.tc : Thread Cert.AdamIdeal.nD Cert.AdamIdeal.τ).loc Cert.AdamIdeal.main_arg20)
          ∧ r.2.mem ((c.tc : Thread Cert.AdamIdeal.nD Cert.AdamIdeal.τ).loc Cert.AdamIdeal.main_arg21) = m ((c.tc : Thread Cert.AdamIdeal.nD Cert.AdamIdeal.τ).loc Cert.AdamIdeal.main_arg21)
          ∧ r.2.mem ((c.tc : Thread Cert.AdamIdeal.nD Cert.AdamIdeal.τ).loc Cert.AdamIdeal.main_arg22) = m ((c.tc : Thread Cert.AdamIdeal.nD Cert.AdamIdeal.τ).loc Cert.AdamIdeal.main_arg22)
          ∧ r.2.mem ((c.tc : Thread Cert.AdamIdeal.nD Cert.AdamIdeal.τ).loc Cert.AdamIdeal.main_arg23) = m ((c.tc : Thread Cert.AdamIdeal.nD Cert.AdamIdeal.τ).loc Cert.AdamIdeal.main_arg23))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v0) = v0 c
          ∧ r.2.mem ((c.tc : Thread Cert.AdamRefIdeal.nD Cert.AdamRefIdeal.τ).loc Cert.AdamRefIdeal.main_v1) = v1 c
          ∧ r.2.mem ((c.tc : Thread Cert.AdamRefIdeal.nD Cert.AdamRefIdeal.τ).loc Cert.AdamRefIdeal.main_v2) = v2 c
          ∧ r.2.mem ((c.tc : Thread Cert.AdamRefIdeal.nD Cert.AdamRefIdeal.τ).loc Cert.AdamRefIdeal.main_v3) = v3 c
          ∧ r.2.mem ((c.tc : Thread Cert.AdamRefIdeal.nD Cert.AdamRefIdeal.τ).loc Cert.AdamRefIdeal.main_v4) = v4 c
          ∧ r.2.mem ((c.tc : Thread Cert.AdamRefIdeal.nD Cert.AdamRefIdeal.τ).loc Cert.AdamRefIdeal.main_v5) = v5 c
          ∧ r.2.mem ((c.tc : Thread Cert.AdamRefIdeal.nD Cert.AdamRefIdeal.τ).loc Cert.AdamRefIdeal.main_v29) = v6 c
          ∧ r.2.mem ((c.tc : Thread Cert.AdamRefIdeal.nD Cert.AdamRefIdeal.τ).loc Cert.AdamRefIdeal.main_v53) = v7 c
          ∧ r.2.mem ((c.tc : Thread Cert.AdamRefIdeal.nD Cert.AdamRefIdeal.τ).loc Cert.AdamRefIdeal.main_v77) = v8 c
          ∧ r.2.mem ((c.tc : Thread Cert.AdamRefIdeal.nD Cert.AdamRefIdeal.τ).loc Cert.AdamRefIdeal.main_v101) = v9 c
          ∧ r.2.mem ((c.tc : Thread Cert.AdamRefIdeal.nD Cert.AdamRefIdeal.τ).loc Cert.AdamRefIdeal.main_v125) = v10 c
          ∧ r.2.mem ((c.tc : Thread Cert.AdamRefIdeal.nD Cert.AdamRefIdeal.τ).loc Cert.AdamRefIdeal.main_v149) = v11 c
          ∧ r.2.mem ((c.tc : Thread Cert.AdamRefIdeal.nD Cert.AdamRefIdeal.τ).loc Cert.AdamRefIdeal.main_v10) = v12 c
          ∧ r.2.mem ((c.tc : Thread Cert.AdamRefIdeal.nD Cert.AdamRefIdeal.τ).loc Cert.AdamRefIdeal.main_v34) = v13 c
          ∧ r.2.mem ((c.tc : Thread Cert.AdamRefIdeal.nD Cert.AdamRefIdeal.τ).loc Cert.AdamRefIdeal.main_v58) = v14 c
          ∧ r.2.mem ((c.tc : Thread Cert.AdamRefIdeal.nD Cert.AdamRefIdeal.τ).loc Cert.AdamRefIdeal.main_v82) = v15 c
          ∧ r.2.mem ((c.tc : Thread Cert.AdamRefIdeal.nD Cert.AdamRefIdeal.τ).loc Cert.AdamRefIdeal.main_v106) = v16 c
          ∧ r.2.mem ((c.tc : Thread Cert.AdamRefIdeal.nD Cert.AdamRefIdeal.τ).loc Cert.AdamRefIdeal.main_v130) = v17 c
          ∧ r.2.mem ((c.tc : Thread Cert.AdamRefIdeal.nD Cert.AdamRefIdeal.τ).loc Cert.AdamRefIdeal.main_v16) = v18 c
          ∧ r.2.mem ((c.tc : Thread Cert.AdamRefIdeal.nD Cert.AdamRefIdeal.τ).loc Cert.AdamRefIdeal.main_v40) = v19 c
          ∧ r.2.mem ((c.tc : Thread Cert.AdamRefIdeal.nD Cert.AdamRefIdeal.τ).loc Cert.AdamRefIdeal.main_v64) = v20 c
          ∧ r.2.mem ((c.tc : Thread Cert.AdamRefIdeal.nD Cert.AdamRefIdeal.τ).loc Cert.AdamRefIdeal.main_v88) = v21 c
          ∧ r.2.mem ((c.tc : Thread Cert.AdamRefIdeal.nD Cert.AdamRefIdeal.τ).loc Cert.AdamRefIdeal.main_v112) = v22 c
          ∧ r.2.mem ((c.tc : Thread Cert.AdamRefIdeal.nD Cert.AdamRefIdeal.τ).loc Cert.AdamRefIdeal.main_v136) = v23 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4)
          ∧ r.2.mem ((c.tc : Thread Cert.AdamRefIdeal.nD Cert.AdamRefIdeal.τ).loc Cert.AdamRefIdeal.main_arg5) = m' ((c.tc : Thread Cert.AdamRefIdeal.nD Cert.AdamRefIdeal.τ).loc Cert.AdamRefIdeal.main_arg5)
          ∧ r.2.mem ((c.tc : Thread Cert.AdamRefIdeal.nD Cert.AdamRefIdeal.τ).loc Cert.AdamRefIdeal.main_arg6) = m' ((c.tc : Thread Cert.AdamRefIdeal.nD Cert.AdamRefIdeal.τ).loc Cert.AdamRefIdeal.main_arg6)
          ∧ r.2.mem ((c.tc : Thread Cert.AdamRefIdeal.nD Cert.AdamRefIdeal.τ).loc Cert.AdamRefIdeal.main_arg7) = m' ((c.tc : Thread Cert.AdamRefIdeal.nD Cert.AdamRefIdeal.τ).loc Cert.AdamRefIdeal.main_arg7)
          ∧ r.2.mem ((c.tc : Thread Cert.AdamRefIdeal.nD Cert.AdamRefIdeal.τ).loc Cert.AdamRefIdeal.main_arg8) = m' ((c.tc : Thread Cert.AdamRefIdeal.nD Cert.AdamRefIdeal.τ).loc Cert.AdamRefIdeal.main_arg8)
          ∧ r.2.mem ((c.tc : Thread Cert.AdamRefIdeal.nD Cert.AdamRefIdeal.τ).loc Cert.AdamRefIdeal.main_arg9) = m' ((c.tc : Thread Cert.AdamRefIdeal.nD Cert.AdamRefIdeal.τ).loc Cert.AdamRefIdeal.main_arg9)
          ∧ r.2.mem ((c.tc : Thread Cert.AdamRefIdeal.nD Cert.AdamRefIdeal.τ).loc Cert.AdamRefIdeal.main_arg10) = m' ((c.tc : Thread Cert.AdamRefIdeal.nD Cert.AdamRefIdeal.τ).loc Cert.AdamRefIdeal.main_arg10)
          ∧ r.2.mem ((c.tc : Thread Cert.AdamRefIdeal.nD Cert.AdamRefIdeal.τ).loc Cert.AdamRefIdeal.main_arg11) = m' ((c.tc : Thread Cert.AdamRefIdeal.nD Cert.AdamRefIdeal.τ).loc Cert.AdamRefIdeal.main_arg11)
          ∧ r.2.mem ((c.tc : Thread Cert.AdamRefIdeal.nD Cert.AdamRefIdeal.τ).loc Cert.AdamRefIdeal.main_arg12) = m' ((c.tc : Thread Cert.AdamRefIdeal.nD Cert.AdamRefIdeal.τ).loc Cert.AdamRefIdeal.main_arg12)
          ∧ r.2.mem ((c.tc : Thread Cert.AdamRefIdeal.nD Cert.AdamRefIdeal.τ).loc Cert.AdamRefIdeal.main_arg13) = m' ((c.tc : Thread Cert.AdamRefIdeal.nD Cert.AdamRefIdeal.τ).loc Cert.AdamRefIdeal.main_arg13)
          ∧ r.2.mem ((c.tc : Thread Cert.AdamRefIdeal.nD Cert.AdamRefIdeal.τ).loc Cert.AdamRefIdeal.main_arg14) = m' ((c.tc : Thread Cert.AdamRefIdeal.nD Cert.AdamRefIdeal.τ).loc Cert.AdamRefIdeal.main_arg14)
          ∧ r.2.mem ((c.tc : Thread Cert.AdamRefIdeal.nD Cert.AdamRefIdeal.τ).loc Cert.AdamRefIdeal.main_arg15) = m' ((c.tc : Thread Cert.AdamRefIdeal.nD Cert.AdamRefIdeal.τ).loc Cert.AdamRefIdeal.main_arg15)
          ∧ r.2.mem ((c.tc : Thread Cert.AdamRefIdeal.nD Cert.AdamRefIdeal.τ).loc Cert.AdamRefIdeal.main_arg16) = m' ((c.tc : Thread Cert.AdamRefIdeal.nD Cert.AdamRefIdeal.τ).loc Cert.AdamRefIdeal.main_arg16)
          ∧ r.2.mem ((c.tc : Thread Cert.AdamRefIdeal.nD Cert.AdamRefIdeal.τ).loc Cert.AdamRefIdeal.main_arg17) = m' ((c.tc : Thread Cert.AdamRefIdeal.nD Cert.AdamRefIdeal.τ).loc Cert.AdamRefIdeal.main_arg17)
          ∧ r.2.mem ((c.tc : Thread Cert.AdamRefIdeal.nD Cert.AdamRefIdeal.τ).loc Cert.AdamRefIdeal.main_arg18) = m' ((c.tc : Thread Cert.AdamRefIdeal.nD Cert.AdamRefIdeal.τ).loc Cert.AdamRefIdeal.main_arg18)
          ∧ r.2.mem ((c.tc : Thread Cert.AdamRefIdeal.nD Cert.AdamRefIdeal.τ).loc Cert.AdamRefIdeal.main_arg19) = m' ((c.tc : Thread Cert.AdamRefIdeal.nD Cert.AdamRefIdeal.τ).loc Cert.AdamRefIdeal.main_arg19)
          ∧ r.2.mem ((c.tc : Thread Cert.AdamRefIdeal.nD Cert.AdamRefIdeal.τ).loc Cert.AdamRefIdeal.main_arg20) = m' ((c.tc : Thread Cert.AdamRefIdeal.nD Cert.AdamRefIdeal.τ).loc Cert.AdamRefIdeal.main_arg20)
          ∧ r.2.mem ((c.tc : Thread Cert.AdamRefIdeal.nD Cert.AdamRefIdeal.τ).loc Cert.AdamRefIdeal.main_arg21) = m' ((c.tc : Thread Cert.AdamRefIdeal.nD Cert.AdamRefIdeal.τ).loc Cert.AdamRefIdeal.main_arg21)
          ∧ r.2.mem ((c.tc : Thread Cert.AdamRefIdeal.nD Cert.AdamRefIdeal.τ).loc Cert.AdamRefIdeal.main_arg22) = m' ((c.tc : Thread Cert.AdamRefIdeal.nD Cert.AdamRefIdeal.τ).loc Cert.AdamRefIdeal.main_arg22)
          ∧ r.2.mem ((c.tc : Thread Cert.AdamRefIdeal.nD Cert.AdamRefIdeal.τ).loc Cert.AdamRefIdeal.main_arg23) = m' ((c.tc : Thread Cert.AdamRefIdeal.nD Cert.AdamRefIdeal.τ).loc Cert.AdamRefIdeal.main_arg23))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)
      ∧ m' ((c.tc : Thread Cert.DwRefIdeal.nD Cert.DwRefIdeal.τ).loc Cert.DwRefIdeal.main_arg2) = m ((c.tc : Thread Cert.DwIdeal.nD Cert.DwIdeal.τ).loc Cert.DwIdeal.main_arg2)
      ∧ m' ((c.tc : Thread Cert.DwRefIdeal.nD Cert.DwRefIdeal.τ).loc Cert.DwRefIdeal.main_arg3) = m ((c.tc : Thread Cert.DwIdeal.nD Cert.DwIdeal.τ).loc Cert.DwIdeal.main_arg3)
      ∧ m' ((c.tc : Thread Cert.DwRefIdeal.nD Cert.DwRefIdeal.τ).loc Cert.DwRefIdeal.main_arg4) = m ((c.tc : Thread Cert.DwIdeal.nD Cert.DwIdeal.τ).loc Cert.DwIdeal.main_arg4)) →
    ∃ (v0 : (c : Dev Cert.DwIdeal.nD) → Buf (Elt Ideal) ((c.tc : Thread Cert.DwIdeal.nD Cert.DwIdeal.τ).loc Cert.DwIdeal.main_v8)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v8) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
          ∧ r.2.mem ((c.tc : Thread Cert.DwIdeal.nD Cert.DwIdeal.τ).loc Cert.DwIdeal.main_arg3) = m ((c.tc : Thread Cert.DwIdeal.nD Cert.DwIdeal.τ).loc Cert.DwIdeal.main_arg3)
          ∧ r.2.mem ((c.tc : Thread Cert.DwIdeal.nD Cert.DwIdeal.τ).loc Cert.DwIdeal.main_arg4) = m ((c.tc : Thread Cert.DwIdeal.nD Cert.DwIdeal.τ).loc Cert.DwIdeal.main_arg4))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v6) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2)
          ∧ r.2.mem ((c.tc : Thread Cert.DwRefIdeal.nD Cert.DwRefIdeal.τ).loc Cert.DwRefIdeal.main_arg3) = m' ((c.tc : Thread Cert.DwRefIdeal.nD Cert.DwRefIdeal.τ).loc Cert.DwRefIdeal.main_arg3)
          ∧ r.2.mem ((c.tc : Thread Cert.DwRefIdeal.nD Cert.DwRefIdeal.τ).loc Cert.DwRefIdeal.main_arg4) = m' ((c.tc : Thread Cert.DwRefIdeal.nD Cert.DwRefIdeal.τ).loc Cert.DwRefIdeal.main_arg4))

def Claim : Prop :=
  ∃ (hKernel : Cert.Kernel.Facts) (hKernelIdeal : Cert.KernelIdeal.Facts) (hReferenceIdeal : Cert.ReferenceIdeal.Facts) (hInp : Cert.Inp.Facts) (hInpIdeal : Cert.InpIdeal.Facts) (hInpRefIdeal : Cert.InpRefIdeal.Facts) (hMlp : Cert.Mlp.Facts) (hMlpIdeal : Cert.MlpIdeal.Facts) (hMlpRefIdeal : Cert.MlpRefIdeal.Facts) (hAtt : Cert.Att.Facts) (hAttIdeal : Cert.AttIdeal.Facts) (hAttRefIdeal : Cert.AttRefIdeal.Facts) (hMixf : Cert.Mixf.Facts) (hMixfIdeal : Cert.MixfIdeal.Facts) (hMixfRefIdeal : Cert.MixfRefIdeal.Facts) (hMm : Cert.Mm.Facts) (hMmIdeal : Cert.MmIdeal.Facts) (hMmRefIdeal : Cert.MmRefIdeal.Facts) (hAdam : Cert.Adam.Facts) (hAdamIdeal : Cert.AdamIdeal.Facts) (hAdamRefIdeal : Cert.AdamRefIdeal.Facts) (hDw : Cert.Dw.Facts) (hDwIdeal : Cert.DwIdeal.Facts) (hDwRefIdeal : Cert.DwRefIdeal.Facts) (hPre_finite_inp : Cert.Pre_finite_inp.Facts) (hPre_finite_mlp : Cert.Pre_finite_mlp.Facts),
    quiescent_Kernel (hKernel := hKernel)
    ∧ quiescent_KernelIdeal (hKernelIdeal := hKernelIdeal)
    ∧ quiescent_ReferenceIdeal (hReferenceIdeal := hReferenceIdeal)
    ∧ quiescent_Inp (hInp := hInp)
    ∧ quiescent_InpIdeal (hInpIdeal := hInpIdeal)
    ∧ quiescent_InpIdeal_pre_finite_inp (hInpIdeal := hInpIdeal) (hPre_finite_inp := hPre_finite_inp)
    ∧ quiescent_InpRefIdeal (hInpRefIdeal := hInpRefIdeal)
    ∧ quiescent_InpRefIdeal_pre_finite_inp (hInpRefIdeal := hInpRefIdeal) (hPre_finite_inp := hPre_finite_inp)
    ∧ quiescent_Mlp (hMlp := hMlp)
    ∧ quiescent_MlpIdeal (hMlpIdeal := hMlpIdeal)
    ∧ quiescent_MlpIdeal_pre_finite_mlp (hMlpIdeal := hMlpIdeal) (hPre_finite_mlp := hPre_finite_mlp)
    ∧ quiescent_MlpRefIdeal (hMlpRefIdeal := hMlpRefIdeal)
    ∧ quiescent_MlpRefIdeal_pre_finite_mlp (hMlpRefIdeal := hMlpRefIdeal) (hPre_finite_mlp := hPre_finite_mlp)
    ∧ quiescent_Att (hAtt := hAtt)
    ∧ quiescent_AttIdeal (hAttIdeal := hAttIdeal)
    ∧ quiescent_AttRefIdeal (hAttRefIdeal := hAttRefIdeal)
    ∧ quiescent_Mixf (hMixf := hMixf)
    ∧ quiescent_MixfIdeal (hMixfIdeal := hMixfIdeal)
    ∧ quiescent_MixfRefIdeal (hMixfRefIdeal := hMixfRefIdeal)
    ∧ quiescent_Mm (hMm := hMm)
    ∧ quiescent_MmIdeal (hMmIdeal := hMmIdeal)
    ∧ quiescent_MmRefIdeal (hMmRefIdeal := hMmRefIdeal)
    ∧ quiescent_Adam (hAdam := hAdam)
    ∧ quiescent_AdamIdeal (hAdamIdeal := hAdamIdeal)
    ∧ quiescent_AdamRefIdeal (hAdamRefIdeal := hAdamRefIdeal)
    ∧ quiescent_Dw (hDw := hDw)
    ∧ quiescent_DwIdeal (hDwIdeal := hDwIdeal)
    ∧ quiescent_DwRefIdeal (hDwRefIdeal := hDwRefIdeal)
    ∧ preserves_Kernel_KernelIdeal
    ∧ algebraic_KernelIdeal_ReferenceIdeal (hKernelIdeal := hKernelIdeal) (hReferenceIdeal := hReferenceIdeal)
    ∧ preserves_Inp_InpIdeal
    ∧ algebraic_InpIdeal_InpRefIdeal_pre_finite_inp (hInpIdeal := hInpIdeal) (hInpRefIdeal := hInpRefIdeal) (hPre_finite_inp := hPre_finite_inp)
    ∧ preserves_Mlp_MlpIdeal
    ∧ algebraic_MlpIdeal_MlpRefIdeal_pre_finite_mlp (hMlpIdeal := hMlpIdeal) (hMlpRefIdeal := hMlpRefIdeal) (hPre_finite_mlp := hPre_finite_mlp)
    ∧ preserves_Att_AttIdeal
    ∧ preserves_Mixf_MixfIdeal
    ∧ algebraic_MixfIdeal_MixfRefIdeal (hMixfIdeal := hMixfIdeal) (hMixfRefIdeal := hMixfRefIdeal)
    ∧ preserves_Mm_MmIdeal
    ∧ algebraic_MmIdeal_MmRefIdeal (hMmIdeal := hMmIdeal) (hMmRefIdeal := hMmRefIdeal)
    ∧ preserves_Adam_AdamIdeal
    ∧ algebraic_AdamIdeal_AdamRefIdeal (hAdamIdeal := hAdamIdeal) (hAdamRefIdeal := hAdamRefIdeal)
    ∧ preserves_Dw_DwIdeal
    ∧ algebraic_DwIdeal_DwRefIdeal (hDwIdeal := hDwIdeal) (hDwRefIdeal := hDwRefIdeal)
-- ==== Pre_finite_inp.lean ====
abbrev S4096x1024 : Shape := ⟨2, ![4096, 1024]⟩
abbrev S1x1024 : Shape := ⟨2, ![1, 1024]⟩
abbrev S1x1024x5888 : Shape := ⟨3, ![1, 1024, 5888]⟩
abbrev S4096x5888 : Shape := ⟨2, ![4096, 5888]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1x1024x5888 : S_.BroadcastsInDim S1x1024x5888 (![] : Fin 0 → Fin S1x1024x5888.rank)
  bcast_S_S4096x5888 : S_.BroadcastsInDim S4096x5888 (![] : Fin 0 → Fin S4096x5888.rank)

variable [Facts]

def fn {F : FTy → Type} [FloatOps F] (main_arg0 : FVec F S4096x1024 .f32) (main_arg1 : FVec F S1x1024 .f32) (main_arg2 : FVec F S1x1024x5888 .f32) (main_arg3 : FVec F S4096x1024 .f32) (main_arg4 : FVec F S4096x5888 .f32) : IVec S4096x1024 1 × IVec S1x1024 1 × IVec S1x1024x5888 1 × IVec S4096x5888 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x5888 .f32 := Host.absf main_arg2
  let main_cst_1 : FVec F S_ .f32 := constant S_ .f32 0x7F800000#32
  let main_v7 : FVec F S1x1024x5888 .f32 := broadcastInDim S1x1024x5888 ![] bcast_S_S1x1024x5888 main_cst_1
  let main_v8 : IVec S1x1024x5888 1 := cmpf .olt main_v6 main_v7
  let main_v9 : FVec F S4096x5888 .f32 := Host.absf main_arg4
  let main_cst_2 : FVec F S_ .f32 := constant S_ .f32 0x7F800000#32
  let main_v10 : FVec F S4096x5888 .f32 := broadcastInDim S4096x5888 ![] bcast_S_S4096x5888 main_cst_2
  let main_v11 : IVec S4096x5888 1 := cmpf .olt main_v9 main_v10
  (main_v2, main_v5, main_v8, main_v11)
-- ==== Pre_finite_mlp.lean ====
abbrev S4096x1024 : Shape := ⟨2, ![4096, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1x1024x4096 : S_.BroadcastsInDim S1x1024x4096 (![] : Fin 0 → Fin S1x1024x4096.rank)
  bcast_S_S1x4096x1024 : S_.BroadcastsInDim S1x4096x1024 (![] : Fin 0 → Fin S1x4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S1x1024 .f32) (main_arg2 : FVec F S1x1024x4096 .f32) (main_arg3 : FVec F S1x4096x1024 .f32) (main_arg4 : FVec F S1024 .f32) (main_arg5 : FVec F S4096x1024 .f32) : IVec S4096x1024 1 × IVec S1x1024 1 × IVec S1x1024x4096 1 × IVec S1x4096x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x4096 .f32 := Host.absf main_arg2
  let main_cst_1 : FVec F S_ .f32 := constant S_ .f32 0x7F800000#32
  let main_v7 : FVec F S1x1024x4096 .f32 := broadcastInDim S1x1024x4096 ![] bcast_S_S1x1024x4096 main_cst_1
  let main_v8 : IVec S1x1024x4096 1 := cmpf .olt main_v6 main_v7
  let main_v9 : FVec F S1x4096x1024 .f32 := Host.absf main_arg3
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Kernel.lean ====
abbrev S4096x1024 : Shape := ⟨2, ![4096, 1024]⟩
abbrev S4096x512 : Shape := ⟨2, ![4096, 512]⟩
abbrev S4096x2048 : Shape := ⟨2, ![4096, 2048]⟩
abbrev S1x2048 : Shape := ⟨2, ![1, 2048]⟩
abbrev S1x512x1024 : Shape := ⟨3, ![1, 512, 1024]⟩
abbrev S1x1024x1024 : Shape := ⟨3, ![1, 1024, 1024]⟩
abbrev S512x4096 : Shape := ⟨2, ![512, 4096]⟩
abbrev S512x1024 : Shape := ⟨2, ![512, 1024]⟩
abbrev S1024x1024 : Shape := ⟨2, ![1024, 1024]⟩
abbrev S512x512 : Shape := ⟨2, ![512, 512]⟩
abbrev S512x2048 : Shape := ⟨2, ![512, 2048]⟩
abbrev S1x1024 : Shape := ⟨2, ![1, 1024]⟩
abbrev S1024 : Shape := ⟨1, ![1024]⟩

abbrev nBuf : Space → Nat
  | .hbm => 30
  | .vmem => 48
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x1024, .f32⟩
  | .hbm, ⟨3, _⟩ => ⟨S4096x2048, .f32⟩
  | .hbm, ⟨4, _⟩ => ⟨S1x2048, .f32⟩
  | .hbm, ⟨5, _⟩ => ⟨S1x512x1024, .f32⟩
  | .hbm, ⟨6, _⟩ => ⟨S1x1024x1024, .f32⟩
  | .hbm, ⟨7, _⟩ => ⟨S1x1024x1024, .f32⟩
  | .hbm, ⟨8, _⟩ => ⟨S4096x1024, .f32⟩
  | .hbm, ⟨9, _⟩ => ⟨S512x4096, .f32⟩
  | .hbm, ⟨10, _⟩ => ⟨S512x4096, .bf16⟩
  | .hbm, ⟨11, _⟩ => ⟨S4096x1024, .bf16⟩
  | .hbm, ⟨12, _⟩ => ⟨S4096x2048, .bf16⟩
  | .hbm, ⟨13, _⟩ => ⟨S512x1024, .f32⟩
  | .hbm, ⟨14, _⟩ => ⟨S512x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S4096x1024, .bf16⟩
  | .hbm, ⟨20, _⟩ => ⟨S4096x1024, .bf16⟩
  | .hbm, ⟨21, _⟩ => ⟨S4096x1024, .bf16⟩
  | .hbm, ⟨22, _⟩ => ⟨S4096x1024, .f32⟩
  | .hbm, ⟨23, _⟩ => ⟨S4096x2048, .bf16⟩
  | .hbm, ⟨24, _⟩ => ⟨S512x4096, .bf16⟩
  | .hbm, ⟨25, _⟩ => ⟨S4096x1024, .bf16⟩
  | .hbm, ⟨26, _⟩ => ⟨S1x2048, .f32⟩
  | .hbm, ⟨27, _⟩ => ⟨S512x1024, .f32⟩
  | .hbm, ⟨28, _⟩ => ⟨S1024x1024, .f32⟩
  | .hbm, ⟨29, _⟩ => ⟨S1024x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x2048, .bf16⟩
  | .local _ .vmem, ⟨27, _⟩ => ⟨S512x2048, .bf16⟩
  | .local _ .vmem, ⟨28, _⟩ => ⟨S1x2048, .f32⟩
  | .local _ .vmem, ⟨29, _⟩ => ⟨S512x1024, .bf16⟩
  | .local _ .vmem, ⟨30, _⟩ => ⟨S512x1024, .bf16⟩
  | .local _ .vmem, ⟨31, _⟩ => ⟨S512x512, .bf16⟩
  | .local _ .vmem, ⟨32, _⟩ => ⟨S512x512, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S1024x1024, .bf16⟩
  | .local _ .vmem, ⟨37, _⟩ => ⟨S1024x1024, .bf16⟩
  | .local _ .vmem, ⟨38, _⟩ => ⟨S512x2048, .bf16⟩
  | .local _ .vmem, ⟨39, _⟩ => ⟨S512x2048, .bf16⟩
  | .local _ .vmem, ⟨40, _⟩ => ⟨S512x512, .bf16⟩
  | .local _ .vmem, ⟨41, _⟩ => ⟨S512x512, .bf16⟩
  | .local _ .vmem, ⟨42, _⟩ => ⟨S512x1024, .bf16⟩
  | .local _ .vmem, ⟨43, _⟩ => ⟨S512x1024, .bf16⟩
  | .local _ .vmem, ⟨44, _⟩ => ⟨S1x2048, .f32⟩
  | .local _ .vmem, ⟨45, _⟩ => ⟨S512x1024, .f32⟩
  | .local _ .vmem, ⟨46, _⟩ => ⟨S1024x1024, .f32⟩
  | .local _ .vmem, ⟨47, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev main_v11_4 : Ref sig .tc := ⟨.hbm, 27, rfl⟩
abbrev main_v11_5 : Ref sig .tc := ⟨.hbm, 28, rfl⟩
abbrev main_v11_6 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg9_0 : Ref sig .tc := ⟨.vmem, 36, rfl⟩
abbrev cc1_stg10_0 : Ref sig .tc := ⟨.vmem, 37, rfl⟩
abbrev cc1_stg11_0 : Ref sig .tc := ⟨.vmem, 38, rfl⟩
abbrev cc1_stg11_1 : Ref sig .tc := ⟨.vmem, 39, rfl⟩
abbrev cc1_stg12_0 : Ref sig .tc := ⟨.vmem, 40, rfl⟩
abbrev cc1_stg12_1 : Ref sig .tc := ⟨.vmem, 41, rfl⟩
abbrev cc1_stg13_0 : Ref sig .tc := ⟨.vmem, 42, rfl⟩
abbrev cc1_stg13_1 : Ref sig .tc := ⟨.vmem, 43, rfl⟩
abbrev cc1_stg14_0 : Ref sig .tc := ⟨.vmem, 44, rfl⟩
abbrev cc1_stg15_0 : Ref sig .tc := ⟨.vmem, 45, rfl⟩
abbrev cc1_stg16_0 : Ref sig .tc := ⟨.vmem, 46, rfl⟩
abbrev cc1_stg17_0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem5_0 : DmaSem sig := 29
abbrev cc1_sem5_1 : DmaSem sig := 30
abbrev cc1_sem6_0 : DmaSem sig := 31
abbrev cc1_sem6_1 : DmaSem sig := 32
abbrev cc1_sem7_0 : DmaSem sig := 33
abbrev cc1_sem7_1 : DmaSem sig := 34
abbrev cc1_sem8_0 : DmaSem sig := 35
abbrev cc1_sem9_0 : DmaSem sig := 36
abbrev cc1_sem10_0 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43
abbrev cc1_sem14_0 : DmaSem sig := 44
abbrev cc1_sem15_0 : DmaSem sig := 45
abbrev cc1_sem16_0 : DmaSem sig := 46
abbrev cc1_sem17_0 : DmaSem sig := 47

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S512x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1024x1024 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S512x2048 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x512 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x1024 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 1 → Memref sig .tc .vmem S1x2048 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S512x1024 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1024x1024 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1024x1024 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]
-- ==== ReferenceIdeal.lean ====
abbrev S4096x1024 : Shape := ⟨2, ![4096, 1024]⟩
abbrev S4096x512 : Shape := ⟨2, ![4096, 512]⟩
abbrev S4096x2048 : Shape := ⟨2, ![4096, 2048]⟩
abbrev S1x2048 : Shape := ⟨2, ![1, 2048]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩
abbrev S2048 : Shape := ⟨1, ![2048]⟩
abbrev S1024 : Shape := ⟨1, ![1024]⟩
abbrev S1x1024 : Shape := ⟨2, ![1, 1024]⟩
abbrev S_ : Shape := ⟨0, ![]⟩
abbrev S1024x512 : Shape := ⟨2, ![1024, 512]⟩
abbrev S512x4096 : Shape := ⟨2, ![512, 4096]⟩

abbrev nBuf : Space → Nat
  | .hbm => 96
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x1024, .f32⟩
  | .hbm, ⟨3, _⟩ => ⟨S4096x2048, .f32⟩
  | .hbm, ⟨4, _⟩ => ⟨S1x2048, .f32⟩
  | .hbm, ⟨5, _⟩ => ⟨S1x512x1024, .f32⟩
  | .hbm, ⟨6, _⟩ => ⟨S1x1024x1024, .f32⟩
  | .hbm, ⟨7, _⟩ => ⟨S1x1024x1024, .f32⟩
  | .hbm, ⟨8, _⟩ => ⟨S4096x1024, .f32⟩
  | .hbm, ⟨9, _⟩ => ⟨S512x1024, .f32⟩
  | .hbm, ⟨10, _⟩ => ⟨S4096x1024, .f32⟩
  | .hbm, ⟨11, _⟩ => ⟨S1024x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S2048, .f32⟩
  | .hbm, ⟨16, _⟩ => ⟨S1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S1024x1024, .f32⟩
  | .hbm, ⟨52, _⟩ => ⟨S4096x1024, .f32⟩
  | .hbm, ⟨53, _⟩ => ⟨S4096x1024, .f32⟩
  | .hbm, ⟨54, _⟩ => ⟨S1024x1024, .f32⟩
  | .hbm, ⟨55, _⟩ => ⟨S1024x1024, .f32⟩
  | .hbm, ⟨56, _⟩ => ⟨S4096x1024, .f32⟩
  | .hbm, ⟨57, _⟩ => ⟨S1x1024x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S1024, .f32⟩
  | .hbm, ⟨68, _⟩ => ⟨S_, .f32⟩
  | .hbm, ⟨69, _⟩ => ⟨S2048, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S_, .f32⟩
  | .hbm, ⟨75, _⟩ => ⟨S1024, .f32⟩
  | .hbm, ⟨76, _⟩ => ⟨S_, .f32⟩
  | .hbm, ⟨77, _⟩ => ⟨S2048, .f32⟩
  | .hbm, ⟨78, _⟩ => ⟨S2048, .f32⟩
  | .hbm, ⟨79, _⟩ => ⟨S1x2048, .f32⟩
  | .hbm, ⟨80, _⟩ => ⟨S4096x2048, .f32⟩
  | .hbm, ⟨81, _⟩ => ⟨S1024x1024, .f32⟩
  | .hbm, ⟨82, _⟩ => ⟨S1024x1024, .f32⟩
  | .hbm, ⟨83, _⟩ => ⟨S4096x1024, .f32⟩
  | .hbm, ⟨84, _⟩ => ⟨S1x1024x1024, .f32⟩
  | .hbm, ⟨85, _⟩ => ⟨S1024x512, .f32⟩
  | .hbm, ⟨86, _⟩ => ⟨S512x1024, .f32⟩
  | .hbm, ⟨87, _⟩ => ⟨S4096x512, .f32⟩
  | .hbm, ⟨88, _⟩ => ⟨S1x512x1024, .f32⟩
  | .hbm, ⟨89, _⟩ => ⟨S4096x2048, .bf16⟩
  | .hbm, ⟨90, _⟩ => ⟨S512x4096, .f32⟩
  | .hbm, ⟨91, _⟩ => ⟨S512x4096, .bf16⟩
  | .hbm, ⟨92, _⟩ => ⟨S4096x1024, .bf16⟩
  | .hbm, ⟨93, _⟩ => ⟨S512x1024, .f32⟩
  | .hbm, ⟨94, _⟩ => ⟨S1024x1024, .f32⟩
  | .hbm, ⟨95, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩

abbrev nD : Nat := 1
abbrev τ : Topo := Topo.v7x

variable {F : FTy → Type} [FloatOps F]
-- ==== Inp.lean ====
abbrev S4096x1024 : Shape := ⟨2, ![4096, 1024]⟩
abbrev S1x1024 : Shape := ⟨2, ![1, 1024]⟩
abbrev S1x1024x5888 : Shape := ⟨3, ![1, 1024, 5888]⟩
abbrev S4096x5888 : Shape := ⟨2, ![4096, 5888]⟩
abbrev S1024x5888 : Shape := ⟨2, ![1024, 5888]⟩
abbrev S5888x1024 : Shape := ⟨2, ![5888, 1024]⟩
abbrev S4096x512 : Shape := ⟨2, ![4096, 512]⟩
abbrev S512x4096 : Shape := ⟨2, ![512, 4096]⟩
abbrev S4096x256 : Shape := ⟨2, ![4096, 256]⟩
abbrev S4096x3072 : Shape := ⟨2, ![4096, 3072]⟩
abbrev S4096x2048 : Shape := ⟨2, ![4096, 2048]⟩
abbrev S512x512 : Shape := ⟨2, ![512, 512]⟩
abbrev S512x256 : Shape := ⟨2, ![512, 256]⟩
abbrev S512x3072 : Shape := ⟨2, ![512, 3072]⟩
abbrev S512x2048 : Shape := ⟨2, ![512, 2048]⟩
abbrev S512x1024 : Shape := ⟨2, ![512, 1024]⟩
abbrev S4 : Shape := ⟨1, ![4]⟩
abbrev S1 : Shape := ⟨1, ![1]⟩
abbrev S_ : Shape := ⟨0, ![]⟩
abbrev S256x1024 : Shape := ⟨2, ![256, 1024]⟩
abbrev S3072x1024 : Shape := ⟨2, ![3072, 1024]⟩
abbrev S2048x1024 : Shape := ⟨2, ![2048, 1024]⟩
abbrev S512 : Shape := ⟨1, ![512]⟩
abbrev S512x1 : Shape := ⟨2, ![512, 1]⟩
abbrev S1024 : Shape := ⟨1, ![1024]⟩

abbrev nBuf : Space → Nat
  | .hbm => 19
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x5888, .f32⟩
  | .hbm, ⟨3, _⟩ => ⟨S4096x1024, .f32⟩
  | .hbm, ⟨4, _⟩ => ⟨S4096x5888, .f32⟩
  | .hbm, ⟨5, _⟩ => ⟨S1024x5888, .f32⟩
  | .hbm, ⟨6, _⟩ => ⟨S5888x1024, .f32⟩
  | .hbm, ⟨7, _⟩ => ⟨S5888x1024, .bf16⟩
  | .hbm, ⟨8, _⟩ => ⟨S4096x512, .f32⟩
  | .hbm, ⟨9, _⟩ => ⟨S512x4096, .f32⟩
  | .hbm, ⟨10, _⟩ => ⟨S512x4096, .bf16⟩
  | .hbm, ⟨11, _⟩ => ⟨S4096x256, .f32⟩
  | .hbm, ⟨12, _⟩ => ⟨S4096x256, .bf16⟩
  | .hbm, ⟨13, _⟩ => ⟨S4096x3072, .f32⟩
  | .hbm, ⟨14, _⟩ => ⟨S4096x3072, .bf16⟩
  | .hbm, ⟨15, _⟩ => ⟨S4096x2048, .f32⟩
  | .hbm, ⟨16, _⟩ => ⟨S4096x2048, .bf16⟩
  | .hbm, ⟨17, _⟩ => ⟨S4096x1024, .f32⟩
  | .hbm, ⟨18, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x3072, .bf16⟩
  | .local _ .vmem, ⟨5, _⟩ => ⟨S512x3072, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S5888x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InpRefIdeal.lean ====
abbrev S4096x1024 : Shape := ⟨2, ![4096, 1024]⟩
abbrev S1x1024 : Shape := ⟨2, ![1, 1024]⟩
abbrev S1x1024x5888 : Shape := ⟨3, ![1, 1024, 5888]⟩
abbrev S4096x5888 : Shape := ⟨2, ![4096, 5888]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x5888 : Shape := ⟨2, ![1024, 5888]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x5888, .f32⟩
  | .hbm, ⟨3, _⟩ => ⟨S4096x1024, .f32⟩
  | .hbm, ⟨4, _⟩ => ⟨S4096x5888, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x5888, .f32⟩
  | .hbm, ⟨27, _⟩ => ⟨S4096x5888, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Mlp.lean ====
abbrev S4096x1024 : Shape := ⟨2, ![4096, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x4096 : Shape := ⟨2, ![1024, 4096]⟩
abbrev S4096x4096 : Shape := ⟨2, ![4096, 4096]⟩
abbrev S1x128 : Shape := ⟨2, ![1, 128]⟩
abbrev S256x1024 : Shape := ⟨2, ![256, 1024]⟩
abbrev S256x4096 : Shape := ⟨2, ![256, 4096]⟩
abbrev S4 : Shape := ⟨1, ![4]⟩
abbrev S1 : Shape := ⟨1, ![1]⟩
abbrev S_ : Shape := ⟨0, ![]⟩
abbrev S1024x1024 : Shape := ⟨2, ![1024, 1024]⟩
abbrev S256 : Shape := ⟨1, ![256]⟩
abbrev S256x1 : Shape := ⟨2, ![256, 1]⟩
abbrev S1x256x1024 : Shape := ⟨3, ![1, 256, 1024]⟩
abbrev S1x1x1 : Shape := ⟨3, ![1, 1, 1]⟩

abbrev nBuf : Space → Nat
  | .hbm => 20
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S4096x1024, .f32⟩
  | .hbm, ⟨6, _⟩ => ⟨S1x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S4096x1024, .bf16⟩
  | .hbm, ⟨12, _⟩ => ⟨S4096x1024, .bf16⟩
  | .hbm, ⟨13, _⟩ => ⟨S4096x4096, .bf16⟩
  | .hbm, ⟨14, _⟩ => ⟨S4096x1024, .bf16⟩
  | .hbm, ⟨15, _⟩ => ⟨S4096x4096, .bf16⟩
  | .hbm, ⟨16, _⟩ => ⟨S4096x1024, .f32⟩
  | .hbm, ⟨17, _⟩ => ⟨S1x128, .f32⟩
  | .hbm, ⟨18, _⟩ => ⟨S1x1024, .f32⟩
  | .hbm, ⟨19, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x4096, .bf16⟩
  | .local _ .vmem, ⟨9, _⟩ => ⟨S256x4096, .bf16⟩
  | .local _ .vmem, ⟨10, _⟩ => ⟨S256x1024, .bf16⟩
  | .local _ .vmem, ⟨11, _⟩ => ⟨S256x1024, .bf16⟩
  | .local _ .vmem, ⟨12, _⟩ => ⟨S256x4096, .bf16⟩
  | .local _ .vmem, ⟨13, _⟩ => ⟨S256x4096, .bf16⟩
  | .local _ .vmem, ⟨14, _⟩ => ⟨S256x1024, .f32⟩
  | .local _ .vmem, ⟨15, _⟩ => ⟨S256x1024, .f32⟩
  | .local _ .vmem, ⟨16, _⟩ => ⟨S1x128, .f32⟩
  | .local _ .vmem, ⟨17, _⟩ => ⟨S1x1024, .f32⟩
  | .local _ .vmem, ⟨18, _⟩ => ⟨S1x1024, .f32⟩
  | .local _ .vmem, ⟨19, _⟩ => ⟨S4096x1024, .bf16⟩
  | .local _ .vmem, ⟨20, _⟩ => ⟨S4096x1024, .bf16⟩
  | .local _ .vmem, ⟨21, _⟩ => ⟨S256x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev main_v6_6 : Ref sig .tc := ⟨.hbm, 18, rfl⟩
abbrev main_v6_7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch2 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MlpRefIdeal.lean ====
abbrev S4096x1024 : Shape := ⟨2, ![4096, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S4096x4096 : Shape := ⟨2, ![4096, 4096]⟩
abbrev S1x128 : Shape := ⟨2, ![1, 128]⟩

abbrev nBuf : Space → Nat
  | .hbm => 151
  | .vmem => 0
  | .smem => 0
  | _ => 0

abbrev hbmTy0_0 (i : Nat) : BufTy := match i % 128 with
  | 0 => ⟨S4096x1024, .f32⟩
  | 1 => ⟨S1x1024, .f32⟩
  | 2 => ⟨S1x1024x4096, .f32⟩
  | 3 => ⟨S1x4096x1024, .f32⟩
  | 4 => ⟨S1024, .f32⟩
  | 5 => ⟨S4096x1024, .f32⟩
  | 6 => ⟨S1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1024, .f32⟩
  | 23 => ⟨S4096x1024, .f32⟩
  | 24 => ⟨S1x1024, .f32⟩
  | 25 => ⟨S4096x1024, .f32⟩
  | 26 => ⟨S4096x1024, .f32⟩
  | 27 => ⟨S1024x4096, .f32⟩
  | 28 => ⟨S4096x4096, .f32⟩
  | 29 => ⟨S_, .f32⟩
  | 30 => ⟨S4096x4096, .f32⟩
  | 31 => ⟨S4096x4096, .f32⟩
  | 32 => ⟨S_, .f32⟩
  | 33 => ⟨S4096x4096, .f32⟩
  | 34 => ⟨S4096x4096, .i1⟩
  | 35 => ⟨S_, .f32⟩
  | 36 => ⟨S4096x4096, .f32⟩
  | 37 => ⟨S4096x4096, .f32⟩
  | 38 => ⟨S_, .f32⟩
  | 39 => ⟨S4096x4096, .f32⟩
  | 40 => ⟨S4096x4096, .f32⟩
  | 41 => ⟨S4096x1024, .f32⟩
  | 42 => ⟨S4096x1024, .f32⟩
  | 43 => ⟨S4096x1024, .f32⟩
  | 44 => ⟨S4096x1024, .f32⟩
  | 45 => ⟨S_, .f32⟩
  | 46 => ⟨S4096, .f32⟩
  | 47 => ⟨S4096x1, .f32⟩
  | 48 => ⟨S_, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x1024, .f32⟩
  | 60 => ⟨S4096x1024, .f32⟩
  | 61 => ⟨S1x1024, .f32⟩
  | 62 => ⟨S4096x1024, .f32⟩
  | 63 => ⟨S4096x1024, .f32⟩
  | 64 => ⟨S4096x1024, .f32⟩
  | 65 => ⟨S4096x1024, .f32⟩
  | 66 => ⟨S_, .f32⟩
  | 67 => ⟨S4096x1024, .f32⟩
  | 68 => ⟨S4096x1024, .f32⟩
  | 69 => ⟨S_, .f32⟩
  | 70 => ⟨S4096, .f32⟩
  | 71 => ⟨S_, .f32⟩
  | 72 => ⟨S4096, .f32⟩
  | 73 => ⟨S4096, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S4096, .f32⟩
  | 82 => ⟨S_, .f32⟩
  | 83 => ⟨S4096, .f32⟩
  | 84 => ⟨S4096, .f32⟩
  | 85 => ⟨S4096x1024, .f32⟩
  | 86 => ⟨S4096x1024, .f32⟩
  | 87 => ⟨S4096x1024, .f32⟩
  | 88 => ⟨S_, .f32⟩
  | 89 => ⟨S1024, .f32⟩
  | 90 => ⟨S1x1024, .f32⟩
  | 91 => ⟨S4096x1024, .f32⟩
  | 92 => ⟨S4096x1024, .f32⟩
  | 93 => ⟨S_, .f32⟩
  | 94 => ⟨S1024, .f32⟩
  | 95 => ⟨S4096x1024, .f32⟩
  | 96 => ⟨S_, .f32⟩
  | 97 => ⟨S4096, .f32⟩
  | 98 => ⟨S4096x1, .f32⟩
  | 99 => ⟨S4096x1024, .f32⟩
  | 100 => ⟨S4096x1024, .f32⟩
  | 101 => ⟨S4096x1, .f32⟩
  | 102 => ⟨S_, .f32⟩
  | 103 => ⟨S4096x1, .f32⟩
  | 104 => ⟨S4096x1, .f32⟩
  | 105 => ⟨S_, .f32⟩
  | 106 => ⟨S4096, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S4096x4096, .f32⟩
  | 113 => ⟨S4096x4096, .f32⟩
  | 114 => ⟨S_, .f32⟩
  | 115 => ⟨S4096x4096, .f32⟩
  | 116 => ⟨S4096x4096, .f32⟩
  | 117 => ⟨S4096x1024, .f32⟩
  | 118 => ⟨S4096x1024, .f32⟩
  | 119 => ⟨S_, .f32⟩
  | 120 => ⟨S1024, .f32⟩
  | 121 => ⟨S1x1024, .f32⟩
  | 122 => ⟨S4096x1024, .f32⟩
  | 123 => ⟨S4096x1024, .f32⟩
  | 124 => ⟨S_, .f32⟩
  | 125 => ⟨S1024, .f32⟩
  | 126 => ⟨S4096x1024, .f32⟩
  | 127 => ⟨S_, .f32⟩
  | _ => ⟨S4096x1024, .f32⟩

abbrev hbmTy0_1 (i : Nat) : BufTy := match i % 128 with
  | 0 => ⟨S4096, .f32⟩
  | 1 => ⟨S4096x1, .f32⟩
  | 2 => ⟨S4096x1024, .f32⟩
  | 3 => ⟨S4096x1024, .f32⟩
  | 4 => ⟨S4096x1, .f32⟩
  | 5 => ⟨S_, .f32⟩
  | 6 => ⟨S4096x1, .f32⟩
  | 7 => ⟨S4096x1, .f32⟩
  | 8 => ⟨S_, .f32⟩
  | 9 => ⟨S4096, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S1x1024, .f32⟩
  | 16 => ⟨S4096x1024, .bf16⟩
  | 17 => ⟨S4096x4096, .bf16⟩
  | 18 => ⟨S4096x1024, .bf16⟩
  | 19 => ⟨S4096x4096, .bf16⟩
  | 20 => ⟨S4096x1024, .f32⟩
  | 21 => ⟨S1x128, .f32⟩
  | 22 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_cst_12 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_cst_14 : Ref sig .tc := ⟨.hbm, 76, rfl⟩
abbrev main_v53 : Ref sig .tc := ⟨.hbm, 77, rfl⟩
abbrev main_cst_15 : Ref sig .tc := ⟨.hbm, 78, rfl⟩
abbrev main_cst_16 : Ref sig .tc := ⟨.hbm, 79, rfl⟩
abbrev main_v54 : Ref sig .tc := ⟨.hbm, 80, rfl⟩
abbrev main_v55 : Ref sig .tc := ⟨.hbm, 81, rfl⟩
abbrev main_cst_17 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_18 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_19 : Ref sig .tc := ⟨.hbm, 93, rfl⟩
abbrev main_v65 : Ref sig .tc := ⟨.hbm, 94, rfl⟩
abbrev main_v66 : Ref sig .tc := ⟨.hbm, 95, rfl⟩
abbrev main_cst_20 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_21 : Ref sig .tc := ⟨.hbm, 102, rfl⟩
abbrev main_v72 : Ref sig .tc := ⟨.hbm, 103, rfl⟩
abbrev main_v73 : Ref sig .tc := ⟨.hbm, 104, rfl⟩
abbrev main_cst_22 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_23 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_24 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_25 : Ref sig .tc := ⟨.hbm, 124, rfl⟩
abbrev main_v90 : Ref sig .tc := ⟨.hbm, 125, rfl⟩
abbrev main_v91 : Ref sig .tc := ⟨.hbm, 126, rfl⟩
abbrev main_cst_26 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_27 : Ref sig .tc := ⟨.hbm, 133, rfl⟩
abbrev main_v97 : Ref sig .tc := ⟨.hbm, 134, rfl⟩
abbrev main_v98 : Ref sig .tc := ⟨.hbm, 135, rfl⟩
abbrev main_cst_28 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩

abbrev nD : Nat := 1
abbrev τ : Topo := Topo.v7x

variable {F : FTy → Type} [FloatOps F]
-- ==== Att.lean ====
abbrev S1x4096x512 : Shape := ⟨3, ![1, 4096, 512]⟩
abbrev S1x4096x128 : Shape := ⟨3, ![1, 4096, 128]⟩
abbrev S8 : Shape := ⟨1, ![8]⟩
abbrev S4096 : Shape := ⟨1, ![4096]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S1x4096x8x64 : Shape := ⟨4, ![1, 4096, 8, 64]⟩
abbrev S1x4096x8x16 : Shape := ⟨4, ![1, 4096, 8, 16]⟩
abbrev S1x4096x8x8 : Shape := ⟨4, ![1, 4096, 8, 8]⟩
abbrev S1x4096x1x8 : Shape := ⟨4, ![1, 4096, 1, 8]⟩
abbrev S1x4096x8x48 : Shape := ⟨4, ![1, 4096, 8, 48]⟩
abbrev S4096x512 : Shape := ⟨2, ![4096, 512]⟩
abbrev S1x4096x2x64 : Shape := ⟨4, ![1, 4096, 2, 64]⟩
abbrev S1x4096x2x16 : Shape := ⟨4, ![1, 4096, 2, 16]⟩
abbrev S1x4096x2x8 : Shape := ⟨4, ![1, 4096, 2, 8]⟩
abbrev S1x4096x2x48 : Shape := ⟨4, ![1, 4096, 2, 48]⟩
abbrev S4096x128 : Shape := ⟨2, ![4096, 128]⟩
abbrev S4096x256 : Shape := ⟨2, ![4096, 256]⟩
abbrev S4096x48 : Shape := ⟨2, ![4096, 48]⟩
abbrev S4096x64 : Shape := ⟨2, ![4096, 64]⟩
abbrev S1x4096x1x64 : Shape := ⟨4, ![1, 4096, 1, 64]⟩
abbrev S4096x56 : Shape := ⟨2, ![4096, 56]⟩
abbrev S4096x1024 : Shape := ⟨2, ![4096, 1024]⟩
abbrev S4x128x128 : Shape := ⟨3, ![4, 128, 128]⟩
abbrev S32x4x128x256 : Shape := ⟨4, ![32, 4, 128, 256]⟩
abbrev S512x4096 : Shape := ⟨2, ![512, 4096]⟩
abbrev S256x4096 : Shape := ⟨2, ![256, 4096]⟩
abbrev S1x1024 : Shape := ⟨2, ![1, 1024]⟩
abbrev S8x4096 : Shape := ⟨2, ![8, 4096]⟩
abbrev S1x128 : Shape := ⟨2, ![1, 128]⟩
abbrev S4096x3072 : Shape := ⟨2, ![4096, 3072]⟩
abbrev S512x128 : Shape := ⟨2, ![512, 128]⟩
abbrev S128x256 : Shape := ⟨2, ![128, 256]⟩
abbrev S256x128 : Shape := ⟨2, ![256, 128]⟩
abbrev S128x128 : Shape := ⟨2, ![128, 128]⟩
abbrev S8x128 : Shape := ⟨2, ![8, 128]⟩
abbrev S128x1024 : Shape := ⟨2, ![128, 1024]⟩
abbrev S1x4x128x256 : Shape := ⟨4, ![1, 4, 128, 256]⟩
abbrev S128x3072 : Shape := ⟨2, ![128, 3072]⟩
abbrev S4x128x256 : Shape := ⟨3, ![4, 128, 256]⟩
abbrev S64x128 : Shape := ⟨2, ![64, 128]⟩
abbrev S64x512 : Shape := ⟨2, ![64, 512]⟩
abbrev S128x512 : Shape := ⟨2, ![128, 512]⟩
abbrev S256x512 : Shape := ⟨2, ![256, 512]⟩
abbrev S1 : Shape := ⟨1, ![1]⟩
abbrev S1x512 : Shape := ⟨2, ![1, 512]⟩
abbrev S512 : Shape := ⟨1, ![512]⟩
abbrev S64x256 : Shape := ⟨2, ![64, 256]⟩
abbrev S48x128 : Shape := ⟨2, ![48, 128]⟩
abbrev S1x1x128 : Shape := ⟨3, ![1, 1, 128]⟩
abbrev S1x1x1 : Shape := ⟨3, ![1, 1, 1]⟩
abbrev S1x256 : Shape := ⟨2, ![1, 256]⟩
abbrev S128 : Shape := ⟨1, ![128]⟩
abbrev S128x1 : Shape := ⟨2, ![128, 1]⟩
abbrev S256 : Shape := ⟨1, ![256]⟩
abbrev S1x1x128x256 : Shape := ⟨4, ![1, 1, 128, 256]⟩
abbrev S1x128x256 : Shape := ⟨3, ![1, 128, 256]⟩
abbrev S1x128x128 : Shape := ⟨3, ![1, 128, 128]⟩

abbrev nBuf : Space → Nat
  | .hbm => 126
  | .vmem => 52
  | .smem => 1
  | _ => 0

abbrev bufTy : (tb : Table) → Fin (tcTables nBuf tb) → BufTy
  | .hbm, ⟨0, _⟩ => ⟨S1x4096x512, .f32⟩
  | .hbm, ⟨1, _⟩ => ⟨S1x4096x128, .f32⟩
  | .hbm, ⟨2, _⟩ => ⟨S1x4096x128, .f32⟩
  | .hbm, ⟨3, _⟩ => ⟨S8, .f32⟩
  | .hbm, ⟨4, _⟩ => ⟨S1x4096x512, .f32⟩
  | .hbm, ⟨5, _⟩ => ⟨S4096, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S4096x1, .f32⟩
  | .hbm, ⟨21, _⟩ => ⟨S1x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S4096x8, .f32⟩
  | .hbm, ⟨26, _⟩ => ⟨S4096x1x8, .f32⟩
  | .hbm, ⟨27, _⟩ => ⟨S4096x8, .f32⟩
  | .hbm, ⟨28, _⟩ => ⟨S4096x1x8, .f32⟩
  | .hbm, ⟨29, _⟩ => ⟨S1x4096x8x64, .f32⟩
  | .hbm, ⟨30, _⟩ => ⟨S1x4096x8x16, .f32⟩
  | .hbm, ⟨31, _⟩ => ⟨S1x4096x8x8, .f32⟩
  | .hbm, ⟨32, _⟩ => ⟨S1x4096x8x8, .f32⟩
  | .hbm, ⟨33, _⟩ => ⟨S1x4096x1x8, .f32⟩
  | .hbm, ⟨34, _⟩ => ⟨S1x4096x8x8, .f32⟩
  | .hbm, ⟨35, _⟩ => ⟨S1x4096x8x8, .f32⟩
  | .hbm, ⟨36, _⟩ => ⟨S1x4096x1x8, .f32⟩
  | .hbm, ⟨37, _⟩ => ⟨S1x4096x8x8, .f32⟩
  | .hbm, ⟨38, _⟩ => ⟨S1x4096x8x8, .f32⟩
  | .hbm, ⟨39, _⟩ => ⟨S1x4096x8x8, .f32⟩
  | .hbm, ⟨40, _⟩ => ⟨S1x4096x1x8, .f32⟩
  | .hbm, ⟨41, _⟩ => ⟨S1x4096x8x8, .f32⟩
  | .hbm, ⟨42, _⟩ => ⟨S1x4096x8x8, .f32⟩
  | .hbm, ⟨43, _⟩ => ⟨S1x4096x1x8, .f32⟩
  | .hbm, ⟨44, _⟩ => ⟨S1x4096x8x8, .f32⟩
  | .hbm, ⟨45, _⟩ => ⟨S1x4096x8x8, .f32⟩
  | .hbm, ⟨46, _⟩ => ⟨S1x4096x8x8, .f32⟩
  | .hbm, ⟨47, _⟩ => ⟨S1x4096x8x16, .f32⟩
  | .hbm, ⟨48, _⟩ => ⟨S1x4096x8x48, .f32⟩
  | .hbm, ⟨49, _⟩ => ⟨S1x4096x8x64, .f32⟩
  | .hbm, ⟨50, _⟩ => ⟨S4096x512, .f32⟩
  | .hbm, ⟨51, _⟩ => ⟨S1x4096x2x64, .f32⟩
  | .hbm, ⟨52, _⟩ => ⟨S1x4096x2x16, .f32⟩
  | .hbm, ⟨53, _⟩ => ⟨S1x4096x2x8, .f32⟩
  | .hbm, ⟨54, _⟩ => ⟨S1x4096x2x8, .f32⟩
  | .hbm, ⟨55, _⟩ => ⟨S1x4096x1x8, .f32⟩
  | .hbm, ⟨56, _⟩ => ⟨S1x4096x2x8, .f32⟩
  | .hbm, ⟨57, _⟩ => ⟨S1x4096x2x8, .f32⟩
  | .hbm, ⟨58, _⟩ => ⟨S1x4096x1x8, .f32⟩
  | .hbm, ⟨59, _⟩ => ⟨S1x4096x2x8, .f32⟩
  | .hbm, ⟨60, _⟩ => ⟨S1x4096x2x8, .f32⟩
  | .hbm, ⟨61, _⟩ => ⟨S1x4096x2x8, .f32⟩
  | .hbm, ⟨62, _⟩ => ⟨S1x4096x1x8, .f32⟩
  | .hbm, ⟨63, _⟩ => ⟨S1x4096x2x8, .f32⟩
  | .hbm, ⟨64, _⟩ => ⟨S1x4096x2x8, .f32⟩
  | .hbm, ⟨65, _⟩ => ⟨S1x4096x1x8, .f32⟩
  | .hbm, ⟨66, _⟩ => ⟨S1x4096x2x8, .f32⟩
  | .hbm, ⟨67, _⟩ => ⟨S1x4096x2x8, .f32⟩
  | .hbm, ⟨68, _⟩ => ⟨S1x4096x2x8, .f32⟩
  | .hbm, ⟨69, _⟩ => ⟨S1x4096x2x16, .f32⟩
  | .hbm, ⟨70, _⟩ => ⟨S1x4096x2x48, .f32⟩
  | .hbm, ⟨71, _⟩ => ⟨S1x4096x2x64, .f32⟩
  | .hbm, ⟨72, _⟩ => ⟨S4096x128, .f32⟩
  | .hbm, ⟨73, _⟩ => ⟨S4096x128, .f32⟩
  | .hbm, ⟨74, _⟩ => ⟨S4096x256, .f32⟩
  | .hbm, ⟨75, _⟩ => ⟨S4096x256, .bf16⟩
  | .hbm, ⟨76, _⟩ => ⟨S4096x8, .f32⟩
  | .hbm, ⟨77, _⟩ => ⟨S4096x8, .f32⟩
  | .hbm, ⟨78, _⟩ => ⟨S_, .f32⟩
  | .hbm, ⟨79, _⟩ => ⟨S4096x48, .f32⟩
  | .hbm, ⟨80, _⟩ => ⟨S4096x64, .f32⟩
  | .hbm, ⟨81, _⟩ => ⟨S1x4096x1x64, .f32⟩
  | .hbm, ⟨82, _⟩ => ⟨S1x4096x2x64, .f32⟩
  | .hbm, ⟨83, _⟩ => ⟨S4096x128, .f32⟩
  | .hbm, ⟨84, _⟩ => ⟨S4096x8, .f32⟩
  | .hbm, ⟨85, _⟩ => ⟨S_, .f32⟩
  | .hbm, ⟨86, _⟩ => ⟨S4096x56, .f32⟩
  | .hbm, ⟨87, _⟩ => ⟨S4096x64, .f32⟩
  | .hbm, ⟨88, _⟩ => ⟨S1x4096x1x64, .f32⟩
  | .hbm, ⟨89, _⟩ => ⟨S1x4096x2x64, .f32⟩
  | .hbm, ⟨90, _⟩ => ⟨S4096x128, .f32⟩
  | .hbm, ⟨91, _⟩ => ⟨S_, .f32⟩
  | .hbm, ⟨92, _⟩ => ⟨S4096x8, .f32⟩
  | .hbm, ⟨93, _⟩ => ⟨S_, .f32⟩
  | .hbm, ⟨94, _⟩ => ⟨S4096x48, .f32⟩
  | .hbm, ⟨95, _⟩ => ⟨S4096x64, .f32⟩
  | .hbm, ⟨96, _⟩ => ⟨S1x4096x1x64, .f32⟩
  | .hbm, ⟨97, _⟩ => ⟨S1x4096x2x64, .f32⟩
  | .hbm, ⟨98, _⟩ => ⟨S4096x128, .f32⟩
  | .hbm, ⟨99, _⟩ => ⟨S_, .bf16⟩
  | .hbm, ⟨100, _⟩ => ⟨S4096x1024, .bf16⟩
  | .hbm, ⟨101, _⟩ => ⟨S_, .f32⟩
  | .hbm, ⟨102, _⟩ => ⟨S4x128x128, .f32⟩
  | .hbm, ⟨103, _⟩ => ⟨S_, .bf16⟩
  | .hbm, ⟨104, _⟩ => ⟨S32x4x128x256, .bf16⟩
  | .hbm, ⟨105, _⟩ => ⟨S512x4096, .f32⟩
  | .hbm, ⟨106, _⟩ => ⟨S512x4096, .bf16⟩
  | .hbm, ⟨107, _⟩ => ⟨S256x4096, .bf16⟩
  | .hbm, ⟨108, _⟩ => ⟨S4096x512, .f32⟩
  | .hbm, ⟨109, _⟩ => ⟨S512x4096, .f32⟩
  | .hbm, ⟨110, _⟩ => ⟨S512x4096, .bf16⟩
  | .hbm, ⟨111, _⟩ => ⟨S_, .f32⟩
  | .hbm, ⟨112, _⟩ => ⟨S4096x1024, .f32⟩
  | .hbm, ⟨113, _⟩ => ⟨S_, .f32⟩
  | .hbm, ⟨114, _⟩ => ⟨S1x1024, .f32⟩
  | .hbm, ⟨115, _⟩ => ⟨S_, .f32⟩
  | .hbm, ⟨116, _⟩ => ⟨S4096x128, .f32⟩
  | .hbm, ⟨117, _⟩ => ⟨S_, .f32⟩
  | .hbm, ⟨118, _⟩ => ⟨S4096x128, .f32⟩
  | .hbm, ⟨119, _⟩ => ⟨S8x4096, .f32⟩
  | .hbm, ⟨120, _⟩ => ⟨S8x4096, .f32⟩
  | .hbm, ⟨121, _⟩ => ⟨S512x4096, .bf16⟩
  | .hbm, ⟨122, _⟩ => ⟨S4096x256, .bf16⟩
  | .hbm, ⟨123, _⟩ => ⟨S1x128, .f32⟩
  | .hbm, ⟨124, _⟩ => ⟨S4096x3072, .bf16⟩
  | .hbm, ⟨125, _⟩ => ⟨S1x1024, .f32⟩
  | .local _ .vmem, ⟨0, _⟩ => ⟨S512x128, .bf16⟩
  | .local _ .vmem, ⟨1, _⟩ => ⟨S512x128, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S512x128, .bf16⟩
  | .local _ .vmem, ⟨11, _⟩ => ⟨S512x128, .bf16⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S8x128, .f32⟩
  | .local _ .vmem, ⟨19, _⟩ => ⟨S8x128, .f32⟩
  | .local _ .vmem, ⟨20, _⟩ => ⟨S8x128, .f32⟩
  | .local _ .vmem, ⟨21, _⟩ => ⟨S8x128, .f32⟩
  | .local _ .vmem, ⟨22, _⟩ => ⟨S128x1024, .bf16⟩
  | .local _ .vmem, ⟨23, _⟩ => ⟨S128x1024, .bf16⟩
  | .local _ .vmem, ⟨24, _⟩ => ⟨S128x1024, .bf16⟩
  | .local _ .vmem, ⟨25, _⟩ => ⟨S128x1024, .bf16⟩
  | .local _ .vmem, ⟨26, _⟩ => ⟨S128x1024, .bf16⟩
  | .local _ .vmem, ⟨27, _⟩ => ⟨S128x1024, .bf16⟩
  | .local _ .vmem, ⟨28, _⟩ => ⟨S128x1024, .f32⟩
  | .local _ .vmem, ⟨29, _⟩ => ⟨S128x1024, .f32⟩
  | .local _ .vmem, ⟨30, _⟩ => ⟨S128x1024, .bf16⟩
  | .local _ .vmem, ⟨31, _⟩ => ⟨S128x1024, .bf16⟩
  | .local _ .vmem, ⟨32, _⟩ => ⟨S1x4x128x256, .bf16⟩
  | .local _ .vmem, ⟨33, _⟩ => ⟨S1x4x128x256, .bf16⟩
  | .local _ .vmem, ⟨34, _⟩ => ⟨S1x1024, .f32⟩
  | .local _ .vmem, ⟨35, _⟩ => ⟨S4x128x128, .f32⟩
  | .local _ .vmem, ⟨36, _⟩ => ⟨S4x128x128, .f32⟩
  | .local _ .vmem, ⟨37, _⟩ => ⟨S4x128x128, .f32⟩
  | .local _ .vmem, ⟨38, _⟩ => ⟨S128x128, .f32⟩
  | .local _ .vmem, ⟨39, _⟩ => ⟨S128x128, .f32⟩
  | .local _ .vmem, ⟨40, _⟩ => ⟨S128x128, .f32⟩
  | .local _ .vmem, ⟨41, _⟩ => ⟨S128x128, .f32⟩
  | .local _ .vmem, ⟨42, _⟩ => ⟨S512x128, .bf16⟩
  | .local _ .vmem, ⟨43, _⟩ => ⟨S512x128, .bf16⟩
  | .local _ .vmem, ⟨44, _⟩ => ⟨S128x256, .bf16⟩
  | .local _ .vmem, ⟨45, _⟩ => ⟨S128x256, .bf16⟩
  | .local _ .vmem, ⟨46, _⟩ => ⟨S1x128, .f32⟩
  | .local _ .vmem, ⟨47, _⟩ => ⟨S128x3072, .bf16⟩
  | .local _ .vmem, ⟨48, _⟩ => ⟨S128x3072, .bf16⟩
  | .local _ .vmem, ⟨49, _⟩ => ⟨S1x1024, .f32⟩
  | .local _ .vmem, ⟨50, _⟩ => ⟨S128x256, .f32⟩
  | .local _ .vmem, ⟨51, _⟩ => ⟨S4x128x256, .f32⟩
  | .local _ .smem, ⟨0, _⟩ => ⟨S8, .f32⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .smem, ⟨0, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_cst_3 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_cst_4 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_cst_5 : Ref sig .tc := ⟨.hbm, 91, rfl⟩
abbrev main_v80 : Ref sig .tc := ⟨.hbm, 92, rfl⟩
abbrev main_cst_6 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_cst_7 : Ref sig .tc := ⟨.hbm, 99, rfl⟩
abbrev main_v86 : Ref sig .tc := ⟨.hbm, 100, rfl⟩
abbrev main_cst_8 : Ref sig .tc := ⟨.hbm, 101, rfl⟩
abbrev main_v87 : Ref sig .tc := ⟨.hbm, 102, rfl⟩
abbrev main_cst_9 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_cst_10 : Ref sig .tc := ⟨.hbm, 111, rfl⟩
abbrev main_v95 : Ref sig .tc := ⟨.hbm, 112, rfl⟩
abbrev main_cst_11 : Ref sig .tc := ⟨.hbm, 113, rfl⟩
abbrev main_v96 : Ref sig .tc := ⟨.hbm, 114, rfl⟩
abbrev main_cst_12 : Ref sig .tc := ⟨.hbm, 115, rfl⟩
abbrev main_v97 : Ref sig .tc := ⟨.hbm, 116, rfl⟩
abbrev main_cst_13 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101_0 : Ref sig .tc := ⟨.hbm, 121, rfl⟩
abbrev main_v101_1 : Ref sig .tc := ⟨.hbm, 122, rfl⟩
abbrev main_v101_2 : Ref sig .tc := ⟨.hbm, 123, rfl⟩
abbrev main_v101_3 : Ref sig .tc := ⟨.hbm, 124, rfl⟩
abbrev main_v101_4 : Ref sig .tc := ⟨.hbm, 125, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg20_0 : Ref sig .tc := ⟨.vmem, 36, rfl⟩
abbrev cc0_stg21_0 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_stg24_0 : Ref sig .tc := ⟨.vmem, 42, rfl⟩
abbrev cc0_stg24_1 : Ref sig .tc := ⟨.vmem, 43, rfl⟩
abbrev cc0_stg25_0 : Ref sig .tc := ⟨.vmem, 44, rfl⟩
abbrev cc0_stg25_1 : Ref sig .tc := ⟨.vmem, 45, rfl⟩
abbrev cc0_stg26_0 : Ref sig .tc := ⟨.vmem, 46, rfl⟩
abbrev cc0_stg27_0 : Ref sig .tc := ⟨.vmem, 47, rfl⟩
abbrev cc0_stg27_1 : Ref sig .tc := ⟨.vmem, 48, rfl⟩
abbrev cc0_stg28_0 : Ref sig .tc := ⟨.vmem, 49, rfl⟩
abbrev cc0_scratch0 : Ref sig .tc := ⟨.vmem, 50, rfl⟩
abbrev cc0_scratch1 : Ref sig .tc := ⟨.vmem, 51, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem19_0 : DmaSem sig := 36
abbrev cc0_sem20_0 : DmaSem sig := 37
abbrev cc0_sem21_0 : DmaSem sig := 38
abbrev cc0_sem22_0 : DmaSem sig := 39
abbrev cc0_sem22_1 : DmaSem sig := 40
abbrev cc0_sem23_0 : DmaSem sig := 41
abbrev cc0_sem23_1 : DmaSem sig := 42
abbrev cc0_sem24_0 : DmaSem sig := 43
abbrev cc0_sem24_1 : DmaSem sig := 44
abbrev cc0_sem25_0 : DmaSem sig := 45
abbrev cc0_sem25_1 : DmaSem sig := 46
abbrev cc0_sem26_0 : DmaSem sig := 47
abbrev cc0_sem27_0 : DmaSem sig := 48
abbrev cc0_sem27_1 : DmaSem sig := 49
abbrev cc0_sem28_0 : DmaSem sig := 50

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c30_i32 : BitVec 32 := 30#32
  let v0 : BitVec 32 := Scalar.subi c30_i32 arg0
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c30_i32 : BitVec 32 := 30#32
  let v0 : BitVec 32 := Scalar.subi c30_i32 arg0
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_17 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_23 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_24 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![c0_i32.toNat, v0.toNat]

def cc0_transform_25 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x4x128x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4x128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S4x128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S4x128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S128x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S128x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x128 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S128x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 1 → Memref sig .tc .vmem S1x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 2 → Memref sig .tc .vmem S128x3072 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]
-- ==== AttIdeal.lean ====
variable {F : FTy → Type} [FloatOps F] [Named F]
def κ : String → Option EReal := fun
  | "mask" => some ⊥
  | _ => none
-- ==== AttRefIdeal.lean ====
abbrev S1x4096x512 : Shape := ⟨3, ![1, 4096, 512]⟩
abbrev S1x4096x128 : Shape := ⟨3, ![1, 4096, 128]⟩
abbrev S8 : Shape := ⟨1, ![8]⟩
abbrev S4096 : Shape := ⟨1, ![4096]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S1x4096x8x64 : Shape := ⟨4, ![1, 4096, 8, 64]⟩
abbrev S1x4096x8x16 : Shape := ⟨4, ![1, 4096, 8, 16]⟩
abbrev S1x4096x8x8 : Shape := ⟨4, ![1, 4096, 8, 8]⟩
abbrev S1x4096x1x8 : Shape := ⟨4, ![1, 4096, 1, 8]⟩
abbrev S1x4096x8x48 : Shape := ⟨4, ![1, 4096, 8, 48]⟩
abbrev S1x4096x2x64 : Shape := ⟨4, ![1, 4096, 2, 64]⟩
abbrev S1x4096x2x16 : Shape := ⟨4, ![1, 4096, 2, 16]⟩
abbrev S1x4096x2x8 : Shape := ⟨4, ![1, 4096, 2, 8]⟩
abbrev S1x4096x2x48 : Shape := ⟨4, ![1, 4096, 2, 48]⟩
abbrev S1x32x128x2x4x64 : Shape := ⟨6, ![1, 32, 128, 2, 4, 64]⟩
abbrev S1x32x128x2x64 : Shape := ⟨5, ![1, 32, 128, 2, 64]⟩
abbrev S1x1x128x2x64 : Shape := ⟨5, ![1, 1, 128, 2, 64]⟩
abbrev S1x31x128x2x64 : Shape := ⟨5, ![1, 31, 128, 2, 64]⟩
abbrev S1x32x256x2x64 : Shape := ⟨5, ![1, 32, 256, 2, 64]⟩
abbrev S1x32x2x256x128x4 : Shape := ⟨6, ![1, 32, 2, 256, 128, 4]⟩
abbrev S1x32x2x4x128x256 : Shape := ⟨6, ![1, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S2x4 : Shape := ⟨2, ![2, 4]⟩
abbrev S1x1x2x4x1x1 : Shape := ⟨6, ![1, 1, 2, 4, 1, 1]⟩
abbrev S1x32x2x4x128x1 : Shape := ⟨6, ![1, 32, 2, 4, 128, 1]⟩
abbrev S1x32x2x4x128x257 : Shape := ⟨6, ![1, 32, 2, 4, 128, 257]⟩
abbrev S1x32x2x4x128 : Shape := ⟨5, ![1, 32, 2, 4, 128]⟩
abbrev S1x32x2x64x4x128 : Shape := ⟨6, ![1, 32, 2, 64, 4, 128]⟩
abbrev S1x32x2x64x256 : Shape := ⟨5, ![1, 32, 2, 64, 256]⟩
abbrev S32x2x4x128 : Shape := ⟨4, ![32, 2, 4, 128]⟩
abbrev S1x32x2x128x4x64 : Shape := ⟨6, ![1, 32, 2, 128, 4, 64]⟩
abbrev S1x32x2x256x64 : Shape := ⟨5, ![1, 32, 2, 256, 64]⟩
abbrev S4096x512 : Shape := ⟨2, ![4096, 512]⟩
abbrev S512x4096 : Shape := ⟨2, ![512, 4096]⟩
abbrev S4096x128 : Shape := ⟨2, ![4096, 128]⟩
abbrev S4096x256 : Shape := ⟨2, ![4096, 256]⟩
abbrev S1x128 : Shape := ⟨2, ![1, 128]⟩

abbrev nBuf : Space → Nat
  | .hbm => 297
  | .vmem => 0
  | .smem => 0
  | _ => 0

abbrev hbmTy0_0 (i : Nat) : BufTy := match i % 128 with
  | 0 => ⟨S1x4096x512, .f32⟩
  | 1 => ⟨S1x4096x128, .f32⟩
  | 2 => ⟨S1x4096x128, .f32⟩
  | 3 => ⟨S8, .f32⟩
  | 4 => ⟨S1x4096x512, .f32⟩
  | 5 => ⟨S4096, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S4096x1, .f32⟩
  | 21 => ⟨S1x8, .f32⟩
  | 22 => ⟨S4096x8, .f32⟩
  | 23 => ⟨S4096x8, .f32⟩
  | 24 => ⟨S4096x8, .f32⟩
  | 25 => ⟨S4096x8, .f32⟩
  | 26 => ⟨S4096x1x8, .f32⟩
  | 27 => ⟨S4096x8, .f32⟩
  | 28 => ⟨S4096x1x8, .f32⟩
  | 29 => ⟨S1x4096x8x64, .f32⟩
  | 30 => ⟨S1x4096x8x16, .f32⟩
  | 31 => ⟨S1x4096x8x8, .f32⟩
  | 32 => ⟨S1x4096x8x8, .f32⟩
  | 33 => ⟨S1x4096x1x8, .f32⟩
  | 34 => ⟨S1x4096x8x8, .f32⟩
  | 35 => ⟨S1x4096x8x8, .f32⟩
  | 36 => ⟨S1x4096x1x8, .f32⟩
  | 37 => ⟨S1x4096x8x8, .f32⟩
  | 38 => ⟨S1x4096x8x8, .f32⟩
  | 39 => ⟨S1x4096x8x8, .f32⟩
  | 40 => ⟨S1x4096x1x8, .f32⟩
  | 41 => ⟨S1x4096x8x8, .f32⟩
  | 42 => ⟨S1x4096x8x8, .f32⟩
  | 43 => ⟨S1x4096x1x8, .f32⟩
  | 44 => ⟨S1x4096x8x8, .f32⟩
  | 45 => ⟨S1x4096x8x8, .f32⟩
  | 46 => ⟨S1x4096x8x8, .f32⟩
  | 47 => ⟨S1x4096x8x16, .f32⟩
  | 48 => ⟨S1x4096x8x48, .f32⟩
  | 49 => ⟨S1x4096x8x64, .f32⟩
  | 50 => ⟨S1x4096x2x64, .f32⟩
  | 51 => ⟨S1x4096x2x16, .f32⟩
  | 52 => ⟨S1x4096x2x8, .f32⟩
  | 53 => ⟨S1x4096x2x8, .f32⟩
  | 54 => ⟨S1x4096x1x8, .f32⟩
  | 55 => ⟨S1x4096x2x8, .f32⟩
  | 56 => ⟨S1x4096x2x8, .f32⟩
  | 57 => ⟨S1x4096x1x8, .f32⟩
  | 58 => ⟨S1x4096x2x8, .f32⟩
  | 59 => ⟨S1x4096x2x8, .f32⟩
  | 60 => ⟨S1x4096x2x8, .f32⟩
  | 61 => ⟨S1x4096x1x8, .f32⟩
  | 62 => ⟨S1x4096x2x8, .f32⟩
  | 63 => ⟨S1x4096x2x8, .f32⟩
  | 64 => ⟨S1x4096x1x8, .f32⟩
  | 65 => ⟨S1x4096x2x8, .f32⟩
  | 66 => ⟨S1x4096x2x8, .f32⟩
  | 67 => ⟨S1x4096x2x8, .f32⟩
  | 68 => ⟨S1x4096x2x16, .f32⟩
  | 69 => ⟨S1x4096x2x48, .f32⟩
  | 70 => ⟨S1x4096x2x64, .f32⟩
  | 71 => ⟨S1x4096x2x64, .f32⟩
  | 72 => ⟨S1x32x128x2x4x64, .f32⟩
  | 73 => ⟨S1x32x128x2x64, .f32⟩
  | 74 => ⟨S1x32x128x2x64, .f32⟩
  | 75 => ⟨S1x1x128x2x64, .f32⟩
  | 76 => ⟨S_, .f32⟩
  | 77 => ⟨S1x1x128x2x64, .f32⟩
  | 78 => ⟨S1x31x128x2x64, .f32⟩
  | 79 => ⟨S1x32x128x2x64, .f32⟩
  | 80 => ⟨S_, .f32⟩
  | 81 => ⟨S1x1x128x2x64, .f32⟩
  | 82 => ⟨S1x32x256x2x64, .f32⟩
  | 83 => ⟨S1x1x128x2x64, .f32⟩
  | 84 => ⟨S_, .f32⟩
  | 85 => ⟨S1x1x128x2x64, .f32⟩
  | 86 => ⟨S1x31x128x2x64, .f32⟩
  | 87 => ⟨S1x32x128x2x64, .f32⟩
  | 88 => ⟨S_, .f32⟩
  | 89 => ⟨S1x1x128x2x64, .f32⟩
  | 90 => ⟨S1x32x256x2x64, .f32⟩
  | 91 => ⟨S1x32x2x256x128x4, .f32⟩
  | 92 => ⟨S1x32x2x4x128x256, .f32⟩
  | 93 => ⟨S_, .f32⟩
  | 94 => ⟨S1x32x2x4x128x256, .f32⟩
  | 95 => ⟨S1x32x2x4x128x256, .f32⟩
  | 96 => ⟨S128, .i32⟩
  | 97 => ⟨S128x1, .i32⟩
  | 98 => ⟨S_, .i32⟩
  | 99 => ⟨S128x1, .i32⟩
  | 100 => ⟨S128x1, .i32⟩
  | 101 => ⟨S256, .i32⟩
  | 102 => ⟨S1x256, .i32⟩
  | 103 => ⟨S128x256, .i32⟩
  | 104 => ⟨S128x256, .i32⟩
  | 105 => ⟨S128x256, .i32⟩
  | 106 => ⟨S_, .i32⟩
  | 107 => ⟨S128x256, .i32⟩
  | 108 => ⟨S128x256, .i1⟩
  | 109 => ⟨S_, .i32⟩
  | 110 => ⟨S128x256, .i32⟩
  | 111 => ⟨S128x256, .i1⟩
  | 112 => ⟨S128x256, .i1⟩
  | 113 => ⟨S32, .i32⟩
  | 114 => ⟨S_, .i32⟩
  | 115 => ⟨S32, .i32⟩
  | 116 => ⟨S32, .i1⟩
  | 117 => ⟨S32x1x1, .i1⟩
  | 118 => ⟨S_, .i32⟩
  | 119 => ⟨S1x256, .i32⟩
  | 120 => ⟨S1x256, .i1⟩
  | 121 => ⟨S1x1x256, .i1⟩
  | 122 => ⟨S32x1x256, .i1⟩
  | 123 => ⟨S32x1x256, .i1⟩
  | 124 => ⟨S32x1x256, .i1⟩
  | 125 => ⟨S1x128x256, .i1⟩
  | 126 => ⟨S32x128x256, .i1⟩
  | 127 => ⟨S32x128x256, .i1⟩
  | _ => ⟨S1x4096x512, .f32⟩

abbrev hbmTy0_1 (i : Nat) : BufTy := match i % 128 with
  | 0 => ⟨S32x128x256, .i1⟩
  | 1 => ⟨S1x32x1x1x128x256, .i1⟩
  | 2 => ⟨S_, .f32⟩
  | 3 => ⟨S_, .f32⟩
  | 4 => ⟨S1x32x2x4x128x256, .i1⟩
  | 5 => ⟨S1x32x2x4x128x256, .f32⟩
  | 6 => ⟨S1x32x2x4x128x256, .f32⟩
  | 7 => ⟨S_, .f32⟩
  | 8 => ⟨S1x32x2x4x128x256, .f32⟩
  | 9 => ⟨S2x4, .f32⟩
  | 10 => ⟨S1x1x2x4x1x1, .f32⟩
  | 11 => ⟨S1x32x2x4x128x1, .f32⟩
  | 12 => ⟨S1x32x2x4x128x257, .f32⟩
  | 13 => ⟨S_, .f32⟩
  | 14 => ⟨S1x32x2x4x128, .f32⟩
  | 15 => ⟨S1x32x2x4x128x1, .f32⟩
  | 16 => ⟨S1x32x2x4x128x257, .f32⟩
  | 17 => ⟨S1x32x2x4x128x257, .i1⟩
  | 18 => ⟨S1x32x2x4x128x257, .f32⟩
  | 19 => ⟨S_, .f32⟩
  | 20 => ⟨S1x32x2x4x128, .f32⟩
  | 21 => ⟨S_, .f32⟩
  | 22 => ⟨S1x32x2x4x128, .f32⟩
  | 23 => ⟨S1x32x2x4x128, .f32⟩
  | 24 => ⟨S_, .f32⟩
  | 25 => ⟨S1x32x2x4x128, .f32⟩
  | 26 => ⟨S1x32x2x4x128, .i1⟩
  | 27 => ⟨S_, .f32⟩
  | 28 => ⟨S1x32x2x4x128, .f32⟩
  | 29 => ⟨S1x32x2x4x128, .i1⟩
  | 30 => ⟨S_, .f32⟩
  | 31 => ⟨S1x32x2x4x128, .f32⟩
  | 32 => ⟨S_, .f32⟩
  | 33 => ⟨S1x32x2x4x128, .f32⟩
  | 34 => ⟨S_, .f32⟩
  | 35 => ⟨S1x32x2x4x128, .f32⟩
  | 36 => ⟨S1x32x2x4x128, .f32⟩
  | 37 => ⟨S1x32x2x4x128, .f32⟩
  | 38 => ⟨S1x32x2x4x128x1, .f32⟩
  | 39 => ⟨S1x32x2x4x128x257, .f32⟩
  | 40 => ⟨S1x32x2x4x128x257, .f32⟩
  | 41 => ⟨S1x32x2x4x128x257, .f32⟩
  | 42 => ⟨S_, .f32⟩
  | 43 => ⟨S1x32x2x4x128, .f32⟩
  | 44 => ⟨S1x32x2x4x128x1, .f32⟩
  | 45 => ⟨S1x32x2x4x128x257, .f32⟩
  | 46 => ⟨S1x32x2x4x128x257, .f32⟩
  | 47 => ⟨S1x32x2x4x128x1, .f32⟩
  | 48 => ⟨S_, .f32⟩
  | 49 => ⟨S1x32x2x4x128x1, .f32⟩
  | 50 => ⟨S1x32x2x4x128x1, .f32⟩
  | 51 => ⟨S1x32x2x4x128x256, .f32⟩
  | 52 => ⟨S1x32x2x64x4x128, .f32⟩
  | 53 => ⟨S1x32x128x2x4x64, .f32⟩
  | 54 => ⟨S1x4096x512, .f32⟩
  | 55 => ⟨S1x32x128x2x4x64, .f32⟩
  | 56 => ⟨S1x32x2x64x4x128, .f32⟩
  | 57 => ⟨S1x32x2x4x128x256, .f32⟩
  | 58 => ⟨S1x32x2x64x256, .f32⟩
  | 59 => ⟨S1x32x256x2x64, .f32⟩
  | 60 => ⟨S_, .f32⟩
  | 61 => ⟨S1x32x2x4x128x257, .f32⟩
  | 62 => ⟨S1x32x2x4x128x257, .f32⟩
  | 63 => ⟨S1x32x2x4x128x257, .f32⟩
  | 64 => ⟨S1x32x2x4x128x257, .f32⟩
  | 65 => ⟨S_, .f32⟩
  | 66 => ⟨S1x32x2x4x128, .f32⟩
  | 67 => ⟨S1x32x2x4x128x1, .f32⟩
  | 68 => ⟨S1x32x2x4x128x1, .f32⟩
  | 69 => ⟨S1x32x2x4x128x257, .f32⟩
  | 70 => ⟨S1x32x2x4x128x257, .f32⟩
  | 71 => ⟨S_, .f32⟩
  | 72 => ⟨S32x2x4x128, .f32⟩
  | 73 => ⟨S1x32x2x4x128, .f32⟩
  | 74 => ⟨S1x32x2x4x128x257, .f32⟩
  | 75 => ⟨S1x32x2x4x128x257, .f32⟩
  | 76 => ⟨S1x32x2x4x128x257, .f32⟩
  | 77 => ⟨S1x32x2x4x128x256, .f32⟩
  | 78 => ⟨S1x32x2x4x128x1, .f32⟩
  | 79 => ⟨S_, .f32⟩
  | 80 => ⟨S2x4, .f32⟩
  | 81 => ⟨S1x1x2x4x1x1, .f32⟩
  | 82 => ⟨S_, .f32⟩
  | 83 => ⟨S2x4, .f32⟩
  | 84 => ⟨S8, .f32⟩
  | 85 => ⟨S_, .f32⟩
  | 86 => ⟨S1x32x2x4x128x256, .f32⟩
  | 87 => ⟨S1x32x2x4x128x256, .f32⟩
  | 88 => ⟨S_, .f32⟩
  | 89 => ⟨S1x32x2x4x128x256, .f32⟩
  | 90 => ⟨S1x32x2x4x128x256, .f32⟩
  | 91 => ⟨S1x32x2x256x128x4, .f32⟩
  | 92 => ⟨S1x32x2x128x4x64, .f32⟩
  | 93 => ⟨S1x32x128x2x4x64, .f32⟩
  | 94 => ⟨S1x32x2x256x64, .f32⟩
  | 95 => ⟨S1x32x256x2x64, .f32⟩
  | 96 => ⟨S1x32x128x2x64, .f32⟩
  | 97 => ⟨S1x32x128x2x64, .f32⟩
  | 98 => ⟨S1x1x128x2x64, .f32⟩
  | 99 => ⟨S1x31x128x2x64, .f32⟩
  | 100 => ⟨S_, .f32⟩
  | 101 => ⟨S1x32x128x2x64, .f32⟩
  | 102 => ⟨S1x32x128x2x64, .f32⟩
  | 103 => ⟨S1x32x128x2x64, .f32⟩
  | 104 => ⟨S1x32x128x2x64, .f32⟩
  | 105 => ⟨S1x1x128x2x64, .f32⟩
  | 106 => ⟨S1x31x128x2x64, .f32⟩
  | 107 => ⟨S_, .f32⟩
  | 108 => ⟨S1x32x128x2x64, .f32⟩
  | 109 => ⟨S1x32x128x2x64, .f32⟩
  | 110 => ⟨S1x4096x2x64, .f32⟩
  | 111 => ⟨S1x4096x2x64, .f32⟩
  | 112 => ⟨S1x4096x8x64, .f32⟩
  | 113 => ⟨S1x4096x128, .f32⟩
  | 114 => ⟨S1x4096x2x16, .f32⟩
  | 115 => ⟨S1x4096x2x48, .f32⟩
  | 116 => ⟨S_, .f32⟩
  | 117 => ⟨S1x4096x2x64, .f32⟩
  | 118 => ⟨S1x4096x2x8, .f32⟩
  | 119 => ⟨S1x4096x2x8, .f32⟩
  | 120 => ⟨S1x4096x2x8, .f32⟩
  | 121 => ⟨S1x4096x2x8, .f32⟩
  | 122 => ⟨S1x4096x2x8, .f32⟩
  | 123 => ⟨S1x4096x2x8, .f32⟩
  | 124 => ⟨S1x4096x2x8, .f32⟩
  | 125 => ⟨S1x4096x2x8, .f32⟩
  | 126 => ⟨S1x4096x2x8, .f32⟩
  | 127 => ⟨S1x4096x2x8, .f32⟩
  | _ => ⟨S1x4096x512, .f32⟩

abbrev hbmTy0_2 (i : Nat) : BufTy := match i % 128 with
  | 0 => ⟨S1x4096x2x8, .f32⟩
  | 1 => ⟨S1x4096x2x8, .f32⟩
  | 2 => ⟨S1x4096x2x8, .f32⟩
  | 3 => ⟨S1x4096x2x16, .f32⟩
  | 4 => ⟨S_, .f32⟩
  | 5 => ⟨S1x4096x2x64, .f32⟩
  | 6 => ⟨S1x4096x2x64, .f32⟩
  | 7 => ⟨S1x4096x128, .f32⟩
  | 8 => ⟨S1x4096x8x16, .f32⟩
  | 9 => ⟨S1x4096x8x48, .f32⟩
  | 10 => ⟨S_, .f32⟩
  | 11 => ⟨S1x4096x8x64, .f32⟩
  | 12 => ⟨S1x4096x8x8, .f32⟩
  | 13 => ⟨S1x4096x8x8, .f32⟩
  | 14 => ⟨S1x4096x8x8, .f32⟩
  | 15 => ⟨S1x4096x8x8, .f32⟩
  | 16 => ⟨S1x4096x8x8, .f32⟩
  | 17 => ⟨S1x4096x8x8, .f32⟩
  | 18 => ⟨S1x4096x8x8, .f32⟩
  | 19 => ⟨S1x4096x8x8, .f32⟩
  | 20 => ⟨S1x4096x8x8, .f32⟩
  | 21 => ⟨S1x4096x8x8, .f32⟩
  | 22 => ⟨S1x4096x8x8, .f32⟩
  | 23 => ⟨S1x4096x8x8, .f32⟩
  | 24 => ⟨S1x4096x8x8, .f32⟩
  | 25 => ⟨S1x4096x8x16, .f32⟩
  | 26 => ⟨S_, .f32⟩
  | 27 => ⟨S1x4096x8x64, .f32⟩
  | 28 => ⟨S1x4096x8x64, .f32⟩
  | 29 => ⟨S1x4096x512, .f32⟩
  | 30 => ⟨S4096x512, .f32⟩
  | 31 => ⟨S512x4096, .f32⟩
  | 32 => ⟨S512x4096, .bf16⟩
  | 33 => ⟨S4096x128, .f32⟩
  | 34 => ⟨S4096x128, .f32⟩
  | 35 => ⟨S4096x256, .f32⟩
  | 36 => ⟨S4096x256, .bf16⟩
  | 37 => ⟨S_, .i32⟩
  | 38 => ⟨S_, .f32⟩
  | 39 => ⟨S128, .f32⟩
  | 40 => ⟨S1x128, .f32⟩
  | _ => ⟨S1x4096x512, .f32⟩

abbrev hbmTy (i : Nat) : BufTy := match i / 128 with
  | 0 => hbmTy0_0 i
  | 1 => hbmTy0_1 i
  | 2 => hbmTy0_2 i
  | _ => ⟨S1x4096x512, .f32⟩

abbrev bufTy : (tb : Table) → Fin (tcTables nBuf tb) → BufTy
  | .hbm, ⟨i, _⟩ => hbmTy i
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_cst_3 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_cst_4 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_cst_5 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_cst_6 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_cst_7 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_c : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_c_8 : Ref sig .tc := ⟨.hbm, 106, rfl⟩
abbrev main_v91 : Ref sig .tc := ⟨.hbm, 107, rfl⟩
abbrev main_v92 : Ref sig .tc := ⟨.hbm, 108, rfl⟩
abbrev main_c_9 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_c_10 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_c_11 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_cst_12 : Ref sig .tc := ⟨.hbm, 130, rfl⟩
abbrev main_call0_v0 : Ref sig .tc := ⟨.hbm, 131, rfl⟩
abbrev main_v111_1 : Ref sig .tc := ⟨.hbm, 132, rfl⟩
abbrev main_call0_v2 : Ref sig .tc := ⟨.hbm, 133, rfl⟩
abbrev main_v111_0 : Ref sig .tc := ⟨.hbm, 134, rfl⟩
abbrev main_call0_cst : Ref sig .tc := ⟨.hbm, 135, rfl⟩
abbrev main_v111_2 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_cst_13 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_cst_14 : Ref sig .tc := ⟨.hbm, 147, rfl⟩
abbrev main_v121 : Ref sig .tc := ⟨.hbm, 148, rfl⟩
abbrev main_cst_15 : Ref sig .tc := ⟨.hbm, 149, rfl⟩
abbrev main_v122 : Ref sig .tc := ⟨.hbm, 150, rfl⟩
abbrev main_v123 : Ref sig .tc := ⟨.hbm, 151, rfl⟩
abbrev main_cst_16 : Ref sig .tc := ⟨.hbm, 152, rfl⟩
abbrev main_v124 : Ref sig .tc := ⟨.hbm, 153, rfl⟩
abbrev main_v125 : Ref sig .tc := ⟨.hbm, 154, rfl⟩
abbrev main_cst_17 : Ref sig .tc := ⟨.hbm, 155, rfl⟩
abbrev main_v126 : Ref sig .tc := ⟨.hbm, 156, rfl⟩
abbrev main_v127 : Ref sig .tc := ⟨.hbm, 157, rfl⟩
abbrev main_cst_18 : Ref sig .tc := ⟨.hbm, 158, rfl⟩
abbrev main_v128 : Ref sig .tc := ⟨.hbm, 159, rfl⟩
abbrev main_cst_19 : Ref sig .tc := ⟨.hbm, 160, rfl⟩
abbrev main_v129 : Ref sig .tc := ⟨.hbm, 161, rfl⟩
abbrev main_cst_20 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_cst_21 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_cst_22 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_cst_23 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_cst_24 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_cst_25 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_cst_26 : Ref sig .tc := ⟨.hbm, 207, rfl⟩
abbrev main_v169 : Ref sig .tc := ⟨.hbm, 208, rfl⟩
abbrev main_v170 : Ref sig .tc := ⟨.hbm, 209, rfl⟩
abbrev main_cst_27 : Ref sig .tc := ⟨.hbm, 210, rfl⟩
abbrev main_v171 : Ref sig .tc := ⟨.hbm, 211, rfl⟩
abbrev main_v172 : Ref sig .tc := ⟨.hbm, 212, rfl⟩
abbrev main_call1_cst : Ref sig .tc := ⟨.hbm, 213, rfl⟩
abbrev main_call1_v0 : Ref sig .tc := ⟨.hbm, 214, rfl⟩
abbrev main_v173 : Ref sig .tc := ⟨.hbm, 215, rfl⟩
abbrev main_cst_28 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_cst_29 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_cst_30 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_cst_31 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_cst_32 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_cst_33 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_v233 : Ref sig .tc := ⟨.hbm, 281, rfl⟩
abbrev main_cst_34 : Ref sig .tc := ⟨.hbm, 282, rfl⟩
abbrev main_v234 : Ref sig .tc := ⟨.hbm, 283, rfl⟩
abbrev main_v235 : Ref sig .tc := ⟨.hbm, 284, rfl⟩
abbrev main_v236 : Ref sig .tc := ⟨.hbm, 285, rfl⟩
abbrev main_v237 : Ref sig .tc := ⟨.hbm, 286, rfl⟩
abbrev main_v238 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_c_35 : Ref sig .tc := ⟨.hbm, 293, rfl⟩
abbrev main_call2_v0 : Ref sig .tc := ⟨.hbm, 294, rfl⟩
abbrev main_v244 : Ref sig .tc := ⟨.hbm, 295, rfl⟩
abbrev main_v245 : Ref sig .tc := ⟨.hbm, 296, rfl⟩

abbrev nD : Nat := 1
abbrev τ : Topo := Topo.v7x

variable {F : FTy → Type} [FloatOps F]

def κ : String → Option EReal := fun
  | "mask" => some ⊥
  | _ => none
-- ==== Mixf.lean ====
abbrev S4096x1024 : Shape := ⟨2, ![4096, 1024]⟩
abbrev S4096x512 : Shape := ⟨2, ![4096, 512]⟩
abbrev S4096x2048 : Shape := ⟨2, ![4096, 2048]⟩
abbrev S1x2048 : Shape := ⟨2, ![1, 2048]⟩
abbrev S1x512x1024 : Shape := ⟨3, ![1, 512, 1024]⟩
abbrev S1x1024x1024 : Shape := ⟨3, ![1, 1024, 1024]⟩
abbrev S512x4096 : Shape := ⟨2, ![512, 4096]⟩
abbrev S512x1024 : Shape := ⟨2, ![512, 1024]⟩
abbrev S1024x1024 : Shape := ⟨2, ![1024, 1024]⟩
abbrev S512x512 : Shape := ⟨2, ![512, 512]⟩
abbrev S512x2048 : Shape := ⟨2, ![512, 2048]⟩

abbrev nBuf : Space → Nat
  | .hbm => 22
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x1024, .f32⟩
  | .hbm, ⟨3, _⟩ => ⟨S4096x2048, .f32⟩
  | .hbm, ⟨4, _⟩ => ⟨S1x2048, .f32⟩
  | .hbm, ⟨5, _⟩ => ⟨S1x512x1024, .f32⟩
  | .hbm, ⟨6, _⟩ => ⟨S1x1024x1024, .f32⟩
  | .hbm, ⟨7, _⟩ => ⟨S1x1024x1024, .f32⟩
  | .hbm, ⟨8, _⟩ => ⟨S512x4096, .f32⟩
  | .hbm, ⟨9, _⟩ => ⟨S512x4096, .bf16⟩
  | .hbm, ⟨10, _⟩ => ⟨S4096x1024, .bf16⟩
  | .hbm, ⟨11, _⟩ => ⟨S4096x2048, .bf16⟩
  | .hbm, ⟨12, _⟩ => ⟨S512x1024, .f32⟩
  | .hbm, ⟨13, _⟩ => ⟨S512x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S4096x1024, .bf16⟩
  | .hbm, ⟨19, _⟩ => ⟨S4096x1024, .bf16⟩
  | .hbm, ⟨20, _⟩ => ⟨S4096x1024, .bf16⟩
  | .hbm, ⟨21, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixfRefIdeal.lean ====
abbrev S4096x1024 : Shape := ⟨2, ![4096, 1024]⟩
abbrev S4096x512 : Shape := ⟨2, ![4096, 512]⟩
abbrev S4096x2048 : Shape := ⟨2, ![4096, 2048]⟩
abbrev S1x2048 : Shape := ⟨2, ![1, 2048]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩
abbrev S2048 : Shape := ⟨1, ![2048]⟩
abbrev S1024 : Shape := ⟨1, ![1024]⟩
abbrev S1x1024 : Shape := ⟨2, ![1, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x1024, .f32⟩
  | .hbm, ⟨3, _⟩ => ⟨S4096x2048, .f32⟩
  | .hbm, ⟨4, _⟩ => ⟨S1x2048, .f32⟩
  | .hbm, ⟨5, _⟩ => ⟨S1x512x1024, .f32⟩
  | .hbm, ⟨6, _⟩ => ⟨S1x1024x1024, .f32⟩
  | .hbm, ⟨7, _⟩ => ⟨S1x1024x1024, .f32⟩
  | .hbm, ⟨8, _⟩ => ⟨S512x1024, .f32⟩
  | .hbm, ⟨9, _⟩ => ⟨S4096x1024, .f32⟩
  | .hbm, ⟨10, _⟩ => ⟨S1024x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S2048, .f32⟩
  | .hbm, ⟨15, _⟩ => ⟨S1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | .hbm, ⟨43, _⟩ => ⟨S4096x1024, .bf16⟩
  | .hbm, ⟨44, _⟩ => ⟨S4096x1024, .bf16⟩
  | .hbm, ⟨45, _⟩ => ⟨S1024x1024, .f32⟩
  | .hbm, ⟨46, _⟩ => ⟨S4096x1024, .f32⟩
  | .hbm, ⟨47, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Mm.lean ====
abbrev S4096x4096 : Shape := ⟨2, ![4096, 4096]⟩
abbrev S4096x1024 : Shape := ⟨2, ![4096, 1024]⟩
abbrev S1024x1024 : Shape := ⟨2, ![1024, 1024]⟩
abbrev S1x4096x1024 : Shape := ⟨3, ![1, 4096, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4096x1024, .f32⟩
  | .hbm, ⟨4, _⟩ => ⟨S1x4096x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .f32⟩
  | .local _ .vmem, ⟨3, _⟩ => ⟨S1024x1024, .f32⟩
  | .local _ .vmem, ⟨4, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmRefIdeal.lean ====
abbrev S4096x4096 : Shape := ⟨2, ![4096, 4096]⟩
abbrev S4096x1024 : Shape := ⟨2, ![4096, 1024]⟩
abbrev S_ : Shape := ⟨0, ![]⟩
abbrev S1x4096x1024 : Shape := ⟨3, ![1, 4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S1x4096x1024, .f32⟩
  | .hbm, ⟨4, _⟩ => ⟨S4096x1024, .f32⟩
  | .hbm, ⟨5, _⟩ => ⟨S4096x1024, .f32⟩
  | .hbm, ⟨6, _⟩ => ⟨S1024x4096, .f32⟩
  | .hbm, ⟨7, _⟩ => ⟨S4096x1024, .f32⟩
  | .hbm, ⟨8, _⟩ => ⟨S1x4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Adam.lean ====
abbrev S8x1x1024 : Shape := ⟨3, ![8, 1, 1024]⟩
abbrev S8x1x2048 : Shape := ⟨3, ![8, 1, 2048]⟩
abbrev S8x1x8 : Shape := ⟨3, ![8, 1, 8]⟩
abbrev S8x1024 : Shape := ⟨2, ![8, 1024]⟩
abbrev S1x1024 : Shape := ⟨2, ![1, 1024]⟩
abbrev S1x2048 : Shape := ⟨2, ![1, 2048]⟩
abbrev S1x8 : Shape := ⟨2, ![1, 8]⟩
abbrev S1024 : Shape := ⟨1, ![1024]⟩
abbrev S_ : Shape := ⟨0, ![]⟩
abbrev S8x8x1024 : Shape := ⟨3, ![8, 8, 1024]⟩
abbrev S1x8x1024 : Shape := ⟨3, ![1, 8, 1024]⟩

abbrev nBuf : Space → Nat
  | .hbm => 428
  | .vmem => 8
  | .smem => 0
  | _ => 0

abbrev hbmTy0_0 (i : Nat) : BufTy := match i % 128 with
  | 0 => ⟨S8x1x1024, .f32⟩
  | 1 => ⟨S8x1x2048, .f32⟩
  | 2 => ⟨S8x1x8, .f32⟩
  | 3 => ⟨S8x1x1024, .f32⟩
  | 4 => ⟨S8x1x1024, .f32⟩
  | 5 => ⟨S8x1024, .f32⟩
  | 6 => ⟨S1x1024, .f32⟩
  | 7 => ⟨S1x2048, .f32⟩
  | 8 => ⟨S1x8, .f32⟩
  | 9 => ⟨S1x1024, .f32⟩
  | 10 => ⟨S1x1024, .f32⟩
  | 11 => ⟨S1024, .f32⟩
  | 12 => ⟨S1x1024, .f32⟩
  | 13 => ⟨S1x2048, .f32⟩
  | 14 => ⟨S1x8, .f32⟩
  | 15 => ⟨S1x1024, .f32⟩
  | 16 => ⟨S1x1024, .f32⟩
  | 17 => ⟨S1024, .f32⟩
  | 18 => ⟨S1x1024, .f32⟩
  | 19 => ⟨S1x2048, .f32⟩
  | 20 => ⟨S1x8, .f32⟩
  | 21 => ⟨S1x1024, .f32⟩
  | 22 => ⟨S1x1024, .f32⟩
  | 23 => ⟨S1024, .f32⟩
  | 24 => ⟨S8x1x1024, .f32⟩
  | 25 => ⟨S8x1x1024, .f32⟩
  | 26 => ⟨S8x1x1024, .f32⟩
  | 27 => ⟨S_, .i32⟩
  | 28 => ⟨S_, .f32⟩
  | 29 => ⟨S8x1x1024, .f32⟩
  | 30 => ⟨S8x1024, .i32⟩
  | 31 => ⟨S_, .f32⟩
  | 32 => ⟨S8x1024, .f32⟩
  | 33 => ⟨S_, .i32⟩
  | 34 => ⟨S8x1024, .i32⟩
  | 35 => ⟨S8x1024, .i1⟩
  | 36 => ⟨S8x8x1024, .f32⟩
  | 37 => ⟨S8x8x1024, .i1⟩
  | 38 => ⟨S8x8x1024, .f32⟩
  | 39 => ⟨S8x8x1024, .f32⟩
  | 40 => ⟨S_, .i32⟩
  | 41 => ⟨S8x1024, .i32⟩
  | 42 => ⟨S8x1024, .i1⟩
  | 43 => ⟨S8x8x1024, .f32⟩
  | 44 => ⟨S8x8x1024, .i1⟩
  | 45 => ⟨S8x8x1024, .f32⟩
  | 46 => ⟨S_, .i32⟩
  | 47 => ⟨S8x1024, .i32⟩
  | 48 => ⟨S8x1024, .i1⟩
  | 49 => ⟨S8x8x1024, .f32⟩
  | 50 => ⟨S8x8x1024, .i1⟩
  | 51 => ⟨S8x8x1024, .f32⟩
  | 52 => ⟨S_, .i32⟩
  | 53 => ⟨S8x1024, .i32⟩
  | 54 => ⟨S8x1024, .i1⟩
  | 55 => ⟨S8x8x1024, .f32⟩
  | 56 => ⟨S8x8x1024, .i1⟩
  | 57 => ⟨S8x8x1024, .f32⟩
  | 58 => ⟨S_, .i32⟩
  | 59 => ⟨S8x1024, .i32⟩
  | 60 => ⟨S8x1024, .i1⟩
  | 61 => ⟨S8x8x1024, .f32⟩
  | 62 => ⟨S8x8x1024, .i1⟩
  | 63 => ⟨S8x8x1024, .f32⟩
  | 64 => ⟨S_, .i32⟩
  | 65 => ⟨S8x1024, .i32⟩
  | 66 => ⟨S8x1024, .i1⟩
  | 67 => ⟨S8x8x1024, .f32⟩
  | 68 => ⟨S8x8x1024, .i1⟩
  | 69 => ⟨S8x8x1024, .f32⟩
  | 70 => ⟨S_, .i32⟩
  | 71 => ⟨S8x1024, .i32⟩
  | 72 => ⟨S8x1024, .i1⟩
  | 73 => ⟨S8x8x1024, .f32⟩
  | 74 => ⟨S8x8x1024, .i1⟩
  | 75 => ⟨S8x8x1024, .f32⟩
  | 76 => ⟨S1x1024, .f32⟩
  | 77 => ⟨S1x1024, .f32⟩
  | 78 => ⟨S1x1024, .f32⟩
  | 79 => ⟨S_, .i32⟩
  | 80 => ⟨S_, .f32⟩
  | 81 => ⟨S1x1024, .f32⟩
  | 82 => ⟨S8x1024, .i32⟩
  | 83 => ⟨S_, .f32⟩
  | 84 => ⟨S8x1024, .f32⟩
  | 85 => ⟨S_, .i32⟩
  | 86 => ⟨S8x1024, .i32⟩
  | 87 => ⟨S8x1024, .i1⟩
  | 88 => ⟨S8x1024, .f32⟩
  | 89 => ⟨S8x1024, .f32⟩
  | 90 => ⟨S_, .i32⟩
  | 91 => ⟨S8x1024, .i32⟩
  | 92 => ⟨S8x1024, .i1⟩
  | 93 => ⟨S8x1024, .f32⟩
  | 94 => ⟨S8x1024, .f32⟩
  | 95 => ⟨S_, .i32⟩
  | 96 => ⟨S8x1024, .i32⟩
  | 97 => ⟨S8x1024, .i1⟩
  | 98 => ⟨S8x1024, .f32⟩
  | 99 => ⟨S8x1024, .f32⟩
  | 100 => ⟨S_, .i32⟩
  | 101 => ⟨S8x1024, .i32⟩
  | 102 => ⟨S8x1024, .i1⟩
  | 103 => ⟨S8x1024, .f32⟩
  | 104 => ⟨S8x1024, .f32⟩
  | 105 => ⟨S_, .i32⟩
  | 106 => ⟨S8x1024, .i32⟩
  | 107 => ⟨S8x1024, .i1⟩
  | 108 => ⟨S8x1024, .f32⟩
  | 109 => ⟨S8x1024, .f32⟩
  | 110 => ⟨S_, .i32⟩
  | 111 => ⟨S8x1024, .i32⟩
  | 112 => ⟨S8x1024, .i1⟩
  | 113 => ⟨S8x1024, .f32⟩
  | 114 => ⟨S8x1024, .f32⟩
  | 115 => ⟨S_, .i32⟩
  | 116 => ⟨S8x1024, .i32⟩
  | 117 => ⟨S8x1024, .i1⟩
  | 118 => ⟨S8x1024, .f32⟩
  | 119 => ⟨S8x1024, .f32⟩
  | 120 => ⟨S1x1024, .f32⟩
  | 121 => ⟨S1x1024, .f32⟩
  | 122 => ⟨S1x1024, .f32⟩
  | 123 => ⟨S_, .i32⟩
  | 124 => ⟨S_, .f32⟩
  | 125 => ⟨S1x1024, .f32⟩
  | 126 => ⟨S8x1024, .i32⟩
  | 127 => ⟨S_, .f32⟩
  | _ => ⟨S8x1x1024, .f32⟩

abbrev hbmTy0_1 (i : Nat) : BufTy := match i % 128 with
  | 0 => ⟨S8x1024, .f32⟩
  | 1 => ⟨S_, .i32⟩
  | 2 => ⟨S8x1024, .i32⟩
  | 3 => ⟨S8x1024, .i1⟩
  | 4 => ⟨S8x1024, .f32⟩
  | 5 => ⟨S8x1024, .f32⟩
  | 6 => ⟨S_, .i32⟩
  | 7 => ⟨S8x1024, .i32⟩
  | 8 => ⟨S8x1024, .i1⟩
  | 9 => ⟨S8x1024, .f32⟩
  | 10 => ⟨S8x1024, .f32⟩
  | 11 => ⟨S_, .i32⟩
  | 12 => ⟨S8x1024, .i32⟩
  | 13 => ⟨S8x1024, .i1⟩
  | 14 => ⟨S8x1024, .f32⟩
  | 15 => ⟨S8x1024, .f32⟩
  | 16 => ⟨S_, .i32⟩
  | 17 => ⟨S8x1024, .i32⟩
  | 18 => ⟨S8x1024, .i1⟩
  | 19 => ⟨S8x1024, .f32⟩
  | 20 => ⟨S8x1024, .f32⟩
  | 21 => ⟨S_, .i32⟩
  | 22 => ⟨S8x1024, .i32⟩
  | 23 => ⟨S8x1024, .i1⟩
  | 24 => ⟨S8x1024, .f32⟩
  | 25 => ⟨S8x1024, .f32⟩
  | 26 => ⟨S_, .i32⟩
  | 27 => ⟨S8x1024, .i32⟩
  | 28 => ⟨S8x1024, .i1⟩
  | 29 => ⟨S8x1024, .f32⟩
  | 30 => ⟨S8x1024, .f32⟩
  | 31 => ⟨S_, .i32⟩
  | 32 => ⟨S8x1024, .i32⟩
  | 33 => ⟨S8x1024, .i1⟩
  | 34 => ⟨S8x1024, .f32⟩
  | 35 => ⟨S8x1024, .f32⟩
  | 36 => ⟨S1x1024, .f32⟩
  | 37 => ⟨S1x1024, .f32⟩
  | 38 => ⟨S1x1024, .f32⟩
  | 39 => ⟨S_, .i32⟩
  | 40 => ⟨S_, .f32⟩
  | 41 => ⟨S1x1024, .f32⟩
  | 42 => ⟨S8x1024, .i32⟩
  | 43 => ⟨S_, .f32⟩
  | 44 => ⟨S8x1024, .f32⟩
  | 45 => ⟨S_, .i32⟩
  | 46 => ⟨S8x1024, .i32⟩
  | 47 => ⟨S8x1024, .i1⟩
  | 48 => ⟨S8x1024, .f32⟩
  | 49 => ⟨S8x1024, .f32⟩
  | 50 => ⟨S_, .i32⟩
  | 51 => ⟨S8x1024, .i32⟩
  | 52 => ⟨S8x1024, .i1⟩
  | 53 => ⟨S8x1024, .f32⟩
  | 54 => ⟨S8x1024, .f32⟩
  | 55 => ⟨S_, .i32⟩
  | 56 => ⟨S8x1024, .i32⟩
  | 57 => ⟨S8x1024, .i1⟩
  | 58 => ⟨S8x1024, .f32⟩
  | 59 => ⟨S8x1024, .f32⟩
  | 60 => ⟨S_, .i32⟩
  | 61 => ⟨S8x1024, .i32⟩
  | 62 => ⟨S8x1024, .i1⟩
  | 63 => ⟨S8x1024, .f32⟩
  | 64 => ⟨S8x1024, .f32⟩
  | 65 => ⟨S_, .i32⟩
  | 66 => ⟨S8x1024, .i32⟩
  | 67 => ⟨S8x1024, .i1⟩
  | 68 => ⟨S8x1024, .f32⟩
  | 69 => ⟨S8x1024, .f32⟩
  | 70 => ⟨S_, .i32⟩
  | 71 => ⟨S8x1024, .i32⟩
  | 72 => ⟨S8x1024, .i1⟩
  | 73 => ⟨S8x1024, .f32⟩
  | 74 => ⟨S8x1024, .f32⟩
  | 75 => ⟨S_, .i32⟩
  | 76 => ⟨S8x1024, .i32⟩
  | 77 => ⟨S8x1024, .i1⟩
  | 78 => ⟨S8x1024, .f32⟩
  | 79 => ⟨S8x1024, .f32⟩
  | 80 => ⟨S8x1024, .f32⟩
  | 81 => ⟨S8x1024, .f32⟩
  | 82 => ⟨S8x1024, .f32⟩
  | 83 => ⟨S8x1024, .f32⟩
  | 84 => ⟨S1x1024, .f32⟩
  | 85 => ⟨S1x1024, .f32⟩
  | 86 => ⟨S1x1024, .f32⟩
  | 87 => ⟨S1x2048, .f32⟩
  | 88 => ⟨S1x1024, .f32⟩
  | 89 => ⟨S1x1024, .f32⟩
  | 90 => ⟨S1x1024, .f32⟩
  | 91 => ⟨S1024, .f32⟩
  | 92 => ⟨S1x8, .f32⟩
  | 93 => ⟨S1x1024, .f32⟩
  | 94 => ⟨S1x1024, .f32⟩
  | 95 => ⟨S1x1024, .f32⟩
  | 96 => ⟨S1x2048, .f32⟩
  | 97 => ⟨S1x1024, .f32⟩
  | 98 => ⟨S1x1024, .f32⟩
  | 99 => ⟨S1x1024, .f32⟩
  | 100 => ⟨S1024, .f32⟩
  | 101 => ⟨S1x8, .f32⟩
  | 102 => ⟨S1x1024, .f32⟩
  | 103 => ⟨S1x1024, .f32⟩
  | 104 => ⟨S1x1024, .f32⟩
  | 105 => ⟨S1x2048, .f32⟩
  | 106 => ⟨S1x1024, .f32⟩
  | 107 => ⟨S1x1024, .f32⟩
  | 108 => ⟨S1x1024, .f32⟩
  | 109 => ⟨S1024, .f32⟩
  | 110 => ⟨S1x8, .f32⟩
  | 111 => ⟨S1x1024, .f32⟩
  | 112 => ⟨S1x1024, .f32⟩
  | 113 => ⟨S1x1024, .f32⟩
  | 114 => ⟨S1x2048, .f32⟩
  | 115 => ⟨S1x1024, .f32⟩
  | 116 => ⟨S1x1024, .f32⟩
  | 117 => ⟨S1x1024, .f32⟩
  | 118 => ⟨S1024, .f32⟩
  | 119 => ⟨S1x8, .f32⟩
  | 120 => ⟨S1x1024, .f32⟩
  | 121 => ⟨S1x1024, .f32⟩
  | 122 => ⟨S1x1024, .f32⟩
  | 123 => ⟨S1x2048, .f32⟩
  | 124 => ⟨S1x1024, .f32⟩
  | 125 => ⟨S1x1024, .f32⟩
  | 126 => ⟨S1x1024, .f32⟩
  | 127 => ⟨S1024, .f32⟩
  | _ => ⟨S8x1x1024, .f32⟩

abbrev hbmTy0_2 (i : Nat) : BufTy := match i % 128 with
  | 0 => ⟨S1x8, .f32⟩
  | 1 => ⟨S1x1024, .f32⟩
  | 2 => ⟨S1x1024, .f32⟩
  | 3 => ⟨S1x1024, .f32⟩
  | 4 => ⟨S1x2048, .f32⟩
  | 5 => ⟨S1x1024, .f32⟩
  | 6 => ⟨S1x1024, .f32⟩
  | 7 => ⟨S1x1024, .f32⟩
  | 8 => ⟨S1024, .f32⟩
  | 9 => ⟨S1x8, .f32⟩
  | 10 => ⟨S1x1024, .f32⟩
  | 11 => ⟨S1x1024, .f32⟩
  | 12 => ⟨S1x1024, .f32⟩
  | 13 => ⟨S1x2048, .f32⟩
  | 14 => ⟨S1x1024, .f32⟩
  | 15 => ⟨S1x1024, .f32⟩
  | 16 => ⟨S1x1024, .f32⟩
  | 17 => ⟨S1024, .f32⟩
  | 18 => ⟨S1x8, .f32⟩
  | 19 => ⟨S1x1024, .f32⟩
  | 20 => ⟨S1x1024, .f32⟩
  | 21 => ⟨S1x1024, .f32⟩
  | 22 => ⟨S1x2048, .f32⟩
  | 23 => ⟨S1x1024, .f32⟩
  | 24 => ⟨S1x1024, .f32⟩
  | 25 => ⟨S1x1024, .f32⟩
  | 26 => ⟨S1024, .f32⟩
  | 27 => ⟨S1x8, .f32⟩
  | 28 => ⟨S1x1024, .f32⟩
  | 29 => ⟨S1x1024, .f32⟩
  | 30 => ⟨S1x1024, .f32⟩
  | 31 => ⟨S1x2048, .f32⟩
  | 32 => ⟨S1x1024, .f32⟩
  | 33 => ⟨S1x1024, .f32⟩
  | 34 => ⟨S1x1024, .f32⟩
  | 35 => ⟨S1024, .f32⟩
  | 36 => ⟨S1x8, .f32⟩
  | 37 => ⟨S1x1024, .f32⟩
  | 38 => ⟨S1x1024, .f32⟩
  | 39 => ⟨S1x1024, .f32⟩
  | 40 => ⟨S1x2048, .f32⟩
  | 41 => ⟨S1x1024, .f32⟩
  | 42 => ⟨S1x1024, .f32⟩
  | 43 => ⟨S1x1024, .f32⟩
  | 44 => ⟨S1024, .f32⟩
  | 45 => ⟨S1x8, .f32⟩
  | 46 => ⟨S1x1024, .f32⟩
  | 47 => ⟨S1x1024, .f32⟩
  | 48 => ⟨S1x1024, .f32⟩
  | 49 => ⟨S1x2048, .f32⟩
  | 50 => ⟨S1x1024, .f32⟩
  | 51 => ⟨S1x1024, .f32⟩
  | 52 => ⟨S1x1024, .f32⟩
  | 53 => ⟨S1024, .f32⟩
  | 54 => ⟨S1x8, .f32⟩
  | 55 => ⟨S1x1024, .f32⟩
  | 56 => ⟨S1x1024, .f32⟩
  | 57 => ⟨S1x1024, .f32⟩
  | 58 => ⟨S1x2048, .f32⟩
  | 59 => ⟨S1x1024, .f32⟩
  | 60 => ⟨S1x1024, .f32⟩
  | 61 => ⟨S1x1024, .f32⟩
  | 62 => ⟨S1024, .f32⟩
  | 63 => ⟨S1x8, .f32⟩
  | 64 => ⟨S1x1024, .f32⟩
  | 65 => ⟨S1x1024, .f32⟩
  | 66 => ⟨S1x1024, .f32⟩
  | 67 => ⟨S1x2048, .f32⟩
  | 68 => ⟨S1x1024, .f32⟩
  | 69 => ⟨S1x1024, .f32⟩
  | 70 => ⟨S1x1024, .f32⟩
  | 71 => ⟨S1024, .f32⟩
  | 72 => ⟨S1x8, .f32⟩
  | 73 => ⟨S1x1024, .f32⟩
  | 74 => ⟨S1x1024, .f32⟩
  | 75 => ⟨S1x1024, .f32⟩
  | 76 => ⟨S1x2048, .f32⟩
  | 77 => ⟨S1x1024, .f32⟩
  | 78 => ⟨S1x1024, .f32⟩
  | 79 => ⟨S1x1024, .f32⟩
  | 80 => ⟨S1024, .f32⟩
  | 81 => ⟨S1x8, .f32⟩
  | 82 => ⟨S1x1024, .f32⟩
  | 83 => ⟨S1x1024, .f32⟩
  | 84 => ⟨S1x1024, .f32⟩
  | 85 => ⟨S1x2048, .f32⟩
  | 86 => ⟨S1x1024, .f32⟩
  | 87 => ⟨S1x1024, .f32⟩
  | 88 => ⟨S1x1024, .f32⟩
  | 89 => ⟨S1024, .f32⟩
  | 90 => ⟨S1x8, .f32⟩
  | 91 => ⟨S1x1024, .f32⟩
  | 92 => ⟨S1x1024, .f32⟩
  | 93 => ⟨S1x1024, .f32⟩
  | 94 => ⟨S1x2048, .f32⟩
  | 95 => ⟨S1x1024, .f32⟩
  | 96 => ⟨S1x1024, .f32⟩
  | 97 => ⟨S1x1024, .f32⟩
  | 98 => ⟨S1024, .f32⟩
  | 99 => ⟨S1x8, .f32⟩
  | 100 => ⟨S1x1024, .f32⟩
  | 101 => ⟨S1x1024, .f32⟩
  | 102 => ⟨S1x1024, .f32⟩
  | 103 => ⟨S1x2048, .f32⟩
  | 104 => ⟨S1x1024, .f32⟩
  | 105 => ⟨S1x1024, .f32⟩
  | 106 => ⟨S1x1024, .f32⟩
  | 107 => ⟨S1024, .f32⟩
  | 108 => ⟨S1x8, .f32⟩
  | 109 => ⟨S1x1024, .f32⟩
  | 110 => ⟨S1x1024, .f32⟩
  | 111 => ⟨S1x1024, .f32⟩
  | 112 => ⟨S1x2048, .f32⟩
  | 113 => ⟨S1x1024, .f32⟩
  | 114 => ⟨S1x1024, .f32⟩
  | 115 => ⟨S1x1024, .f32⟩
  | 116 => ⟨S1024, .f32⟩
  | 117 => ⟨S1x8, .f32⟩
  | 118 => ⟨S1x1024, .f32⟩
  | 119 => ⟨S1x1024, .f32⟩
  | 120 => ⟨S1x1024, .f32⟩
  | 121 => ⟨S1x2048, .f32⟩
  | 122 => ⟨S1x1024, .f32⟩
  | 123 => ⟨S1x1024, .f32⟩
  | 124 => ⟨S1x1024, .f32⟩
  | 125 => ⟨S1024, .f32⟩
  | 126 => ⟨S1x8, .f32⟩
  | 127 => ⟨S1x1024, .f32⟩
  | _ => ⟨S8x1x1024, .f32⟩

abbrev hbmTy0_3 (i : Nat) : BufTy := match i % 128 with
  | 0 => ⟨S1x1024, .f32⟩
  | 1 => ⟨S1x1024, .f32⟩
  | 2 => ⟨S1x2048, .f32⟩
  | 3 => ⟨S1x1024, .f32⟩
  | 4 => ⟨S1x1024, .f32⟩
  | 5 => ⟨S1x1024, .f32⟩
  | 6 => ⟨S1024, .f32⟩
  | 7 => ⟨S1x8, .f32⟩
  | 8 => ⟨S1x1024, .f32⟩
  | 9 => ⟨S1x1024, .f32⟩
  | 10 => ⟨S1x1024, .f32⟩
  | 11 => ⟨S1x2048, .f32⟩
  | 12 => ⟨S1x1024, .f32⟩
  | 13 => ⟨S1x1024, .f32⟩
  | 14 => ⟨S1x1024, .f32⟩
  | 15 => ⟨S1024, .f32⟩
  | 16 => ⟨S1x8, .f32⟩
  | 17 => ⟨S1x1024, .f32⟩
  | 18 => ⟨S1x1024, .f32⟩
  | 19 => ⟨S1x1024, .f32⟩
  | 20 => ⟨S1x2048, .f32⟩
  | 21 => ⟨S1x1024, .f32⟩
  | 22 => ⟨S1x1024, .f32⟩
  | 23 => ⟨S1x1024, .f32⟩
  | 24 => ⟨S1024, .f32⟩
  | 25 => ⟨S1x8, .f32⟩
  | 26 => ⟨S1x1024, .f32⟩
  | 27 => ⟨S1x1024, .f32⟩
  | 28 => ⟨S1x1024, .f32⟩
  | 29 => ⟨S1x2048, .f32⟩
  | 30 => ⟨S1x1024, .f32⟩
  | 31 => ⟨S1x1024, .f32⟩
  | 32 => ⟨S1x1024, .f32⟩
  | 33 => ⟨S1024, .f32⟩
  | 34 => ⟨S1x8, .f32⟩
  | 35 => ⟨S1x1024, .f32⟩
  | 36 => ⟨S1x1024, .f32⟩
  | 37 => ⟨S1x1024, .f32⟩
  | 38 => ⟨S1x2048, .f32⟩
  | 39 => ⟨S1x1024, .f32⟩
  | 40 => ⟨S1x1024, .f32⟩
  | 41 => ⟨S1x1024, .f32⟩
  | 42 => ⟨S1024, .f32⟩
  | 43 => ⟨S1x8, .f32⟩
  | _ => ⟨S8x1x1024, .f32⟩

abbrev hbmTy (i : Nat) : BufTy := match i / 128 with
  | 0 => hbmTy0_0 i
  | 1 => hbmTy0_1 i
  | 2 => hbmTy0_2 i
  | 3 => hbmTy0_3 i
  | _ => ⟨S8x1x1024, .f32⟩

abbrev bufTy : (tb : Table) → Fin (tcTables nBuf tb) → BufTy
  | .hbm, ⟨i, _⟩ => hbmTy i
  | .local _ .vmem, ⟨0, _⟩ => ⟨S8x8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_c : Ref sig .tc := ⟨.hbm, 27, rfl⟩
abbrev main_call0_v0 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_c_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_call1_v0 : Ref sig .tc := ⟨.hbm, 37, rfl⟩
abbrev main_call1_v1 : Ref sig .tc := ⟨.hbm, 38, rfl⟩
abbrev main_v9 : Ref sig .tc := ⟨.hbm, 39, rfl⟩
abbrev main_c_1 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_call2_v0 : Ref sig .tc := ⟨.hbm, 44, rfl⟩
abbrev main_v13 : Ref sig .tc := ⟨.hbm, 45, rfl⟩
abbrev main_c_2 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_call3_v0 : Ref sig .tc := ⟨.hbm, 50, rfl⟩
abbrev main_v17 : Ref sig .tc := ⟨.hbm, 51, rfl⟩
abbrev main_c_3 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_call4_v0 : Ref sig .tc := ⟨.hbm, 56, rfl⟩
abbrev main_v21 : Ref sig .tc := ⟨.hbm, 57, rfl⟩
abbrev main_c_4 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_call5_v0 : Ref sig .tc := ⟨.hbm, 62, rfl⟩
abbrev main_v25 : Ref sig .tc := ⟨.hbm, 63, rfl⟩
abbrev main_c_5 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_call6_v0 : Ref sig .tc := ⟨.hbm, 68, rfl⟩
abbrev main_v29 : Ref sig .tc := ⟨.hbm, 69, rfl⟩
abbrev main_c_6 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_call7_v0 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_c_7 : Ref sig .tc := ⟨.hbm, 79, rfl⟩
abbrev main_call8_v0 : Ref sig .tc := ⟨.hbm, 80, rfl⟩
abbrev main_v37 : Ref sig .tc := ⟨.hbm, 81, rfl⟩
abbrev main_v38 : Ref sig .tc := ⟨.hbm, 82, rfl⟩
abbrev main_cst_8 : Ref sig .tc := ⟨.hbm, 83, rfl⟩
abbrev main_v39 : Ref sig .tc := ⟨.hbm, 84, rfl⟩
abbrev main_c_9 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_c_10 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_c_11 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_c_12 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_c_13 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_c_14 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_c_15 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_c_16 : Ref sig .tc := ⟨.hbm, 123, rfl⟩
abbrev main_call16_v0 : Ref sig .tc := ⟨.hbm, 124, rfl⟩
abbrev main_v71 : Ref sig .tc := ⟨.hbm, 125, rfl⟩
abbrev main_v72 : Ref sig .tc := ⟨.hbm, 126, rfl⟩
abbrev main_cst_17 : Ref sig .tc := ⟨.hbm, 127, rfl⟩
abbrev main_v73 : Ref sig .tc := ⟨.hbm, 128, rfl⟩
abbrev main_c_18 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_c_19 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_c_20 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_c_21 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_c_22 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_c_23 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_c_24 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_c_25 : Ref sig .tc := ⟨.hbm, 167, rfl⟩
abbrev main_call24_v0 : Ref sig .tc := ⟨.hbm, 168, rfl⟩
abbrev main_v105 : Ref sig .tc := ⟨.hbm, 169, rfl⟩
abbrev main_v106 : Ref sig .tc := ⟨.hbm, 170, rfl⟩
abbrev main_cst_26 : Ref sig .tc := ⟨.hbm, 171, rfl⟩
abbrev main_v107 : Ref sig .tc := ⟨.hbm, 172, rfl⟩
abbrev main_c_27 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_c_28 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_c_29 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_c_30 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_c_31 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_c_32 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_c_33 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136_0 : Ref sig .tc := ⟨.hbm, 208, rfl⟩
abbrev main_v136_1 : Ref sig .tc := ⟨.hbm, 209, rfl⟩
abbrev main_v136_2 : Ref sig .tc := ⟨.hbm, 210, rfl⟩
abbrev main_v136_3 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_v213 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_v231 : Ref sig .tc := ⟨.hbm, 306, rfl⟩
abbrev main_v232 : Ref sig .tc := ⟨.hbm, 307, rfl⟩
abbrev main_v233 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_v237 : Ref sig .tc := ⟨.hbm, 312, rfl⟩
abbrev main_v238 : Ref sig .tc := ⟨.hbm, 313, rfl⟩
abbrev main_v239 : Ref sig .tc := ⟨.hbm, 314, rfl⟩
abbrev main_v240 : Ref sig .tc := ⟨.hbm, 315, rfl⟩
abbrev main_v241 : Ref sig .tc := ⟨.hbm, 316, rfl⟩
abbrev main_v242 : Ref sig .tc := ⟨.hbm, 317, rfl⟩
abbrev main_v243 : Ref sig .tc := ⟨.hbm, 318, rfl⟩
abbrev main_v244 : Ref sig .tc := ⟨.hbm, 319, rfl⟩
abbrev main_v245 : Ref sig .tc := ⟨.hbm, 320, rfl⟩
abbrev main_v246 : Ref sig .tc := ⟨.hbm, 321, rfl⟩
abbrev main_v247 : Ref sig .tc := ⟨.hbm, 322, rfl⟩
abbrev main_v248 : Ref sig .tc := ⟨.hbm, 323, rfl⟩
abbrev main_v249 : Ref sig .tc := ⟨.hbm, 324, rfl⟩
abbrev main_v250 : Ref sig .tc := ⟨.hbm, 325, rfl⟩
abbrev main_v251 : Ref sig .tc := ⟨.hbm, 326, rfl⟩
abbrev main_v252 : Ref sig .tc := ⟨.hbm, 327, rfl⟩
abbrev main_v253 : Ref sig .tc := ⟨.hbm, 328, rfl⟩
abbrev main_v254 : Ref sig .tc := ⟨.hbm, 329, rfl⟩
abbrev main_v255 : Ref sig .tc := ⟨.hbm, 330, rfl⟩
abbrev main_v256 : Ref sig .tc := ⟨.hbm, 331, rfl⟩
abbrev main_v257 : Ref sig .tc := ⟨.hbm, 332, rfl⟩
abbrev main_v258 : Ref sig .tc := ⟨.hbm, 333, rfl⟩
abbrev main_v259 : Ref sig .tc := ⟨.hbm, 334, rfl⟩
abbrev main_v260 : Ref sig .tc := ⟨.hbm, 335, rfl⟩
abbrev main_v261 : Ref sig .tc := ⟨.hbm, 336, rfl⟩
abbrev main_v262 : Ref sig .tc := ⟨.hbm, 337, rfl⟩
abbrev main_v263 : Ref sig .tc := ⟨.hbm, 338, rfl⟩
abbrev main_v264 : Ref sig .tc := ⟨.hbm, 339, rfl⟩
abbrev main_v265 : Ref sig .tc := ⟨.hbm, 340, rfl⟩
abbrev main_v266 : Ref sig .tc := ⟨.hbm, 341, rfl⟩
abbrev main_v267 : Ref sig .tc := ⟨.hbm, 342, rfl⟩
abbrev main_v268 : Ref sig .tc := ⟨.hbm, 343, rfl⟩
abbrev main_v269 : Ref sig .tc := ⟨.hbm, 344, rfl⟩
abbrev main_v270 : Ref sig .tc := ⟨.hbm, 345, rfl⟩
abbrev main_v271 : Ref sig .tc := ⟨.hbm, 346, rfl⟩
abbrev main_v272 : Ref sig .tc := ⟨.hbm, 347, rfl⟩
abbrev main_v273 : Ref sig .tc := ⟨.hbm, 348, rfl⟩
abbrev main_v274 : Ref sig .tc := ⟨.hbm, 349, rfl⟩
abbrev main_v275 : Ref sig .tc := ⟨.hbm, 350, rfl⟩
abbrev main_v276 : Ref sig .tc := ⟨.hbm, 351, rfl⟩
abbrev main_v277 : Ref sig .tc := ⟨.hbm, 352, rfl⟩
abbrev main_v278 : Ref sig .tc := ⟨.hbm, 353, rfl⟩
abbrev main_v279 : Ref sig .tc := ⟨.hbm, 354, rfl⟩
abbrev main_v280 : Ref sig .tc := ⟨.hbm, 355, rfl⟩
abbrev main_v281 : Ref sig .tc := ⟨.hbm, 356, rfl⟩
abbrev main_v282 : Ref sig .tc := ⟨.hbm, 357, rfl⟩
abbrev main_v283 : Ref sig .tc := ⟨.hbm, 358, rfl⟩
abbrev main_v284 : Ref sig .tc := ⟨.hbm, 359, rfl⟩
abbrev main_v285 : Ref sig .tc := ⟨.hbm, 360, rfl⟩
abbrev main_v286 : Ref sig .tc := ⟨.hbm, 361, rfl⟩
abbrev main_v287 : Ref sig .tc := ⟨.hbm, 362, rfl⟩
abbrev main_v288 : Ref sig .tc := ⟨.hbm, 363, rfl⟩
abbrev main_v289 : Ref sig .tc := ⟨.hbm, 364, rfl⟩
abbrev main_v290 : Ref sig .tc := ⟨.hbm, 365, rfl⟩
abbrev main_v291 : Ref sig .tc := ⟨.hbm, 366, rfl⟩
abbrev main_v292 : Ref sig .tc := ⟨.hbm, 367, rfl⟩
abbrev main_v293 : Ref sig .tc := ⟨.hbm, 368, rfl⟩
abbrev main_v294 : Ref sig .tc := ⟨.hbm, 369, rfl⟩
abbrev main_v295 : Ref sig .tc := ⟨.hbm, 370, rfl⟩
abbrev main_v296 : Ref sig .tc := ⟨.hbm, 371, rfl⟩
abbrev main_v297 : Ref sig .tc := ⟨.hbm, 372, rfl⟩
abbrev main_v298 : Ref sig .tc := ⟨.hbm, 373, rfl⟩
abbrev main_v299 : Ref sig .tc := ⟨.hbm, 374, rfl⟩
abbrev main_v300 : Ref sig .tc := ⟨.hbm, 375, rfl⟩
abbrev main_v301 : Ref sig .tc := ⟨.hbm, 376, rfl⟩
abbrev main_v302 : Ref sig .tc := ⟨.hbm, 377, rfl⟩
abbrev main_v303 : Ref sig .tc := ⟨.hbm, 378, rfl⟩
abbrev main_v304 : Ref sig .tc := ⟨.hbm, 379, rfl⟩
abbrev main_v305 : Ref sig .tc := ⟨.hbm, 380, rfl⟩
abbrev main_v306 : Ref sig .tc := ⟨.hbm, 381, rfl⟩
abbrev main_v307 : Ref sig .tc := ⟨.hbm, 382, rfl⟩
abbrev main_v308 : Ref sig .tc := ⟨.hbm, 383, rfl⟩
abbrev main_v309 : Ref sig .tc := ⟨.hbm, 384, rfl⟩
abbrev main_v310 : Ref sig .tc := ⟨.hbm, 385, rfl⟩
abbrev main_v311 : Ref sig .tc := ⟨.hbm, 386, rfl⟩
abbrev main_v312 : Ref sig .tc := ⟨.hbm, 387, rfl⟩
abbrev main_v313 : Ref sig .tc := ⟨.hbm, 388, rfl⟩
abbrev main_v314 : Ref sig .tc := ⟨.hbm, 389, rfl⟩
abbrev main_v315 : Ref sig .tc := ⟨.hbm, 390, rfl⟩
abbrev main_v316 : Ref sig .tc := ⟨.hbm, 391, rfl⟩
abbrev main_v317 : Ref sig .tc := ⟨.hbm, 392, rfl⟩
abbrev main_v318 : Ref sig .tc := ⟨.hbm, 393, rfl⟩
abbrev main_v319 : Ref sig .tc := ⟨.hbm, 394, rfl⟩
abbrev main_v320 : Ref sig .tc := ⟨.hbm, 395, rfl⟩
abbrev main_v321 : Ref sig .tc := ⟨.hbm, 396, rfl⟩
abbrev main_v322 : Ref sig .tc := ⟨.hbm, 397, rfl⟩
abbrev main_v323 : Ref sig .tc := ⟨.hbm, 398, rfl⟩
abbrev main_v324 : Ref sig .tc := ⟨.hbm, 399, rfl⟩
abbrev main_v325 : Ref sig .tc := ⟨.hbm, 400, rfl⟩
abbrev main_v326 : Ref sig .tc := ⟨.hbm, 401, rfl⟩
abbrev main_v327 : Ref sig .tc := ⟨.hbm, 402, rfl⟩
abbrev main_v328 : Ref sig .tc := ⟨.hbm, 403, rfl⟩
abbrev main_v329 : Ref sig .tc := ⟨.hbm, 404, rfl⟩
abbrev main_v330 : Ref sig .tc := ⟨.hbm, 405, rfl⟩
abbrev main_v331 : Ref sig .tc := ⟨.hbm, 406, rfl⟩
abbrev main_v332 : Ref sig .tc := ⟨.hbm, 407, rfl⟩
abbrev main_v333 : Ref sig .tc := ⟨.hbm, 408, rfl⟩
abbrev main_v334 : Ref sig .tc := ⟨.hbm, 409, rfl⟩
abbrev main_v335 : Ref sig .tc := ⟨.hbm, 410, rfl⟩
abbrev main_v336 : Ref sig .tc := ⟨.hbm, 411, rfl⟩
abbrev main_v337 : Ref sig .tc := ⟨.hbm, 412, rfl⟩
abbrev main_v338 : Ref sig .tc := ⟨.hbm, 413, rfl⟩
abbrev main_v339 : Ref sig .tc := ⟨.hbm, 414, rfl⟩
abbrev main_v340 : Ref sig .tc := ⟨.hbm, 415, rfl⟩
abbrev main_v341 : Ref sig .tc := ⟨.hbm, 416, rfl⟩
abbrev main_v342 : Ref sig .tc := ⟨.hbm, 417, rfl⟩
abbrev main_v343 : Ref sig .tc := ⟨.hbm, 418, rfl⟩
abbrev main_v344 : Ref sig .tc := ⟨.hbm, 419, rfl⟩
abbrev main_v345 : Ref sig .tc := ⟨.hbm, 420, rfl⟩
abbrev main_v346 : Ref sig .tc := ⟨.hbm, 421, rfl⟩
abbrev main_v347 : Ref sig .tc := ⟨.hbm, 422, rfl⟩
abbrev main_v348 : Ref sig .tc := ⟨.hbm, 423, rfl⟩
abbrev main_v349 : Ref sig .tc := ⟨.hbm, 424, rfl⟩
abbrev main_v350 : Ref sig .tc := ⟨.hbm, 425, rfl⟩
abbrev main_v351 : Ref sig .tc := ⟨.hbm, 426, rfl⟩
abbrev main_v352 : Ref sig .tc := ⟨.hbm, 427, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== AdamRefIdeal.lean ====
abbrev S8x1x1024 : Shape := ⟨3, ![8, 1, 1024]⟩
abbrev S8x1x2048 : Shape := ⟨3, ![8, 1, 2048]⟩
abbrev S8x1x8 : Shape := ⟨3, ![8, 1, 8]⟩
abbrev S8x1024 : Shape := ⟨2, ![8, 1024]⟩
abbrev S1x1024 : Shape := ⟨2, ![1, 1024]⟩
abbrev S1x2048 : Shape := ⟨2, ![1, 2048]⟩
abbrev S1x8 : Shape := ⟨2, ![1, 8]⟩
abbrev S1024 : Shape := ⟨1, ![1024]⟩
abbrev S_ : Shape := ⟨0, ![]⟩

abbrev nBuf : Space → Nat
  | .hbm => 234
  | .vmem => 0
  | .smem => 0
  | _ => 0

abbrev hbmTy0_0 (i : Nat) : BufTy := match i % 128 with
  | 0 => ⟨S8x1x1024, .f32⟩
  | 1 => ⟨S8x1x2048, .f32⟩
  | 2 => ⟨S8x1x8, .f32⟩
  | 3 => ⟨S8x1x1024, .f32⟩
  | 4 => ⟨S8x1x1024, .f32⟩
  | 5 => ⟨S8x1024, .f32⟩
  | 6 => ⟨S1x1024, .f32⟩
  | 7 => ⟨S1x2048, .f32⟩
  | 8 => ⟨S1x8, .f32⟩
  | 9 => ⟨S1x1024, .f32⟩
  | 10 => ⟨S1x1024, .f32⟩
  | 11 => ⟨S1024, .f32⟩
  | 12 => ⟨S1x1024, .f32⟩
  | 13 => ⟨S1x2048, .f32⟩
  | 14 => ⟨S1x8, .f32⟩
  | 15 => ⟨S1x1024, .f32⟩
  | 16 => ⟨S1x1024, .f32⟩
  | 17 => ⟨S1024, .f32⟩
  | 18 => ⟨S1x1024, .f32⟩
  | 19 => ⟨S1x2048, .f32⟩
  | 20 => ⟨S1x8, .f32⟩
  | 21 => ⟨S1x1024, .f32⟩
  | 22 => ⟨S1x1024, .f32⟩
  | 23 => ⟨S1024, .f32⟩
  | 24 => ⟨S_, .f32⟩
  | 25 => ⟨S1x1024, .f32⟩
  | 26 => ⟨S_, .f32⟩
  | 27 => ⟨S1x2048, .f32⟩
  | 28 => ⟨S_, .f32⟩
  | 29 => ⟨S1x8, .f32⟩
  | 30 => ⟨S_, .f32⟩
  | 31 => ⟨S1x1024, .f32⟩
  | 32 => ⟨S_, .f32⟩
  | 33 => ⟨S1x1024, .f32⟩
  | 34 => ⟨S_, .f32⟩
  | 35 => ⟨S1024, .f32⟩
  | 36 => ⟨S_, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S_, .f32⟩
  | 70 => ⟨S1x2048, .f32⟩
  | 71 => ⟨S1x2048, .f32⟩
  | 72 => ⟨S_, .f32⟩
  | 73 => ⟨S1x2048, .f32⟩
  | 74 => ⟨S1x2048, .f32⟩
  | 75 => ⟨S1x2048, .f32⟩
  | 76 => ⟨S_, .f32⟩
  | 77 => ⟨S1x2048, .f32⟩
  | 78 => ⟨S1x2048, .f32⟩
  | 79 => ⟨S1x2048, .f32⟩
  | 80 => ⟨S_, .f32⟩
  | 81 => ⟨S1x2048, .f32⟩
  | 82 => ⟨S1x2048, .f32⟩
  | 83 => ⟨S1x2048, .f32⟩
  | 84 => ⟨S_, .f32⟩
  | 85 => ⟨S1x2048, .f32⟩
  | 86 => ⟨S1x2048, .f32⟩
  | 87 => ⟨S_, .f32⟩
  | 88 => ⟨S1x2048, .f32⟩
  | 89 => ⟨S1x2048, .f32⟩
  | 90 => ⟨S1x2048, .f32⟩
  | 91 => ⟨S_, .f32⟩
  | 92 => ⟨S1x2048, .f32⟩
  | 93 => ⟨S1x2048, .f32⟩
  | 94 => ⟨S1x2048, .f32⟩
  | 95 => ⟨S_, .f32⟩
  | 96 => ⟨S1x2048, .f32⟩
  | 97 => ⟨S1x2048, .f32⟩
  | 98 => ⟨S1x2048, .f32⟩
  | 99 => ⟨S_, .f32⟩
  | 100 => ⟨S1x2048, .f32⟩
  | 101 => ⟨S1x2048, .f32⟩
  | 102 => ⟨S_, .f32⟩
  | 103 => ⟨S1x8, .f32⟩
  | 104 => ⟨S1x8, .f32⟩
  | 105 => ⟨S_, .f32⟩
  | 106 => ⟨S1x8, .f32⟩
  | 107 => ⟨S1x8, .f32⟩
  | 108 => ⟨S1x8, .f32⟩
  | 109 => ⟨S_, .f32⟩
  | 110 => ⟨S1x8, .f32⟩
  | 111 => ⟨S1x8, .f32⟩
  | 112 => ⟨S1x8, .f32⟩
  | 113 => ⟨S_, .f32⟩
  | 114 => ⟨S1x8, .f32⟩
  | 115 => ⟨S1x8, .f32⟩
  | 116 => ⟨S1x8, .f32⟩
  | 117 => ⟨S_, .f32⟩
  | 118 => ⟨S1x8, .f32⟩
  | 119 => ⟨S1x8, .f32⟩
  | 120 => ⟨S_, .f32⟩
  | 121 => ⟨S1x8, .f32⟩
  | 122 => ⟨S1x8, .f32⟩
  | 123 => ⟨S1x8, .f32⟩
  | 124 => ⟨S_, .f32⟩
  | 125 => ⟨S1x8, .f32⟩
  | 126 => ⟨S1x8, .f32⟩
  | 127 => ⟨S1x8, .f32⟩
  | _ => ⟨S8x1x1024, .f32⟩

abbrev hbmTy0_1 (i : Nat) : BufTy := match i % 128 with
  | 0 => ⟨S_, .f32⟩
  | 1 => ⟨S1x8, .f32⟩
  | 2 => ⟨S1x8, .f32⟩
  | 3 => ⟨S1x8, .f32⟩
  | 4 => ⟨S_, .f32⟩
  | 5 => ⟨S1x8, .f32⟩
  | 6 => ⟨S1x8, .f32⟩
  | 7 => ⟨S_, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S1x1024, .f32⟩
  | 29 => ⟨S_, .f32⟩
  | 30 => ⟨S1x1024, .f32⟩
  | 31 => ⟨S1x1024, .f32⟩
  | 32 => ⟨S1x1024, .f32⟩
  | 33 => ⟨S_, .f32⟩
  | 34 => ⟨S1x1024, .f32⟩
  | 35 => ⟨S1x1024, .f32⟩
  | 36 => ⟨S1x1024, .f32⟩
  | 37 => ⟨S_, .f32⟩
  | 38 => ⟨S1x1024, .f32⟩
  | 39 => ⟨S1x1024, .f32⟩
  | 40 => ⟨S_, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S1x1024, .f32⟩
  | 70 => ⟨S_, .f32⟩
  | 71 => ⟨S1x1024, .f32⟩
  | 72 => ⟨S1x1024, .f32⟩
  | 73 => ⟨S_, .f32⟩
  | 74 => ⟨S1024, .f32⟩
  | 75 => ⟨S1024, .f32⟩
  | 76 => ⟨S_, .f32⟩
  | 77 => ⟨S1024, .f32⟩
  | 78 => ⟨S1024, .f32⟩
  | 79 => ⟨S1024, .f32⟩
  | 80 => ⟨S_, .f32⟩
  | 81 => ⟨S1024, .f32⟩
  | 82 => ⟨S1024, .f32⟩
  | 83 => ⟨S1024, .f32⟩
  | 84 => ⟨S_, .f32⟩
  | 85 => ⟨S1024, .f32⟩
  | 86 => ⟨S1024, .f32⟩
  | 87 => ⟨S1024, .f32⟩
  | 88 => ⟨S_, .f32⟩
  | 89 => ⟨S1024, .f32⟩
  | 90 => ⟨S1024, .f32⟩
  | 91 => ⟨S_, .f32⟩
  | 92 => ⟨S1024, .f32⟩
  | 93 => ⟨S1024, .f32⟩
  | 94 => ⟨S1024, .f32⟩
  | 95 => ⟨S_, .f32⟩
  | 96 => ⟨S1024, .f32⟩
  | 97 => ⟨S1024, .f32⟩
  | 98 => ⟨S1024, .f32⟩
  | 99 => ⟨S_, .f32⟩
  | 100 => ⟨S1024, .f32⟩
  | 101 => ⟨S1024, .f32⟩
  | 102 => ⟨S1024, .f32⟩
  | 103 => ⟨S_, .f32⟩
  | 104 => ⟨S1024, .f32⟩
  | 105 => ⟨S1024, .f32⟩
  | _ => ⟨S8x1x1024, .f32⟩

abbrev hbmTy (i : Nat) : BufTy := match i / 128 with
  | 0 => hbmTy0_0 i
  | 1 => hbmTy0_1 i
  | _ => ⟨S8x1x1024, .f32⟩

abbrev bufTy : (tb : Table) → Fin (tcTables nBuf tb) → BufTy
  | .hbm, ⟨i, _⟩ => hbmTy i
  | _, _ => ⟨S8x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_cst_0 : Ref sig .tc := ⟨.hbm, 26, rfl⟩
abbrev main_v1 : Ref sig .tc := ⟨.hbm, 27, rfl⟩
abbrev main_cst_1 : Ref sig .tc := ⟨.hbm, 28, rfl⟩
abbrev main_v2 : Ref sig .tc := ⟨.hbm, 29, rfl⟩
abbrev main_cst_2 : Ref sig .tc := ⟨.hbm, 30, rfl⟩
abbrev main_v3 : Ref sig .tc := ⟨.hbm, 31, rfl⟩
abbrev main_cst_3 : Ref sig .tc := ⟨.hbm, 32, rfl⟩
abbrev main_v4 : Ref sig .tc := ⟨.hbm, 33, rfl⟩
abbrev main_cst_4 : Ref sig .tc := ⟨.hbm, 34, rfl⟩
abbrev main_v5 : Ref sig .tc := ⟨.hbm, 35, rfl⟩
abbrev main_cst_5 : Ref sig .tc := ⟨.hbm, 36, rfl⟩
abbrev main_v6 : Ref sig .tc := ⟨.hbm, 37, rfl⟩
abbrev main_v7 : Ref sig .tc := ⟨.hbm, 38, rfl⟩
abbrev main_cst_6 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_7 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_8 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_cst_9 : Ref sig .tc := ⟨.hbm, 51, rfl⟩
abbrev main_v17 : Ref sig .tc := ⟨.hbm, 52, rfl⟩
abbrev main_v18 : Ref sig .tc := ⟨.hbm, 53, rfl⟩
abbrev main_cst_10 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_11 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_cst_12 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_13 : Ref sig .tc := ⟨.hbm, 66, rfl⟩
abbrev main_v28 : Ref sig .tc := ⟨.hbm, 67, rfl⟩
abbrev main_v29 : Ref sig .tc := ⟨.hbm, 68, rfl⟩
abbrev main_cst_14 : Ref sig .tc := ⟨.hbm, 69, rfl⟩
abbrev main_v30 : Ref sig .tc := ⟨.hbm, 70, rfl⟩
abbrev main_v31 : Ref sig .tc := ⟨.hbm, 71, rfl⟩
abbrev main_cst_15 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_16 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_cst_17 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_cst_18 : Ref sig .tc := ⟨.hbm, 84, rfl⟩
abbrev main_v41 : Ref sig .tc := ⟨.hbm, 85, rfl⟩
abbrev main_v42 : Ref sig .tc := ⟨.hbm, 86, rfl⟩
abbrev main_cst_19 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_20 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_cst_21 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_cst_22 : Ref sig .tc := ⟨.hbm, 99, rfl⟩
abbrev main_v52 : Ref sig .tc := ⟨.hbm, 100, rfl⟩
abbrev main_v53 : Ref sig .tc := ⟨.hbm, 101, rfl⟩
abbrev main_cst_23 : Ref sig .tc := ⟨.hbm, 102, rfl⟩
abbrev main_v54 : Ref sig .tc := ⟨.hbm, 103, rfl⟩
abbrev main_v55 : Ref sig .tc := ⟨.hbm, 104, rfl⟩
abbrev main_cst_24 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_25 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_cst_26 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_cst_27 : Ref sig .tc := ⟨.hbm, 117, rfl⟩
abbrev main_v65 : Ref sig .tc := ⟨.hbm, 118, rfl⟩
abbrev main_v66 : Ref sig .tc := ⟨.hbm, 119, rfl⟩
abbrev main_cst_28 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_29 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_cst_30 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_cst_31 : Ref sig .tc := ⟨.hbm, 132, rfl⟩
abbrev main_v76 : Ref sig .tc := ⟨.hbm, 133, rfl⟩
abbrev main_v77 : Ref sig .tc := ⟨.hbm, 134, rfl⟩
abbrev main_cst_32 : Ref sig .tc := ⟨.hbm, 135, rfl⟩
abbrev main_v78 : Ref sig .tc := ⟨.hbm, 136, rfl⟩
abbrev main_v79 : Ref sig .tc := ⟨.hbm, 137, rfl⟩
abbrev main_cst_33 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_34 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_cst_35 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_cst_36 : Ref sig .tc := ⟨.hbm, 150, rfl⟩
abbrev main_v89 : Ref sig .tc := ⟨.hbm, 151, rfl⟩
abbrev main_v90 : Ref sig .tc := ⟨.hbm, 152, rfl⟩
abbrev main_cst_37 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_cst_38 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_cst_39 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_cst_40 : Ref sig .tc := ⟨.hbm, 165, rfl⟩
abbrev main_v100 : Ref sig .tc := ⟨.hbm, 166, rfl⟩
abbrev main_v101 : Ref sig .tc := ⟨.hbm, 167, rfl⟩
abbrev main_cst_41 : Ref sig .tc := ⟨.hbm, 168, rfl⟩
abbrev main_v102 : Ref sig .tc := ⟨.hbm, 169, rfl⟩
abbrev main_v103 : Ref sig .tc := ⟨.hbm, 170, rfl⟩
abbrev main_cst_42 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_43 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_cst_44 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_cst_45 : Ref sig .tc := ⟨.hbm, 183, rfl⟩
abbrev main_v113 : Ref sig .tc := ⟨.hbm, 184, rfl⟩
abbrev main_v114 : Ref sig .tc := ⟨.hbm, 185, rfl⟩
abbrev main_cst_46 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_47 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_cst_48 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_cst_49 : Ref sig .tc := ⟨.hbm, 198, rfl⟩
abbrev main_v124 : Ref sig .tc := ⟨.hbm, 199, rfl⟩
abbrev main_v125 : Ref sig .tc := ⟨.hbm, 200, rfl⟩
abbrev main_cst_50 : Ref sig .tc := ⟨.hbm, 201, rfl⟩
abbrev main_v126 : Ref sig .tc := ⟨.hbm, 202, rfl⟩
abbrev main_v127 : Ref sig .tc := ⟨.hbm, 203, rfl⟩
abbrev main_cst_51 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_52 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_cst_53 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_cst_54 : Ref sig .tc := ⟨.hbm, 216, rfl⟩
abbrev main_v137 : Ref sig .tc := ⟨.hbm, 217, rfl⟩
abbrev main_v138 : Ref sig .tc := ⟨.hbm, 218, rfl⟩
abbrev main_cst_55 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_cst_56 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_cst_57 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_cst_58 : Ref sig .tc := ⟨.hbm, 231, rfl⟩
abbrev main_v148 : Ref sig .tc := ⟨.hbm, 232, rfl⟩
abbrev main_v149 : Ref sig .tc := ⟨.hbm, 233, rfl⟩

abbrev nD : Nat := 1
abbrev τ : Topo := Topo.v7x

variable {F : FTy → Type} [FloatOps F]
-- ==== Dw.lean ====
abbrev S4096x1024 : Shape := ⟨2, ![4096, 1024]⟩
abbrev S4096x512 : Shape := ⟨2, ![4096, 512]⟩
abbrev S4096x256 : Shape := ⟨2, ![4096, 256]⟩
abbrev S4096x3072 : Shape := ⟨2, ![4096, 3072]⟩
abbrev S4096x2048 : Shape := ⟨2, ![4096, 2048]⟩
abbrev S512x4096 : Shape := ⟨2, ![512, 4096]⟩
abbrev S5888x1024 : Shape := ⟨2, ![5888, 1024]⟩
abbrev S256x4096 : Shape := ⟨2, ![256, 4096]⟩
abbrev S256x1024 : Shape := ⟨2, ![256, 1024]⟩
abbrev S1024x5888 : Shape := ⟨2, ![1024, 5888]⟩
abbrev S1x1024x5888 : Shape := ⟨3, ![1, 1024, 5888]⟩

abbrev nBuf : Space → Nat
  | .hbm => 15
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x256, .f32⟩
  | .hbm, ⟨3, _⟩ => ⟨S4096x3072, .f32⟩
  | .hbm, ⟨4, _⟩ => ⟨S4096x2048, .f32⟩
  | .hbm, ⟨5, _⟩ => ⟨S512x4096, .f32⟩
  | .hbm, ⟨6, _⟩ => ⟨S512x4096, .bf16⟩
  | .hbm, ⟨7, _⟩ => ⟨S4096x256, .bf16⟩
  | .hbm, ⟨8, _⟩ => ⟨S4096x3072, .bf16⟩
  | .hbm, ⟨9, _⟩ => ⟨S4096x2048, .bf16⟩
  | .hbm, ⟨10, _⟩ => ⟨S4096x1024, .bf16⟩
  | .hbm, ⟨11, _⟩ => ⟨S5888x1024, .f32⟩
  | .hbm, ⟨12, _⟩ => ⟨S5888x1024, .bf16⟩
  | .hbm, ⟨13, _⟩ => ⟨S1024x5888, .f32⟩
  | .hbm, ⟨14, _⟩ => ⟨S1x1024x5888, .f32⟩
  | .local _ .vmem, ⟨0, _⟩ => ⟨S256x4096, .bf16⟩
  | .local _ .vmem, ⟨1, _⟩ => ⟨S256x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![23], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c2_i32_1 : BitVec 32 := 2#32
  let v5 : BitVec 1 := Scalar.cmpi .sge arg0 c2_i32_1
  let c3_i32 : BitVec 32 := 3#32
  let v6 : BitVec 1 := Scalar.cmpi .slt arg0 c3_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c3_i32_3 : BitVec 32 := 3#32
  let v10 : BitVec 1 := Scalar.cmpi .sge arg0 c3_i32_3
  let c15_i32 : BitVec 32 := 15#32
  let v11 : BitVec 1 := Scalar.cmpi .slt arg0 c15_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c15_i32_5 : BitVec 32 := 15#32
  let v15 : BitVec 1 := Scalar.cmpi .sge arg0 c15_i32_5
  let c23_i32 : BitVec 32 := 23#32
  let v16 : BitVec 1 := Scalar.cmpi .slt arg0 c23_i32
  let v17 : BitVec 1 := Scalar.andi v15 v16
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c11_i32 : BitVec 32 := 11#32
  let v1 : BitVec 32 := Scalar.maxsi c0_i32 v0
  let v2 : BitVec 32 := Scalar.minsi c11_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c15_i32 : BitVec 32 := 15#32
  let v0 : BitVec 32 := Scalar.subi arg0 c15_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DwRefIdeal.lean ====
abbrev S4096x1024 : Shape := ⟨2, ![4096, 1024]⟩
abbrev S4096x512 : Shape := ⟨2, ![4096, 512]⟩
abbrev S4096x256 : Shape := ⟨2, ![4096, 256]⟩
abbrev S4096x3072 : Shape := ⟨2, ![4096, 3072]⟩
abbrev S4096x2048 : Shape := ⟨2, ![4096, 2048]⟩
abbrev S_ : Shape := ⟨0, ![]⟩
abbrev S1x1024x5888 : Shape := ⟨3, ![1, 1024, 5888]⟩
abbrev S1024x5888 : Shape := ⟨2, ![1024, 5888]⟩
abbrev S4096x5888 : Shape := ⟨2, ![4096, 5888]⟩
abbrev S5888x1024 : Shape := ⟨2, ![5888, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x256, .f32⟩
  | .hbm, ⟨3, _⟩ => ⟨S4096x3072, .f32⟩
  | .hbm, ⟨4, _⟩ => ⟨S4096x2048, .f32⟩
  | .hbm, ⟨5, _⟩ => ⟨S_, .f32⟩
  | .hbm, ⟨6, _⟩ => ⟨S1x1024x5888, .f32⟩
  | .hbm, ⟨7, _⟩ => ⟨S1024x5888, .f32⟩
  | .hbm, ⟨8, _⟩ => ⟨S4096x5888, .f32⟩
  | .hbm, ⟨9, _⟩ => ⟨S4096x5888, .f32⟩
  | .hbm, ⟨10, _⟩ => ⟨S5888x1024, .f32⟩
  | .hbm, ⟨11, _⟩ => ⟨S1024x5888, .f32⟩
  | .hbm, ⟨12, _⟩ => ⟨S1x1024x5888, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Proof.KernelIdeal.Run.lean ====
module

public import proofs.«01_k».proof.Proof.Gen.KernelIdeal.Frame

@[expose] public section

set_option maxRecDepth 16384

noncomputable section

namespace Cert.KernelIdeal.Own

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution terminates, and each result holds what the second call's write-backs leave. -/
theorem run_main : θ_run defs (onTc (τ := τ) (main (F := F))) ⟨m, fun _ => 0, ρ⟩ (fun r => (∀ c : Dev nD,
      r.2.mem ((c.tc : Thread nD τ).loc main_v11_0) = (dat1 (V2 m ρ) c).arrAt 11 cfg1.N ∧
      r.2.mem ((c.tc : Thread nD τ).loc main_v11_1) = (dat1 (V2 m ρ) c).arrAt 12 cfg1.N ∧
      r.2.mem ((c.tc : Thread nD τ).loc main_v11_2) = (dat1 (V2 m ρ) c).arrAt 13 cfg1.N ∧
      r.2.mem ((c.tc : Thread nD τ).loc main_v11_3) = (dat1 (V2 m ρ) c).arrAt 14 cfg1.N ∧
      r.2.mem ((c.tc : Thread nD τ).loc main_v11_4) = (dat1 (V2 m ρ) c).arrAt 15 cfg1.N ∧
      r.2.mem ((c.tc : Thread nD τ).loc main_v11_5) = (dat1 (V2 m ρ) c).arrAt 16 cfg1.N ∧
      r.2.mem ((c.tc : Thread nD τ).loc main_v11_6) = (dat1 (V2 m ρ) c).arrAt 17 cfg1.N) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨(h c _ (mem_uc main_v11_0 (by decide))).trans (W3_arr m ρ c 11),
       (h c _ (mem_uc main_v11_1 (by decide))).trans (W3_arr m ρ c 12),
       (h c _ (mem_uc main_v11_2 (by decide))).trans (W3_arr m ρ c 13),
       (h c _ (mem_uc main_v11_3 (by decide))).trans (W3_arr m ρ c 14),
       (h c _ (mem_uc main_v11_4 (by decide))).trans (W3_arr m ρ c 15),
       (h c _ (mem_uc main_v11_5 (by decide))).trans (W3_arr m ρ c 16),
       (h c _ (mem_uc main_v11_6 (by decide))).trans (W3_arr m ρ c 17)⟩), funext fun g => hz g (.inr (no_unscoped g.2))⟩)

end Cert.KernelIdeal.Own

end
-- ==== Proof.KernelIdeal.Outs.lean ====
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Own

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-! One point's values of the backward call, from its blocks. -/

section point
variable (dh : Vec F S512x1024 .f32) (ya yr : Vec F S512x1024 .bf16) (gts : Vec F S512x2048 .bf16) (bg : Vec F S1x2048 .f32)
  (wo : Vec F S1024x1024 .bf16)

/-- The two halves of the gates' gradient. -/
def dga : FVec F S512x1024 .f32 := k1_pay15 dh wo gts bg ya
def dgr : FVec F S512x1024 .f32 := k1_pay17 (k1_pay12 gts bg) (k1_pay16 dh wo yr)
def dya : FVec F S512x1024 .bf16 := k1_pay13 dh wo gts bg
def dyr : FVec F S512x1024 .bf16 := k1_pay14 dh wo gts bg
abbrev lo : Rect S512x2048 := Rect.unit (s := S512x2048) ![0, 0] S512x1024.size inb_S512x2048_S512x1024_0_0
abbrev hi : Rect S512x2048 := Rect.unit (s := S512x2048) ![0, 1024] S512x1024.size inb_S512x2048_S512x1024_0_1024
abbrev lo1 : Rect S1x2048 := Rect.unit (s := S1x2048) ![0, 0] S1x1024.size inb_S1x2048_S1x1024_0_0
abbrev hi1 : Rect S1x2048 := Rect.unit (s := S1x2048) ![0, 1024] S1x1024.size inb_S1x2048_S1x1024_0_1024
def b11 : Vec F S512x2048 .bf16 :=
  View.canon [⟨hi, k1_pay19 (k1_pay12 gts bg) (k1_pay16 dh wo yr)⟩, ⟨lo, k1_pay18 (dga dh ya gts bg wo)⟩]
def b14 (acc : Vec F S1x2048 .f32) : Vec F S1x2048 .f32 :=
  View.canon [⟨hi1, k1_pay21 (k1_pay12 gts bg) (k1_pay16 dh wo yr) (View.ld acc hi1)⟩,
    ⟨lo1, k1_pay20 (dga dh ya gts bg wo) (View.ld acc lo1)⟩]
end point

/-- The two halves cover the row, so what lay below them is not read. -/
theorem over_zero (a : hi1.shape.Idx → Elt F .f32) (b : lo1.shape.Idx → Elt F .f32) (L : List (View.Piece (Elt F) S1x2048 .f32)) :
    View.canon (⟨hi1, a⟩ :: ⟨lo1, b⟩ :: L) = View.canon [⟨hi1, a⟩, ⟨lo1, b⟩] := by
  funext y
  obtain ⟨p, hp, hy⟩ := View.cover_of_tiledL (s := S1x2048) [⟨hi1, a⟩, ⟨lo1, b⟩] S1x1024.size (by sl_kernel_rfl) y
  by_cases h1 : y ∈ hi1.set
  · obtain ⟨x, rfl⟩ := hi1.exists_idx_of_mem h1
    exact (View.canon_cons_emb hi1 a _ x).trans (View.canon_cons_emb hi1 a _ x).symm
  · rw [View.canon_cons_of_not_mem ⟨hi1, a⟩ _ h1, View.canon_cons_of_not_mem ⟨hi1, a⟩ _ h1]
    have h2 : y ∈ lo1.set := by
      rcases List.mem_cons.mp hp with rfl | hp
      · exact absurd hy h1
      · rcases List.mem_cons.mp hp with rfl | hp
        · exact hy
        · exact absurd hp List.not_mem_nil
    obtain ⟨x, rfl⟩ := lo1.exists_idx_of_mem h2
    exact (View.canon_cons_emb lo1 b _ x).trans (View.canon_cons_emb lo1 b _ x).symm

theorem after11 (c : Dev nD) (t : Fin cfg1.N) :
    (outsAt1 V c t.val t.isLt).1 = b11 (iblk1 V c 0 t) (iblk1 V c 1 t) (iblk1 V c 2 t) (iblk1 V c 3 t) (iblk1 V c 4 t) (iblk1 V c 10 t) := by
  by_cases h : t.val % 8 = 0
  · rw [outsAt1_A V c t h]; dsimp only; unfold out1_A_11 b11 dga; frame_out
  · rw [outsAt1_B V c t h]; dsimp only; unfold out1_B_11 b11 dga; frame_out

theorem after12 (c : Dev nD) (t : Fin cfg1.N) :
    (outsAt1 V c t.val t.isLt).2.1 = k1_pay22 (dya (iblk1 V c 0 t) (iblk1 V c 3 t) (iblk1 V c 4 t) (iblk1 V c 10 t)) (iblk1 V c 8 t) := by
  by_cases h : t.val % 8 = 0
  · rw [outsAt1_A V c t h]; dsimp only; unfold out1_A_12 dya; frame_out
  · rw [outsAt1_B V c t h]; dsimp only; unfold out1_B_12 dya; frame_out

theorem after13 (c : Dev nD) (t : Fin cfg1.N) :
    (outsAt1 V c t.val t.isLt).2.2.1 = k1_pay23 (dyr (iblk1 V c 0 t) (iblk1 V c 3 t) (iblk1 V c 4 t) (iblk1 V c 10 t)) (iblk1 V c 9 t) := by
  by_cases h : t.val % 8 = 0
  · rw [outsAt1_A V c t h]; dsimp only; unfold out1_A_13 dyr; frame_out
  · rw [outsAt1_B V c t h]; dsimp only; unfold out1_B_13 dyr; frame_out

theorem after14_A (c : Dev nD) (t : Fin cfg1.N) (h : t.val % 8 = 0) :
    (outsAt1 V c t.val t.isLt).2.2.2.1 = b14 (iblk1 V c 0 t) (iblk1 V c 1 t) (iblk1 V c 2 t) (iblk1 V c 3 t) (iblk1 V c 4 t) (iblk1 V c 10 t) k1_pay4 := by
  rw [outsAt1_A V c t h]; dsimp only; unfold out1_A_14 b14 dga
  frame_out
  rw [View.readCov_skip _ _ _ _ _ (by decide +kernel), View.readCov_fill _ _ _ _ _ (by decide), View.readCov_fill _ _ _ _ _ (by decide)]
  exact over_zero (F := F) _ _ _

theorem after14_B (c : Dev nD) (t : Fin cfg1.N) (h : ¬t.val % 8 = 0) :
    (outsAt1 V c t.val t.isLt).2.2.2.1 = b14 (iblk1 V c 0 t) (iblk1 V c 1 t) (iblk1 V c 2 t) (iblk1 V c 3 t) (iblk1 V c 4 t) (iblk1 V c 10 t) (outsAt1 V c (t.val - 1) (Nat.lt_of_le_of_lt (Nat.sub_le _ _) t.isLt)).2.2.2.1 := by
  rw [outsAt1_B V c t h]; dsimp only; unfold out1_B_14 b14 dga; frame_out

theorem after15_A (c : Dev nD) (t : Fin cfg1.N) (h : t.val % 8 = 0) :
    (outsAt1 V c t.val t.isLt).2.2.2.2.1 = k1_pay3 (dya (iblk1 V c 0 t) (iblk1 V c 3 t) (iblk1 V c 4 t) (iblk1 V c 10 t)) k1_pay5 (iblk1 V c 6 t) := by
  rw [outsAt1_A V c t h]; dsimp only; unfold out1_A_15 dya; frame_out

theorem after15_B (c : Dev nD) (t : Fin cfg1.N) (h : ¬t.val % 8 = 0) :
    (outsAt1 V c t.val t.isLt).2.2.2.2.1 = k1_pay3 (dya (iblk1 V c 0 t) (iblk1 V c 3 t) (iblk1 V c 4 t) (iblk1 V c 10 t)) (outsAt1 V c (t.val - 1) (Nat.lt_of_le_of_lt (Nat.sub_le _ _) t.isLt)).2.2.2.2.1 (iblk1 V c 6 t) := by
  rw [outsAt1_B V c t h]; dsimp only; unfold out1_B_15 dya; frame_out

theorem after16_A (c : Dev nD) (t : Fin cfg1.N) (h : t.val % 8 = 0) :
    (outsAt1 V c t.val t.isLt).2.2.2.2.2.1 = k1_pay2 (dyr (iblk1 V c 0 t) (iblk1 V c 3 t) (iblk1 V c 4 t) (iblk1 V c 10 t)) k1_pay6 (iblk1 V c 7 t) := by
  rw [outsAt1_A V c t h]; dsimp only; unfold out1_A_16 dyr; frame_out

theorem after16_B (c : Dev nD) (t : Fin cfg1.N) (h : ¬t.val % 8 = 0) :
    (outsAt1 V c t.val t.isLt).2.2.2.2.2.1 = k1_pay2 (dyr (iblk1 V c 0 t) (iblk1 V c 3 t) (iblk1 V c 4 t) (iblk1 V c 10 t)) (outsAt1 V c (t.val - 1) (Nat.lt_of_le_of_lt (Nat.sub_le _ _) t.isLt)).2.2.2.2.2.1 (iblk1 V c 7 t) := by
  rw [outsAt1_B V c t h]; dsimp only; unfold out1_B_16 dyr; frame_out

theorem after17_A (c : Dev nD) (t : Fin cfg1.N) (h : t.val % 8 = 0) :
    (outsAt1 V c t.val t.isLt).2.2.2.2.2.2 = k1_pay1 (k1_pay8 (iblk1 V c 0 t)) k1_pay7 (iblk1 V c 5 t) := by
  rw [outsAt1_A V c t h]; dsimp only; unfold out1_A_17 ; frame_out

theorem after17_B (c : Dev nD) (t : Fin cfg1.N) (h : ¬t.val % 8 = 0) :
    (outsAt1 V c t.val t.isLt).2.2.2.2.2.2 = k1_pay1 (k1_pay8 (iblk1 V c 0 t)) (outsAt1 V c (t.val - 1) (Nat.lt_of_le_of_lt (Nat.sub_le _ _) t.isLt)).2.2.2.2.2.2 (iblk1 V c 5 t) := by
  rw [outsAt1_B V c t h]; dsimp only; unfold out1_B_17 ; frame_out

end Cert.KernelIdeal.Own

end
-- ==== Proof.KernelIdeal.Ref.lean ====
module

public import proofs.«01_k».proof.Proof.Gen.ReferenceIdeal.Read
public import Idealize.ShloMosaic.Lib.Pipeline.ValueKit

@[expose] public section

set_option maxRecDepth 16384

noncomputable section

namespace Cert.KernelIdeal.Own

open Cert.ReferenceIdeal Cert.ReferenceIdeal.Read Idealize.ShloMosaic Idealize.ShloMosaic.TcCoe Idealize.SL.Sem

/-! The values of one token and column, from the argument arrays. -/

section
variable (x1 : Vec Ideal S4096x512 .f32) (x2 : Vec Ideal S4096x1024 .f32) (x3 : Vec Ideal S4096x2048 .f32)
  (x4 : Vec Ideal S1x2048 .f32) (x5 : Vec Ideal S1x512x1024 .f32) (x6 x7 : Vec Ideal S1x1024x1024 .f32) (x8 : Vec Ideal S4096x1024 .f32)

/-- The sigmoid of a gate and its bias. -/
def Sg (r : Fin 4096) (j : Fin 2048) : EReal := Ideal.div 1 (1 + Ideal.exp (-(x3 (ix2 r j) + x4 (ix2 0 j))))
abbrev lf (b : Fin 1024) : Fin 2048 := ⟨b.val, by omega⟩
abbrev rt (b : Fin 1024) : Fin 2048 := ⟨1024 + b.val, by omega⟩
/-- The two branches brought up, and their gated sum. -/
def Ya (r : Fin 4096) (b : Fin 1024) : EReal := ∑ k, x1 (ix2 r k) * x5 (ix3 0 k b)
def Yr (r : Fin 4096) (b : Fin 1024) : EReal := ∑ k, x2 (ix2 r k) * x6 (ix3 0 k b)
def Mg (r : Fin 4096) (b : Fin 1024) : EReal := Sg x3 x4 r (lf b) * Ya x1 x5 r b + Sg x3 x4 r (rt b) * Yr x2 x6 r b
/-- Its gradient, and those of the branches and of the gates. -/
def Dm (r : Fin 4096) (b : Fin 1024) : EReal := ∑ k, x8 (ix2 r k) * x7 (ix3 0 b k)
def Da (r : Fin 4096) (b : Fin 1024) : EReal := Dm x7 x8 r b * Sg x3 x4 r (lf b)
def Dr (r : Fin 4096) (b : Fin 1024) : EReal := Dm x7 x8 r b * Sg x3 x4 r (rt b)
def Ga (r : Fin 4096) (b : Fin 1024) : EReal := Dm x7 x8 r b * Ya x1 x5 r b * Sg x3 x4 r (lf b) * (1 - Sg x3 x4 r (lf b))
def Gr (r : Fin 4096) (b : Fin 1024) : EReal := Dm x7 x8 r b * Yr x2 x6 r b * Sg x3 x4 r (rt b) * (1 - Sg x3 x4 r (rt b))

/-! The reference's results, in these values. -/

theorem ref68_lf (r : Fin 4096) (b : Fin 1024) : val_main_v68 x1 x2 x3 x4 x5 x6 x7 x8 (ix2 r (lf b)) = Ga x1 x3 x4 x5 x7 x8 r b := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_cst, val_main_cst_0, val_main_cst_1, val_main_cst_2, val_main_cst_3, val_main_cst_4, val_main_cst_5, val_main_cst_6, val_main_cst_7, val_main_cst_8, val_main_cst_9, val_main_cst_10]
  unfold Ga Dm Ya Sg; simp only [mul_assoc]
theorem ref68_rt (r : Fin 4096) (b : Fin 1024) : val_main_v68 x1 x2 x3 x4 x5 x6 x7 x8 (ix2 r (rt b)) = Gr x2 x3 x4 x6 x7 x8 r b := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_cst, val_main_cst_0, val_main_cst_1, val_main_cst_2, val_main_cst_3, val_main_cst_4, val_main_cst_5, val_main_cst_6, val_main_cst_7, val_main_cst_8, val_main_cst_9, val_main_cst_10]
  unfold Gr Dm Yr Sg; simp only [mul_assoc]
theorem ref70 (a : Fin 512) (r : Fin 4096) : val_main_v70 x3 x4 x5 x7 x8 (ix2 a r) = ∑ k, x5 (ix3 0 a k) * Da x3 x4 x7 x8 r k := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_cst, val_main_cst_0, val_main_cst_1, val_main_cst_2, val_main_cst_3, val_main_cst_4, val_main_cst_5, val_main_cst_6, val_main_cst_7, val_main_cst_8, val_main_cst_9, val_main_cst_10]
  unfold Da Dm Sg; exact Finset.sum_congr rfl fun k _ => by rw [mul_comm, mul_comm (Ideal.div _ _)]
theorem ref71 (r : Fin 4096) (b : Fin 1024) : val_main_v71 x3 x4 x6 x7 x8 (ix2 r b) = ∑ k, Dr x3 x4 x7 x8 r k * x6 (ix3 0 b k) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_cst, val_main_cst_0, val_main_cst_1, val_main_cst_2, val_main_cst_3, val_main_cst_4, val_main_cst_5, val_main_cst_6, val_main_cst_7, val_main_cst_8, val_main_cst_9, val_main_cst_10]
  unfold Dr Dm Sg; exact Finset.sum_congr rfl fun k _ => by rw [mul_comm (Ideal.div _ _)]
theorem ref58_lf (b : Fin 1024) : val_main_v58 x1 x2 x3 x4 x5 x6 x7 x8 (ix2 0 (lf b)) = ∑ r, Ga x1 x3 x4 x5 x7 x8 r b := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_cst, val_main_cst_0, val_main_cst_1, val_main_cst_2, val_main_cst_3, val_main_cst_4, val_main_cst_5, val_main_cst_6, val_main_cst_7, val_main_cst_8, val_main_cst_9, val_main_cst_10]
  rw [dif_neg (fun h => h.1), zero_add, Fin.sum_univ_one]
  unfold Ga Dm Ya Sg; simp only [mul_assoc]
theorem ref58_rt (b : Fin 1024) : val_main_v58 x1 x2 x3 x4 x5 x6 x7 x8 (ix2 0 (rt b)) = ∑ r, Gr x2 x3 x4 x6 x7 x8 r b := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_cst, val_main_cst_0, val_main_cst_1, val_main_cst_2, val_main_cst_3, val_main_cst_4, val_main_cst_5, val_main_cst_6, val_main_cst_7, val_main_cst_8, val_main_cst_9, val_main_cst_10]
  rw [Fin.sum_univ_one]
  unfold Gr Dm Yr Sg; simp only [mul_assoc]
theorem ref72 (a : Fin 512) (b : Fin 1024) : val_main_v72 x1 x3 x4 x7 x8 (ix2 a b) = ∑ r, x1 (ix2 r a) * Da x3 x4 x7 x8 r b := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_cst, val_main_cst_0, val_main_cst_1, val_main_cst_2, val_main_cst_3, val_main_cst_4, val_main_cst_5, val_main_cst_6, val_main_cst_7, val_main_cst_8, val_main_cst_9, val_main_cst_10]
  unfold Da Dm Sg; exact Finset.sum_congr rfl fun k _ => by rw [mul_comm, mul_comm (Ideal.div _ _)]
theorem ref73 (a b : Fin 1024) : val_main_v73 x2 x3 x4 x7 x8 (ix2 a b) = ∑ r, x2 (ix2 r a) * Dr x3 x4 x7 x8 r b := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_cst, val_main_cst_0, val_main_cst_1, val_main_cst_2, val_main_cst_3, val_main_cst_4, val_main_cst_5, val_main_cst_6, val_main_cst_7, val_main_cst_8, val_main_cst_9, val_main_cst_10]
  unfold Dr Dm Sg; exact Finset.sum_congr rfl fun k _ => by rw [mul_comm, mul_comm (Ideal.div _ _)]
theorem ref74 (a b : Fin 1024) : val_main_v74 x1 x2 x3 x4 x5 x6 x8 (ix2 a b) = ∑ r, Mg x1 x2 x3 x4 x5 x6 r a * x8 (ix2 r b) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_cst, val_main_cst_0, val_main_cst_1, val_main_cst_2, val_main_cst_3, val_main_cst_4, val_main_cst_5, val_main_cst_6, val_main_cst_7, val_main_cst_8, val_main_cst_9, val_main_cst_10]
  unfold Mg Ya Yr Sg; exact Finset.sum_congr rfl fun k _ => by rw [mul_comm]
end

end Cert.KernelIdeal.Own

end
-- ==== Proof.KernelIdeal.Entry.lean ====
module

public import proofs.«01_k».proof.Proof.KernelIdeal.Outs
public import proofs.«01_k».proof.Proof.KernelIdeal.Ref

@[expose] public section

set_option maxRecDepth 16384

noncomputable section

namespace Cert.KernelIdeal.Own

open Cert.KernelIdeal Cert.KernelIdeal.Gen Idealize.ShloMosaic Idealize.ShloMosaic.TcCoe Idealize.SL.Sem
open Idealize.ShloMosaic.Pipeline (Dat)

theorem idx0 : ∀ t : Fin cfg0.N, win0_0.index t = ![0, t.val] ∧ win0_1.index t = ![t.val, 0]
    ∧ win0_2.index t = ![t.val, 0] ∧ win0_3.index t = ![0, 0] ∧ win0_4.index t = ![t.val, 0]
    ∧ win0_5.index t = ![0, 0] ∧ win0_6.index t = ![0, 0] ∧ win0_7.index t = ![0, 0]
    ∧ win0_8.index t = ![t.val, 0] ∧ win0_9.index t = ![t.val, 0] ∧ win0_10.index t = ![t.val, 0]
    ∧ t.val < 8 := (by decide +kernel : ∀ t : Fin grid0.N, _)

theorem idx1 : ∀ t : Fin cfg1.N, win1_0.index t = ![t.val, 0] ∧ win1_1.index t = ![t.val, 0]
    ∧ win1_2.index t = ![t.val, 0] ∧ win1_3.index t = ![t.val, 0] ∧ win1_4.index t = ![0, 0]
    ∧ win1_5.index t = ![t.val, 0] ∧ win1_6.index t = ![0, t.val] ∧ win1_7.index t = ![t.val, 0]
    ∧ win1_8.index t = ![0, 0] ∧ win1_9.index t = ![0, 0] ∧ win1_10.index t = ![0, 0]
    ∧ win1_11.index t = ![t.val, 0] ∧ win1_12.index t = ![0, t.val] ∧ win1_13.index t = ![t.val, 0]
    ∧ win1_14.index t = ![0, 0] ∧ win1_15.index t = ![0, 0] ∧ win1_16.index t = ![0, 0] ∧ win1_17.index t = ![0, 0]
    ∧ t.val < 8 := (by decide +kernel : ∀ t : Fin grid1.N, _)

theorem lt0 (t : Fin cfg0.N) (a : Fin 512) : t.val * 512 + a.val < 4096 := by
  have := (idx0 t).2.2.2.2.2.2.2.2.2.2.2; omega
theorem lt1 (t : Fin cfg1.N) (a : Fin 512) : t.val * 512 + a.val < 4096 := by
  have := (idx1 t).2.2.2.2.2.2.2.2.2.2.2.2.2.2.2.2.2.2; omega
/-- Row `a` of point `t`'s blocks, in either call. -/
abbrev at0 (t : Fin cfg0.N) (a : Fin 512) : Fin 4096 := ⟨t.val * 512 + a.val, lt0 t a⟩
abbrev at1 (t : Fin cfg1.N) (a : Fin 512) : Fin 4096 := ⟨t.val * 512 + a.val, lt1 t a⟩

section blocks
variable (V : (c : Dev nD) → (b : Ref sig .tc) → Buf (Elt Ideal) ((c : Thread nD τ).loc b)) (c : Dev nD)

/-! A block of an array, read at an index. -/

theorem blk0_0 (t : Fin cfg0.N) (a : Fin 512) (b : Fin 512) :
    iblk0 V c 0 t (ix2 a b) = (V c main_v1 : Vec Ideal S512x4096 .bf16) (ix2 a (at0 t b)) := by blk_ext [iblk0, idx0 t]
theorem blk0_1 (t : Fin cfg0.N) (a : Fin 512) (b : Fin 1024) :
    iblk0 V c 1 t (ix2 a b) = (V c main_v2 : Vec Ideal S4096x1024 .bf16) (ix2 (at0 t a) b) := by blk_ext [iblk0, idx0 t]
theorem blk0_2 (t : Fin cfg0.N) (a : Fin 512) (b : Fin 2048) :
    iblk0 V c 2 t (ix2 a b) = (V c main_v3 : Vec Ideal S4096x2048 .bf16) (ix2 (at0 t a) b) := by blk_ext [iblk0, idx0 t]
theorem blk0_3 (t : Fin cfg0.N) (a : Fin 1) (b : Fin 2048) :
    iblk0 V c 3 t (ix2 a b) = (V c main_arg4 : Vec Ideal S1x2048 .f32) (ix2 a b) := by blk_ext [iblk0, idx0 t]
theorem blk0_5 (t : Fin cfg0.N) (a : Fin 512) (b : Fin 1024) :
    iblk0 V c 5 t (ix2 a b) = (V c main_v5 : Vec Ideal S512x1024 .bf16) (ix2 a b) := by blk_ext [iblk0, idx0 t]
theorem blk0_6 (t : Fin cfg0.N) (a : Fin 1024) (b : Fin 1024) :
    iblk0 V c 6 t (ix2 a b) = (V c main_v7 : Vec Ideal S1024x1024 .bf16) (ix2 a b) := by blk_ext [iblk0, idx0 t]
theorem blk1_0 (t : Fin cfg1.N) (a : Fin 512) (b : Fin 1024) :
    iblk1 V c 0 t (ix2 a b) = (V c main_arg8 : Vec Ideal S4096x1024 .f32) (ix2 (at1 t a) b) := by blk_ext [iblk1, idx1 t]
theorem blk1_1 (t : Fin cfg1.N) (a : Fin 512) (b : Fin 1024) :
    iblk1 V c 1 t (ix2 a b) = (V c main_v10_0 : Vec Ideal S4096x1024 .bf16) (ix2 (at1 t a) b) := by blk_ext [iblk1, idx1 t]
theorem blk1_2 (t : Fin cfg1.N) (a : Fin 512) (b : Fin 1024) :
    iblk1 V c 2 t (ix2 a b) = (V c main_v10_1 : Vec Ideal S4096x1024 .bf16) (ix2 (at1 t a) b) := by blk_ext [iblk1, idx1 t]
theorem blk1_3 (t : Fin cfg1.N) (a : Fin 512) (b : Fin 2048) :
    iblk1 V c 3 t (ix2 a b) = (V c main_v3 : Vec Ideal S4096x2048 .bf16) (ix2 (at1 t a) b) := by blk_ext [iblk1, idx1 t]
theorem blk1_4 (t : Fin cfg1.N) (a : Fin 1) (b : Fin 2048) :
    iblk1 V c 4 t (ix2 a b) = (V c main_arg4 : Vec Ideal S1x2048 .f32) (ix2 a b) := by blk_ext [iblk1, idx1 t]
theorem blk1_5 (t : Fin cfg1.N) (a : Fin 512) (b : Fin 1024) :
    iblk1 V c 5 t (ix2 a b) = (V c main_v10_2 : Vec Ideal S4096x1024 .bf16) (ix2 (at1 t a) b) := by blk_ext [iblk1, idx1 t]
theorem blk1_6 (t : Fin cfg1.N) (a : Fin 512) (b : Fin 512) :
    iblk1 V c 6 t (ix2 a b) = (V c main_v1 : Vec Ideal S512x4096 .bf16) (ix2 a (at1 t b)) := by blk_ext [iblk1, idx1 t]
theorem blk1_7 (t : Fin cfg1.N) (a : Fin 512) (b : Fin 1024) :
    iblk1 V c 7 t (ix2 a b) = (V c main_v2 : Vec Ideal S4096x1024 .bf16) (ix2 (at1 t a) b) := by blk_ext [iblk1, idx1 t]
theorem blk1_8 (t : Fin cfg1.N) (a : Fin 512) (b : Fin 1024) :
    iblk1 V c 8 t (ix2 a b) = (V c main_v5 : Vec Ideal S512x1024 .bf16) (ix2 a b) := by blk_ext [iblk1, idx1 t]
theorem blk1_9 (t : Fin cfg1.N) (a : Fin 1024) (b : Fin 1024) :
    iblk1 V c 9 t (ix2 a b) = (V c main_v7 : Vec Ideal S1024x1024 .bf16) (ix2 a b) := by blk_ext [iblk1, idx1 t]
theorem blk1_10 (t : Fin cfg1.N) (a : Fin 1024) (b : Fin 1024) :
    iblk1 V c 10 t (ix2 a b) = (V c main_v9 : Vec Ideal S1024x1024 .bf16) (ix2 a b) := by blk_ext [iblk1, idx1 t]

section entered
variable (x1 : Vec Ideal S4096x512 .f32) (x2 : Vec Ideal S4096x1024 .f32) (x3 : Vec Ideal S4096x2048 .f32)
  (x4 : Vec Ideal S1x2048 .f32) (x5 : Vec Ideal S1x512x1024 .f32) (x6 x7 : Vec Ideal S1x1024x1024 .f32) (x8 : Vec Ideal S4096x1024 .f32)

/-- Buffer contents that hold the prepared arguments. -/
structure Prep : Prop where
  v1 : ∀ (a : Fin 512) (b : Fin 4096), (V c main_v1 : Vec Ideal S512x4096 .bf16) (ix2 a b) = x1 (ix2 b a)
  v2 : ∀ (a : Fin 4096) (b : Fin 1024), (V c main_v2 : Vec Ideal S4096x1024 .bf16) (ix2 a b) = x2 (ix2 a b)
  v3 : ∀ (a : Fin 4096) (b : Fin 2048), (V c main_v3 : Vec Ideal S4096x2048 .bf16) (ix2 a b) = x3 (ix2 a b)
  v5 : ∀ (a : Fin 512) (b : Fin 1024), (V c main_v5 : Vec Ideal S512x1024 .bf16) (ix2 a b) = x5 (ix3 0 a b)
  v7 : ∀ a b : Fin 1024, (V c main_v7 : Vec Ideal S1024x1024 .bf16) (ix2 a b) = x6 (ix3 0 a b)
  v9 : ∀ a b : Fin 1024, (V c main_v9 : Vec Ideal S1024x1024 .bf16) (ix2 a b) = x7 (ix3 0 a b)
  a4 : ∀ (a : Fin 1) (b : Fin 2048), (V c main_arg4 : Vec Ideal S1x2048 .f32) (ix2 a b) = x4 (ix2 a b)
  a8 : ∀ (a : Fin 4096) (b : Fin 1024), (V c main_arg8 : Vec Ideal S4096x1024 .f32) (ix2 a b) = x8 (ix2 a b)

/-- And besides, the first call's results. -/
structure Kept : Prop extends Prep V c x1 x2 x3 x4 x5 x6 x7 x8 where
  ya : ∀ (a : Fin 4096) (b : Fin 1024), (V c main_v10_0 : Vec Ideal S4096x1024 .bf16) (ix2 a b) = Ya x1 x5 a b
  yr : ∀ (a : Fin 4096) (b : Fin 1024), (V c main_v10_1 : Vec Ideal S4096x1024 .bf16) (ix2 a b) = Yr x2 x6 a b
  mg : ∀ (a : Fin 4096) (b : Fin 1024), (V c main_v10_2 : Vec Ideal S4096x1024 .bf16) (ix2 a b) = Mg x1 x2 x3 x4 x5 x6 a b

/-- An array of tokens by columns, from its entries. -/
def At2 (f : Fin 4096 → Fin 1024 → EReal) : S4096x1024.Idx → EReal := fun y => f (y 0) (y 1)
theorem At2_apply (f : Fin 4096 → Fin 1024 → EReal) (a : Fin 4096) (b : Fin 1024) : At2 f (ix2 a b) = f a b := rfl

/-! What the first call leaves. -/

variable (h : Prep V c x1 x2 x3 x4 x5 x6 x7 x8)

theorem out8_eq (x0 : Vec Ideal S512x512 .bf16) (x1 : Vec Ideal S512x1024 .bf16) (x2 : Vec Ideal S512x2048 .bf16) (x3 : Vec Ideal S1x2048 .f32) (x4 : Vec Ideal S512x1024 .f32) (x5 : Vec Ideal S512x1024 .bf16) (x6 x7 : Vec Ideal S1024x1024 .bf16) :
    out0_8 x0 x1 x2 x3 x4 x5 x6 x7 = k0_pay5 x0 x5 := by
  unfold out0_8; frame_out

include h in
theorem fwd8 (t : Fin cfg0.N) (a : Fin 512) (b : Fin 1024) : k0_pay5 (iblk0 V c 0 t) (iblk0 V c 5 t) (ix2 a b) = Ya x1 x5 (at0 t a) b := by
  pointwise [k0_pay5, k0_pay2]
  simp only [blk0_0, blk0_1, blk0_2, blk0_3, blk0_5, blk0_6, h.v1, h.v2, h.v3, h.v5, h.v7, h.a4, sub_eq_add_neg, zero_add]
  rfl

include h in
theorem end8 : (dat0 V c).arrAt 8 cfg0.N = At2 (Ya x1 x5) := by
  refine (dat0 V c).arrAt_eq_of_covers 8 _ (by decide +kernel) fun t _ y => ?_
  blk_simp
  rw [after0_8, out8_eq]
  idx_vars y
  rw [fwd8 V c x1 x2 x3 x4 x5 x6 x7 x8 h t y0 y1, ← At2_apply (Ya x1 x5)]
  blk_ext [idx0 t]

theorem out9_eq (x0 : Vec Ideal S512x512 .bf16) (x1 : Vec Ideal S512x1024 .bf16) (x2 : Vec Ideal S512x2048 .bf16) (x3 : Vec Ideal S1x2048 .f32) (x4 : Vec Ideal S512x1024 .f32) (x5 : Vec Ideal S512x1024 .bf16) (x6 x7 : Vec Ideal S1024x1024 .bf16) :
    out0_9 x0 x1 x2 x3 x4 x5 x6 x7 = k0_pay6 x1 x6 := by
  unfold out0_9; frame_out

include h in
theorem fwd9 (t : Fin cfg0.N) (a : Fin 512) (b : Fin 1024) : k0_pay6 (iblk0 V c 1 t) (iblk0 V c 6 t) (ix2 a b) = Yr x2 x6 (at0 t a) b := by
  pointwise [k0_pay6, k0_pay3]
  simp only [blk0_0, blk0_1, blk0_2, blk0_3, blk0_5, blk0_6, h.v1, h.v2, h.v3, h.v5, h.v7, h.a4, sub_eq_add_neg, zero_add]
  rfl

include h in
theorem end9 : (dat0 V c).arrAt 9 cfg0.N = At2 (Yr x2 x6) := by
  refine (dat0 V c).arrAt_eq_of_covers 9 _ (by decide +kernel) fun t _ y => ?_
  blk_simp
  rw [after0_9, out9_eq]
  idx_vars y
  rw [fwd9 V c x1 x2 x3 x4 x5 x6 x7 x8 h t y0 y1, ← At2_apply (Yr x2 x6)]
  blk_ext [idx0 t]

theorem out10_eq (x0 : Vec Ideal S512x512 .bf16) (x1 : Vec Ideal S512x1024 .bf16) (x2 : Vec Ideal S512x2048 .bf16) (x3 : Vec Ideal S1x2048 .f32) (x4 : Vec Ideal S512x1024 .f32) (x5 : Vec Ideal S512x1024 .bf16) (x6 x7 : Vec Ideal S1024x1024 .bf16) :
    out0_10 x0 x1 x2 x3 x4 x5 x6 x7 = k0_pay4 x0 x5 x1 x6 x2 x3 := by
  unfold out0_10 k0_pay7; frame_out

include h in
theorem fwd10 (t : Fin cfg0.N) (a : Fin 512) (b : Fin 1024) : k0_pay4 (iblk0 V c 0 t) (iblk0 V c 5 t) (iblk0 V c 1 t) (iblk0 V c 6 t) (iblk0 V c 2 t) (iblk0 V c 3 t) (ix2 a b) = Mg x1 x2 x3 x4 x5 x6 (at0 t a) b := by
  pointwise [k0_pay4, k0_pay2, k0_pay3]
  simp only [blk0_0, blk0_1, blk0_2, blk0_3, blk0_5, blk0_6, h.v1, h.v2, h.v3, h.v5, h.v7, h.a4, sub_eq_add_neg, zero_add]
  rfl

include h in
theorem end10 : (dat0 V c).arrAt 10 cfg0.N = At2 (Mg x1 x2 x3 x4 x5 x6) := by
  refine (dat0 V c).arrAt_eq_of_covers 10 _ (by decide +kernel) fun t _ y => ?_
  blk_simp
  rw [after0_10, out10_eq]
  idx_vars y
  rw [fwd10 V c x1 x2 x3 x4 x5 x6 x7 x8 h t y0 y1, ← At2_apply (Mg x1 x2 x3 x4 x5 x6)]
  blk_ext [idx0 t]
end entered
end blocks

variable (m : (ℓ : Loc nD τ sig) → Buf (Elt Ideal) ℓ) (ρ : Dev nD → PrngReg) (c : Dev nD)

/-- The arguments of device `c`. -/
abbrev X1 : Vec Ideal S4096x512 .f32 := m ((c : Thread nD τ).loc main_arg1)
abbrev X2 : Vec Ideal S4096x1024 .f32 := m ((c : Thread nD τ).loc main_arg2)
abbrev X3 : Vec Ideal S4096x2048 .f32 := m ((c : Thread nD τ).loc main_arg3)
abbrev X4 : Vec Ideal S1x2048 .f32 := m ((c : Thread nD τ).loc main_arg4)
abbrev X5 : Vec Ideal S1x512x1024 .f32 := m ((c : Thread nD τ).loc main_arg5)
abbrev X6 : Vec Ideal S1x1024x1024 .f32 := m ((c : Thread nD τ).loc main_arg6)
abbrev X7 : Vec Ideal S1x1024x1024 .f32 := m ((c : Thread nD τ).loc main_arg7)
abbrev X8 : Vec Ideal S4096x1024 .f32 := m ((c : Thread nD τ).loc main_arg8)

/-! What the calls are entered with. -/

theorem prep1 : Prep (V1 m ρ) c (X1 m c) (X2 m c) (X3 m c) (X4 m c) (X5 m c) (X6 m c) (X7 m c) (X8 m c) where
  v1 := fun a b => by
    change (StableHlo.after hostOps0 (W0 m ρ c) (Proc.devRef .tc main_v1) : Vec Ideal S512x4096 .bf16) (ix2 a b) = _
    entry_read
    pointwise
  v2 := fun a b => by
    change (StableHlo.after hostOps0 (W0 m ρ c) (Proc.devRef .tc main_v2) : Vec Ideal S4096x1024 .bf16) (ix2 a b) = _
    entry_read
    pointwise
  v3 := fun a b => by
    change (StableHlo.after hostOps0 (W0 m ρ c) (Proc.devRef .tc main_v3) : Vec Ideal S4096x2048 .bf16) (ix2 a b) = _
    entry_read
    pointwise
  v5 := fun a b => by
    change (StableHlo.after hostOps0 (W0 m ρ c) (Proc.devRef .tc main_v5) : Vec Ideal S512x1024 .bf16) (ix2 a b) = _
    entry_read
    pointwise
  v7 := fun a b => by
    change (StableHlo.after hostOps0 (W0 m ρ c) (Proc.devRef .tc main_v7) : Vec Ideal S1024x1024 .bf16) (ix2 a b) = _
    entry_read
    pointwise
  v9 := fun a b => by
    change (StableHlo.after hostOps0 (W0 m ρ c) (Proc.devRef .tc main_v9) : Vec Ideal S1024x1024 .bf16) (ix2 a b) = _
    entry_read
    pointwise
  a4 := fun a b => congrFun (W1_args m ρ c main_arg4 (by decide)) _
  a8 := fun a b => congrFun (W1_args m ρ c main_arg8 (by decide)) _

theorem kept2 : Kept (V2 m ρ) c (X1 m c) (X2 m c) (X3 m c) (X4 m c) (X5 m c) (X6 m c) (X7 m c) (X8 m c) where
  v1 := fun a b => (congrFun (W2_of m ρ c main_v1 (by decide)) _).trans ((prep1 m ρ c).v1 a b)
  v2 := fun a b => (congrFun (W2_of m ρ c main_v2 (by decide)) _).trans ((prep1 m ρ c).v2 a b)
  v3 := fun a b => (congrFun (W2_of m ρ c main_v3 (by decide)) _).trans ((prep1 m ρ c).v3 a b)
  v5 := fun a b => (congrFun (W2_of m ρ c main_v5 (by decide)) _).trans ((prep1 m ρ c).v5 a b)
  v7 := fun a b => (congrFun (W2_of m ρ c main_v7 (by decide)) _).trans ((prep1 m ρ c).v7 a b)
  v9 := fun a b => (congrFun (W2_of m ρ c main_v9 (by decide)) _).trans ((prep1 m ρ c).v9 a b)
  a4 := fun a b => congrFun (W2_args m ρ c main_arg4 (by decide)) _
  a8 := fun a b => congrFun (W2_args m ρ c main_arg8 (by decide)) _
  ya := fun a b => (congrFun (W2_arr m ρ c 8) _).trans (congrFun (end8 (V1 m ρ) c (X1 m c) (X2 m c) (X3 m c) (X4 m c) (X5 m c) (X6 m c) (X7 m c) (X8 m c) (prep1 m ρ c)) _)
  yr := fun a b => (congrFun (W2_arr m ρ c 9) _).trans (congrFun (end9 (V1 m ρ) c (X1 m c) (X2 m c) (X3 m c) (X4 m c) (X5 m c) (X6 m c) (X7 m c) (X8 m c) (prep1 m ρ c)) _)
  mg := fun a b => (congrFun (W2_arr m ρ c 10) _).trans (congrFun (end10 (V1 m ρ) c (X1 m c) (X2 m c) (X3 m c) (X4 m c) (X5 m c) (X6 m c) (X7 m c) (X8 m c) (prep1 m ρ c)) _)

end Cert.KernelIdeal.Own

end
-- ==== Proof.KernelIdeal.Point.lean ====
module

public import proofs.«01_k».proof.Proof.KernelIdeal.Entry

@[expose] public section

set_option maxRecDepth 16384

noncomputable section

namespace Cert.KernelIdeal.Own

open Cert.KernelIdeal Cert.KernelIdeal.Gen Idealize.ShloMosaic Idealize.ShloMosaic.TcCoe Idealize.SL.Sem
open Idealize.ShloMosaic.Pipeline (Dat)
open Cert.ReferenceIdeal.Read

variable (V : (c : Dev nD) → (b : Ref sig .tc) → Buf (Elt Ideal) ((c : Thread nD τ).loc b)) (c : Dev nD)
  (x1 : Vec Ideal S4096x512 .f32) (x2 : Vec Ideal S4096x1024 .f32) (x3 : Vec Ideal S4096x2048 .f32)
  (x4 : Vec Ideal S1x2048 .f32) (x5 : Vec Ideal S1x512x1024 .f32) (x6 x7 : Vec Ideal S1x1024x1024 .f32) (x8 : Vec Ideal S4096x1024 .f32)
  (h : Kept V c x1 x2 x3 x4 x5 x6 x7 x8)

/-! One point of the backward call, entry by entry. -/

include h in
theorem da_at (t : Fin cfg1.N) (a : Fin 512) (b : Fin 1024) : dya (iblk1 V c 0 t) (iblk1 V c 3 t) (iblk1 V c 4 t) (iblk1 V c 10 t) (ix2 a b) = Da x3 x4 x7 x8 (at1 t a) b := by
  unfold dya
  pointwise [k1_pay8, k1_pay9, k1_pay10, k1_pay11, k1_pay12, k1_pay13, k1_pay14, k1_pay15, k1_pay16, k1_pay17, k1_pay18, k1_pay19]
  simp only [blk1_0, blk1_1, blk1_2, blk1_3, blk1_4, blk1_5, blk1_6, blk1_7, blk1_8, blk1_9, blk1_10, h.v1, h.v2, h.v3, h.v5, h.v7, h.v9, h.a4, h.a8, h.ya, h.yr, h.mg, sub_eq_add_neg, zero_add]
  rfl

include h in
theorem dr_at (t : Fin cfg1.N) (a : Fin 512) (b : Fin 1024) : dyr (iblk1 V c 0 t) (iblk1 V c 3 t) (iblk1 V c 4 t) (iblk1 V c 10 t) (ix2 a b) = Dr x3 x4 x7 x8 (at1 t a) b := by
  unfold dyr
  pointwise [k1_pay8, k1_pay9, k1_pay10, k1_pay11, k1_pay12, k1_pay13, k1_pay14, k1_pay15, k1_pay16, k1_pay17, k1_pay18, k1_pay19]
  simp only [blk1_0, blk1_1, blk1_2, blk1_3, blk1_4, blk1_5, blk1_6, blk1_7, blk1_8, blk1_9, blk1_10, h.v1, h.v2, h.v3, h.v5, h.v7, h.v9, h.a4, h.a8, h.ya, h.yr, h.mg, sub_eq_add_neg, zero_add]
  rfl

include h in
theorem ga_at (t : Fin cfg1.N) (a : Fin 512) (b : Fin 1024) : dga (iblk1 V c 0 t) (iblk1 V c 1 t) (iblk1 V c 3 t) (iblk1 V c 4 t) (iblk1 V c 10 t) (ix2 a b) = Ga x1 x3 x4 x5 x7 x8 (at1 t a) b := by
  unfold dga
  pointwise [k1_pay8, k1_pay9, k1_pay10, k1_pay11, k1_pay12, k1_pay13, k1_pay14, k1_pay15, k1_pay16, k1_pay17, k1_pay18, k1_pay19]
  simp only [blk1_0, blk1_1, blk1_2, blk1_3, blk1_4, blk1_5, blk1_6, blk1_7, blk1_8, blk1_9, blk1_10, h.v1, h.v2, h.v3, h.v5, h.v7, h.v9, h.a4, h.a8, h.ya, h.yr, h.mg, sub_eq_add_neg, zero_add]
  rfl

include h in
theorem gr_at (t : Fin cfg1.N) (a : Fin 512) (b : Fin 1024) : dgr (iblk1 V c 0 t) (iblk1 V c 2 t) (iblk1 V c 3 t) (iblk1 V c 4 t) (iblk1 V c 10 t) (ix2 a b) = Gr x2 x3 x4 x6 x7 x8 (at1 t a) b := by
  unfold dgr
  pointwise [k1_pay8, k1_pay9, k1_pay10, k1_pay11, k1_pay12, k1_pay13, k1_pay14, k1_pay15, k1_pay16, k1_pay17, k1_pay18, k1_pay19]
  simp only [blk1_0, blk1_1, blk1_2, blk1_3, blk1_4, blk1_5, blk1_6, blk1_7, blk1_8, blk1_9, blk1_10, h.v1, h.v2, h.v3, h.v5, h.v7, h.v9, h.a4, h.a8, h.ya, h.yr, h.mg, sub_eq_add_neg, zero_add]
  rfl

/-- Both halves of a row's columns. -/
theorem halves {P : Fin 2048 → Prop} (hl : ∀ b, P (lf b)) (hr : ∀ b, P (rt b)) (j : Fin 2048) : P j := by
  by_cases hj : j.val < 1024
  · exact hl ⟨j.val, hj⟩
  · have e : j = rt ⟨j.val - 1024, by omega⟩ := Fin.ext (by show j.val = 1024 + (j.val - 1024); omega)
    rw [e]; exact hr _

include h in
theorem gates_at (t : Fin cfg1.N) (a : Fin 512) (j : Fin 2048) : b11 (iblk1 V c 0 t) (iblk1 V c 1 t) (iblk1 V c 2 t) (iblk1 V c 3 t) (iblk1 V c 4 t) (iblk1 V c 10 t) (ix2 a j) = val_main_v68 x1 x2 x3 x4 x5 x6 x7 x8 (ix2 (at1 t a) j) := by
  unfold b11
  have key := View.canon_apply_of_pieces (Val := Elt Ideal) (S := S512x2048) (e := .bf16) (fun y => val_main_v68 x1 x2 x3 x4 x5 x6 x7 x8 (ix2 (at1 t (y 0)) (y 1)))
    [⟨hi, k1_pay19 (k1_pay12 (iblk1 V c 3 t) (iblk1 V c 4 t)) (k1_pay16 (iblk1 V c 0 t) (iblk1 V c 10 t) (iblk1 V c 2 t))⟩, ⟨lo, k1_pay18 (dga (iblk1 V c 0 t) (iblk1 V c 1 t) (iblk1 V c 3 t) (iblk1 V c 4 t) (iblk1 V c 10 t))⟩] ?_ (ix2 a j)
    (View.cover_of_tiledL (s := S512x2048) _ S512x1024.size (by sl_kernel_rfl) _)
  · exact key
  · intro p hp y
    simp only [List.mem_cons, List.not_mem_nil, or_false] at hp
    rcases hp with rfl | rfl
    · idx_vars y
      refine (show _ = dgr (iblk1 V c 0 t) (iblk1 V c 2 t) (iblk1 V c 3 t) (iblk1 V c 4 t) (iblk1 V c 10 t) (ix2 y0 y1) by pointwise [k1_pay19]; rfl).trans ?_
      rw [gr_at V c x1 x2 x3 x4 x5 x6 x7 x8 h t, ← ref68_rt]
      refine congrArg _ ?_; funext d; fin_cases d <;> apply Fin.ext <;> simp [Rect.emb_apply]
    · idx_vars y
      refine (show _ = dga (iblk1 V c 0 t) (iblk1 V c 1 t) (iblk1 V c 3 t) (iblk1 V c 4 t) (iblk1 V c 10 t) (ix2 y0 y1) by pointwise [k1_pay18]).trans ?_
      rw [ga_at V c x1 x2 x3 x4 x5 x6 x7 x8 h t, ← ref68_lf]
      refine congrArg _ ?_; funext d; fin_cases d <;> apply Fin.ext <;> simp [Rect.emb_apply]

include h in
theorem bias_at (t : Fin cfg1.N) (acc : Vec Ideal S1x2048 .f32) (j : Fin 2048) :
    b14 (iblk1 V c 0 t) (iblk1 V c 1 t) (iblk1 V c 2 t) (iblk1 V c 3 t) (iblk1 V c 4 t) (iblk1 V c 10 t) acc (ix2 0 j) = acc (ix2 0 j) + ∑ a : Fin 512, val_main_v68 x1 x2 x3 x4 x5 x6 x7 x8 (ix2 (at1 t a) j) := by
  unfold b14
  have key := View.canon_apply_of_pieces (Val := Elt Ideal) (S := S1x2048) (e := .f32) (fun y => acc y + ∑ a : Fin 512, val_main_v68 x1 x2 x3 x4 x5 x6 x7 x8 (ix2 (at1 t a) (y 1)))
    [⟨hi1, k1_pay21 (k1_pay12 (iblk1 V c 3 t) (iblk1 V c 4 t)) (k1_pay16 (iblk1 V c 0 t) (iblk1 V c 10 t) (iblk1 V c 2 t)) (View.ld acc hi1)⟩, ⟨lo1, k1_pay20 (dga (iblk1 V c 0 t) (iblk1 V c 1 t) (iblk1 V c 3 t) (iblk1 V c 4 t) (iblk1 V c 10 t)) (View.ld acc lo1)⟩] ?_ (ix2 0 j)
    (View.cover_of_tiledL (s := S1x2048) _ S1x1024.size (by sl_kernel_rfl) _)
  · exact key
  · intro p hp y
    simp only [List.mem_cons, List.not_mem_nil, or_false] at hp
    rcases hp with rfl | rfl
    · idx_vars y
      refine (show _ = View.ld acc hi1 (ix2 0 y1) + ∑ a : Fin 512, dgr (iblk1 V c 0 t) (iblk1 V c 2 t) (iblk1 V c 3 t) (iblk1 V c 4 t) (iblk1 V c 10 t) (ix2 a y1) by
        rw [show y0 = 0 from Subsingleton.elim _ _]; pointwise [k1_pay21]; rfl).trans ?_
      simp only [gr_at V c x1 x2 x3 x4 x5 x6 x7 x8 h t, ← ref68_rt x1 x2 x3 x4 x5 x6]
      refine congrArg₂ (· + ·) (congrArg acc ?_) (Finset.sum_congr rfl fun a _ => congrArg _ ?_)
      · funext d; fin_cases d <;> apply Fin.ext <;> simp [Rect.emb_apply]
      · funext d; fin_cases d <;> apply Fin.ext <;> simp [Rect.emb_apply]
    · idx_vars y
      refine (show _ = View.ld acc lo1 (ix2 0 y1) + ∑ a : Fin 512, dga (iblk1 V c 0 t) (iblk1 V c 1 t) (iblk1 V c 3 t) (iblk1 V c 4 t) (iblk1 V c 10 t) (ix2 a y1) by
        rw [show y0 = 0 from Subsingleton.elim _ _]; pointwise [k1_pay20]).trans ?_
      simp only [ga_at V c x1 x2 x3 x4 x5 x6 x7 x8 h t, ← ref68_lf x1 x2 x3 x4 x5 x6]
      refine congrArg₂ (· + ·) (congrArg acc ?_) (Finset.sum_congr rfl fun a _ => congrArg _ ?_)
      · funext d; fin_cases d <;> apply Fin.ext <;> simp [Rect.emb_apply]
      · funext d; fin_cases d <;> apply Fin.ext <;> simp [Rect.emb_apply]

include h in
theorem oa_at (t : Fin cfg1.N) (i a : Fin 512) : k1_pay22 (dya (iblk1 V c 0 t) (iblk1 V c 3 t) (iblk1 V c 4 t) (iblk1 V c 10 t)) (iblk1 V c 8 t) (ix2 i a) = val_main_v70 x3 x4 x5 x7 x8 (ix2 i (at1 t a)) := by
  rw [ref70]; pointwise [k1_pay22]; simp only [da_at V c x1 x2 x3 x4 x5 x6 x7 x8 h t, blk1_0, blk1_1, blk1_2, blk1_3, blk1_4, blk1_5, blk1_6, blk1_7, blk1_8, blk1_9, blk1_10, h.v1, h.v2, h.v3, h.v5, h.v7, h.v9, h.a4, h.a8, h.ya, h.yr, h.mg]

include h in
theorem yrp_at (t : Fin cfg1.N) (a : Fin 512) (b : Fin 1024) : k1_pay23 (dyr (iblk1 V c 0 t) (iblk1 V c 3 t) (iblk1 V c 4 t) (iblk1 V c 10 t)) (iblk1 V c 9 t) (ix2 a b) = val_main_v71 x3 x4 x6 x7 x8 (ix2 (at1 t a) b) := by
  rw [ref71]; pointwise [k1_pay23]; simp only [dr_at V c x1 x2 x3 x4 x5 x6 x7 x8 h t, blk1_0, blk1_1, blk1_2, blk1_3, blk1_4, blk1_5, blk1_6, blk1_7, blk1_8, blk1_9, blk1_10, h.v1, h.v2, h.v3, h.v5, h.v7, h.v9, h.a4, h.a8, h.ya, h.yr, h.mg]

include h in
theorem wa_at (t : Fin cfg1.N) (acc : Vec Ideal S512x1024 .f32) (i : Fin 512) (b : Fin 1024) : k1_pay3 (dya (iblk1 V c 0 t) (iblk1 V c 3 t) (iblk1 V c 4 t) (iblk1 V c 10 t)) acc (iblk1 V c 6 t) (ix2 i b)
    = acc (ix2 i b) + ∑ a : Fin 512, x1 (ix2 (at1 t a) i) * Da x3 x4 x7 x8 (at1 t a) b := by
  pointwise [k1_pay3]; simp only [da_at V c x1 x2 x3 x4 x5 x6 x7 x8 h t, blk1_0, blk1_1, blk1_2, blk1_3, blk1_4, blk1_5, blk1_6, blk1_7, blk1_8, blk1_9, blk1_10, h.v1, h.v2, h.v3, h.v5, h.v7, h.v9, h.a4, h.a8, h.ya, h.yr, h.mg]

include h in
theorem wr_at (t : Fin cfg1.N) (acc : Vec Ideal S1024x1024 .f32) (i b : Fin 1024) : k1_pay2 (dyr (iblk1 V c 0 t) (iblk1 V c 3 t) (iblk1 V c 4 t) (iblk1 V c 10 t)) acc (iblk1 V c 7 t) (ix2 i b)
    = acc (ix2 i b) + ∑ a : Fin 512, x2 (ix2 (at1 t a) i) * Dr x3 x4 x7 x8 (at1 t a) b := by
  pointwise [k1_pay2]; simp only [dr_at V c x1 x2 x3 x4 x5 x6 x7 x8 h t, blk1_0, blk1_1, blk1_2, blk1_3, blk1_4, blk1_5, blk1_6, blk1_7, blk1_8, blk1_9, blk1_10, h.v1, h.v2, h.v3, h.v5, h.v7, h.v9, h.a4, h.a8, h.ya, h.yr, h.mg]

include h in
theorem wo_at (t : Fin cfg1.N) (acc : Vec Ideal S1024x1024 .f32) (i b : Fin 1024) : k1_pay1 (k1_pay8 (iblk1 V c 0 t)) acc (iblk1 V c 5 t) (ix2 i b)
    = acc (ix2 i b) + ∑ a : Fin 512, Mg x1 x2 x3 x4 x5 x6 (at1 t a) i * x8 (ix2 (at1 t a) b) := by
  pointwise [k1_pay1, k1_pay8]; simp only [blk1_0, blk1_1, blk1_2, blk1_3, blk1_4, blk1_5, blk1_6, blk1_7, blk1_8, blk1_9, blk1_10, h.v1, h.v2, h.v3, h.v5, h.v7, h.v9, h.a4, h.a8, h.ya, h.yr, h.mg]

end Cert.KernelIdeal.Own

end
-- ==== Proof.KernelIdeal.Value.lean ====
module

public import proofs.«01_k».proof.Proof.KernelIdeal.Point

@[expose] public section

set_option maxRecDepth 16384

noncomputable section

namespace Cert.KernelIdeal.Own

open Cert.KernelIdeal Cert.KernelIdeal.Gen Idealize.ShloMosaic Idealize.ShloMosaic.TcCoe Idealize.SL.Sem
open Idealize.ShloMosaic.Pipeline (Dat)
open Cert.ReferenceIdeal.Read

variable (V : (c : Dev nD) → (b : Ref sig .tc) → Buf (Elt Ideal) ((c : Thread nD τ).loc b)) (c : Dev nD)
  (x1 : Vec Ideal S4096x512 .f32) (x2 : Vec Ideal S4096x1024 .f32) (x3 : Vec Ideal S4096x2048 .f32)
  (x4 : Vec Ideal S1x2048 .f32) (x5 : Vec Ideal S1x512x1024 .f32) (x6 x7 : Vec Ideal S1x1024x1024 .f32) (x8 : Vec Ideal S4096x1024 .f32)
  (h : Kept V c x1 x2 x3 x4 x5 x6 x7 x8)

/-! The results of the backward call: written once per point, or added up over the points. -/

include h in
theorem final11 : (dat1 V c).arrAt 11 cfg1.N = val_main_v68 x1 x2 x3 x4 x5 x6 x7 x8 := by
  refine (dat1 V c).arrAt_eq_of_covers 11 _ (by decide +kernel) fun t _ y => ?_
  blk_simp
  rw [after1_11, after11 V c t]
  idx_vars y
  rw [gates_at V c x1 x2 x3 x4 x5 x6 x7 x8 h t y0 y1]
  blk_ext [idx1 t]

include h in
theorem final12 : (dat1 V c).arrAt 12 cfg1.N = val_main_v70 x3 x4 x5 x7 x8 := by
  refine (dat1 V c).arrAt_eq_of_covers 12 _ (by decide +kernel) fun t _ y => ?_
  blk_simp
  rw [after1_12, after12 V c t]
  idx_vars y
  rw [oa_at V c x1 x2 x3 x4 x5 x6 x7 x8 h t y0 y1]
  blk_ext [idx1 t]

include h in
theorem final13 : (dat1 V c).arrAt 13 cfg1.N = val_main_v71 x3 x4 x6 x7 x8 := by
  refine (dat1 V c).arrAt_eq_of_covers 13 _ (by decide +kernel) fun t _ y => ?_
  blk_simp
  rw [after1_13, after13 V c t]
  idx_vars y
  rw [yrp_at V c x1 x2 x3 x4 x5 x6 x7 x8 h t y0 y1]
  blk_ext [idx1 t]

theorem ref58 (j : Fin 2048) : val_main_v58 x1 x2 x3 x4 x5 x6 x7 x8 (ix2 0 j) = ∑ r, val_main_v68 x1 x2 x3 x4 x5 x6 x7 x8 (ix2 r j) :=
  halves (P := fun j => val_main_v58 x1 x2 x3 x4 x5 x6 x7 x8 (ix2 0 j) = ∑ r, val_main_v68 x1 x2 x3 x4 x5 x6 x7 x8 (ix2 r j))
    (fun b => by rw [ref58_lf]; exact Finset.sum_congr rfl fun r _ => (ref68_lf x1 x2 x3 x4 x5 x6 x7 x8 r b).symm)
    (fun b => by rw [ref58_rt]; exact Finset.sum_congr rfl fun r _ => (ref68_rt x1 x2 x3 x4 x5 x6 x7 x8 r b).symm) j

include h in
theorem final14 : (dat1 V c).arrAt 14 cfg1.N = val_main_v58 x1 x2 x3 x4 x5 x6 x7 x8 := by
  refine (dat1 V c).arrAt_eq_of_after_last 14 t1_7 (by decide +kernel) _ fun j => ?_
  blk_simp
  idx_vars j
  rw [after1_14, show j0 = 0 from Subsingleton.elim _ _]
  have key := Pipeline.eq_sum_fin_of_reset_step_apply_last (M := EReal) (fun n hn (p : Fin 2048) => (outsAt1 V c n hn).2.2.2.1 (ix2 0 p)) 8 (fun _ => 0)
    (fun t p => ∑ a : Fin 512, val_main_v68 x1 x2 x3 x4 x5 x6 x7 x8 (ix2 (at1 t a) p))
    (fun t hn p => by
      rw [after14_A V c t hn, bias_at V c x1 x2 x3 x4 x5 x6 x7 x8 h t _ p]
      congr 1
      pointwise [k1_pay4])
    (fun t hn p => by rw [after14_B V c t hn, bias_at V c x1 x2 x3 x4 x5 x6 x7 x8 h t _ p])
    (le_of_eq N_1) t1_7 rfl j1
  refine key.trans (Eq.trans ?_ (ref58 x1 x2 x3 x4 x5 x6 x7 x8 j1).symm)
  rw [zero_add]
  exact Fin.sum_mul_add_fin (L := 4096) 8 512 fun r => val_main_v68 x1 x2 x3 x4 x5 x6 x7 x8 (ix2 r j1)

include h in
theorem final15 : (dat1 V c).arrAt 15 cfg1.N = val_main_v72 x1 x3 x4 x7 x8 := by
  refine (dat1 V c).arrAt_eq_of_after_last 15 t1_7 (by decide +kernel) _ fun j => ?_
  blk_simp
  idx_vars j
  rw [after1_15]
  have key := Pipeline.eq_sum_fin_of_reset_step_apply_last (M := EReal) (fun n hn (p : Fin 512 × Fin 1024) => (outsAt1 V c n hn).2.2.2.2.1 (ix2 p.1 p.2)) 8 (fun _ => 0)
    (fun t p => ∑ a : Fin 512, x1 (ix2 (at1 t a) p.1) * Da x3 x4 x7 x8 (at1 t a) p.2)
    (fun t hn p => by
      rw [after15_A V c t hn, wa_at V c x1 x2 x3 x4 x5 x6 x7 x8 h t _ p.1 p.2]
      congr 1
      pointwise [k1_pay5])
    (fun t hn p => by rw [after15_B V c t hn, wa_at V c x1 x2 x3 x4 x5 x6 x7 x8 h t _ p.1 p.2])
    (le_of_eq N_1) t1_7 rfl (j0, j1)
  refine key.trans (Eq.trans ?_ (ref72 x1 x3 x4 x7 x8 j0 j1).symm)
  rw [zero_add]
  exact Fin.sum_mul_add_fin (L := 4096) 8 512 fun r => x1 (ix2 r j0) * Da x3 x4 x7 x8 r j1

include h in
theorem final16 : (dat1 V c).arrAt 16 cfg1.N = val_main_v73 x2 x3 x4 x7 x8 := by
  refine (dat1 V c).arrAt_eq_of_after_last 16 t1_7 (by decide +kernel) _ fun j => ?_
  blk_simp
  idx_vars j
  rw [after1_16]
  have key := Pipeline.eq_sum_fin_of_reset_step_apply_last (M := EReal) (fun n hn (p : Fin 1024 × Fin 1024) => (outsAt1 V c n hn).2.2.2.2.2.1 (ix2 p.1 p.2)) 8 (fun _ => 0)
    (fun t p => ∑ a : Fin 512, x2 (ix2 (at1 t a) p.1) * Dr x3 x4 x7 x8 (at1 t a) p.2)
    (fun t hn p => by
      rw [after16_A V c t hn, wr_at V c x1 x2 x3 x4 x5 x6 x7 x8 h t _ p.1 p.2]
      congr 1
      pointwise [k1_pay6])
    (fun t hn p => by rw [after16_B V c t hn, wr_at V c x1 x2 x3 x4 x5 x6 x7 x8 h t _ p.1 p.2])
    (le_of_eq N_1) t1_7 rfl (j0, j1)
  refine key.trans (Eq.trans ?_ (ref73 x2 x3 x4 x7 x8 j0 j1).symm)
  rw [zero_add]
  exact Fin.sum_mul_add_fin (L := 4096) 8 512 fun r => x2 (ix2 r j0) * Dr x3 x4 x7 x8 r j1

include h in
theorem final17 : (dat1 V c).arrAt 17 cfg1.N = val_main_v74 x1 x2 x3 x4 x5 x6 x8 := by
  refine (dat1 V c).arrAt_eq_of_after_last 17 t1_7 (by decide +kernel) _ fun j => ?_
  blk_simp
  idx_vars j
  rw [after1_17]
  have key := Pipeline.eq_sum_fin_of_reset_step_apply_last (M := EReal) (fun n hn (p : Fin 1024 × Fin 1024) => (outsAt1 V c n hn).2.2.2.2.2.2 (ix2 p.1 p.2)) 8 (fun _ => 0)
    (fun t p => ∑ a : Fin 512, Mg x1 x2 x3 x4 x5 x6 (at1 t a) p.1 * x8 (ix2 (at1 t a) p.2))
    (fun t hn p => by
      rw [after17_A V c t hn, wo_at V c x1 x2 x3 x4 x5 x6 x7 x8 h t _ p.1 p.2]
      congr 1
      pointwise [k1_pay7])
    (fun t hn p => by rw [after17_B V c t hn, wo_at V c x1 x2 x3 x4 x5 x6 x7 x8 h t _ p.1 p.2])
    (le_of_eq N_1) t1_7 rfl (j0, j1)
  refine key.trans (Eq.trans ?_ (ref74 x1 x2 x3 x4 x5 x6 x8 j0 j1).symm)
  rw [zero_add]
  exact Fin.sum_mul_add_fin (L := 4096) 8 512 fun r => Mg x1 x2 x3 x4 x5 x6 r j0 * x8 (ix2 r j1)

end Cert.KernelIdeal.Own

end
-- ==== Proof.KernelIdeal.Claims.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.KernelIdeal.Run
public import proofs.«01_k».proof.Proof.KernelIdeal.Value
public import Idealize.ShloMosaic.Lib.Tactic
public import Idealize.ShloMosaic.Lib.Claim

@[expose] public section

set_option maxRecDepth 16384

noncomputable section

namespace Cert.Proof.Mix

open Idealize.ShloMosaic Idealize.ShloMosaic.TcCoe Idealize.SL.Sem

theorem frame_bits : Cert.quiescent_Kernel := fun m ρ _ => Cert.Kernel.Gen.frame m ρ

theorem frame_ideal : Cert.quiescent_KernelIdeal := fun m ρ _ => Cert.KernelIdeal.Gen.frame m ρ

/-- The reference has host operations alone: no operation writes an argument, and no semaphore is declared. -/
theorem frame_ref : Cert.quiescent_ReferenceIdeal := fun m ρ _ =>
  (θ_run Cert.ReferenceIdeal.defs _ _).mono (fun r h => ⟨fun c => (h c).2.2.2.2.2.2.2, sem_eq_zero_of_no_sems (by decide) r.2⟩)
    (Cert.ReferenceIdeal.Value.run m ρ)

set_option maxHeartbeats 4000000 in
open Cert.KernelIdeal.Gen Cert.KernelIdeal.Own Cert.ReferenceIdeal.Read in
theorem value : Cert.algebraic_KernelIdeal_ReferenceIdeal := by
  pair_intro
  · run_from Cert.KernelIdeal.Own.run_main m g & Cert.KernelIdeal.Gen.frame m g
  · run_from Cert.ReferenceIdeal.Value.run m' g'
    all_goals
      obtain ⟨e0, e1, e2, e3, e4, e5, e6, e7, e8⟩ := hagree c
    · rw [final11 (V2 m g) c _ _ _ _ _ _ _ _ (kept2 m g c), val_main_v68_eq]
      change val_main_v68 (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8)) = _
      rw [e1, e2, e3, e4, e5, e6, e7, e8]
    · rw [final12 (V2 m g) c _ _ _ _ _ _ _ _ (kept2 m g c), val_main_v70_eq]
    · rw [final13 (V2 m g) c _ _ _ _ _ _ _ _ (kept2 m g c), val_main_v71_eq]
    · rw [final14 (V2 m g) c _ _ _ _ _ _ _ _ (kept2 m g c), val_main_v58_eq]
      change val_main_v58 (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8)) = _
      rw [e1, e2, e3, e4, e5, e6, e7, e8]
    · rw [final15 (V2 m g) c _ _ _ _ _ _ _ _ (kept2 m g c), val_main_v72_eq]
    · rw [final16 (V2 m g) c _ _ _ _ _ _ _ _ (kept2 m g c), val_main_v73_eq]
    · rw [final17 (V2 m g) c _ _ _ _ _ _ _ _ (kept2 m g c), val_main_v74_eq]

end Cert.Proof.Mix

end
-- ==== Proof.InpIdeal.RunA.lean ====
module

public import proofs.«01_k».proof.Proof.Gen.InpIdeal.Frame.Runs

@[expose] public section

set_option maxRecDepth 16384

noncomputable section

namespace Cert.InpIdeal.Own

open Cert.InpIdeal Cert.InpIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body on whole buffers at the first grid point, where the body copies the weights into its scratch and clears its accumulators: the pieces it stores into each buffer, with the triple saying so. -/
def runA (c : Dev nD) (i : grid0.Coords) (arg1 : Memref sig .tc .vmem S512x512 .bf16) (harg1 : arg1.IsWhole) (arg2 : Memref sig .tc .vmem S512x256 .bf16) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg9 : Memref sig .tc .vmem S512x1024 .f32) (harg9 : arg9.IsWhole) (arg10 : Memref sig .tc .vmem S1x1024 .f32) (harg10 : arg10.IsWhole) (arg11 : Memref sig .tc .vmem S5888x1024 .bf16) (harg11 : arg11.IsWhole) (hc0 : cond0_0 i) (hc1 : cond0_1 i)
    (x0 : Vec F S512x512 .bf16) (x1 : Vec F S512x256 .bf16) (x2 : Vec F S512x3072 .bf16) (x3 : Vec F S512x2048 .bf16) (x4 : Vec F S512x1024 .f32) (x5 : Vec F S512x1024 .f32) (x6 : Vec F S1x1024 .f32) (fh0 : HbBuf0 (F := F) c hbM0_0) :
    Σ' (L7 : List (View.Piece (Elt F) S512x1024 .f32)), Σ' (L8 : List (View.Piece (Elt F) S1x1024 .f32)), { LS0 : List (View.Piece (Elt F) S5888x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ hbPt0 c hbM0_0 fh0 ∗ (∃ W', owes (c : Thread nD τ) 0 W')) -∗ K ⟨⟩))
          ⊢ wp frame (wpE (defs₀ (F := F)) Variants.none c none) Set.univ (cc0_inproj_bwd i arg1 harg1 arg2 harg2 arg3 harg3 arg4 harg4 arg5 harg5 arg6 harg6 arg7 harg7 (Memref.whole main_v2) (Memref.isWhole_whole _) arg9 harg9 arg10 harg10 arg11 harg11 cc0_scratch1) K } := by
  refine ⟨?_, ?_, ?_, fun W K => ?run⟩
  case run =>
    simp only [cc0_inproj_bwd_eq_skeleton]; unfold cc0_inproj_bwd_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, Hq0, Hq1, Hq2, Hq3, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    set_option sl_exec.dmaWindow true in
    set_option sl_exec.dmaWindowSet true in
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [HS0]; · iexists _; iexact HS0
    isplitl [Hq0]; · iexact Hq0
    isplitl [Hq1]; · iexact Hq1
    isplitl [Hq2]; · iexact Hq2
    isplitl [Hq3]; · iexact Hq3
    isplitl [Hh0]; · iexact Hh0
    iexists _; iexact HW

end Cert.InpIdeal.Own

end
-- ==== Proof.InpIdeal.RunB.lean ====
module

public import proofs.«01_k».proof.Proof.InpIdeal.RunA

@[expose] public section

set_option maxRecDepth 16384

noncomputable section

namespace Cert.InpIdeal.Own

open Cert.InpIdeal Cert.InpIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body on whole buffers at a later grid point, where the scratch and the accumulators hold what the point before left: the pieces it stores into each buffer, with the triple saying so. -/
def runB (c : Dev nD) (i : grid0.Coords) (arg1 : Memref sig .tc .vmem S512x512 .bf16) (harg1 : arg1.IsWhole) (arg2 : Memref sig .tc .vmem S512x256 .bf16) (harg2 : arg2.IsWhole) (arg3 : Memref sig .tc .vmem S512x3072 .bf16) (harg3 : arg3.IsWhole) (arg4 : Memref sig .tc .vmem S512x2048 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg9 : Memref sig .tc .vmem S512x1024 .f32) (harg9 : arg9.IsWhole) (arg10 : Memref sig .tc .vmem S1x1024 .f32) (harg10 : arg10.IsWhole) (arg11 : Memref sig .tc .vmem S5888x1024 .bf16) (harg11 : arg11.IsWhole) (hc0 : ¬cond0_0 i) (hc1 : ¬cond0_1 i)
    (x0 : Vec F S512x512 .bf16) (x1 : Vec F S512x256 .bf16) (x2 : Vec F S512x3072 .bf16) (x3 : Vec F S512x2048 .bf16) (x4 : Vec F S512x1024 .f32) (x5 : Vec F S512x1024 .f32) (x6 : Vec F S1x1024 .f32) (xo8 : Vec F S1x1024 .f32) (xs0 : Vec F S5888x1024 .bf16) (fh0 : HbBuf0 (F := F) c hbM0_0) :
    Σ' (L7 : List (View.Piece (Elt F) S512x1024 .f32)), Σ' (L8 : List (View.Piece (Elt F) S1x1024 .f32)), { LS0 : List (View.Piece (Elt F) S5888x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg9 fullShare d) ∗ owns (c : Thread nD τ) arg10 fullShare xo8 ∗ owns (c : Thread nD τ) arg11 fullShare xs0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ owns (c : Thread nD τ) arg11 fullShare xs0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ hbPt0 c hbM0_0 fh0 ∗ (∃ W', owes (c : Thread nD τ) 0 W')) -∗ K ⟨⟩))
          ⊢ wp frame (wpE (defs₀ (F := F)) Variants.none c none) Set.univ (cc0_inproj_bwd i arg1 harg1 arg2 harg2 arg3 harg3 arg4 harg4 arg5 harg5 arg6 harg6 arg7 harg7 (Memref.whole main_v2) (Memref.isWhole_whole _) arg9 harg9 arg10 harg10 arg11 harg11 cc0_scratch1) K } := by
  refine ⟨?_, ?_, [], fun W K => ?run⟩
  case run =>
    simp only [cc0_inproj_bwd_eq_skeleton]; unfold cc0_inproj_bwd_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, Hq0, Hq1, Hq2, Hq3, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hf8; obtain rfl := harg11.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [HS0]
    · iexists _; isplitr; · ipureintro; exact harg11.read_unread _
      iexact HS0
    isplitl [Hq0]; · iexact Hq0
    isplitl [Hq1]; · iexact Hq1
    isplitl [Hq2]; · iexact Hq2
    isplitl [Hq3]; · iexact Hq3
    isplitl [Hh0]; · iexact Hh0
    iexists _; iexact HW

end Cert.InpIdeal.Own

end
-- ==== Proof.InpIdeal.Frame.lean ====
module

public import proofs.«01_k».proof.Proof.InpIdeal.RunB
public import Idealize.ShloMosaic.Lib.Claim

@[expose] public section

set_option maxRecDepth 16384

noncomputable section

namespace Cert.InpIdeal.Own

open Cert.InpIdeal Cert.InpIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What one grid point leaves: the outputs' blocks, then the scratch carried to the next point. -/
abbrev Outs (F : FTy → Type) [FloatOps F] := Vec F S512x1024 .f32 × Vec F S1x1024 .f32 × Vec F S5888x1024 .bf16

/-- Case A's run at grid point `t`, on the blocks of that point. -/
def atA (c : Dev nD) (t : Fin cfg0.N) (h : t.val % 8 = 0) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h) ((hcond0_1 t).mpr h) (iblk m c 0 t) (iblk m c 1 t) (iblk m c 2 t) (iblk m c 3 t) (iblk m c 4 t) (iblk m c 5 t) (iblk m c 6 t) (V m c main_v2)

/-- Case B's run at grid point `t`, on the blocks of that point. -/
def atB (c : Dev nD) (t : Fin cfg0.N) (h : ¬t.val % 8 = 0) (p : Outs F) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun e => h ((hcond0_0 t).mp e)) (fun e => h ((hcond0_1 t).mp e)) (iblk m c 0 t) (iblk m c 1 t) (iblk m c 2 t) (iblk m c 3 t) (iblk m c 4 t) (iblk m c 5 t) (iblk m c 6 t) p.2.1 p.2.2 (V m c main_v2)

theorem coverA_7 (c : Dev nD) (t : Fin cfg0.N) (h : t.val % 8 = 0) (y : S512x1024.Idx) :
    ∃ pc ∈ (atA m c t h).1, y ∈ pc.1.set :=
  View.cover_of_tiledL (atA m c t h).1 S512x1024.size (by sl_kernel_rfl) y

def outA_7 (c : Dev nD) (t : Fin cfg0.N) (h : t.val % 8 = 0) : Vec F S512x1024 .f32 :=
  VO0_7.read (Elt F) (VO0_7.writes (Elt F) VO0_7.junk (atA m c t h).1)

theorem coverA_8 (c : Dev nD) (t : Fin cfg0.N) (h : t.val % 8 = 0) (y : S1x1024.Idx) :
    ∃ pc ∈ (atA m c t h).2.1, y ∈ pc.1.set :=
  View.cover_of_tiledL (atA m c t h).2.1 S1x1024.size (by sl_kernel_rfl) y

def outA_8 (c : Dev nD) (t : Fin cfg0.N) (h : t.val % 8 = 0) : Vec F S1x1024 .f32 :=
  VO0_8.read (Elt F) (VO0_8.writes (Elt F) VO0_8.junk (atA m c t h).2.1)

theorem scoverA_0 (c : Dev nD) (t : Fin cfg0.N) (h : t.val % 8 = 0) (y : S5888x1024.Idx) :
    ∃ pc ∈ (atA m c t h).2.2.1, y ∈ pc.1.set :=
  View.cover_of_tiledBy (atA m c t h).2.2.1 ![256, 1024] (by sl_kernel_rfl) y

def soutA_0 (c : Dev nD) (t : Fin cfg0.N) (h : t.val % 8 = 0) : Vec F S5888x1024 .bf16 :=
  VS0_0.read (Elt F) (VS0_0.writes (Elt F) VS0_0.junk (atA m c t h).2.2.1)

theorem coverB_7 (c : Dev nD) (t : Fin cfg0.N) (h : ¬t.val % 8 = 0) (p : Outs F) (y : S512x1024.Idx) :
    ∃ pc ∈ (atB m c t h p).1, y ∈ pc.1.set :=
  View.cover_of_tiledL (atB m c t h p).1 S512x1024.size (by sl_kernel_rfl) y

def outB_7 (c : Dev nD) (t : Fin cfg0.N) (h : ¬t.val % 8 = 0) (p : Outs F) : Vec F S512x1024 .f32 :=
  VO0_7.read (Elt F) (VO0_7.writes (Elt F) VO0_7.junk (atB m c t h p).1)

theorem coverB_8 (c : Dev nD) (t : Fin cfg0.N) (h : ¬t.val % 8 = 0) (p : Outs F) (y : S1x1024.Idx) :
    ∃ pc ∈ (atB m c t h p).2.1, y ∈ pc.1.set :=
  View.cover_of_tiledL (atB m c t h p).2.1 S1x1024.size (by sl_kernel_rfl) y

def outB_8 (c : Dev nD) (t : Fin cfg0.N) (h : ¬t.val % 8 = 0) (p : Outs F) : Vec F S1x1024 .f32 :=
  VO0_8.read (Elt F) (VO0_8.writes (Elt F) VO0_8.junk (atB m c t h p).2.1)

def outsA (c : Dev nD) (t : Fin cfg0.N) (h : t.val % 8 = 0) : Outs F :=
  (outA_7 m c t h, outA_8 m c t h, soutA_0 m c t h)

def outsB (c : Dev nD) (t : Fin cfg0.N) (h : ¬t.val % 8 = 0) (p : Outs F) : Outs F :=
  (outB_7 m c t h p, outB_8 m c t h p, p.2.2)

/-- What is left after grid point `n`, by recursion on the points. -/
def outsAt0 (c : Dev nD) : (n : ℕ) → n < cfg0.N → Outs F
  | 0, hn => outsA m c ⟨0, hn⟩ (Nat.zero_mod _)
  | n + 1, hn =>
    if h : (n + 1) % 8 = 0 then outsA m c ⟨n + 1, hn⟩ h
    else outsB m c ⟨n + 1, hn⟩ h (outsAt0 c n (Nat.lt_of_succ_lt hn))

theorem outsAt0_A (c : Dev nD) (t : Fin cfg0.N) (h : t.val % 8 = 0) :
    outsAt0 m c t.val t.isLt = outsA m c t h := by
  obtain ⟨n, hn⟩ := t
  cases n with
  | zero => exact rfl
  | succ n => exact dif_pos h

theorem outsAt0_B (c : Dev nD) (t : Fin cfg0.N) (h : ¬t.val % 8 = 0) :
    outsAt0 m c t.val t.isLt
      = outsB m c t h (outsAt0 m c (t.val - 1) (Nat.lt_of_le_of_lt (Nat.sub_le _ _) t.isLt)) := by
  obtain ⟨n, hn⟩ := t
  cases n with
  | zero => exact absurd (Nat.zero_mod _) h
  | succ n => exact dif_neg h

/-- The invariant between the points: the carried scratch at what the last point left. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2)) ∗ (∃ r, prngReg c r) ∗ iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0) ∗ iprop(hbPt0 c hbM0_0 (V m c main_v2)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r) ∗ iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0) ∗ iprop(hbPt0 c hbM0_0 (V m c main_v2))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r) ∗ iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0) ∗ iprop(hbPt0 c hbM0_0 (V m c main_v2))) := by
  cases n with
  | zero => exact absurd rfl hz
  | succ n => rfl

/-- The pipeline's proof data: input blocks unchanged, outputs and carried scratch as `outsAt0` says. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_8_B (c : Dev nD) (t : Fin cfg0.N) (h0 : ¬t.val % 8 = 0) (d) :
    (dats m 0 c).before 8 t d = (outsAt0 m c (t.val - 1) (Nat.lt_of_le_of_lt (Nat.sub_le _ _) t.isLt)).2.1 := by
  have hN : t.val < 8 := lt_of_lt_of_eq t.isLt (show cfg0.N = 8 from N_0)
  rw [Dat.before_out_kept _ 8 rfl t (by omega) (Bool.eq_false_iff.mpr fun h => by have := (flush0_8 _).mp h; dsimp only at this; omega)
    (fun _ => rfl) (fun _ _ => rfl)]
  dsimp only [dats]

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What the body gives back at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 6400000 in
/-- The body's triple at every point, by the two cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = PhiS m c (t.val + 1) t.isLt from rfl, PhiS_succ,
    after0_0, after0_1, after0_2, after0_3, after0_4, after0_5, after0_6, after0_7, after0_8]
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  by_cases h0 : t.val % 8 = 0
  · have hz : t.val = 0 := by omega
    rw [PhiS_castSucc m c t, PhiS_zero m c _ _ hz, PhiD0_eq]
    rw [outsAt0_A m c t h0]
    unfold outsA outA_7 outA_8 soutA_0; (try dsimp only)
    iintro ⟨⟨HS0, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((atA m c t h0).2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [Hq0]; · iexact Hq0
    isplitl [Hq1]; · iexact Hq1
    isplitl [Hq2]; · iexact Hq2
    isplitl [Hq3]; · iexact Hq3
    isplitl [Hh0]; · iexact Hh0
    isplitl [HW]; · iexact HW
    iintro ⟨H0, H1, H2, H3, H4, H5, H6, ⟨%e7, H7⟩, ⟨%e8, H8⟩, ⟨%es0, HS0⟩, Hq0, Hq1, Hq2, Hq3, Hh0, ⟨%W', HW'⟩⟩
    isplitl [HS0 Hg Hq0 Hq1 Hq2 Hq3 Hh0]
    · isplitl [HS0]
      · unfold owns; iexists _; isplitr
        swap; · iexact HS0
        ipureintro; exact View.read_writes_of_cover _ _ _ _ _ (scoverA_0 m c t h0)
      isplitl [Hg]
      · iexact Hg
      isplitl [Hq0 Hq1 Hq2 Hq3]
      · isplitl [Hq0]; · iexact Hq0
        isplitl [Hq1]; · iexact Hq1
        isplitl [Hq2]; · iexact Hq2
        iexact Hq3
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverA_7 m c t h0)
    unfold owns; iexists _; isplitr
    swap; · iexact H8
    ipureintro; exact View.read_writes_of_cover _ _ _ _ _ (coverA_8 m c t h0)
  · have hz : t.val ≠ 0 := fun e => h0 (by rw [e])
    rw [PhiS_castSucc m c t, PhiS_pos m c _ _ hz]
    rw [outsAt0_B m c t h0]
    simp only [before0_8_B m c t h0]
    unfold outsB outB_7 outB_8; (try dsimp only)
    iintro ⟨⟨HS0, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((atB m c t h0 _).2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS0]; · iexact HS0
    isplitl [Hq0]; · iexact Hq0
    isplitl [Hq1]; · iexact Hq1
    isplitl [Hq2]; · iexact Hq2
    isplitl [Hq3]; · iexact Hq3
    isplitl [Hh0]; · iexact Hh0
    isplitl [HW]; · iexact HW
    iintro ⟨H0, H1, H2, H3, H4, H5, H6, ⟨%e7, H7⟩, ⟨%e8, H8⟩, HS0, Hq0, Hq1, Hq2, Hq3, Hh0, ⟨%W', HW'⟩⟩
    isplitl [HS0 Hg Hq0 Hq1 Hq2 Hq3 Hh0]
    · isplitl [HS0]
      · iexact HS0
      isplitl [Hg]
      · iexact Hg
      isplitl [Hq0 Hq1 Hq2 Hq3]
      · isplitl [Hq0]; · iexact Hq0
        isplitl [Hq1]; · iexact Hq1
        isplitl [Hq2]; · iexact Hq2
        iexact Hq3
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverB_7 m c t h0 _)
    unfold owns; iexists _; isplitr
    swap; · iexact H8
    ipureintro; exact View.read_writes_of_cover _ _ _ _ _ (coverB_8 m c t h0 _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨HS0, Hg, ⟨Hq0, Hq1, Hq2, Hq3⟩, Hh0⟩
  isplitl [HS0]
  · iexists _; iexact HS0
  isplitl [Hg]; · iexact Hg
  isplitl [Hq0 Hq1 Hq2 Hq3]
  · isplitl [Hq0]; · iexact Hq0
    isplitl [Hq1]; · iexact Hq1
    isplitl [Hq2]; · iexact Hq2
    iexact Hq3
  iexact Hh0

theorem hout (c : Dev nD) : (dats m 0 c).Φ (Fin.last cfg0.N) ⊢ Pipeline.ΦD osem0 spec0 H0 (V m) c :=
  Phi_out m c _ (by rw [Fin.val_last]; have : cfg0.N = 8 := N_0; omega)

set_option backward.isDefEq.respectTransparency.types false in
/-- The launch: the arrays after the run, and every semaphore back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame statement: the run ends, the arguments are unchanged, the semaphores are at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.InpIdeal.Own

end
-- ==== Proof.InpIdeal.Outs.lean ====
module

public import proofs.«01_k».proof.Proof.InpIdeal.Frame
public import Idealize.ShloMosaic.Lib.Pipeline.ValueKit

@[expose] public section

set_option maxRecDepth 16384

noncomputable section

namespace Cert.InpIdeal.Own

open Cert.InpIdeal Cert.InpIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The transposed weights as the region finds them. -/
def wT (c : Dev nD) : Vec F S5888x1024 .bf16 := V m c main_v2

/-- The four row ranges of the weights, one per part of the projection. -/
def wq (W : Vec F S5888x1024 .bf16) : Vec F S512x1024 .bf16 :=
  View.ld W (Rect.unit (s := S5888x1024) ![0, 0] S512x1024.size inb_S5888x1024_S512x1024_0_0)
def wkv (W : Vec F S5888x1024 .bf16) : Vec F S256x1024 .bf16 :=
  View.ld W (Rect.unit (s := S5888x1024) ![512, 0] S256x1024.size inb_S5888x1024_S256x1024_512_0)
def wr (W : Vec F S5888x1024 .bf16) : Vec F S3072x1024 .bf16 :=
  View.ld W (Rect.unit (s := S5888x1024) ![768, 0] S3072x1024.size inb_S5888x1024_S3072x1024_768_0)
def wg (W : Vec F S5888x1024 .bf16) : Vec F S2048x1024 .bf16 :=
  View.ld W (Rect.unit (s := S5888x1024) ![3840, 0] S2048x1024.size inb_S5888x1024_S2048x1024_3840_0)

/-- The product with the weights at point `t`: the gradient entering the norm. -/
def dxn (c : Dev nD) (t : Fin cfg0.N) (W : Vec F S5888x1024 .bf16) : FVec F S512x1024 .f32 :=
  k0_pay6 (iblk m c 0 t) (wq W) (iblk m c 1 t) (wkv W) (iblk m c 2 t) (wr W) (iblk m c 3 t) (wg W)

/-- The first point's copies leave the weights in the scratch. -/
theorem scratch_A (c : Dev nD) (t : Fin cfg0.N) (h : t.val % 8 = 0) : soutA_0 m c t h = wT m c := by
  funext y
  have hc := scoverA_0 m c t h y
  unfold soutA_0
  rw [View.read_writes_junk_eq_canon]
  refine View.canon_apply_of_pieces (wT m c) _ ?_ y hc
  unfold atA
  frame_open
  intro p hp x
  simp only [List.mem_cons, List.not_mem_nil, or_false] at hp
  rcases hp with rfl | rfl | rfl | rfl <;> rfl

/-- … and every later point finds them there. -/
theorem scratch (c : Dev nD) (k : ℕ) : ∀ t : Fin cfg0.N, t.val = k → (outsAt0 m c t.val t.isLt).2.2 = wT m c := by
  induction k using Nat.strong_induction_on with
  | _ k ih =>
    intro t hk
    by_cases h : t.val % 8 = 0
    · rw [outsAt0_A m c t h]
      unfold outsA
      dsimp only
      exact scratch_A m c t h
    · have hlt : t.val - 1 < k := by omega
      rw [outsAt0_B m c t h]
      unfold outsB
      dsimp only
      exact ih (t.val - 1) hlt ⟨t.val - 1, Nat.lt_of_le_of_lt (Nat.sub_le _ _) t.isLt⟩ rfl

theorem outA_7_eq (c : Dev nD) (t : Fin cfg0.N) (h : t.val % 8 = 0) :
    outA_7 m c t h = k0_pay3 (dxn m c t (wT m c)) (iblk m c 5 t) (iblk m c 6 t) (k0_pay7 (iblk m c 5 t)) (iblk m c 4 t) := by
  have hc := scoverA_0 m c t h
  have hs := scratch_A m c t h
  unfold soutA_0 at hs
  rw [View.read_writes_junk_eq_canon] at hs
  unfold outA_7 dxn wq wkv wr wg
  unfold atA at hc hs ⊢
  frame_out
  frame_open at hc hs
  rw [← hs]
  simp only [View.readCov_eq_canon_ld _ _ _ hc]

theorem outA_8_eq (c : Dev nD) (t : Fin cfg0.N) (h : t.val % 8 = 0) :
    outA_8 m c t h = k0_pay4 (dxn m c t (wT m c)) (iblk m c 5 t) (k0_pay7 (iblk m c 5 t)) k0_pay5 := by
  have hc := scoverA_0 m c t h
  have hs := scratch_A m c t h
  unfold soutA_0 at hs
  rw [View.read_writes_junk_eq_canon] at hs
  unfold outA_8 dxn wq wkv wr wg
  unfold atA at hc hs ⊢
  frame_out
  frame_open at hc hs
  rw [← hs]
  simp only [View.readCov_eq_canon_ld _ _ _ hc]

/-- Reading back what the scratch was left with. -/
theorem scratch_read (X : Vec F S5888x1024 .bf16) :
    View.read (Elt F) (View.whole cc0_scratch0) ((Memref.isWhole_whole cc0_scratch0).unread X) = X :=
  Memref.IsWhole.read_unread _ _

theorem outB_7_eq (c : Dev nD) (t : Fin cfg0.N) (h : ¬t.val % 8 = 0) (p : Outs F) :
    outB_7 m c t h p = k0_pay3 (dxn m c t p.2.2) (iblk m c 5 t) (iblk m c 6 t) (k0_pay7 (iblk m c 5 t)) (iblk m c 4 t) := by
  unfold outB_7 dxn wq wkv wr wg atB
  frame_out
  rw [scratch_read p.2.2]

theorem outB_8_eq (c : Dev nD) (t : Fin cfg0.N) (h : ¬t.val % 8 = 0) (p : Outs F) :
    outB_8 m c t h p = k0_pay4 (dxn m c t p.2.2) (iblk m c 5 t) (k0_pay7 (iblk m c 5 t)) p.2.1 := by
  unfold outB_8 dxn wq wkv wr wg atB
  frame_out
  rw [scratch_read p.2.2]

end Cert.InpIdeal.Own

end
-- ==== Proof.Norm.lean ====
module

public import Idealize.ShloMosaic.Lib.Pipeline.ValueKit
public import Idealize.ShloMosaic.Lib.IdealHost
public import Idealize.ShloMosaic.PureOps.Ideal.Laws

@[expose] public section

noncomputable section

namespace Cert.Norm

open Idealize.ShloMosaic

/-! Constants and the two forms of the rms norm's gradient, over the extended reals. -/

theorem c1024 : Ideal.ofBits .f32 0x44800000#32 = ((1024 : ℝ) : EReal) := by
  simp [Ideal.ofBits, Ideal.ieee, -EReal.coe_mul]; norm_num

theorem cneghalf : Ideal.ofBits .f32 0xBF000000#32 = ((-(1 / 2) : ℝ) : EReal) := by
  simp [Ideal.ofBits, Ideal.ieee, -EReal.coe_mul, -EReal.coe_neg]; norm_num

/-- The norm's epsilon is a positive real. -/
theorem ceps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

theorem cinf : Ideal.ofBits .f32 0x7F800000#32 = ⊤ := by simp [Ideal.ofBits, Ideal.ieee]

/-- A value whose absolute value compares below infinity is a real. -/
theorem real_of_lt {x : EReal} (h : Ideal.cmp .olt (max x (-x)) (Ideal.ofBits .f32 0x7F800000#32) = 1#1) :
    ∃ r : ℝ, x = r := by
  rw [cinf] at h
  induction x with
  | bot => simp [Ideal.cmp] at h
  | top => simp [Ideal.cmp] at h
  | coe r => exact ⟨r, rfl⟩

theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem div_coe_coe (a : ℝ) {b : ℝ} (hb : b ≠ 0) : Ideal.div (a : EReal) (b : EReal) = ((a / b : ℝ) : EReal) := by
  rw [Ideal.div_coe hb, ← EReal.coe_mul]; congr 1; ring

theorem rsqrt_pos {v : ℝ} (hv : 0 < v) : Ideal.rsqrt (v : EReal) = (((Real.sqrt v)⁻¹ : ℝ) : EReal) := by
  rw [Ideal.rsqrt_coe, if_neg (by linarith), if_neg (by linarith)]

/-- The reciprocal root of a mean square, at reals. -/
theorem rms_real {n : ℕ} (x : Fin n → ℝ) : ∃ v : ℝ, 0 < v ∧
    Ideal.div (∑ k, (x k : EReal) * (x k : EReal)) (Ideal.ofBits .f32 0x44800000#32) + Ideal.ofBits .f32 0x358637BD#32
      = (v : EReal) := by
  obtain ⟨e, he, hE⟩ := ceps
  refine ⟨(∑ k, x k * x k) / 1024 + e, ?_, ?_⟩
  · have : 0 ≤ ∑ k, x k * x k := Finset.sum_nonneg fun k _ => mul_self_nonneg _
    positivity
  · rw [hE, c1024]
    simp only [← EReal.coe_mul]
    rw [coe_sum, div_coe_coe _ (by norm_num), ← EReal.coe_add]

/-- The norm's gradient as one subtraction of the projection, and as the two halves of the product rule. -/
theorem rms_grad {n : ℕ} (x g q : Fin n → ℝ) (h : EReal) (d : Fin n) (r v : EReal)
    (hv : v = Ideal.div (∑ k, (x k : EReal) * (x k : EReal)) (Ideal.ofBits .f32 0x44800000#32) + Ideal.ofBits .f32 0x358637BD#32)
    (hr : r = Ideal.rsqrt v) :
    h + r * ((q d : EReal) * (g d : EReal) - (x d : EReal) * r
        * Ideal.div (∑ k, (q k : EReal) * (g k : EReal) * ((x k : EReal) * r)) (Ideal.ofBits .f32 0x44800000#32))
      = h + (q d : EReal) * (g d : EReal) * r
        + (x d : EReal) * Ideal.div ((∑ k, (x k : EReal) * ((q k : EReal) * (g k : EReal)))
            * (Ideal.ofBits .f32 0xBF000000#32 * Ideal.div r v)) (Ideal.ofBits .f32 0x44800000#32)
        + Ideal.div ((∑ k, (x k : EReal) * ((q k : EReal) * (g k : EReal)))
            * (Ideal.ofBits .f32 0xBF000000#32 * Ideal.div r v)) (Ideal.ofBits .f32 0x44800000#32) * (x d : EReal) := by
  obtain ⟨w, hw, hvw⟩ := rms_real x
  rw [hvw] at hv
  subst hv
  rw [rsqrt_pos hw] at hr
  have hs : 0 < Real.sqrt w := Real.sqrt_pos.mpr hw
  have hq : Real.sqrt w * Real.sqrt w = w := Real.mul_self_sqrt hw.le
  generalize Real.sqrt w = s at hr hs hq
  subst hr
  subst hq
  rw [c1024, cneghalf]
  simp only [← EReal.coe_mul, coe_sum, div_coe_coe _ (show (1024 : ℝ) ≠ 0 by norm_num),
    div_coe_coe _ (show s * s ≠ 0 by positivity), ← EReal.coe_sub, add_assoc, ← EReal.coe_add]
  congr 2
  have e : ∑ k, q k * g k * (x k * s⁻¹) = (∑ k, x k * (q k * g k)) * s⁻¹ := by
    rw [Finset.sum_mul]; exact Finset.sum_congr rfl fun k _ => by ring
  rw [e]
  field_simp
  ring

end Cert.Norm

end
-- ==== Proof.InpIdeal.Value.lean ====
module

public import proofs.«01_k».proof.Proof.InpIdeal.Outs
public import proofs.«01_k».proof.Proof.Gen.InpRefIdeal.Read
public import proofs.«01_k».proof.Proof.Norm
public import Idealize.ShloMosaic.Lib.Pipeline.ValueKit
public import Idealize.ShloMosaic.Lib.Claim

@[expose] public section

set_option maxRecDepth 16384

noncomputable section

namespace Cert.InpIdeal.Own

open Cert.InpIdeal Cert.InpIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, t.val] ∧ win0_1.index t = ![t.val, 0]
    ∧ win0_2.index t = ![t.val, 0] ∧ win0_3.index t = ![t.val, 0] ∧ win0_4.index t = ![t.val, 0]
    ∧ win0_5.index t = ![t.val, 0] ∧ win0_6.index t = ![0, 0] ∧ win0_7.index t = ![t.val, 0]
    ∧ win0_8.index t = ![0, 0] ∧ t.val < 8 := (by decide +kernel : ∀ t : Fin grid0.N, _)

/-- The contraction split as the kernel takes it: the four parts of the projection in turn. -/
theorem sum_parts (f : Fin 5888 → EReal) : ∑ k, f k = ∑ k : Fin 512, f ⟨k.val, by omega⟩
    + ∑ k : Fin 256, f ⟨512 + k.val, by omega⟩ + ∑ k : Fin 3072, f ⟨768 + k.val, by omega⟩
    + ∑ k : Fin 2048, f ⟨3840 + k.val, by omega⟩ := by
  have h1 := Fin.sum_univ_add (a := 3840) (b := 2048) f
  have h2 := Fin.sum_univ_add (a := 768) (b := 3072) fun k => f (Fin.castAdd 2048 k)
  have h3 := Fin.sum_univ_add (a := 512) (b := 256) fun k => f (Fin.castAdd 2048 (Fin.castAdd 3072 k))
  rw [h2, h3] at h1
  exact h1

/-- The arguments of device `c`. -/
abbrev X (c : Dev nD) : Vec Ideal S4096x1024 .f32 := m ((c : Thread nD τ).loc main_arg0)
abbrev Gm (c : Dev nD) : Vec Ideal S1x1024 .f32 := m ((c : Thread nD τ).loc main_arg1)
abbrev W (c : Dev nD) : Vec Ideal S1x1024x5888 .f32 := m ((c : Thread nD τ).loc main_arg2)
abbrev H (c : Dev nD) : Vec Ideal S4096x1024 .f32 := m ((c : Thread nD τ).loc main_arg3)
abbrev Pj (c : Dev nD) : Vec Ideal S4096x5888 .f32 := m ((c : Thread nD τ).loc main_arg4)

open Cert.InpRefIdeal.Read

theorem dxn_apply (c : Dev nD) (t : Fin cfg0.N) (a : Fin 512) (b : Fin 1024) (i : Fin 4096) (hi : i.val = t.val * 512 + a.val) :
    dxn m c t (wT m c) (ix2 a b) = val_main_v19 (W m c) (Pj m c) (ix2 i b) := by
  unfold dxn wq wkv wr wg wT
  pointwise [k0_pay6, val_main_v19, val_main_v17]
  rw [sum_parts]
  entry_read
  pointwise
  blk_point [iblk, V, idx t]

/-- The norm's inverse root, at row `i`. -/
def rinv (x : Vec Ideal S4096x1024 .f32) (i : Fin 4096) : EReal :=
  Ideal.rsqrt (Ideal.div (∑ k : Fin 1024, x (ix2 i k) * x (ix2 i k)) (Ideal.ofBits .f32 0x44800000#32)
    + Ideal.ofBits .f32 0x358637BD#32)

theorem x_apply (c : Dev nD) (t : Fin cfg0.N) (a : Fin 512) (b : Fin 1024) (i : Fin 4096) (hi : i.val = t.val * 512 + a.val) :
    iblk m c 5 t (ix2 a b) = X m c (ix2 i b) := by
  blk_ext [iblk, V, idx t]

theorem h_apply (c : Dev nD) (t : Fin cfg0.N) (a : Fin 512) (b : Fin 1024) (i : Fin 4096) (hi : i.val = t.val * 512 + a.val) :
    iblk m c 4 t (ix2 a b) = H m c (ix2 i b) := by
  blk_ext [iblk, V, idx t]

theorem g_apply (c : Dev nD) (t : Fin cfg0.N) (b : Fin 1024) : iblk m c 6 t (ix2 0 b) = Gm m c (ix2 0 b) := by
  blk_ext [iblk, V, idx t]

theorem ref40 (x : Vec Ideal S4096x1024 .f32) (g : Vec Ideal S1x1024 .f32) (w : Vec Ideal S1x1024x5888 .f32)
    (h : Vec Ideal S4096x1024 .f32) (p : Vec Ideal S4096x5888 .f32) (i : Fin 4096) (b : Fin 1024)
    (hx : ∀ j, ∃ r : ℝ, x j = r) (hg : ∀ j, ∃ r : ℝ, g j = r) (hq : ∀ j, ∃ r : ℝ, val_main_v19 w p j = r) :
    val_main_v40 x g w h p (ix2 i b) = h (ix2 i b) + rinv x i * (val_main_v19 w p (ix2 i b) * g (ix2 0 b) - x (ix2 i b) * rinv x i
        * Ideal.div (∑ k : Fin 1024, val_main_v19 w p (ix2 i k) * g (ix2 0 k) * (x (ix2 i k) * rinv x i)) (Ideal.ofBits .f32 0x44800000#32)) := by
  pointwise [val_main_v40, val_main_v39, val_main_v38, val_main_v37, val_main_v36, val_main_v35, val_main_v34, val_main_v33, val_main_v32, val_main_v31, val_main_v30, val_main_v29, val_main_v28, val_main_v27, val_main_v26, val_main_v24, val_main_v23, val_main_v14, val_main_v0, val_main_v11, val_main_v10, val_main_v9, val_main_v8, val_main_v7, val_main_v6, val_main_v5, val_main_v4, val_main_v3, val_main_v2, val_main_v1, val_main_cst, val_main_cst_0, val_main_cst_1, val_main_cst_2, val_main_cst_5, val_main_cst_6, val_main_cst_7]
  simp only [Fin.sum_univ_one, zero_add]
  choose x' hx using hx
  choose g' hg using hg
  choose q' hq using hq
  have e := Cert.Norm.rms_grad (fun k => x' (ix2 i k)) (fun k => g' (ix2 0 k)) (fun k => q' (ix2 i k)) (h (ix2 i b)) b
    (rinv x i) _ rfl (by unfold rinv; simp only [hx])
  simp only [hx, hg, hq] at e ⊢
  rw [e]
  unfold rinv
  simp only [hx]

theorem pay3_apply (q x h : Vec Ideal S512x1024 .f32) (g : Vec Ideal S1x1024 .f32) (a : Fin 512) (b : Fin 1024) (X : Vec Ideal S4096x1024 .f32)
    (i : Fin 4096) (hX : ∀ k, x (ix2 a k) = X (ix2 i k)) :
    k0_pay3 q x g (k0_pay7 x) h (ix2 a b) = h (ix2 a b) + rinv X i * (q (ix2 a b) * g (ix2 0 b) - x (ix2 a b) * rinv X i
        * Ideal.div (∑ k : Fin 1024, q (ix2 a k) * g (ix2 0 k) * (x (ix2 a k) * rinv X i)) (Ideal.ofBits .f32 0x44800000#32)) := by
  pointwise [k0_pay3, k0_pay2, k0_pay1, k0_pay7]
  unfold rinv
  simp only [hX]

/-- What every point leaves of the first result. -/
theorem point7 (c : Dev nD) (t : Fin cfg0.N) (a : Fin 512) (b : Fin 1024) (i : Fin 4096) (hi : i.val = t.val * 512 + a.val)
    (hx : ∀ j, ∃ r : ℝ, X m c j = r) (hg : ∀ j, ∃ r : ℝ, Gm m c j = r) (hq : ∀ j, ∃ r : ℝ, val_main_v19 (W m c) (Pj m c) j = r) :
    k0_pay3 (dxn m c t (wT m c)) (iblk m c 5 t) (iblk m c 6 t) (k0_pay7 (iblk m c 5 t)) (iblk m c 4 t) (ix2 a b)
      = val_main_v40 (X m c) (Gm m c) (W m c) (H m c) (Pj m c) (ix2 i b) := by
  rw [ref40 _ _ _ _ _ i b hx hg hq]
  refine (pay3_apply _ _ _ _ a b (X m c) i fun k => x_apply m c t a k i hi).trans ?_
  rw [x_apply m c t a b i hi, h_apply m c t a b i hi, g_apply m c t b, dxn_apply m c t a b i hi]
  simp only [x_apply m c t a _ i hi, g_apply m c t, dxn_apply m c t a _ i hi]

/-- The first result after the run. -/
theorem final7 (c : Dev nD)
    (hx : ∀ j, ∃ r : ℝ, X m c j = r) (hg : ∀ j, ∃ r : ℝ, Gm m c j = r) (hq : ∀ j, ∃ r : ℝ, val_main_v19 (W m c) (Pj m c) j = r) :
    (dats m 0 c).arrAt 7 (cfgs 0).N = val_main_v40 (X m c) (Gm m c) (W m c) (H m c) (Pj m c) := by
  refine (dats m 0 c).arrAt_eq_of_covers 7 _ (by decide +kernel) fun t _ y => ?_
  blk_simp
  rw [after0_7]
  have key : (outsAt0 m c t.val t.isLt).1 = k0_pay3 (dxn m c t (wT m c)) (iblk m c 5 t) (iblk m c 6 t) (k0_pay7 (iblk m c 5 t)) (iblk m c 4 t) := by
    by_cases h : t.val % 8 = 0
    · rw [outsAt0_A m c t h]; unfold outsA; dsimp only; exact outA_7_eq m c t h
    · rw [outsAt0_B m c t h]; unfold outsB; dsimp only; rw [outB_7_eq m c t h, scratch m c (t.val - 1) ⟨t.val - 1, Nat.lt_of_le_of_lt (Nat.sub_le _ _) t.isLt⟩ rfl]
  rw [key]
  idx_vars y
  have hlt : t.val * 512 + y0.val < 4096 := by have := (idx t).2.2.2.2.2.2.2.2.2; omega
  rw [point7 m c t y0 y1 ⟨t.val * 512 + y0.val, hlt⟩ rfl hx hg hq]
  blk_ext [idx t]

theorem pay4_apply (q x : Vec Ideal S512x1024 .f32) (acc : Vec Ideal S1x1024 .f32) (b : Fin 1024) (X : Vec Ideal S4096x1024 .f32)
    (i : Fin 512 → Fin 4096) (hX : ∀ a k, x (ix2 a k) = X (ix2 (i a) k)) :
    k0_pay4 q x (k0_pay7 x) acc (ix2 0 b) = acc (ix2 0 b) + ∑ a : Fin 512, q (ix2 a b) * (x (ix2 a b) * rinv X (i a)) := by
  pointwise [k0_pay4, k0_pay2, k0_pay1, k0_pay7]
  unfold rinv
  simp only [hX]

theorem ref41 (x : Vec Ideal S4096x1024 .f32) (w : Vec Ideal S1x1024x5888 .f32)
    (p : Vec Ideal S4096x5888 .f32) (b : Fin 1024) :
    val_main_v41 x w p (ix2 0 b) = ∑ i : Fin 4096, val_main_v19 w p (ix2 i b) * (x (ix2 i b) * rinv x i) := by
  pointwise [val_main_v41, val_main_v25, val_main_v22, val_main_v21, val_main_v20, val_main_v13, val_main_v12, val_main_v8, val_main_v7, val_main_v6, val_main_v5, val_main_v4, val_main_v3, val_main_v2, val_main_v1, val_main_cst, val_main_cst_0, val_main_cst_1, val_main_cst_3, val_main_cst_4]
  simp only [Fin.sum_univ_one, zero_add]
  unfold rinv
  exact Finset.sum_congr rfl fun k _ => mul_comm _ _

/-- The points' rows are the array's rows. -/
theorem row_lt (t : Fin cfg0.N) (a : Fin 512) : t.val * 512 + a.val < 4096 := by
  have := (idx t).2.2.2.2.2.2.2.2.2; omega

/-- What point `t` adds to the second result. -/
theorem add8 (c : Dev nD) (t : Fin cfg0.N) (acc : Vec Ideal S1x1024 .f32) (b : Fin 1024) :
    k0_pay4 (dxn m c t (wT m c)) (iblk m c 5 t) (k0_pay7 (iblk m c 5 t)) acc (ix2 0 b)
      = acc (ix2 0 b) + ∑ a : Fin 512, val_main_v19 (W m c) (Pj m c) (ix2 ⟨t.val * 512 + a.val, row_lt t a⟩ b)
          * (X m c (ix2 ⟨t.val * 512 + a.val, row_lt t a⟩ b) * rinv (X m c) ⟨t.val * 512 + a.val, row_lt t a⟩) := by
  refine (pay4_apply _ _ acc b (X m c) (fun a => ⟨t.val * 512 + a.val, row_lt t a⟩) fun a k => x_apply m c t a k _ rfl).trans ?_
  congr 1
  refine Finset.sum_congr rfl fun a _ => ?_
  have hi := row_lt t a
  rw [dxn_apply m c t a b ⟨t.val * 512 + a.val, hi⟩ rfl, x_apply m c t a b ⟨t.val * 512 + a.val, hi⟩ rfl]

/-- The second result after the run. -/
theorem final8 (c : Dev nD) : (dats m 0 c).arrAt 8 (cfgs 0).N = val_main_v41 (X m c) (W m c) (Pj m c) := by
  refine (dats m 0 c).arrAt_eq_of_after_last 8 t0_7 (by decide +kernel) _ fun j => ?_
  blk_simp
  idx_vars j
  rw [after0_8, show j0 = 0 from Subsingleton.elim _ _]
  have key := Pipeline.eq_sum_fin_of_reset_step_apply_last (M := EReal) (fun n h (b : Fin 1024) => (outsAt0 m c n h).2.1 (ix2 0 b)) 8 (fun _ => 0)
    (fun t b => ∑ a : Fin 512, val_main_v19 (W m c) (Pj m c) (ix2 ⟨t.val * 512 + a.val, row_lt t a⟩ b)
          * (X m c (ix2 ⟨t.val * 512 + a.val, row_lt t a⟩ b) * rinv (X m c) ⟨t.val * 512 + a.val, row_lt t a⟩))
    (fun t h b => by
      dsimp only
      rw [outsAt0_A m c t h]; unfold outsA; dsimp only
      rw [outA_8_eq m c t h, add8]
      congr 1
      pointwise [k0_pay5])
    (fun t h b => by
      dsimp only
      rw [outsAt0_B m c t h]; unfold outsB; dsimp only
      rw [outB_8_eq m c t h, scratch m c (t.val - 1) ⟨t.val - 1, Nat.lt_of_le_of_lt (Nat.sub_le _ _) t.isLt⟩ rfl, add8])
    (le_of_eq N_0) t0_7 rfl j1
  refine key.trans (Eq.trans ?_ (ref41 (X m c) (W m c) (Pj m c) j1).symm)
  rw [zero_add]
  exact Fin.sum_mul_add_fin (L := 4096) 8 512 fun i => val_main_v19 (W m c) (Pj m c) (ix2 i j1) * (X m c (ix2 i j1) * rinv (X m c) i)

/-- The product of real arrays is real. -/
theorem real19 (w : Vec Ideal S1x1024x5888 .f32) (p : Vec Ideal S4096x5888 .f32)
    (hw : ∀ j, ∃ r : ℝ, w j = r) (hp : ∀ j, ∃ r : ℝ, p j = r) (j : S4096x1024.Idx) : ∃ r : ℝ, val_main_v19 w p j = r := by
  choose w' hw using hw
  choose p' hp using hp
  idx_vars j
  refine ⟨∑ k, p' (ix2 j0 k) * w' (ix3 0 j1 k), ?_⟩
  pointwise [val_main_v19, val_main_v17]
  simp only [hw, hp, ← EReal.coe_mul]
  exact Cert.Norm.coe_sum _ _

end Cert.InpIdeal.Own

end
-- ==== Proof.InpIdeal.Claims.lean ====
module

public import proofs.«01_k».proof.Defs
public import proofs.«01_k».proof.Proof.Gen.Inp
public import proofs.«01_k».proof.Proof.Gen.Pre_finite_inp
public import proofs.«01_k».proof.Proof.InpIdeal.Value
public import proofs.«01_k».proof.Proof.Gen.InpRefIdeal.Run

@[expose] public section

set_option maxRecDepth 16384

noncomputable section

namespace Cert.Proof.Inp

open Idealize.ShloMosaic Idealize.ShloMosaic.TcCoe Idealize.SL.Sem

/-- The kernel as printed and the kernel read over the extended reals are one text. -/
theorem main_eq : Cert.Inp.main (F := Bits) = Cert.InpIdeal.main (F := Bits) := by sl_kernel_rfl
theorem defs_eq : Cert.Inp.defs (F := Bits) = Cert.InpIdeal.defs (F := Bits) := by sl_kernel_rfl

/-- So the one run, stated at any floats, is the run of the kernel as printed too. -/
theorem frame_bits : Cert.quiescent_Inp := fun m ρ _ => by
  have h := Cert.InpIdeal.Own.frame (F := Bits) m ρ
  rw [← main_eq, ← defs_eq] at h
  exact h

theorem frame_ideal : Cert.quiescent_InpIdeal := fun m ρ _ => Cert.InpIdeal.Own.frame m ρ

theorem frame_ideal_pre : Cert.quiescent_InpIdeal_pre_finite_inp := fun m ρ _ => Cert.InpIdeal.Own.frame m ρ

/-- The reference has host operations alone: no operation writes an argument, and no semaphore is declared. -/
theorem frame_ref : Cert.quiescent_InpRefIdeal := fun m ρ _ =>
  (θ_run Cert.InpRefIdeal.defs _ _).mono (fun r h => ⟨fun c => (h c).2.2, sem_eq_zero_of_no_sems (by decide) r.2⟩)
    (Cert.InpRefIdeal.Value.run m ρ)

theorem frame_ref_pre : Cert.quiescent_InpRefIdeal_pre_finite_inp := fun m ρ _ => frame_ref m ρ trivial

/-- The precondition read at an element: every argument the gradient multiplies is a real. -/
theorem reals (m : (ℓ : Loc Cert.InpIdeal.nD Cert.InpIdeal.τ Cert.InpIdeal.sig) → Buf (Elt Ideal) ℓ)
    (h : Cert.Pre_InpIdeal_finite_inp m) (c : Dev Cert.InpIdeal.nD) :
    (∀ j, ∃ r : ℝ, Cert.InpIdeal.Own.X m c j = r) ∧ (∀ j, ∃ r : ℝ, Cert.InpIdeal.Own.Gm m c j = r)
    ∧ (∀ j, ∃ r : ℝ, Cert.InpIdeal.Own.W m c j = r) ∧ (∀ j, ∃ r : ℝ, Cert.InpIdeal.Own.Pj m c j = r) := by
  obtain ⟨h0, h1, h2, h4⟩ := h c
  exact ⟨fun j => Cert.Norm.real_of_lt (congrFun h0 j), fun j => Cert.Norm.real_of_lt (congrFun h1 j),
    fun j => Cert.Norm.real_of_lt (congrFun h2 j), fun j => Cert.Norm.real_of_lt (congrFun h4 j)⟩

theorem value : Cert.algebraic_InpIdeal_InpRefIdeal_pre_finite_inp := by
  pair_intro
  · run_from Cert.InpIdeal.Own.run_main m g & Cert.InpIdeal.Own.frame m g
  · run_from Cert.InpRefIdeal.Value.run m' g'
    · obtain ⟨hx, hg, hw, hp⟩ := reals m hpre c
      rw [Cert.InpIdeal.Own.final7 m c hx hg (Cert.InpIdeal.Own.real19 _ _ hw hp)]
      obtain ⟨e0, e1, e2, e3, e4⟩ := hagree c
      rw [Cert.InpRefIdeal.Read.val_main_v40_eq, e0, e1, e2, e3, e4]
    · rw [Cert.InpIdeal.Own.final8 m c]
      exact Cert.InpRefIdeal.Read.val_main_v41_eq _ _ _

end Cert.Proof.Inp

end
-- ==== Proof.MlpIdeal.RunA.lean ====
module

public import proofs.«01_k».proof.Proof.Gen.MlpIdeal.Frame.Runs

@[expose] public section

set_option maxRecDepth 16384

noncomputable section

namespace Cert.MlpIdeal.Own

open Cert.MlpIdeal Cert.MlpIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body on whole buffers at the first grid point, where the body copies the weights into its scratch and clears its accumulators: the pieces it stores into each buffer, with the triple saying so. -/
def runA (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : cond0_0 i) (hc1 : cond0_1 i)
    (x0 : Vec F S256x1024 .f32) (x1 : Vec F S1x1024 .f32) (x2 : Vec F S1x1024 .f32) (x3 : Vec F S256x1024 .f32) (fh0 : HbBuf0 (F := F) c hbM0_0) (fh1 : HbBuf0 (F := F) c hbM0_1) :
    Σ' (L4 : List (View.Piece (Elt F) S256x1024 .bf16)), Σ' (L5 : List (View.Piece (Elt F) S256x4096 .bf16)), Σ' (L6 : List (View.Piece (Elt F) S256x1024 .bf16)), Σ' (L7 : List (View.Piece (Elt F) S256x4096 .bf16)), Σ' (L8 : List (View.Piece (Elt F) S256x1024 .f32)), Σ' (L9 : List (View.Piece (Elt F) S1x128 .f32)), Σ' (L10 : List (View.Piece (Elt F) S1x1024 .f32)), Σ' (L11 : List (View.Piece (Elt F) S1x1024 .f32)), Σ' (LS0 : List (View.Piece (Elt F) S4096x1024 .bf16)), Σ' (LS1 : List (View.Piece (Elt F) S4096x1024 .bf16)), { LT2 : List (View.Piece (Elt F) S256x4096 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg17 fullShare d) ∗ (∃ d, owns (c : Thread nD τ) arg19 fullShare d) ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f LS0) ∗ (∃ f, arg17.view.loc (c : Thread nD τ) ↦[arg17.view.set]{fullShare} arg17.view.writes (Elt F) f LS1) ∗ (∃ f, arg19.view.loc (c : Thread nD τ) ↦[arg19.view.set]{fullShare} arg19.view.writes (Elt F) f LT2) ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mlp_loss_step i arg1 harg1 arg2 harg2 arg3 harg3 arg4 harg4 (Memref.whole main_v3) (Memref.isWhole_whole _) (Memref.whole main_v5) (Memref.isWhole_whole _) arg7 harg7 arg8 harg8 arg9 harg9 arg10 harg10 arg11 harg11 arg12 harg12 arg13 harg13 arg14 harg14 arg15 harg15 cc0_scratch1 arg17 harg17 cc0_scratch3 arg19 harg19) K } := by
  refine ⟨?_, ?_, ?_, ?_, ?_, ?_, ?_, ?_, ?_, ?_, ?_, fun W K => ?run⟩
  case run =>
    simp only [cc0_mlp_loss_step_eq_skeleton]; unfold cc0_mlp_loss_step_skel
    simp only [k0_part3_eq_skeleton, k0_part1_eq_skeleton, k0_part2_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, Hq0, Hq1, Hq2, Hq3, Hq4, Hq5, Hq6, Hq7, Hh0, Hh1, HW, Hk⟩
    obtain rfl := harg1.eq_unread hf0; obtain rfl := harg2.eq_unread hf1; obtain rfl := harg3.eq_unread hf2; obtain rfl := harg4.eq_unread hf3
    set_option sl_exec.dmaWindow true in
    set_option sl_exec.dmaWindowSet true in
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexists _; iexact HS0
    isplitl [HS1]; · iexists _; iexact HS1
    isplitl [HS2]; · iexists _; iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    iexists _; iexact HW

end Cert.MlpIdeal.Own

end
-- ==== Proof.MlpIdeal.RunB.lean ====
module

public import proofs.«01_k».proof.Proof.MlpIdeal.RunA

@[expose] public section

set_option maxRecDepth 16384

noncomputable section

namespace Cert.MlpIdeal.Own

open Cert.MlpIdeal Cert.MlpIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body on whole buffers at a later grid point, where the scratch and the accumulators hold what the point before left: the pieces it stores into each buffer, with the triple saying so. -/
def runB (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : ¬cond0_0 i) (hc1 : ¬cond0_1 i)
    (x0 : Vec F S256x1024 .f32) (x1 : Vec F S1x1024 .f32) (x2 : Vec F S1x1024 .f32) (x3 : Vec F S256x1024 .f32) (xo9 : Vec F S1x128 .f32) (xo10 : Vec F S1x1024 .f32) (xo11 : Vec F S1x1024 .f32) (xs0 : Vec F S4096x1024 .bf16) (xs1 : Vec F S4096x1024 .bf16) (fh0 : HbBuf0 (F := F) c hbM0_0) (fh1 : HbBuf0 (F := F) c hbM0_1) :
    Σ' (L4 : List (View.Piece (Elt F) S256x1024 .bf16)), Σ' (L5 : List (View.Piece (Elt F) S256x4096 .bf16)), Σ' (L6 : List (View.Piece (Elt F) S256x1024 .bf16)), Σ' (L7 : List (View.Piece (Elt F) S256x4096 .bf16)), Σ' (L8 : List (View.Piece (Elt F) S256x1024 .f32)), Σ' (L9 : List (View.Piece (Elt F) S1x128 .f32)), Σ' (L10 : List (View.Piece (Elt F) S1x1024 .f32)), Σ' (L11 : List (View.Piece (Elt F) S1x1024 .f32)), Σ' (LS0 : List (View.Piece (Elt F) S4096x1024 .bf16)), Σ' (LS1 : List (View.Piece (Elt F) S4096x1024 .bf16)), { LT2 : List (View.Piece (Elt F) S256x4096 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xo9 ∗ owns (c : Thread nD τ) arg13 fullShare xo10 ∗ owns (c : Thread nD τ) arg14 fullShare xo11 ∗ owns (c : Thread nD τ) arg15 fullShare xs0 ∗ owns (c : Thread nD τ) arg17 fullShare xs1 ∗ (∃ d, owns (c : Thread nD τ) arg19 fullShare d) ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ owns (c : Thread nD τ) arg15 fullShare xs0 ∗ owns (c : Thread nD τ) arg17 fullShare xs1 ∗ (∃ f, arg19.view.loc (c : Thread nD τ) ↦[arg19.view.set]{fullShare} arg19.view.writes (Elt F) f LT2) ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mlp_loss_step i arg1 harg1 arg2 harg2 arg3 harg3 arg4 harg4 (Memref.whole main_v3) (Memref.isWhole_whole _) (Memref.whole main_v5) (Memref.isWhole_whole _) arg7 harg7 arg8 harg8 arg9 harg9 arg10 harg10 arg11 harg11 arg12 harg12 arg13 harg13 arg14 harg14 arg15 harg15 cc0_scratch1 arg17 harg17 cc0_scratch3 arg19 harg19) K } := by
  refine ⟨?_, ?_, ?_, ?_, ?_, ?_, ?_, ?_, [], [], ?_, fun W K => ?run⟩
  case run =>
    simp only [cc0_mlp_loss_step_eq_skeleton]; unfold cc0_mlp_loss_step_skel
    simp only [k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%f9, %hf9, H9⟩, ⟨%f10, %hf10, H10⟩, ⟨%f11, %hf11, H11⟩, ⟨%fs0, %hfs0, HS0⟩, ⟨%fs1, %hfs1, HS1⟩, ⟨%ds2, %fs2, -, HS2⟩, Hq0, Hq1, Hq2, Hq3, Hq4, Hq5, Hq6, Hq7, Hh0, Hh1, HW, Hk⟩
    obtain rfl := harg1.eq_unread hf0; obtain rfl := harg2.eq_unread hf1; obtain rfl := harg3.eq_unread hf2; obtain rfl := harg4.eq_unread hf3; obtain rfl := harg12.eq_unread hf9; obtain rfl := harg13.eq_unread hf10; obtain rfl := harg14.eq_unread hf11; obtain rfl := harg15.eq_unread hfs0; obtain rfl := harg17.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]
    · iexists _; isplitr; · ipureintro; exact harg15.read_unread _
      iexact HS0
    isplitl [HS1]
    · iexists _; isplitr; · ipureintro; exact harg17.read_unread _
      iexact HS1
    isplitl [HS2]; · iexists _; iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    iexists _; iexact HW

end Cert.MlpIdeal.Own

end
-- ==== Proof.MlpIdeal.Frame.lean ====
module

public import proofs.«01_k».proof.Proof.MlpIdeal.RunB
public import Idealize.ShloMosaic.Lib.Claim

@[expose] public section

set_option maxRecDepth 16384

noncomputable section

namespace Cert.MlpIdeal.Own

open Cert.MlpIdeal Cert.MlpIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What one grid point leaves: the outputs' blocks, then the scratch carried to the next point. -/
abbrev Outs (F : FTy → Type) [FloatOps F] := Vec F S256x1024 .bf16 × Vec F S256x4096 .bf16 × Vec F S256x1024 .bf16 × Vec F S256x4096 .bf16 × Vec F S256x1024 .f32 × Vec F S1x128 .f32 × Vec F S1x1024 .f32 × Vec F S1x1024 .f32 × Vec F S4096x1024 .bf16 × Vec F S4096x1024 .bf16

/-- Case A's run at grid point `t`, on the blocks of that point. -/
def atA (c : Dev nD) (t : Fin cfg0.N) (h : t.val % 16 = 0) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h) ((hcond0_1 t).mpr h) (iblk m c 0 t) (iblk m c 1 t) (iblk m c 2 t) (iblk m c 3 t) (V m c main_v3) (V m c main_v5)

/-- Case B's run at grid point `t`, on the blocks of that point. -/
def atB (c : Dev nD) (t : Fin cfg0.N) (h : ¬t.val % 16 = 0) (p : Outs F) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun e => h ((hcond0_0 t).mp e)) (fun e => h ((hcond0_1 t).mp e)) (iblk m c 0 t) (iblk m c 1 t) (iblk m c 2 t) (iblk m c 3 t) p.2.2.2.2.2.1 p.2.2.2.2.2.2.1 p.2.2.2.2.2.2.2.1 p.2.2.2.2.2.2.2.2.1 p.2.2.2.2.2.2.2.2.2 (V m c main_v3) (V m c main_v5)

theorem coverA_4 (c : Dev nD) (t : Fin cfg0.N) (h : t.val % 16 = 0) (y : S256x1024.Idx) :
    ∃ pc ∈ (atA m c t h).1, y ∈ pc.1.set :=
  View.cover_of_tiledL (atA m c t h).1 S256x1024.size (by sl_kernel_rfl) y

def outA_4 (c : Dev nD) (t : Fin cfg0.N) (h : t.val % 16 = 0) : Vec F S256x1024 .bf16 :=
  VO0_4.read (Elt F) (VO0_4.writes (Elt F) VO0_4.junk (atA m c t h).1)

theorem coverA_5 (c : Dev nD) (t : Fin cfg0.N) (h : t.val % 16 = 0) (y : S256x4096.Idx) :
    ∃ pc ∈ (atA m c t h).2.1, y ∈ pc.1.set :=
  View.cover_of_tiledL (atA m c t h).2.1 S256x1024.size (by sl_kernel_rfl) y

def outA_5 (c : Dev nD) (t : Fin cfg0.N) (h : t.val % 16 = 0) : Vec F S256x4096 .bf16 :=
  VO0_5.read (Elt F) (VO0_5.writes (Elt F) VO0_5.junk (atA m c t h).2.1)

theorem coverA_6 (c : Dev nD) (t : Fin cfg0.N) (h : t.val % 16 = 0) (y : S256x1024.Idx) :
    ∃ pc ∈ (atA m c t h).2.2.1, y ∈ pc.1.set :=
  View.cover_of_tiledL (atA m c t h).2.2.1 S256x1024.size (by sl_kernel_rfl) y

def outA_6 (c : Dev nD) (t : Fin cfg0.N) (h : t.val % 16 = 0) : Vec F S256x1024 .bf16 :=
  VO0_6.read (Elt F) (VO0_6.writes (Elt F) VO0_6.junk (atA m c t h).2.2.1)

theorem coverA_7 (c : Dev nD) (t : Fin cfg0.N) (h : t.val % 16 = 0) (y : S256x4096.Idx) :
    ∃ pc ∈ (atA m c t h).2.2.2.1, y ∈ pc.1.set :=
  View.cover_of_tiledL (atA m c t h).2.2.2.1 S256x1024.size (by sl_kernel_rfl) y

def outA_7 (c : Dev nD) (t : Fin cfg0.N) (h : t.val % 16 = 0) : Vec F S256x4096 .bf16 :=
  VO0_7.read (Elt F) (VO0_7.writes (Elt F) VO0_7.junk (atA m c t h).2.2.2.1)

theorem coverA_8 (c : Dev nD) (t : Fin cfg0.N) (h : t.val % 16 = 0) (y : S256x1024.Idx) :
    ∃ pc ∈ (atA m c t h).2.2.2.2.1, y ∈ pc.1.set :=
  View.cover_of_tiledL (atA m c t h).2.2.2.2.1 S256x1024.size (by sl_kernel_rfl) y

def outA_8 (c : Dev nD) (t : Fin cfg0.N) (h : t.val % 16 = 0) : Vec F S256x1024 .f32 :=
  VO0_8.read (Elt F) (VO0_8.writes (Elt F) VO0_8.junk (atA m c t h).2.2.2.2.1)

theorem coverA_9 (c : Dev nD) (t : Fin cfg0.N) (h : t.val % 16 = 0) (y : S1x128.Idx) :
    ∃ pc ∈ (atA m c t h).2.2.2.2.2.1, y ∈ pc.1.set :=
  View.cover_of_tiledL (atA m c t h).2.2.2.2.2.1 S1x128.size (by sl_kernel_rfl) y

def outA_9 (c : Dev nD) (t : Fin cfg0.N) (h : t.val % 16 = 0) : Vec F S1x128 .f32 :=
  VO0_9.read (Elt F) (VO0_9.writes (Elt F) VO0_9.junk (atA m c t h).2.2.2.2.2.1)

theorem coverA_10 (c : Dev nD) (t : Fin cfg0.N) (h : t.val % 16 = 0) (y : S1x1024.Idx) :
    ∃ pc ∈ (atA m c t h).2.2.2.2.2.2.1, y ∈ pc.1.set :=
  View.cover_of_tiledL (atA m c t h).2.2.2.2.2.2.1 S1x1024.size (by sl_kernel_rfl) y

def outA_10 (c : Dev nD) (t : Fin cfg0.N) (h : t.val % 16 = 0) : Vec F S1x1024 .f32 :=
  VO0_10.read (Elt F) (VO0_10.writes (Elt F) VO0_10.junk (atA m c t h).2.2.2.2.2.2.1)

theorem coverA_11 (c : Dev nD) (t : Fin cfg0.N) (h : t.val % 16 = 0) (y : S1x1024.Idx) :
    ∃ pc ∈ (atA m c t h).2.2.2.2.2.2.2.1, y ∈ pc.1.set :=
  View.cover_of_tiledL (atA m c t h).2.2.2.2.2.2.2.1 S1x1024.size (by sl_kernel_rfl) y

def outA_11 (c : Dev nD) (t : Fin cfg0.N) (h : t.val % 16 = 0) : Vec F S1x1024 .f32 :=
  VO0_11.read (Elt F) (VO0_11.writes (Elt F) VO0_11.junk (atA m c t h).2.2.2.2.2.2.2.1)

theorem scoverA_0 (c : Dev nD) (t : Fin cfg0.N) (h : t.val % 16 = 0) (y : S4096x1024.Idx) :
    ∃ pc ∈ (atA m c t h).2.2.2.2.2.2.2.2.1, y ∈ pc.1.set :=
  View.cover_of_tiledL (atA m c t h).2.2.2.2.2.2.2.2.1 S1024x1024.size (by sl_kernel_rfl) y

def soutA_0 (c : Dev nD) (t : Fin cfg0.N) (h : t.val % 16 = 0) : Vec F S4096x1024 .bf16 :=
  VS0_0.read (Elt F) (VS0_0.writes (Elt F) VS0_0.junk (atA m c t h).2.2.2.2.2.2.2.2.1)

theorem scoverA_1 (c : Dev nD) (t : Fin cfg0.N) (h : t.val % 16 = 0) (y : S4096x1024.Idx) :
    ∃ pc ∈ (atA m c t h).2.2.2.2.2.2.2.2.2.1, y ∈ pc.1.set :=
  View.cover_of_tiledL (atA m c t h).2.2.2.2.2.2.2.2.2.1 S1024x1024.size (by sl_kernel_rfl) y

def soutA_1 (c : Dev nD) (t : Fin cfg0.N) (h : t.val % 16 = 0) : Vec F S4096x1024 .bf16 :=
  VS0_1.read (Elt F) (VS0_1.writes (Elt F) VS0_1.junk (atA m c t h).2.2.2.2.2.2.2.2.2.1)

theorem coverB_4 (c : Dev nD) (t : Fin cfg0.N) (h : ¬t.val % 16 = 0) (p : Outs F) (y : S256x1024.Idx) :
    ∃ pc ∈ (atB m c t h p).1, y ∈ pc.1.set :=
  View.cover_of_tiledL (atB m c t h p).1 S256x1024.size (by sl_kernel_rfl) y

def outB_4 (c : Dev nD) (t : Fin cfg0.N) (h : ¬t.val % 16 = 0) (p : Outs F) : Vec F S256x1024 .bf16 :=
  VO0_4.read (Elt F) (VO0_4.writes (Elt F) VO0_4.junk (atB m c t h p).1)

theorem coverB_5 (c : Dev nD) (t : Fin cfg0.N) (h : ¬t.val % 16 = 0) (p : Outs F) (y : S256x4096.Idx) :
    ∃ pc ∈ (atB m c t h p).2.1, y ∈ pc.1.set :=
  View.cover_of_tiledL (atB m c t h p).2.1 S256x1024.size (by sl_kernel_rfl) y

def outB_5 (c : Dev nD) (t : Fin cfg0.N) (h : ¬t.val % 16 = 0) (p : Outs F) : Vec F S256x4096 .bf16 :=
  VO0_5.read (Elt F) (VO0_5.writes (Elt F) VO0_5.junk (atB m c t h p).2.1)

theorem coverB_6 (c : Dev nD) (t : Fin cfg0.N) (h : ¬t.val % 16 = 0) (p : Outs F) (y : S256x1024.Idx) :
    ∃ pc ∈ (atB m c t h p).2.2.1, y ∈ pc.1.set :=
  View.cover_of_tiledL (atB m c t h p).2.2.1 S256x1024.size (by sl_kernel_rfl) y

def outB_6 (c : Dev nD) (t : Fin cfg0.N) (h : ¬t.val % 16 = 0) (p : Outs F) : Vec F S256x1024 .bf16 :=
  VO0_6.read (Elt F) (VO0_6.writes (Elt F) VO0_6.junk (atB m c t h p).2.2.1)

theorem coverB_7 (c : Dev nD) (t : Fin cfg0.N) (h : ¬t.val % 16 = 0) (p : Outs F) (y : S256x4096.Idx) :
    ∃ pc ∈ (atB m c t h p).2.2.2.1, y ∈ pc.1.set :=
  View.cover_of_tiledL (atB m c t h p).2.2.2.1 S256x1024.size (by sl_kernel_rfl) y

def outB_7 (c : Dev nD) (t : Fin cfg0.N) (h : ¬t.val % 16 = 0) (p : Outs F) : Vec F S256x4096 .bf16 :=
  VO0_7.read (Elt F) (VO0_7.writes (Elt F) VO0_7.junk (atB m c t h p).2.2.2.1)

theorem coverB_8 (c : Dev nD) (t : Fin cfg0.N) (h : ¬t.val % 16 = 0) (p : Outs F) (y : S256x1024.Idx) :
    ∃ pc ∈ (atB m c t h p).2.2.2.2.1, y ∈ pc.1.set :=
  View.cover_of_tiledL (atB m c t h p).2.2.2.2.1 S256x1024.size (by sl_kernel_rfl) y

def outB_8 (c : Dev nD) (t : Fin cfg0.N) (h : ¬t.val % 16 = 0) (p : Outs F) : Vec F S256x1024 .f32 :=
  VO0_8.read (Elt F) (VO0_8.writes (Elt F) VO0_8.junk (atB m c t h p).2.2.2.2.1)

theorem coverB_9 (c : Dev nD) (t : Fin cfg0.N) (h : ¬t.val % 16 = 0) (p : Outs F) (y : S1x128.Idx) :
    ∃ pc ∈ (atB m c t h p).2.2.2.2.2.1, y ∈ pc.1.set :=
  View.cover_of_tiledL (atB m c t h p).2.2.2.2.2.1 S1x128.size (by sl_kernel_rfl) y

def outB_9 (c : Dev nD) (t : Fin cfg0.N) (h : ¬t.val % 16 = 0) (p : Outs F) : Vec F S1x128 .f32 :=
  VO0_9.read (Elt F) (VO0_9.writes (Elt F) VO0_9.junk (atB m c t h p).2.2.2.2.2.1)

theorem coverB_10 (c : Dev nD) (t : Fin cfg0.N) (h : ¬t.val % 16 = 0) (p : Outs F) (y : S1x1024.Idx) :
    ∃ pc ∈ (atB m c t h p).2.2.2.2.2.2.1, y ∈ pc.1.set :=
  View.cover_of_tiledL (atB m c t h p).2.2.2.2.2.2.1 S1x1024.size (by sl_kernel_rfl) y

def outB_10 (c : Dev nD) (t : Fin cfg0.N) (h : ¬t.val % 16 = 0) (p : Outs F) : Vec F S1x1024 .f32 :=
  VO0_10.read (Elt F) (VO0_10.writes (Elt F) VO0_10.junk (atB m c t h p).2.2.2.2.2.2.1)

theorem coverB_11 (c : Dev nD) (t : Fin cfg0.N) (h : ¬t.val % 16 = 0) (p : Outs F) (y : S1x1024.Idx) :
    ∃ pc ∈ (atB m c t h p).2.2.2.2.2.2.2.1, y ∈ pc.1.set :=
  View.cover_of_tiledL (atB m c t h p).2.2.2.2.2.2.2.1 S1x1024.size (by sl_kernel_rfl) y

def outB_11 (c : Dev nD) (t : Fin cfg0.N) (h : ¬t.val % 16 = 0) (p : Outs F) : Vec F S1x1024 .f32 :=
  VO0_11.read (Elt F) (VO0_11.writes (Elt F) VO0_11.junk (atB m c t h p).2.2.2.2.2.2.2.1)

def outsA (c : Dev nD) (t : Fin cfg0.N) (h : t.val % 16 = 0) : Outs F :=
  (outA_4 m c t h, outA_5 m c t h, outA_6 m c t h, outA_7 m c t h, outA_8 m c t h, outA_9 m c t h, outA_10 m c t h, outA_11 m c t h, soutA_0 m c t h, soutA_1 m c t h)

def outsB (c : Dev nD) (t : Fin cfg0.N) (h : ¬t.val % 16 = 0) (p : Outs F) : Outs F :=
  (outB_4 m c t h p, outB_5 m c t h p, outB_6 m c t h p, outB_7 m c t h p, outB_8 m c t h p, outB_9 m c t h p, outB_10 m c t h p, outB_11 m c t h p, p.2.2.2.2.2.2.2.2.1, p.2.2.2.2.2.2.2.2.2)

/-- What is left after grid point `n`, by recursion on the points. -/
def outsAt0 (c : Dev nD) : (n : ℕ) → n < cfg0.N → Outs F
  | 0, hn => outsA m c ⟨0, hn⟩ (Nat.zero_mod _)
  | n + 1, hn =>
    if h : (n + 1) % 16 = 0 then outsA m c ⟨n + 1, hn⟩ h
    else outsB m c ⟨n + 1, hn⟩ h (outsAt0 c n (Nat.lt_of_succ_lt hn))

theorem outsAt0_A (c : Dev nD) (t : Fin cfg0.N) (h : t.val % 16 = 0) :
    outsAt0 m c t.val t.isLt = outsA m c t h := by
  obtain ⟨n, hn⟩ := t
  cases n with
  | zero => exact rfl
  | succ n => exact dif_pos h

theorem outsAt0_B (c : Dev nD) (t : Fin cfg0.N) (h : ¬t.val % 16 = 0) :
    outsAt0 m c t.val t.isLt
      = outsB m c t h (outsAt0 m c (t.val - 1) (Nat.lt_of_le_of_lt (Nat.sub_le _ _) t.isLt)) := by
  obtain ⟨n, hn⟩ := t
  cases n with
  | zero => exact absurd (Nat.zero_mod _) h
  | succ n => exact dif_neg h

/-- The invariant between the points: the carried scratch at what the last point left. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.2.2.2.2.1) ∗ owns (c : Thread nD τ) scM0_1 fullShare ((outsAt0 m c n hn).2.2.2.2.2.2.2.2.2) ∗ (∃ d, owns (c : Thread nD τ) scM0_2 fullShare d)) ∗ (∃ r, prngReg c r) ∗ iprop(semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) ∗ iprop(hbPt0 c hbM0_0 (V m c main_v3) ∗ hbPt0 c hbM0_1 (V m c main_v5)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.2.1) ∗ owns (c : Thread nD τ) scM0_1 fullShare ((outsAt0 m c n hn).2.2.2.2.2.2.2.2.2) ∗ (∃ d, owns (c : Thread nD τ) scM0_2 fullShare d)) ∗ (∃ r, prngReg c r) ∗ iprop(semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) ∗ iprop(hbPt0 c hbM0_0 (V m c main_v3) ∗ hbPt0 c hbM0_1 (V m c main_v5))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.1) ∗ owns (c : Thread nD τ) scM0_1 fullShare ((outsAt0 m c (n - 1) (by omega)).2.2.2.2.2.2.2.2.2) ∗ (∃ d, owns (c : Thread nD τ) scM0_2 fullShare d)) ∗ (∃ r, prngReg c r) ∗ iprop(semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) ∗ iprop(hbPt0 c hbM0_0 (V m c main_v3) ∗ hbPt0 c hbM0_1 (V m c main_v5))) := by
  cases n with
  | zero => exact absurd rfl hz
  | succ n => rfl

/-- The pipeline's proof data: input blocks unchanged, outputs and carried scratch as `outsAt0` says. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
    | ⟨7, _⟩ => (outsAt0 m c t.val t.isLt).2.2.2.1
    | ⟨8, _⟩ => (outsAt0 m c t.val t.isLt).2.2.2.2.1
    | ⟨9, _⟩ => (outsAt0 m c t.val t.isLt).2.2.2.2.2.1
    | ⟨10, _⟩ => (outsAt0 m c t.val t.isLt).2.2.2.2.2.2.1
    | ⟨11, _⟩ => (outsAt0 m c t.val t.isLt).2.2.2.2.2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]
theorem after0_7 (c : Dev nD) (t : Fin cfg0.N) : (dats m 0 c).after 7 t = (outsAt0 m c t.val t.isLt).2.2.2.1 := by dsimp only [dats]
theorem after0_8 (c : Dev nD) (t : Fin cfg0.N) : (dats m 0 c).after 8 t = (outsAt0 m c t.val t.isLt).2.2.2.2.1 := by dsimp only [dats]
theorem after0_9 (c : Dev nD) (t : Fin cfg0.N) : (dats m 0 c).after 9 t = (outsAt0 m c t.val t.isLt).2.2.2.2.2.1 := by dsimp only [dats]
theorem after0_10 (c : Dev nD) (t : Fin cfg0.N) : (dats m 0 c).after 10 t = (outsAt0 m c t.val t.isLt).2.2.2.2.2.2.1 := by dsimp only [dats]
theorem after0_11 (c : Dev nD) (t : Fin cfg0.N) : (dats m 0 c).after 11 t = (outsAt0 m c t.val t.isLt).2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_9_B (c : Dev nD) (t : Fin cfg0.N) (h0 : ¬t.val % 16 = 0) (d) :
    (dats m 0 c).before 9 t d = (outsAt0 m c (t.val - 1) (Nat.lt_of_le_of_lt (Nat.sub_le _ _) t.isLt)).2.2.2.2.2.1 := by
  have hN : t.val < 16 := lt_of_lt_of_eq t.isLt (show cfg0.N = 16 from N_0)
  rw [Dat.before_out_kept _ 9 rfl t (by omega) (Bool.eq_false_iff.mpr fun h => by have := (flush0_9 _).mp h; dsimp only at this; omega)
    (fun _ => rfl) (fun _ _ => rfl)]
  dsimp only [dats]
theorem before0_10_B (c : Dev nD) (t : Fin cfg0.N) (h0 : ¬t.val % 16 = 0) (d) :
    (dats m 0 c).before 10 t d = (outsAt0 m c (t.val - 1) (Nat.lt_of_le_of_lt (Nat.sub_le _ _) t.isLt)).2.2.2.2.2.2.1 := by
  have hN : t.val < 16 := lt_of_lt_of_eq t.isLt (show cfg0.N = 16 from N_0)
  rw [Dat.before_out_kept _ 10 rfl t (by omega) (Bool.eq_false_iff.mpr fun h => by have := (flush0_10 _).mp h; dsimp only at this; omega)
    (fun _ => rfl) (fun _ _ => rfl)]
  dsimp only [dats]
theorem before0_11_B (c : Dev nD) (t : Fin cfg0.N) (h0 : ¬t.val % 16 = 0) (d) :
    (dats m 0 c).before 11 t d = (outsAt0 m c (t.val - 1) (Nat.lt_of_le_of_lt (Nat.sub_le _ _) t.isLt)).2.2.2.2.2.2.2.1 := by
  have hN : t.val < 16 := lt_of_lt_of_eq t.isLt (show cfg0.N = 16 from N_0)
  rw [Dat.before_out_kept _ 11 rfl t (by omega) (Bool.eq_false_iff.mpr fun h => by have := (flush0_11 _).mp h; dsimp only at this; omega)
    (fun _ => rfl) (fun _ _ => rfl)]
  dsimp only [dats]

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- What the body gives back at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 9600000 in
/-- The body's triple at every point, by the two cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ,
    after0_0, after0_1, after0_2, after0_3, after0_4, after0_5, after0_6, after0_7, after0_8, after0_9, after0_10, after0_11]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · have hz : t.val = 0 := by omega
    rw [PhiS_castSucc m c t, PhiS_zero m c _ _ hz, PhiD0_eq]
    rw [outsAt0_A m c t h0]
    unfold outsA outA_4 outA_5 outA_6 outA_7 outA_8 outA_9 outA_10 outA_11 soutA_0 soutA_1; (try dsimp only)
    iintro ⟨⟨⟨HS0, HS1, HS2⟩, Hg, ⟨Hq0, Hq1, Hq2, Hq3, Hq4, Hq5, Hq6, Hq7⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((atA m c t h0).2.2.2.2.2.2.2.2.2.2.2 W _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    isplitl [HW]; · iexact HW
    iintro ⟨H0, H1, H2, H3, ⟨%e4, H4⟩, ⟨%e5, H5⟩, ⟨%e6, H6⟩, ⟨%e7, H7⟩, ⟨%e8, H8⟩, ⟨%e9, H9⟩, ⟨%e10, H10⟩, ⟨%e11, H11⟩, ⟨%es0, HS0⟩, ⟨%es1, HS1⟩, ⟨%fT2, HS2⟩, Hq0, Hq1, Hq2, Hq3, Hq4, Hq5, Hq6, Hq7, Hh0, Hh1, ⟨%W', HW'⟩⟩
    isplitl [HS0 HS1 HS2 Hg Hq0 Hq1 Hq2 Hq3 Hq4 Hq5 Hq6 Hq7 Hh0 Hh1]
    · isplitl [HS0 HS1 HS2]
      · isplitl [HS0]
        · unfold owns; iexists _; isplitr
          swap; · iexact HS0
          ipureintro; exact View.read_writes_of_cover _ _ _ _ _ (scoverA_0 m c t h0)
        isplitl [HS1]
        · unfold owns; iexists _; isplitr
          swap; · iexact HS1
          ipureintro; exact View.read_writes_of_cover _ _ _ _ _ (scoverA_1 m c t h0)
        iexists _; unfold owns; iexists _; isplitr
        swap; · iexact HS2
        ipureintro; rfl
      isplitl [Hg]
      · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA_4 m c t h0)
    isplitl [H5]
    · unfold owns; iexists _; isplitr
      swap; · iexact H5
      ipureintro; exact View.read_writes_of_cover _ _ _ _ _ (coverA_5 m c t h0)
    isplitl [H6]
    · unfold owns; iexists _; isplitr
      swap; · iexact H6
      ipureintro; exact View.read_writes_of_cover _ _ _ _ _ (coverA_6 m c t h0)
    isplitl [H7]
    · unfold owns; iexists _; isplitr
      swap; · iexact H7
      ipureintro; exact View.read_writes_of_cover _ _ _ _ _ (coverA_7 m c t h0)
    isplitl [H8]
    · unfold owns; iexists _; isplitr
      swap; · iexact H8
      ipureintro; exact View.read_writes_of_cover _ _ _ _ _ (coverA_8 m c t h0)
    isplitl [H9]
    · unfold owns; iexists _; isplitr
      swap; · iexact H9
      ipureintro; exact View.read_writes_of_cover _ _ _ _ _ (coverA_9 m c t h0)
    isplitl [H10]
    · unfold owns; iexists _; isplitr
      swap; · iexact H10
      ipureintro; exact View.read_writes_of_cover _ _ _ _ _ (coverA_10 m c t h0)
    unfold owns; iexists _; isplitr
    swap; · iexact H11
    ipureintro; exact View.read_writes_of_cover _ _ _ _ _ (coverA_11 m c t h0)
  · have hz : t.val ≠ 0 := fun e => h0 (by rw [e])
    rw [PhiS_castSucc m c t, PhiS_pos m c _ _ hz]
    rw [outsAt0_B m c t h0]
    simp only [before0_9_B m c t h0, before0_10_B m c t h0, before0_11_B m c t h0]
    unfold outsB outB_4 outB_5 outB_6 outB_7 outB_8 outB_9 outB_10 outB_11; (try dsimp only)
    iintro ⟨⟨⟨HS0, HS1, HS2⟩, Hg, ⟨Hq0, Hq1, Hq2, Hq3, Hq4, Hq5, Hq6, Hq7⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((atB m c t h0 _).2.2.2.2.2.2.2.2.2.2.2 W _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexact H9
    isplitl [H10]; · iexact H10
    isplitl [H11]; · iexact H11
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    isplitl [HW]; · iexact HW
    iintro ⟨H0, H1, H2, H3, ⟨%e4, H4⟩, ⟨%e5, H5⟩, ⟨%e6, H6⟩, ⟨%e7, H7⟩, ⟨%e8, H8⟩, ⟨%e9, H9⟩, ⟨%e10, H10⟩, ⟨%e11, H11⟩, HS0, HS1, ⟨%fT2, HS2⟩, Hq0, Hq1, Hq2, Hq3, Hq4, Hq5, Hq6, Hq7, Hh0, Hh1, ⟨%W', HW'⟩⟩
    isplitl [HS0 HS1 HS2 Hg Hq0 Hq1 Hq2 Hq3 Hq4 Hq5 Hq6 Hq7 Hh0 Hh1]
    · isplitl [HS0 HS1 HS2]
      · isplitl [HS0]; · iexact HS0
        isplitl [HS1]; · iexact HS1
        iexists _; unfold owns; iexists _; isplitr
        swap; · iexact HS2
        ipureintro; rfl
      isplitl [Hg]
      · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverB_4 m c t h0 _)
    isplitl [H5]
    · unfold owns; iexists _; isplitr
      swap; · iexact H5
      ipureintro; exact View.read_writes_of_cover _ _ _ _ _ (coverB_5 m c t h0 _)
    isplitl [H6]
    · unfold owns; iexists _; isplitr
      swap; · iexact H6
      ipureintro; exact View.read_writes_of_cover _ _ _ _ _ (coverB_6 m c t h0 _)
    isplitl [H7]
    · unfold owns; iexists _; isplitr
      swap; · iexact H7
      ipureintro; exact View.read_writes_of_cover _ _ _ _ _ (coverB_7 m c t h0 _)
    isplitl [H8]
    · unfold owns; iexists _; isplitr
      swap; · iexact H8
      ipureintro; exact View.read_writes_of_cover _ _ _ _ _ (coverB_8 m c t h0 _)
    isplitl [H9]
    · unfold owns; iexists _; isplitr
      swap; · iexact H9
      ipureintro; exact View.read_writes_of_cover _ _ _ _ _ (coverB_9 m c t h0 _)
    isplitl [H10]
    · unfold owns; iexists _; isplitr
      swap; · iexact H10
      ipureintro; exact View.read_writes_of_cover _ _ _ _ _ (coverB_10 m c t h0 _)
    unfold owns; iexists _; isplitr
    swap; · iexact H11
    ipureintro; exact View.read_writes_of_cover _ _ _ _ _ (coverB_11 m c t h0 _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2⟩, Hg, ⟨Hq0, Hq1, Hq2, Hq3, Hq4, Hq5, Hq6, Hq7⟩, ⟨Hh0, Hh1⟩⟩
  isplitl [HS0 HS1 HS2]
  · isplitl [HS0]
    · iexists _; iexact HS0
    isplitl [HS1]
    · iexists _; iexact HS1
    iexact HS2
  isplitl [Hg]; · iexact Hg
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  isplitl [Hh0]; · iexact Hh0
  iexact Hh1

theorem hout (c : Dev nD) : (dats m 0 c).Φ (Fin.last cfg0.N) ⊢ Pipeline.ΦD osem0 spec0 H0 (V m) c :=
  Phi_out m c _ (by rw [Fin.val_last]; have : cfg0.N = 16 := N_0; omega)

set_option backward.isDefEq.respectTransparency.types false in
/-- The launch: the arrays after the run, and every semaphore back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame statement: the run ends, the arguments are unchanged, the semaphores are at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.MlpIdeal.Own

end
-- ==== Proof.MlpIdeal.Outs.lean ====
module

public import proofs.«01_k».proof.Proof.MlpIdeal.Frame
public import Idealize.ShloMosaic.Lib.Pipeline.ValueKit
public import Idealize.ShloMosaic.Lib.Pipeline.ReadBack

@[expose] public section

set_option maxRecDepth 16384

noncomputable section

namespace Cert.MlpIdeal.Own

open Cert.MlpIdeal Cert.MlpIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The two weights as the region finds them. -/
def w1T (c : Dev nD) : Vec F S4096x1024 .bf16 := V m c main_v3
def w2T (c : Dev nD) : Vec F S4096x1024 .bf16 := V m c main_v5

/-- The four row ranges of a weight. -/
def ch0 (W : Vec F S4096x1024 .bf16) : Vec F S1024x1024 .bf16 :=
  View.ld W (Rect.unit (s := S4096x1024) ![0, 0] S1024x1024.size inb_S4096x1024_S1024x1024_0_0)
def ch1 (W : Vec F S4096x1024 .bf16) : Vec F S1024x1024 .bf16 :=
  View.ld W (Rect.unit (s := S4096x1024) ![1024, 0] S1024x1024.size inb_S4096x1024_S1024x1024_1024_0)
def ch2 (W : Vec F S4096x1024 .bf16) : Vec F S1024x1024 .bf16 :=
  View.ld W (Rect.unit (s := S4096x1024) ![2048, 0] S1024x1024.size inb_S4096x1024_S1024x1024_2048_0)
def ch3 (W : Vec F S4096x1024 .bf16) : Vec F S1024x1024 .bf16 :=
  View.ld W (Rect.unit (s := S4096x1024) ![3072, 0] S1024x1024.size inb_S4096x1024_S1024x1024_3072_0)

/-! One point's values, from its blocks and the two weights. -/

section point
variable (x : Vec F S256x1024 .f32) (g g3 : Vec F S1x1024 .f32) (tg : Vec F S256x1024 .f32) (W1 W2 : Vec F S4096x1024 .bf16)

def xn : FVec F S256x1024 .bf16 := k0_pay5 x g
/-- The first three quarters of the MLP's output, on the residual. -/
def hp : FVec F S256x1024 .f32 :=
  k0_pay15 x (xn x g) (k0_pay8 x g (ch0 W1)) (ch0 W2) (ch1 W1) (ch1 W2) (ch2 W1) (ch2 W2)
def rs : FVec F S256x1 .f32 := k0_pay20 (xn x g) (hp x g W1 W2) (ch3 W1) (ch3 W2)
def hn : FVec F S256x1024 .f32 := k0_pay21 (xn x g) (hp x g W1 W2) (ch3 W1) (ch3 W2)
def er : FVec F S256x1024 .f32 := k0_pay22 (xn x g) (hp x g W1 W2) (ch3 W1) (ch3 W2) g3 tg
def dh : FVec F S256x1024 .f32 := k0_pay28 (rs x g W1 W2) (hn x g W1 W2) (er x g g3 tg W1 W2) g3
def db : FVec F S256x1024 .bf16 := k0_pay29 (rs x g W1 W2) (hn x g W1 W2) (er x g g3 tg W1 W2) g3
/-- The kept positive parts. -/
def kept : List (View.Piece (Elt F) S256x4096 .bf16) :=
  [⟨Rect.unit (s := S256x4096) ![0, 3072] S256x1024.size inb_S256x4096_S256x1024_0_3072, k0_pay17 (xn x g) (ch3 W1)⟩,
    ⟨Rect.unit (s := S256x4096) ![0, 2048] S256x1024.size inb_S256x4096_S256x1024_0_2048, k0_pay13 (xn x g) (ch2 W1)⟩,
    ⟨Rect.unit (s := S256x4096) ![0, 1024] S256x1024.size inb_S256x4096_S256x1024_0_1024, k0_pay10 (xn x g) (ch1 W1)⟩,
    ⟨Rect.unit (s := S256x4096) ![0, 0] S256x1024.size inb_S256x4096_S256x1024_0_0, k0_pay7 x g (ch0 W1)⟩]
def re0 : FVec F S256x1024 .bf16 :=
  View.readCov (Val := Elt F) (View.whole cc0_scratch4) (kept x g W1)
    (Rect.unit (s := S256x4096) ![0, 0] S256x1024.size inb_S256x4096_S256x1024_0_0).toLoadRect
def re1 : FVec F S256x1024 .bf16 :=
  View.readCov (Val := Elt F) (View.whole cc0_scratch4) (kept x g W1)
    (Rect.unit (s := S256x4096) ![0, 1024] S256x1024.size inb_S256x4096_S256x1024_0_1024).toLoadRect
def re2 : FVec F S256x1024 .bf16 :=
  View.readCov (Val := Elt F) (View.whole cc0_scratch4) (kept x g W1)
    (Rect.unit (s := S256x4096) ![0, 2048] S256x1024.size inb_S256x4096_S256x1024_0_2048).toLoadRect
def re3 : FVec F S256x1024 .bf16 :=
  View.readCov (Val := Elt F) (View.whole cc0_scratch4) (kept x g W1)
    (Rect.unit (s := S256x4096) ![0, 3072] S256x1024.size inb_S256x4096_S256x1024_0_3072).toLoadRect
def p31 : FVec F S256x1024 .f32 := k0_pay31 (rs x g W1 W2) (hn x g W1 W2) (er x g g3 tg W1 W2) g3 (ch0 W2)
def du0 : FVec F S256x1024 .bf16 := k0_pay34 (p31 x g g3 tg W1 W2) (k0_pay32 (re0 x g W1)) k0_pay33
def du1 : FVec F S256x1024 .bf16 := k0_pay35 (db x g g3 tg W1 W2) (ch1 W2) (re1 x g W1)
def du2 : FVec F S256x1024 .bf16 := k0_pay37 (db x g g3 tg W1 W2) (ch2 W2) (re2 x g W1)
def du3 : FVec F S256x1024 .bf16 := k0_pay39 (db x g g3 tg W1 W2) (ch3 W2) (re3 x g W1)
def d01 : FVec F S256x1024 .f32 :=
  k0_pay36 (db x g g3 tg W1 W2) k0_pay30 (p31 x g g3 tg W1 W2) (k0_pay32 (re0 x g W1)) k0_pay33 (ch0 W1) (ch1 W2) (re1 x g W1) (ch1 W1)
def d2 : FVec F S256x1024 .f32 := k0_pay38 (db x g g3 tg W1 W2) (ch2 W2) (re2 x g W1) (ch2 W1)
def o8 : FVec F S256x1024 .f32 :=
  k0_pay44 x (dh x g g3 tg W1 W2) (db x g g3 tg W1 W2) (d01 x g g3 tg W1 W2) (d2 x g g3 tg W1 W2) (ch3 W2) (re3 x g W1) (ch3 W1) g
def o9 (acc : Vec F S1x128 .f32) : FVec F S1x128 .f32 :=
  k0_pay25 (k0_pay23 acc) (k0_pay24 (xn x g) (hp x g W1 W2) (ch3 W1) (ch3 W2) g3 tg)
def o10 (acc : Vec F S1x1024 .f32) : FVec F S1x1024 .f32 := k0_pay27 (hn x g W1 W2) (er x g g3 tg W1 W2) acc
def o11 (acc : Vec F S1x1024 .f32) : FVec F S1x1024 .f32 :=
  k0_pay1 (k0_pay43 x (db x g g3 tg W1 W2) (d01 x g g3 tg W1 W2) (d2 x g g3 tg W1 W2) (ch3 W2) (re3 x g W1) (ch3 W1)) acc
/-- Four column ranges side by side. -/
def cols (v0 v1 v2 v3 : FVec F S256x1024 .bf16) : Vec F S256x4096 .bf16 :=
  View.canon [⟨Rect.unit (s := S256x4096) ![0, 3072] S256x1024.size inb_S256x4096_S256x1024_0_3072, v3⟩,
    ⟨Rect.unit (s := S256x4096) ![0, 2048] S256x1024.size inb_S256x4096_S256x1024_0_2048, v2⟩,
    ⟨Rect.unit (s := S256x4096) ![0, 1024] S256x1024.size inb_S256x4096_S256x1024_0_1024, v1⟩,
    ⟨Rect.unit (s := S256x4096) ![0, 0] S256x1024.size inb_S256x4096_S256x1024_0_0, v0⟩]
def o5 : Vec F S256x4096 .bf16 :=
  cols (k0_pay8 x g (ch0 W1)) (k0_pay11 (xn x g) (ch1 W1)) (k0_pay14 (xn x g) (ch2 W1)) (k0_pay18 (xn x g) (ch3 W1))
def o7 : Vec F S256x4096 .bf16 :=
  cols (du0 x g g3 tg W1 W2) (du1 x g g3 tg W1 W2) (du2 x g g3 tg W1 W2) (du3 x g g3 tg W1 W2)
end point

/-! Reading back one of the four column ranges. -/

theorem re0_eq (x : Vec F S256x1024 .f32) (g : Vec F S1x1024 .f32) (W1 : Vec F S4096x1024 .bf16) :
    re0 x g W1 = k0_pay7 x g (ch0 W1) := by
  unfold re0 kept
  rw [View.readCov_skip _ _ _ _ _ (by decide +kernel), View.readCov_skip _ _ _ _ _ (by decide +kernel), View.readCov_skip _ _ _ _ _ (by decide +kernel)]
  exact View.readCov_cons_toLoadRect _ _ _ _

theorem re1_eq (x : Vec F S256x1024 .f32) (g : Vec F S1x1024 .f32) (W1 : Vec F S4096x1024 .bf16) :
    re1 x g W1 = k0_pay10 (xn x g) (ch1 W1) := by
  unfold re1 kept
  rw [View.readCov_skip _ _ _ _ _ (by decide +kernel), View.readCov_skip _ _ _ _ _ (by decide +kernel)]
  exact View.readCov_cons_toLoadRect _ _ _ _

theorem re2_eq (x : Vec F S256x1024 .f32) (g : Vec F S1x1024 .f32) (W1 : Vec F S4096x1024 .bf16) :
    re2 x g W1 = k0_pay13 (xn x g) (ch2 W1) := by
  unfold re2 kept
  rw [View.readCov_skip _ _ _ _ _ (by decide +kernel)]
  exact View.readCov_cons_toLoadRect _ _ _ _

theorem re3_eq (x : Vec F S256x1024 .f32) (g : Vec F S1x1024 .f32) (W1 : Vec F S4096x1024 .bf16) :
    re3 x g W1 = k0_pay17 (xn x g) (ch3 W1) := by
  unfold re3 kept
  skip
  exact View.readCov_cons_toLoadRect _ _ _ _

/-- The first point's copies leave the weights in the scratch. -/
theorem scratch_A0 (c : Dev nD) (t : Fin cfg0.N) (h : t.val % 16 = 0) : soutA_0 m c t h = w1T m c := by
  funext y
  have hc := scoverA_0 m c t h y
  unfold soutA_0
  rw [View.read_writes_junk_eq_canon]
  refine View.canon_apply_of_pieces (w1T m c) _ ?_ y hc
  unfold atA
  frame_open
  intro p hp x
  simp only [List.mem_cons, List.not_mem_nil, or_false] at hp
  rcases hp with rfl | rfl | rfl | rfl <;> rfl

theorem scratch0 (c : Dev nD) (k : ℕ) : ∀ t : Fin cfg0.N, t.val = k →
    (outsAt0 m c t.val t.isLt).2.2.2.2.2.2.2.2.1 = w1T m c := by
  induction k using Nat.strong_induction_on with
  | _ k ih =>
    intro t hk
    by_cases h : t.val % 16 = 0
    · rw [outsAt0_A m c t h]
      unfold outsA
      dsimp only
      exact scratch_A0 m c t h
    · have hlt : t.val - 1 < k := by omega
      rw [outsAt0_B m c t h]
      unfold outsB
      dsimp only
      exact ih (t.val - 1) hlt ⟨t.val - 1, Nat.lt_of_le_of_lt (Nat.sub_le _ _) t.isLt⟩ rfl

/-- Reading back what the scratch was left with. -/
theorem scratch_read0 (X : Vec F S4096x1024 .bf16) :
    View.read (Elt F) (View.whole cc0_scratch0) ((Memref.isWhole_whole cc0_scratch0).unread X) = X :=
  Memref.IsWhole.read_unread _ _

/-- The first point's copies leave the weights in the scratch. -/
theorem scratch_A1 (c : Dev nD) (t : Fin cfg0.N) (h : t.val % 16 = 0) : soutA_1 m c t h = w2T m c := by
  funext y
  have hc := scoverA_1 m c t h y
  unfold soutA_1
  rw [View.read_writes_junk_eq_canon]
  refine View.canon_apply_of_pieces (w2T m c) _ ?_ y hc
  unfold atA
  frame_open
  intro p hp x
  simp only [List.mem_cons, List.not_mem_nil, or_false] at hp
  rcases hp with rfl | rfl | rfl | rfl <;> rfl

theorem scratch1 (c : Dev nD) (k : ℕ) : ∀ t : Fin cfg0.N, t.val = k →
    (outsAt0 m c t.val t.isLt).2.2.2.2.2.2.2.2.2 = w2T m c := by
  induction k using Nat.strong_induction_on with
  | _ k ih =>
    intro t hk
    by_cases h : t.val % 16 = 0
    · rw [outsAt0_A m c t h]
      unfold outsA
      dsimp only
      exact scratch_A1 m c t h
    · have hlt : t.val - 1 < k := by omega
      rw [outsAt0_B m c t h]
      unfold outsB
      dsimp only
      exact ih (t.val - 1) hlt ⟨t.val - 1, Nat.lt_of_le_of_lt (Nat.sub_le _ _) t.isLt⟩ rfl

/-- Reading back what the scratch was left with. -/
theorem scratch_read1 (X : Vec F S4096x1024 .bf16) :
    View.read (Elt F) (View.whole cc0_scratch2) ((Memref.isWhole_whole cc0_scratch2).unread X) = X :=
  Memref.IsWhole.read_unread _ _

theorem outA_4_eq (c : Dev nD) (t : Fin cfg0.N) (h : t.val % 16 = 0) :
    outA_4 m c t h = xn (iblk m c 0 t) (iblk m c 1 t) := by
  unfold outA_4 xn atA
  frame_out

theorem outB_4_eq (c : Dev nD) (t : Fin cfg0.N) (h : ¬t.val % 16 = 0) (p : Outs F) :
    outB_4 m c t h p = xn (iblk m c 0 t) (iblk m c 1 t) := by
  unfold outB_4 xn atB
  frame_out

theorem outA_5_eq (c : Dev nD) (t : Fin cfg0.N) (h : t.val % 16 = 0) :
    outA_5 m c t h = o5 (iblk m c 0 t) (iblk m c 1 t) (w1T m c) := by
  have hc0 := scoverA_0 m c t h
  have hs0 := scratch_A0 m c t h
  have hc1 := scoverA_1 m c t h
  have hs1 := scratch_A1 m c t h
  unfold soutA_0 at hs0
  unfold soutA_1 at hs1
  rw [View.read_writes_junk_eq_canon] at hs0 hs1
  unfold outA_5 o5 cols xn ch0 ch1 ch2 ch3
  unfold atA at hc0 hs0 hc1 hs1 ⊢
  frame_out
  frame_open at hc0 hs0 hc1 hs1
  rw [← hs0]
  simp only [View.readCov_eq_canon_ld _ _ _ hc0, View.readCov_eq_canon_ld _ _ _ hc1]

theorem outB_5_eq (c : Dev nD) (t : Fin cfg0.N) (h : ¬t.val % 16 = 0) (p : Outs F) :
    outB_5 m c t h p = o5 (iblk m c 0 t) (iblk m c 1 t) p.2.2.2.2.2.2.2.2.1 := by
  unfold outB_5 o5 cols xn ch0 ch1 ch2 ch3 atB
  frame_out
  simp only [scratch_read0]

theorem outA_6_eq (c : Dev nD) (t : Fin cfg0.N) (h : t.val % 16 = 0) :
    outA_6 m c t h = db (iblk m c 0 t) (iblk m c 1 t) (iblk m c 2 t) (iblk m c 3 t) (w1T m c) (w2T m c) := by
  have hc0 := scoverA_0 m c t h
  have hs0 := scratch_A0 m c t h
  have hc1 := scoverA_1 m c t h
  have hs1 := scratch_A1 m c t h
  unfold soutA_0 at hs0
  unfold soutA_1 at hs1
  rw [View.read_writes_junk_eq_canon] at hs0 hs1
  unfold outA_6 db er hn rs hp xn ch0 ch1 ch2 ch3
  unfold atA at hc0 hs0 hc1 hs1 ⊢
  frame_out
  frame_open at hc0 hs0 hc1 hs1
  rw [← hs0, ← hs1]
  simp only [View.readCov_eq_canon_ld _ _ _ hc0, View.readCov_eq_canon_ld _ _ _ hc1]

theorem outB_6_eq (c : Dev nD) (t : Fin cfg0.N) (h : ¬t.val % 16 = 0) (p : Outs F) :
    outB_6 m c t h p = db (iblk m c 0 t) (iblk m c 1 t) (iblk m c 2 t) (iblk m c 3 t) p.2.2.2.2.2.2.2.2.1 p.2.2.2.2.2.2.2.2.2 := by
  unfold outB_6 db er hn rs hp xn ch0 ch1 ch2 ch3 atB
  frame_out
  simp only [scratch_read0, scratch_read1]

theorem outA_7_eq (c : Dev nD) (t : Fin cfg0.N) (h : t.val % 16 = 0) :
    outA_7 m c t h = o7 (iblk m c 0 t) (iblk m c 1 t) (iblk m c 2 t) (iblk m c 3 t) (w1T m c) (w2T m c) := by
  have hc0 := scoverA_0 m c t h
  have hs0 := scratch_A0 m c t h
  have hc1 := scoverA_1 m c t h
  have hs1 := scratch_A1 m c t h
  unfold soutA_0 at hs0
  unfold soutA_1 at hs1
  rw [View.read_writes_junk_eq_canon] at hs0 hs1
  unfold outA_7 o7 cols du3 du2 du1 du0 p31 re3 re2 re1 re0 kept db er hn rs hp xn ch0 ch1 ch2 ch3
  unfold atA at hc0 hs0 hc1 hs1 ⊢
  frame_out
  frame_open at hc0 hs0 hc1 hs1
  rw [← hs0, ← hs1]
  simp only [View.readCov_eq_canon_ld _ _ _ hc0, View.readCov_eq_canon_ld _ _ _ hc1]

theorem outB_7_eq (c : Dev nD) (t : Fin cfg0.N) (h : ¬t.val % 16 = 0) (p : Outs F) :
    outB_7 m c t h p = o7 (iblk m c 0 t) (iblk m c 1 t) (iblk m c 2 t) (iblk m c 3 t) p.2.2.2.2.2.2.2.2.1 p.2.2.2.2.2.2.2.2.2 := by
  unfold outB_7 o7 cols du3 du2 du1 du0 p31 re3 re2 re1 re0 kept db er hn rs hp xn ch0 ch1 ch2 ch3 atB
  frame_out
  simp only [scratch_read0, scratch_read1]

theorem outA_8_eq (c : Dev nD) (t : Fin cfg0.N) (h : t.val % 16 = 0) :
    outA_8 m c t h = o8 (iblk m c 0 t) (iblk m c 1 t) (iblk m c 2 t) (iblk m c 3 t) (w1T m c) (w2T m c) := by
  have hc0 := scoverA_0 m c t h
  have hs0 := scratch_A0 m c t h
  have hc1 := scoverA_1 m c t h
  have hs1 := scratch_A1 m c t h
  unfold soutA_0 at hs0
  unfold soutA_1 at hs1
  rw [View.read_writes_junk_eq_canon] at hs0 hs1
  unfold outA_8 o8 d2 d01 p31 re3 re2 re1 re0 kept dh db er hn rs hp xn ch0 ch1 ch2 ch3
  unfold atA at hc0 hs0 hc1 hs1 ⊢
  frame_out
  frame_open at hc0 hs0 hc1 hs1
  rw [← hs0, ← hs1]
  simp only [View.readCov_eq_canon_ld _ _ _ hc0, View.readCov_eq_canon_ld _ _ _ hc1]

theorem outB_8_eq (c : Dev nD) (t : Fin cfg0.N) (h : ¬t.val % 16 = 0) (p : Outs F) :
    outB_8 m c t h p = o8 (iblk m c 0 t) (iblk m c 1 t) (iblk m c 2 t) (iblk m c 3 t) p.2.2.2.2.2.2.2.2.1 p.2.2.2.2.2.2.2.2.2 := by
  unfold outB_8 o8 d2 d01 p31 re3 re2 re1 re0 kept dh db er hn rs hp xn ch0 ch1 ch2 ch3 atB
  frame_out
  simp only [scratch_read0, scratch_read1]

theorem outA_9_eq (c : Dev nD) (t : Fin cfg0.N) (h : t.val % 16 = 0) :
    outA_9 m c t h = o9 (iblk m c 0 t) (iblk m c 1 t) (iblk m c 2 t) (iblk m c 3 t) (w1T m c) (w2T m c) k0_pay2 := by
  have hc0 := scoverA_0 m c t h
  have hs0 := scratch_A0 m c t h
  have hc1 := scoverA_1 m c t h
  have hs1 := scratch_A1 m c t h
  unfold soutA_0 at hs0
  unfold soutA_1 at hs1
  rw [View.read_writes_junk_eq_canon] at hs0 hs1
  unfold outA_9 o9 hp xn ch0 ch1 ch2 ch3
  unfold atA at hc0 hs0 hc1 hs1 ⊢
  frame_out
  frame_open at hc0 hs0 hc1 hs1
  rw [← hs0, ← hs1]
  simp only [View.readCov_eq_canon_ld _ _ _ hc0, View.readCov_eq_canon_ld _ _ _ hc1]

theorem outB_9_eq (c : Dev nD) (t : Fin cfg0.N) (h : ¬t.val % 16 = 0) (p : Outs F) :
    outB_9 m c t h p = o9 (iblk m c 0 t) (iblk m c 1 t) (iblk m c 2 t) (iblk m c 3 t) p.2.2.2.2.2.2.2.2.1 p.2.2.2.2.2.2.2.2.2 p.2.2.2.2.2.1 := by
  unfold outB_9 o9 hp xn ch0 ch1 ch2 ch3 atB
  frame_out
  simp only [scratch_read0, scratch_read1]

theorem outA_10_eq (c : Dev nD) (t : Fin cfg0.N) (h : t.val % 16 = 0) :
    outA_10 m c t h = o10 (iblk m c 0 t) (iblk m c 1 t) (iblk m c 2 t) (iblk m c 3 t) (w1T m c) (w2T m c) k0_pay3 := by
  have hc0 := scoverA_0 m c t h
  have hs0 := scratch_A0 m c t h
  have hc1 := scoverA_1 m c t h
  have hs1 := scratch_A1 m c t h
  unfold soutA_0 at hs0
  unfold soutA_1 at hs1
  rw [View.read_writes_junk_eq_canon] at hs0 hs1
  unfold outA_10 o10 er hn hp xn ch0 ch1 ch2 ch3
  unfold atA at hc0 hs0 hc1 hs1 ⊢
  frame_out
  frame_open at hc0 hs0 hc1 hs1
  rw [← hs0, ← hs1]
  simp only [View.readCov_eq_canon_ld _ _ _ hc0, View.readCov_eq_canon_ld _ _ _ hc1]

theorem outB_10_eq (c : Dev nD) (t : Fin cfg0.N) (h : ¬t.val % 16 = 0) (p : Outs F) :
    outB_10 m c t h p = o10 (iblk m c 0 t) (iblk m c 1 t) (iblk m c 2 t) (iblk m c 3 t) p.2.2.2.2.2.2.2.2.1 p.2.2.2.2.2.2.2.2.2 p.2.2.2.2.2.2.1 := by
  unfold outB_10 o10 er hn hp xn ch0 ch1 ch2 ch3 atB
  frame_out
  simp only [scratch_read0, scratch_read1]

theorem outA_11_eq (c : Dev nD) (t : Fin cfg0.N) (h : t.val % 16 = 0) :
    outA_11 m c t h = o11 (iblk m c 0 t) (iblk m c 1 t) (iblk m c 2 t) (iblk m c 3 t) (w1T m c) (w2T m c) k0_pay4 := by
  have hc0 := scoverA_0 m c t h
  have hs0 := scratch_A0 m c t h
  have hc1 := scoverA_1 m c t h
  have hs1 := scratch_A1 m c t h
  unfold soutA_0 at hs0
  unfold soutA_1 at hs1
  rw [View.read_writes_junk_eq_canon] at hs0 hs1
  unfold outA_11 o11 d2 d01 p31 re3 re2 re1 re0 kept db er hn rs hp xn ch0 ch1 ch2 ch3
  unfold atA at hc0 hs0 hc1 hs1 ⊢
  frame_out
  frame_open at hc0 hs0 hc1 hs1
  rw [← hs0, ← hs1]
  simp only [View.readCov_eq_canon_ld _ _ _ hc0, View.readCov_eq_canon_ld _ _ _ hc1]

theorem outB_11_eq (c : Dev nD) (t : Fin cfg0.N) (h : ¬t.val % 16 = 0) (p : Outs F) :
    outB_11 m c t h p = o11 (iblk m c 0 t) (iblk m c 1 t) (iblk m c 2 t) (iblk m c 3 t) p.2.2.2.2.2.2.2.2.1 p.2.2.2.2.2.2.2.2.2 p.2.2.2.2.2.2.2.1 := by
  unfold outB_11 o11 d2 d01 p31 re3 re2 re1 re0 kept db er hn rs hp xn ch0 ch1 ch2 ch3 atB
  frame_out
  simp only [scratch_read0, scratch_read1]

end Cert.MlpIdeal.Own

end
-- ==== Proof.MlpIdeal.Rows.lean ====
module

public import proofs.«01_k».proof.Proof.MlpIdeal.Outs
public import proofs.«01_k».proof.Proof.Norm
public import Idealize.ShloMosaic.Lib.Pipeline.ValueKit
public import Idealize.ShloMosaic.Lib.Claim

@[expose] public section

set_option maxRecDepth 16384

noncomputable section

namespace Cert.MlpIdeal.Own

open Cert.MlpIdeal Cert.MlpIdeal.Gen Idealize.ShloMosaic Idealize.ShloMosaic.TcCoe Idealize.SL.Sem

/-! One token's values, from its row, the gains, its target and the weights. -/

/-- The norm's inverse root. -/
def rinv (x : Fin 1024 → EReal) : EReal :=
  Ideal.rsqrt (Ideal.div (∑ k, x k * x k) (Ideal.ofBits .f32 0x44800000#32) + Ideal.ofBits .f32 0x358637BD#32)

section row
variable (x g g3 tg : Fin 1024 → EReal) (w1 w2 : Fin 4096 → Fin 1024 → EReal)

def Xn (k : Fin 1024) : EReal := x k * rinv x * g k
def Re (f : Fin 4096) : EReal := max (∑ k, Xn x g k * w1 f k) 0
def H2 (b : Fin 1024) : EReal := x b + ∑ f, Re x g w1 f * Re x g w1 f * w2 f b
def Hn (b : Fin 1024) : EReal := H2 x g w1 w2 b * rinv (H2 x g w1 w2)
def Er (b : Fin 1024) : EReal := Hn x g w1 w2 b * g3 b - tg b
def Dy (b : Fin 1024) : EReal := Er x g g3 tg w1 w2 b * Ideal.ofBits .f32 0x3A800000#32
def Dh (b : Fin 1024) : EReal := rinv (H2 x g w1 w2) * (Dy x g g3 tg w1 w2 b * g3 b - Hn x g w1 w2 b
  * Ideal.div (∑ k, Dy x g g3 tg w1 w2 k * g3 k * Hn x g w1 w2 k) (Ideal.ofBits .f32 0x44800000#32))
def Du (f : Fin 4096) : EReal := (∑ b, Dh x g g3 tg w1 w2 b * w2 f b) * (Ideal.ofBits .f32 0x40000000#32 * Re x g w1 f)
def Dx (b : Fin 1024) : EReal := ∑ f, Du x g g3 tg w1 w2 f * w1 f b
def D1 (b : Fin 1024) : EReal := Dh x g g3 tg w1 w2 b + rinv x * (Dx x g g3 tg w1 w2 b * g b - x b * rinv x
  * Ideal.div (∑ k, Dx x g g3 tg w1 w2 k * g k * (x k * rinv x)) (Ideal.ofBits .f32 0x44800000#32))
end row

/-- Four quarters of a sum. -/
theorem sum4 (f : Fin 4096 → EReal) : ∑ k, f k = ∑ k : Fin 1024, f ⟨k.val, by omega⟩
    + ∑ k : Fin 1024, f ⟨1024 + k.val, by omega⟩ + ∑ k : Fin 1024, f ⟨2048 + k.val, by omega⟩
    + ∑ k : Fin 1024, f ⟨3072 + k.val, by omega⟩ := by
  have h1 := Fin.sum_univ_add (a := 3072) (b := 1024) f
  have h2 := Fin.sum_univ_add (a := 2048) (b := 1024) fun k => f (Fin.castAdd 1024 k)
  have h3 := Fin.sum_univ_add (a := 1024) (b := 1024) fun k => f (Fin.castAdd 1024 (Fin.castAdd 1024 k))
  rw [h2, h3] at h1
  exact h1

/-- A row of an array. -/
abbrev row {n : ℕ} {e : EltTy} (X : Vec Ideal (⟨2, ![n, 1024]⟩ : Shape) e) (a : Fin n) : Fin 1024 → Elt Ideal e := fun k => X (ix2 a k)

section point
variable (x : Vec Ideal S256x1024 .f32) (g g3 : Vec Ideal S1x1024 .f32) (tg : Vec Ideal S256x1024 .f32) (W1 W2 : Vec Ideal S4096x1024 .bf16)

theorem ch0_apply (W : Vec Ideal S4096x1024 .bf16) (a b : Fin 1024) : ch0 W (ix2 a b) = W (ix2 ⟨a.val, by omega⟩ b) := by
  unfold ch0; pointwise
theorem ch1_apply (W : Vec Ideal S4096x1024 .bf16) (a b : Fin 1024) : ch1 W (ix2 a b) = W (ix2 ⟨1024 + a.val, by omega⟩ b) := by
  unfold ch1; pointwise
theorem ch2_apply (W : Vec Ideal S4096x1024 .bf16) (a b : Fin 1024) : ch2 W (ix2 a b) = W (ix2 ⟨2048 + a.val, by omega⟩ b) := by
  unfold ch2; pointwise
theorem ch3_apply (W : Vec Ideal S4096x1024 .bf16) (a b : Fin 1024) : ch3 W (ix2 a b) = W (ix2 ⟨3072 + a.val, by omega⟩ b) := by
  unfold ch3; pointwise

theorem xn_apply (a : Fin 256) (b : Fin 1024) : xn x g (ix2 a b) = Xn (row x a) (row g 0) b := by
  unfold xn Xn rinv; pointwise [k0_pay5]

theorem pay5_apply (a : Fin 256) (b : Fin 1024) : k0_pay5 x g (ix2 a b) = Xn (row x a) (row g 0) b := xn_apply x g a b

theorem re0_apply (a : Fin 256) (f : Fin 1024) : re0 x g W1 (ix2 a f) = Re (row x a) (row g 0) (row W1) ⟨f.val, by omega⟩ := by
  rw [re0_eq]; unfold Re; pointwise [k0_pay7, k0_pay6]; simp only [ch0_apply, pay5_apply]
theorem re1_apply (a : Fin 256) (f : Fin 1024) : re1 x g W1 (ix2 a f) = Re (row x a) (row g 0) (row W1) ⟨1024 + f.val, by omega⟩ := by
  rw [re1_eq]; unfold Re; pointwise [k0_pay10, k0_pay9]; simp only [ch1_apply, xn_apply]
theorem re2_apply (a : Fin 256) (f : Fin 1024) : re2 x g W1 (ix2 a f) = Re (row x a) (row g 0) (row W1) ⟨2048 + f.val, by omega⟩ := by
  rw [re2_eq]; unfold Re; pointwise [k0_pay13, k0_pay12]; simp only [ch2_apply, xn_apply]
theorem re3_apply (a : Fin 256) (f : Fin 1024) : re3 x g W1 (ix2 a f) = Re (row x a) (row g 0) (row W1) ⟨3072 + f.val, by omega⟩ := by
  rw [re3_eq]; unfold Re; pointwise [k0_pay17, k0_pay16]; simp only [ch3_apply, xn_apply]

theorem h2_apply (a : Fin 256) (b : Fin 1024) :
    k0_pay19 (xn x g) (hp x g W1 W2) (ch3 W1) (ch3 W2) (ix2 a b) = H2 (row x a) (row g 0) (row W1) (row W2) b := by
  unfold H2 hp
  rw [sum4]
  pointwise [k0_pay19, k0_pay18, k0_pay16, k0_pay15, k0_pay14, k0_pay12, k0_pay11, k0_pay9, k0_pay8, k0_pay6]
  simp only [ch0_apply, ch1_apply, ch2_apply, ch3_apply, xn_apply, pay5_apply, add_assoc]
  rfl

theorem rs_apply (a : Fin 256) : rs x g W1 W2 (ix2 a 0) = rinv (H2 (row x a) (row g 0) (row W1) (row W2)) := by
  unfold rs rinv
  pointwise [k0_pay20]
  simp only [h2_apply]

theorem hn_apply (a : Fin 256) (b : Fin 1024) : hn x g W1 W2 (ix2 a b) = Hn (row x a) (row g 0) (row W1) (row W2) b := by
  have h := rs_apply x g W1 W2 a
  unfold rs at h
  unfold hn Hn
  pointwise [k0_pay21]
  rw [h2_apply, h]

theorem er_apply (a : Fin 256) (b : Fin 1024) :
    er x g g3 tg W1 W2 (ix2 a b) = Er (row x a) (row g 0) (row g3 0) (row tg a) (row W1) (row W2) b := by
  have h := hn_apply x g W1 W2 a b
  unfold hn at h
  unfold er Er
  pointwise [k0_pay22]
  rw [h]

theorem dh_apply (a : Fin 256) (b : Fin 1024) :
    dh x g g3 tg W1 W2 (ix2 a b) = Dh (row x a) (row g 0) (row g3 0) (row tg a) (row W1) (row W2) b := by
  unfold dh Dh Dy
  pointwise [k0_pay28, k0_pay26]
  simp only [rs_apply, hn_apply, er_apply]

theorem db_apply (a : Fin 256) (b : Fin 1024) :
    db x g g3 tg W1 W2 (ix2 a b) = Dh (row x a) (row g 0) (row g3 0) (row tg a) (row W1) (row W2) b := by
  rw [← dh_apply]
  unfold db dh
  pointwise [k0_pay29]

theorem du0_apply (a : Fin 256) (f : Fin 1024) : du0 x g g3 tg W1 W2 (ix2 a f)
    = Du (row x a) (row g 0) (row g3 0) (row tg a) (row W1) (row W2) ⟨f.val, by omega⟩ := by
  have h := fun b => db_apply x g g3 tg W1 W2 a b
  unfold db at h
  unfold du0 p31 Du
  pointwise [k0_pay34, k0_pay33, k0_pay32, k0_pay31]
  simp only [h, ch0_apply, re0_apply]
theorem du1_apply (a : Fin 256) (f : Fin 1024) : du1 x g g3 tg W1 W2 (ix2 a f)
    = Du (row x a) (row g 0) (row g3 0) (row tg a) (row W1) (row W2) ⟨1024 + f.val, by omega⟩ := by
  unfold du1 Du
  pointwise [k0_pay35]
  simp only [db_apply, ch1_apply, re1_apply]
theorem du2_apply (a : Fin 256) (f : Fin 1024) : du2 x g g3 tg W1 W2 (ix2 a f)
    = Du (row x a) (row g 0) (row g3 0) (row tg a) (row W1) (row W2) ⟨2048 + f.val, by omega⟩ := by
  unfold du2 Du
  pointwise [k0_pay37]
  simp only [db_apply, ch2_apply, re2_apply]
theorem du3_apply (a : Fin 256) (f : Fin 1024) : du3 x g g3 tg W1 W2 (ix2 a f)
    = Du (row x a) (row g 0) (row g3 0) (row tg a) (row W1) (row W2) ⟨3072 + f.val, by omega⟩ := by
  unfold du3 Du
  pointwise [k0_pay39]
  simp only [db_apply, ch3_apply, re3_apply]

/-- The gradient entering the first norm. -/
theorem dx_apply (a : Fin 256) (b : Fin 1024) :
    k0_pay40 (db x g g3 tg W1 W2) (d01 x g g3 tg W1 W2) (d2 x g g3 tg W1 W2) (ch3 W2) (re3 x g W1) (ch3 W1) (ix2 a b)
      = Dx (row x a) (row g 0) (row g3 0) (row tg a) (row W1) (row W2) b := by
  have h0 := fun f => du0_apply x g g3 tg W1 W2 a f
  have h1 := fun f => du1_apply x g g3 tg W1 W2 a f
  have h2 := fun f => du2_apply x g g3 tg W1 W2 a f
  have h3 := fun f => du3_apply x g g3 tg W1 W2 a f
  unfold du0 at h0
  unfold du1 at h1
  unfold du2 at h2
  unfold du3 at h3
  unfold d01 d2 Dx
  rw [sum4]
  pointwise [k0_pay40, k0_pay38, k0_pay36, k0_pay30]
  simp only [h0, h1, h2, h3, ch0_apply, ch1_apply, ch2_apply, ch3_apply, zero_add]

theorem o8_apply (a : Fin 256) (b : Fin 1024) :
    o8 x g g3 tg W1 W2 (ix2 a b) = D1 (row x a) (row g 0) (row g3 0) (row tg a) (row W1) (row W2) b := by
  unfold o8 D1 rinv
  pointwise [k0_pay44, k0_pay42, k0_pay41]
  simp only [dx_apply, dh_apply]

theorem o9_apply (acc : Vec Ideal S1x128 .f32) (b : Fin 128) : o9 x g g3 tg W1 W2 acc (ix2 0 b) = acc (ix2 0 b)
    + (∑ a : Fin 256, ∑ k : Fin 1024, Er (row x a) (row g 0) (row g3 0) (row tg a) (row W1) (row W2) k
        * Er (row x a) (row g 0) (row g3 0) (row tg a) (row W1) (row W2) k) * Ideal.ofBits .f32 0x3A000000#32 := by
  have h := fun a b => er_apply x g g3 tg W1 W2 a b
  unfold er at h
  unfold o9
  pointwise [k0_pay25, k0_pay24, k0_pay23]
  simp only [h]

theorem o10_apply (acc : Vec Ideal S1x1024 .f32) (b : Fin 1024) : o10 x g g3 tg W1 W2 acc (ix2 0 b) = acc (ix2 0 b)
    + ∑ a : Fin 256, Dy (row x a) (row g 0) (row g3 0) (row tg a) (row W1) (row W2) b
        * Hn (row x a) (row g 0) (row W1) (row W2) b := by
  unfold o10 Dy
  pointwise [k0_pay27, k0_pay26]
  simp only [er_apply, hn_apply]

theorem o11_apply (acc : Vec Ideal S1x1024 .f32) (b : Fin 1024) : o11 x g g3 tg W1 W2 acc (ix2 0 b) = acc (ix2 0 b)
    + ∑ a : Fin 256, Dx (row x a) (row g 0) (row g3 0) (row tg a) (row W1) (row W2) b
        * (row x a b * rinv (row x a)) := by
  unfold o11 rinv
  pointwise [k0_pay43, k0_pay42, k0_pay41, k0_pay1]
  simp only [dx_apply]

end point

end Cert.MlpIdeal.Own

end
-- ==== Proof.MlpIdeal.Ref.lean ====
module

public import proofs.«01_k».proof.Proof.MlpIdeal.Rows
public import proofs.«01_k».proof.Proof.Gen.MlpRefIdeal.Read

@[expose] public section

set_option maxRecDepth 16384

noncomputable section

namespace Cert.MlpIdeal.Own

open Cert.MlpIdeal Cert.MlpIdeal.Gen Idealize.ShloMosaic Idealize.ShloMosaic.TcCoe Idealize.SL.Sem
open Cert.MlpRefIdeal.Read

/-! The reference's intermediate arrays, row by row. -/

/-- Being a real, and what keeps it. -/
def Real1 (x : EReal) : Prop := ∃ r : ℝ, x = r
theorem Real1.mul {x y : EReal} : Real1 x → Real1 y → Real1 (x * y)
  | ⟨a, ha⟩, ⟨b, hb⟩ => ⟨a * b, by rw [ha, hb, EReal.coe_mul]⟩
theorem Real1.add {x y : EReal} : Real1 x → Real1 y → Real1 (x + y)
  | ⟨a, ha⟩, ⟨b, hb⟩ => ⟨a + b, by rw [ha, hb, EReal.coe_add]⟩
theorem Real1.sub {x y : EReal} : Real1 x → Real1 y → Real1 (x - y)
  | ⟨a, ha⟩, ⟨b, hb⟩ => ⟨a - b, by rw [ha, hb, EReal.coe_sub]⟩
theorem Real1.max0 {x : EReal} : Real1 x → Real1 (max x 0)
  | ⟨a, ha⟩ => ⟨max a 0, by rw [ha, ← EReal.coe_zero]; exact (EReal.coe_strictMono.monotone.map_max).symm⟩
theorem Real1.sum {n : ℕ} {f : Fin n → EReal} (h : ∀ k, Real1 (f k)) : Real1 (∑ k, f k) := by
  choose g hg using h
  exact ⟨∑ k, g k, by simp only [hg]; exact Cert.Norm.coe_sum _ _⟩
theorem Real1.div1024 {x : EReal} : Real1 x → Real1 (Ideal.div x (Ideal.ofBits .f32 0x44800000#32))
  | ⟨a, ha⟩ => ⟨a / 1024, by rw [ha, Cert.Norm.c1024, Cert.Norm.div_coe_coe _ (by norm_num)]⟩
theorem Real1.rinv {x : Fin 1024 → EReal} (h : ∀ k, Real1 (x k)) : Real1 (rinv x) := by
  choose g hg using h
  obtain ⟨v, hv, e⟩ := Cert.Norm.rms_real g
  refine ⟨(Real.sqrt v)⁻¹, ?_⟩
  unfold Own.rinv
  simp only [hg]
  rw [e, Cert.Norm.rsqrt_pos hv]

theorem ctwo : Ideal.ofBits .f32 0x40000000#32 = ((2 : ℝ) : EReal) := by
  simp [Ideal.ofBits, Ideal.ieee, -EReal.coe_mul]; norm_num
theorem chalf : Ideal.ofBits .f32 0x3F000000#32 = ((1 / 2 : ℝ) : EReal) := by
  simp [Ideal.ofBits, Ideal.ieee, -EReal.coe_mul]; norm_num
theorem cinv : Ideal.ofBits .f32 0x3A800000#32 = ((1 / 1024 : ℝ) : EReal) := by
  simp [Ideal.ofBits, Ideal.ieee, -EReal.coe_mul]; norm_num
theorem cinvhalf : Ideal.ofBits .f32 0x3A000000#32 = ((1 / 2048 : ℝ) : EReal) := by
  simp [Ideal.ofBits, Ideal.ieee, -EReal.coe_mul]; norm_num

section row
variable (x g g3 tg : Fin 1024 → EReal) (w1 w2 : Fin 4096 → Fin 1024 → EReal)
  (hx : ∀ k, Real1 (x k)) (hg : ∀ k, Real1 (g k)) (hg3 : ∀ k, Real1 (g3 k)) (htg : ∀ k, Real1 (tg k))
  (hw1 : ∀ f k, Real1 (w1 f k)) (hw2 : ∀ f k, Real1 (w2 f k))
include hx hg

theorem real_Xn (k : Fin 1024) : Real1 (Xn x g k) := ((hx k).mul (Real1.rinv hx)).mul (hg k)
include hw1
theorem real_Re (f : Fin 4096) : Real1 (Re x g w1 f) := (Real1.sum fun k => (real_Xn x g hx hg k).mul (hw1 f k)).max0
include hw2
theorem real_H2 (b : Fin 1024) : Real1 (H2 x g w1 w2 b) :=
  (hx b).add (Real1.sum fun f => ((real_Re x g w1 hx hg hw1 f).mul (real_Re x g w1 hx hg hw1 f)).mul (hw2 f b))
theorem real_Hn (b : Fin 1024) : Real1 (Hn x g w1 w2 b) :=
  (real_H2 x g w1 w2 hx hg hw1 hw2 b).mul (Real1.rinv (real_H2 x g w1 w2 hx hg hw1 hw2))
include hg3 htg
theorem real_Er (b : Fin 1024) : Real1 (Er x g g3 tg w1 w2 b) :=
  ((real_Hn x g w1 w2 hx hg hw1 hw2 b).mul (hg3 b)).sub (htg b)
theorem real_Dy (b : Fin 1024) : Real1 (Dy x g g3 tg w1 w2 b) :=
  (real_Er x g g3 tg w1 w2 hx hg hg3 htg hw1 hw2 b).mul ⟨_, cinv⟩
theorem real_Dh (b : Fin 1024) : Real1 (Dh x g g3 tg w1 w2 b) :=
  (Real1.rinv (real_H2 x g w1 w2 hx hg hw1 hw2)).mul
    (((real_Dy x g g3 tg w1 w2 hx hg hg3 htg hw1 hw2 b).mul (hg3 b)).sub
      ((real_Hn x g w1 w2 hx hg hw1 hw2 b).mul (Real1.div1024 (Real1.sum fun k =>
        ((real_Dy x g g3 tg w1 w2 hx hg hg3 htg hw1 hw2 k).mul (hg3 k)).mul (real_Hn x g w1 w2 hx hg hw1 hw2 k)))))
theorem real_Du (f : Fin 4096) : Real1 (Du x g g3 tg w1 w2 f) :=
  (Real1.sum fun b => (real_Dh x g g3 tg w1 w2 hx hg hg3 htg hw1 hw2 b).mul (hw2 f b)).mul
    (Real1.mul ⟨_, ctwo⟩ (real_Re x g w1 hx hg hw1 f))
theorem real_Dx (b : Fin 1024) : Real1 (Dx x g g3 tg w1 w2 b) :=
  Real1.sum fun f => (real_Du x g g3 tg w1 w2 hx hg hg3 htg hw1 hw2 f).mul (hw1 f b)
end row

section ref
variable (x0 : Vec Ideal S4096x1024 .f32) (x1 : Vec Ideal S1x1024 .f32) (x2 : Vec Ideal S1x1024x4096 .f32)
  (x3 : Vec Ideal S1x4096x1024 .f32) (x4 : Vec Ideal S1024 .f32) (x5 : Vec Ideal S4096x1024 .f32)

/-- The weights, one row per hidden unit, and the last gain. -/
def R1 (f : Fin 4096) (d : Fin 1024) : EReal := x2 (ix3 0 d f)
def R2 (f : Fin 4096) (d : Fin 1024) : EReal := x3 (ix3 0 f d)
def R3 (d : Fin 1024) : EReal := x4 (ix1 d)

theorem ref16 (i : Fin 4096) (b : Fin 1024) : val_main_v16 x0 x1 (ix2 i b) = Xn (row x0 i) (row x1 0) b := by
  unfold Xn rinv
  pointwise [val_main_v16, val_main_v15, val_main_v14, val_main_v13, val_main_v12, val_main_v8, val_main_v7, val_main_v6, val_main_v5, val_main_v4, val_main_v3, val_main_v2, val_main_v1, val_main_v0, val_main_cst, val_main_cst_0, val_main_cst_1]
  try simp only [zero_add]

theorem ref18 (i f : Fin 4096) : val_main_v18 x0 x1 x2 (ix2 i f) = ∑ k, Xn (row x0 i) (row x1 0) k * R1 x2 f k := by
  unfold R1
  pointwise [val_main_v18, val_main_v17]
  simp only [ref16]

theorem ref19 (i f : Fin 4096) : val_main_v19 x0 x1 x2 (ix2 i f) = Re (row x0 i) (row x1 0) (R1 x2) f := by
  unfold Re
  pointwise [val_main_v19, val_main_call0_v0, val_main_call0_cst]
  rw [ref18]

theorem ref28 (i : Fin 4096) (b : Fin 1024) : val_main_v28 x0 x1 x2 x3 (ix2 i b) = H2 (row x0 i) (row x1 0) (R1 x2) (R2 x3) b := by
  unfold H2 R2
  pointwise [val_main_v28, val_main_v27, val_main_v26, val_main_v23]
  simp only [ref19]

theorem ref36 (i : Fin 4096) : val_main_v36 x0 x1 x2 x3 (ix2 i 0) = rinv (H2 (row x0 i) (row x1 0) (R1 x2) (R2 x3)) := by
  unfold rinv
  pointwise [val_main_v36, val_main_v35, val_main_v34, val_main_v33, val_main_v32, val_main_v31, val_main_v30, val_main_v29, val_main_cst_6, val_main_cst_7, val_main_cst_8]
  simp only [ref28, zero_add]

theorem ref41 (i : Fin 4096) (b : Fin 1024) : val_main_v41 x0 x1 x2 x3 (ix2 i b) = Hn (row x0 i) (row x1 0) (R1 x2) (R2 x3) b := by
  unfold Hn
  pointwise [val_main_v41, val_main_v40]
  rw [ref28, ref36]

theorem ref45 (i : Fin 4096) (b : Fin 1024) : val_main_v45 x0 x1 x2 x3 x4 x5 (ix2 i b)
    = Er (row x0 i) (row x1 0) (R3 x4) (row x5 i) (R1 x2) (R2 x3) b := by
  unfold Er R3
  pointwise [val_main_v45, val_main_v44, val_main_v43, val_main_v42]
  rw [ref41]

theorem ref59 (i : Fin 4096) (b : Fin 1024) : val_main_v59 x0 x1 x2 x3 x4 x5 (ix2 i b)
    = Dy (row x0 i) (row x1 0) (R3 x4) (row x5 i) (R1 x2) (R2 x3) b := by
  unfold Dy
  pointwise [val_main_v59, val_main_v58, val_main_v57, val_main_v56, val_main_v55, val_main_v54, val_main_v48, val_main_v47, val_main_cst_10, val_main_cst_15, val_main_cst_16, val_main_cst_17]
  rw [ref45, chalf, ctwo, cinv, Cert.Norm.c1024, Cert.Norm.div_coe_coe _ (by norm_num), ← mul_assoc, ← EReal.coe_mul, mul_comm]
  norm_num

section real
variable (hx : ∀ j, Real1 (x0 j)) (hg : ∀ j, Real1 (x1 j)) (hw1 : ∀ j, Real1 (x2 j)) (hw2 : ∀ j, Real1 (x3 j))
  (hg3 : ∀ j, Real1 (x4 j)) (htg : ∀ j, Real1 (x5 j))
include hx hg hw1 hw2 hg3 htg

theorem ref79 (i : Fin 4096) (b : Fin 1024) : val_main_v79 x0 x1 x2 x3 x4 x5 (ix2 i b)
    = Dh (row x0 i) (row x1 0) (R3 x4) (row x5 i) (R1 x2) (R2 x3) b := by
  have rh := real_H2 (row x0 i) (row x1 0) (R1 x2) (R2 x3) (fun k => hx _) (fun k => hg _) (fun f k => hw1 _) (fun f k => hw2 _)
  have rd := real_Dy (row x0 i) (row x1 0) (R3 x4) (row x5 i) (R1 x2) (R2 x3) (fun k => hx _) (fun k => hg _) (fun k => hg3 _) (fun k => htg _) (fun f k => hw1 _) (fun f k => hw2 _)
  have rg : ∀ k, Real1 (R3 x4 k) := fun k => hg3 _
  choose h' rh using rh
  choose d' rd using rd
  choose g' rg using rg
  have e := Cert.Norm.rms_grad h' g' d' 0 b (rinv (H2 (row x0 i) (row x1 0) (R1 x2) (R2 x3))) _ rfl
    (by unfold rinv; simp only [rh])
  unfold Dh Hn
  simp only [← rh, ← rd, ← rg, zero_add] at e
  refine Eq.trans ?_ e.symm
  pointwise [val_main_v79, val_main_v78, val_main_v77, val_main_v76, val_main_v75, val_main_v74, val_main_v73, val_main_v72, val_main_v71, val_main_v70, val_main_v69, val_main_v68, val_main_v67, val_main_v66, val_main_v64, val_main_v63, val_main_v42, val_main_v39, val_main_v38, val_main_v37, val_main_v35, val_main_v34, val_main_v33, val_main_v32, val_main_v31, val_main_v30, val_main_v29, val_main_cst_6, val_main_cst_7, val_main_cst_8, val_main_cst_9, val_main_cst_20, val_main_cst_21, val_main_cst_22]
  simp only [ref28, ref59, ref36, Fin.sum_univ_one, zero_add]
  rfl

theorem ref83 (i f : Fin 4096) : val_main_v83 x0 x1 x2 x3 x4 x5 (ix2 i f)
    = Du (row x0 i) (row x1 0) (R3 x4) (row x5 i) (R1 x2) (R2 x3) f := by
  unfold Du
  pointwise [val_main_v83, val_main_v82, val_main_v81, val_main_v80, val_main_v26, val_main_v25, val_main_v24, val_main_v21, val_main_v20, val_main_cst_3, val_main_cst_5, val_main_cst_23]
  simp only [ref19, ref18, ref79 x0 x1 x2 x3 x4 x5 hx hg hw1 hw2 hg3 htg]
  split
  · rfl
  · rename_i h
    unfold Re
    rw [max_eq_right (not_lt.mp h), mul_zero, mul_zero]

theorem ref84 (i : Fin 4096) (b : Fin 1024) : val_main_v84 x0 x1 x2 x3 x4 x5 (ix2 i b)
    = Dx (row x0 i) (row x1 0) (R3 x4) (row x5 i) (R1 x2) (R2 x3) b := by
  unfold Dx R1
  pointwise [val_main_v84, val_main_v17]
  simp only [ref83 x0 x1 x2 x3 x4 x5 hx hg hw1 hw2 hg3 htg]
  rfl

theorem ref110 (i : Fin 4096) (b : Fin 1024) : val_main_v110 x0 x1 x2 x3 x4 x5 (ix2 i b)
    = D1 (row x0 i) (row x1 0) (R3 x4) (row x5 i) (R1 x2) (R2 x3) b := by
  have rd := real_Dx (row x0 i) (row x1 0) (R3 x4) (row x5 i) (R1 x2) (R2 x3) (fun k => hx _) (fun k => hg _) (fun k => hg3 _) (fun k => htg _) (fun f k => hw1 _) (fun f k => hw2 _)
  have rx : ∀ k, Real1 (row x0 i k) := fun k => hx _
  have rg : ∀ k, Real1 (row x1 0 k) := fun k => hg _
  choose d' rd using rd
  choose x' rx using rx
  choose g' rg using rg
  have e := Cert.Norm.rms_grad x' g' d' (Dh (row x0 i) (row x1 0) (R3 x4) (row x5 i) (R1 x2) (R2 x3) b) b (rinv (row x0 i)) _ rfl
    (by unfold rinv; simp only [rx])
  unfold D1
  simp only [← rx, ← rd, ← rg] at e
  refine Eq.trans ?_ e.symm
  pointwise [val_main_v110, val_main_v104, val_main_v103, val_main_v102, val_main_v101, val_main_v100, val_main_v99, val_main_v98, val_main_v97, val_main_v96, val_main_v95, val_main_v94, val_main_v93, val_main_v92, val_main_v91, val_main_v89, val_main_v88, val_main_v14, val_main_v0, val_main_v11, val_main_v10, val_main_v9, val_main_v8, val_main_v7, val_main_v6, val_main_v5, val_main_v4, val_main_v3, val_main_v2, val_main_v1, val_main_cst, val_main_cst_0, val_main_cst_1, val_main_cst_2, val_main_cst_26, val_main_cst_27, val_main_cst_28]
  simp only [ref79 x0 x1 x2 x3 x4 x5 hx hg hw1 hw2 hg3 htg, ref84 x0 x1 x2 x3 x4 x5 hx hg hw1 hw2 hg3 htg, Fin.sum_univ_one, zero_add, add_assoc]
  unfold rinv
  rfl

theorem ref105 (b : Fin 1024) : val_main_v105 x0 x1 x2 x3 x4 x5 (ix2 0 b)
    = ∑ i : Fin 4096, Dx (row x0 i) (row x1 0) (R3 x4) (row x5 i) (R1 x2) (R2 x3) b * (row x0 i b * rinv (row x0 i)) := by
  pointwise [val_main_v105, val_main_v90, val_main_v87, val_main_v86, val_main_v85, val_main_v13, val_main_v12, val_main_v8, val_main_v7, val_main_v6, val_main_v5, val_main_v4, val_main_v3, val_main_v2, val_main_v1, val_main_cst, val_main_cst_0, val_main_cst_1, val_main_cst_24, val_main_cst_25]
  simp only [ref84 x0 x1 x2 x3 x4 x5 hx hg hw1 hw2 hg3 htg, Fin.sum_univ_one, zero_add]
  unfold rinv
  exact Finset.sum_congr rfl fun k _ => mul_comm _ _

theorem ref112 (b : Fin 1024) : val_main_v112 x0 x1 x2 x3 x4 x5 (ix2 0 b)
    = ∑ i : Fin 4096, Dy (row x0 i) (row x1 0) (R3 x4) (row x5 i) (R1 x2) (R2 x3) b * Hn (row x0 i) (row x1 0) (R1 x2) (R2 x3) b := by
  pointwise [val_main_v112, val_main_v65, val_main_v62, val_main_v61, val_main_v60, val_main_cst_18, val_main_cst_19]
  simp only [ref59, ref41, Fin.sum_univ_one, zero_add]
  exact Finset.sum_congr rfl fun k _ => mul_comm _ _

/-- The loss is the sum of the points' parts. -/
theorem ref111 (b : Fin 128) : val_main_v111 x0 x1 x2 x3 x4 x5 (ix2 0 b)
    = ∑ i : Fin 4096, (∑ k : Fin 1024, Er (row x0 i) (row x1 0) (R3 x4) (row x5 i) (R1 x2) (R2 x3) k
        * Er (row x0 i) (row x1 0) (R3 x4) (row x5 i) (R1 x2) (R2 x3) k) * Ideal.ofBits .f32 0x3A000000#32 := by
  have re := fun i => real_Er (row x0 i) (row x1 0) (R3 x4) (row x5 i) (R1 x2) (R2 x3) (fun k => hx _) (fun k => hg _) (fun k => hg3 _) (fun k => htg _) (fun f k => hw1 _) (fun f k => hw2 _)
  pointwise [val_main_v111, val_main_v53, val_main_v52, val_main_v51, val_main_v50, val_main_v49, val_main_v46, val_main_cst_11, val_main_cst_12, val_main_cst_13, val_main_cst_14]
  simp only [ref45, zero_add]
  choose e' re using re
  simp only [re, chalf, cinvhalf, Cert.Norm.c1024, ← EReal.coe_mul, Cert.Norm.coe_sum, Cert.Norm.div_coe_coe _ (show (1024 : ℝ) ≠ 0 by norm_num)]
  congr 1
  rw [Finset.mul_sum]
  exact Finset.sum_congr rfl fun k _ => by ring

end real
end ref

end Cert.MlpIdeal.Own

end
-- ==== Proof.MlpIdeal.Value.lean ====
module

public import proofs.«01_k».proof.Proof.MlpIdeal.Ref

@[expose] public section

set_option maxRecDepth 16384

noncomputable section

namespace Cert.MlpIdeal.Own

open Cert.MlpIdeal Cert.MlpIdeal.Gen Idealize.ShloMosaic Idealize.ShloMosaic.TcCoe Idealize.SL.Sem
open Idealize.ShloMosaic.Pipeline (Dat)
open Cert.MlpRefIdeal.Read

variable (m : (ℓ : Loc nD τ sig) → Buf (Elt Ideal) ℓ)

theorem idx : ∀ t : Fin cfg0.N, win0_0.index t = ![t.val, 0] ∧ win0_1.index t = ![0, 0]
    ∧ win0_2.index t = ![0, 0] ∧ win0_3.index t = ![t.val, 0] ∧ win0_4.index t = ![t.val, 0]
    ∧ win0_5.index t = ![t.val, 0] ∧ win0_6.index t = ![t.val, 0] ∧ win0_7.index t = ![t.val, 0]
    ∧ win0_8.index t = ![t.val, 0] ∧ win0_9.index t = ![0, 0] ∧ win0_10.index t = ![0, 0]
    ∧ win0_11.index t = ![0, 0] ∧ t.val < 16 := (by decide +kernel : ∀ t : Fin grid0.N, _)

/-- The points' rows are the array's rows. -/
theorem row_lt (t : Fin cfg0.N) (a : Fin 256) : t.val * 256 + a.val < 4096 := by
  have := (idx t).2.2.2.2.2.2.2.2.2.2.2.2; omega
abbrev at_ (t : Fin cfg0.N) (a : Fin 256) : Fin 4096 := ⟨t.val * 256 + a.val, row_lt t a⟩

/-- The arguments of device `c`. -/
abbrev X (c : Dev nD) : Vec Ideal S4096x1024 .f32 := m ((c : Thread nD τ).loc main_arg0)
abbrev G (c : Dev nD) : Vec Ideal S1x1024 .f32 := m ((c : Thread nD τ).loc main_arg1)
abbrev Wa (c : Dev nD) : Vec Ideal S1x1024x4096 .f32 := m ((c : Thread nD τ).loc main_arg2)
abbrev Wb (c : Dev nD) : Vec Ideal S1x4096x1024 .f32 := m ((c : Thread nD τ).loc main_arg3)
abbrev G3 (c : Dev nD) : Vec Ideal S1024 .f32 := m ((c : Thread nD τ).loc main_arg4)
abbrev T (c : Dev nD) : Vec Ideal S4096x1024 .f32 := m ((c : Thread nD τ).loc main_arg5)

/-! The blocks of point `t`, as rows of the arguments. -/

theorem row_x (c : Dev nD) (t : Fin cfg0.N) (a : Fin 256) : row (iblk m c 0 t) a = row (X m c) (at_ t a) := by
  funext k
  show iblk m c 0 t (ix2 a k) = X m c (ix2 (at_ t a) k)
  blk_ext [iblk, V, idx t]
theorem row_t (c : Dev nD) (t : Fin cfg0.N) (a : Fin 256) : row (iblk m c 3 t) a = row (T m c) (at_ t a) := by
  funext k
  show iblk m c 3 t (ix2 a k) = T m c (ix2 (at_ t a) k)
  blk_ext [iblk, V, idx t]
theorem row_g (c : Dev nD) (t : Fin cfg0.N) : row (iblk m c 1 t) 0 = row (G m c) 0 := by
  funext k
  show iblk m c 1 t (ix2 0 k) = G m c (ix2 0 k)
  blk_ext [iblk, V, idx t]
theorem row_g3 (c : Dev nD) (t : Fin cfg0.N) : row (iblk m c 2 t) 0 = R3 (G3 m c) := by
  funext k
  show iblk m c 2 t (ix2 0 k) = G3 m c (ix1 k)
  blk_point [iblk, V, idx t]
theorem row_w1 (c : Dev nD) : row (w1T m c) = R1 (Wa m c) := by
  funext f k
  show w1T m c (ix2 f k) = Wa m c (ix3 0 k f)
  unfold w1T
  entry_read
  pointwise
theorem row_w2 (c : Dev nD) : row (w2T m c) = R2 (Wb m c) := by
  funext f k
  show w2T m c (ix2 f k) = Wb m c (ix3 0 f k)
  unfold w2T
  entry_read
  pointwise

/-- Four column ranges put together, read at a column. -/
theorem cols_apply (v0 v1 v2 v3 : FVec Ideal S256x1024 .bf16) (D : Vec Ideal S256x4096 .bf16)
    (h0 : ∀ (a : Fin 256) (b : Fin 1024), v0 (ix2 a b) = D (ix2 a ⟨b.val, by omega⟩))
    (h1 : ∀ (a : Fin 256) (b : Fin 1024), v1 (ix2 a b) = D (ix2 a ⟨1024 + b.val, by omega⟩))
    (h2 : ∀ (a : Fin 256) (b : Fin 1024), v2 (ix2 a b) = D (ix2 a ⟨2048 + b.val, by omega⟩))
    (h3 : ∀ (a : Fin 256) (b : Fin 1024), v3 (ix2 a b) = D (ix2 a ⟨3072 + b.val, by omega⟩)) : cols v0 v1 v2 v3 = D := by
  unfold cols
  funext y
  refine View.canon_apply_of_pieces D _ ?_ y (View.cover_of_tiledL (s := S256x4096) _ S256x1024.size (by sl_kernel_rfl) y)
  intro p hp x
  simp only [List.mem_cons, List.not_mem_nil, or_false] at hp
  rcases hp with rfl | rfl | rfl | rfl
  · idx_vars x; refine (h3 x0 x1).trans (congrArg D ?_); funext d; fin_cases d <;> apply Fin.ext <;> simp [Rect.emb_apply]
  · idx_vars x; refine (h2 x0 x1).trans (congrArg D ?_); funext d; fin_cases d <;> apply Fin.ext <;> simp [Rect.emb_apply]
  · idx_vars x; refine (h1 x0 x1).trans (congrArg D ?_); funext d; fin_cases d <;> apply Fin.ext <;> simp [Rect.emb_apply]
  · idx_vars x; refine (h0 x0 x1).trans (congrArg D ?_); funext d; fin_cases d <;> apply Fin.ext <;> simp [Rect.emb_apply]

/-- The kept squares of point `t`. -/
theorem o5_apply (x : Vec Ideal S256x1024 .f32) (g : Vec Ideal S1x1024 .f32) (W1 : Vec Ideal S4096x1024 .bf16) (a : Fin 256) (f : Fin 4096) :
    o5 x g W1 (ix2 a f) = Re (row x a) (row g 0) (row W1) f * Re (row x a) (row g 0) (row W1) f := by
  have h0 := fun a b => re0_apply x g W1 a b
  have h1 := fun a b => re1_apply x g W1 a b
  have h2 := fun a b => re2_apply x g W1 a b
  have h3 := fun a b => re3_apply x g W1 a b
  simp only [re0_eq, re1_eq, re2_eq, re3_eq] at h0 h1 h2 h3
  unfold o5
  rw [cols_apply _ _ _ _ (fun y => Re (row x (y 0)) (row g 0) (row W1) (y 1) * Re (row x (y 0)) (row g 0) (row W1) (y 1))
    (fun a b => (show _ = k0_pay7 x g (ch0 W1) (ix2 a b) * k0_pay7 x g (ch0 W1) (ix2 a b) by pointwise [k0_pay8, k0_pay7]).trans (by rw [h0]; rfl))
    (fun a b => (show _ = k0_pay10 (xn x g) (ch1 W1) (ix2 a b) * k0_pay10 (xn x g) (ch1 W1) (ix2 a b) by pointwise [k0_pay11, k0_pay10]).trans (by rw [h1]; rfl))
    (fun a b => (show _ = k0_pay13 (xn x g) (ch2 W1) (ix2 a b) * k0_pay13 (xn x g) (ch2 W1) (ix2 a b) by pointwise [k0_pay14, k0_pay13]).trans (by rw [h2]; rfl))
    (fun a b => (show _ = k0_pay17 (xn x g) (ch3 W1) (ix2 a b) * k0_pay17 (xn x g) (ch3 W1) (ix2 a b) by pointwise [k0_pay18, k0_pay17]).trans (by rw [h3]; rfl))]
  rfl

theorem o7_apply (x : Vec Ideal S256x1024 .f32) (g g3 : Vec Ideal S1x1024 .f32) (tg : Vec Ideal S256x1024 .f32) (W1 W2 : Vec Ideal S4096x1024 .bf16)
    (a : Fin 256) (f : Fin 4096) : o7 x g g3 tg W1 W2 (ix2 a f)
      = Du (row x a) (row g 0) (row g3 0) (row tg a) (row W1) (row W2) f := by
  unfold o7
  rw [cols_apply _ _ _ _ (fun y => Du (row x (y 0)) (row g 0) (row g3 0) (row tg (y 0)) (row W1) (row W2) (y 1))
    (fun a b => du0_apply x g g3 tg W1 W2 a b) (fun a b => du1_apply x g g3 tg W1 W2 a b)
    (fun a b => du2_apply x g g3 tg W1 W2 a b) (fun a b => du3_apply x g g3 tg W1 W2 a b)]
  rfl

theorem point4 (c : Dev nD) (t : Fin cfg0.N) (a : Fin 256) (b : Fin 1024)  :
    xn (iblk m c 0 t) (iblk m c 1 t) (ix2 a b) = val_main_v106 (X m c) (G m c) (ix2 (at_ t a) b) := by
  rw [xn_apply]
  simp only [row_x, row_g]
  pointwise [val_main_v106]
  rw [ref16]

/-- Result 0 after the run. -/
theorem final4 (c : Dev nD)  :
    (dats m 0 c).arrAt 4 (cfgs 0).N = val_main_v106 (X m c) (G m c) := by
  refine (dats m 0 c).arrAt_eq_of_covers 4 _ (by decide +kernel) fun t _ y => ?_
  blk_simp
  rw [after0_4]
  have key : (outsAt0 m c t.val t.isLt).1 = xn (iblk m c 0 t) (iblk m c 1 t) := by
    by_cases h : t.val % 16 = 0
    · rw [outsAt0_A m c t h]; unfold outsA; dsimp only; exact outA_4_eq m c t h
    · rw [outsAt0_B m c t h]; unfold outsB; dsimp only; rw [outB_4_eq m c t h]
  rw [key]
  idx_vars y
  rw [point4 m c t y0 y1]
  blk_ext [idx t]

theorem point5 (c : Dev nD) (t : Fin cfg0.N) (a : Fin 256) (b : Fin 4096)  :
    o5 (iblk m c 0 t) (iblk m c 1 t) (w1T m c) (ix2 a b) = val_main_v107 (X m c) (G m c) (Wa m c) (ix2 (at_ t a) b) := by
  rw [o5_apply]
  simp only [row_x, row_g, row_w1]
  pointwise [val_main_v107, val_main_v23]
  rw [ref19]

/-- Result 1 after the run. -/
theorem final5 (c : Dev nD)  :
    (dats m 0 c).arrAt 5 (cfgs 0).N = val_main_v107 (X m c) (G m c) (Wa m c) := by
  refine (dats m 0 c).arrAt_eq_of_covers 5 _ (by decide +kernel) fun t _ y => ?_
  blk_simp
  rw [after0_5]
  have key : (outsAt0 m c t.val t.isLt).2.1 = o5 (iblk m c 0 t) (iblk m c 1 t) (w1T m c) := by
    by_cases h : t.val % 16 = 0
    · rw [outsAt0_A m c t h]; unfold outsA; dsimp only; exact outA_5_eq m c t h
    · rw [outsAt0_B m c t h]; unfold outsB; dsimp only; rw [outB_5_eq m c t h, scratch0 m c (t.val - 1) ⟨t.val - 1, Nat.lt_of_le_of_lt (Nat.sub_le _ _) t.isLt⟩ rfl]
  rw [key]
  idx_vars y
  rw [point5 m c t y0 y1]
  blk_ext [idx t]

theorem point6 (c : Dev nD) (t : Fin cfg0.N) (a : Fin 256) (b : Fin 1024) (hx : ∀ j, Real1 (X m c j)) (hg : ∀ j, Real1 (G m c j))
    (hw1 : ∀ j, Real1 (Wa m c j)) (hw2 : ∀ j, Real1 (Wb m c j)) (hg3 : ∀ j, Real1 (G3 m c j)) (htg : ∀ j, Real1 (T m c j)) :
    db (iblk m c 0 t) (iblk m c 1 t) (iblk m c 2 t) (iblk m c 3 t) (w1T m c) (w2T m c) (ix2 a b) = val_main_v108 (X m c) (G m c) (Wa m c) (Wb m c) (G3 m c) (T m c) (ix2 (at_ t a) b) := by
  rw [db_apply]
  simp only [row_x, row_g, row_w1, row_t, row_g3, row_w2]
  pointwise [val_main_v108]
  rw [ref79 (X m c) (G m c) (Wa m c) (Wb m c) (G3 m c) (T m c) hx hg hw1 hw2 hg3 htg]

/-- Result 2 after the run. -/
theorem final6 (c : Dev nD) (hx : ∀ j, Real1 (X m c j)) (hg : ∀ j, Real1 (G m c j))
    (hw1 : ∀ j, Real1 (Wa m c j)) (hw2 : ∀ j, Real1 (Wb m c j)) (hg3 : ∀ j, Real1 (G3 m c j)) (htg : ∀ j, Real1 (T m c j)) :
    (dats m 0 c).arrAt 6 (cfgs 0).N = val_main_v108 (X m c) (G m c) (Wa m c) (Wb m c) (G3 m c) (T m c) := by
  refine (dats m 0 c).arrAt_eq_of_covers 6 _ (by decide +kernel) fun t _ y => ?_
  blk_simp
  rw [after0_6]
  have key : (outsAt0 m c t.val t.isLt).2.2.1 = db (iblk m c 0 t) (iblk m c 1 t) (iblk m c 2 t) (iblk m c 3 t) (w1T m c) (w2T m c) := by
    by_cases h : t.val % 16 = 0
    · rw [outsAt0_A m c t h]; unfold outsA; dsimp only; exact outA_6_eq m c t h
    · rw [outsAt0_B m c t h]; unfold outsB; dsimp only; rw [outB_6_eq m c t h, scratch0 m c (t.val - 1) ⟨t.val - 1, Nat.lt_of_le_of_lt (Nat.sub_le _ _) t.isLt⟩ rfl, scratch1 m c (t.val - 1) ⟨t.val - 1, Nat.lt_of_le_of_lt (Nat.sub_le _ _) t.isLt⟩ rfl]
  rw [key]
  idx_vars y
  rw [point6 m c t y0 y1 hx hg hw1 hw2 hg3 htg]
  blk_ext [idx t]

theorem point7 (c : Dev nD) (t : Fin cfg0.N) (a : Fin 256) (b : Fin 4096) (hx : ∀ j, Real1 (X m c j)) (hg : ∀ j, Real1 (G m c j))
    (hw1 : ∀ j, Real1 (Wa m c j)) (hw2 : ∀ j, Real1 (Wb m c j)) (hg3 : ∀ j, Real1 (G3 m c j)) (htg : ∀ j, Real1 (T m c j)) :
    o7 (iblk m c 0 t) (iblk m c 1 t) (iblk m c 2 t) (iblk m c 3 t) (w1T m c) (w2T m c) (ix2 a b) = val_main_v109 (X m c) (G m c) (Wa m c) (Wb m c) (G3 m c) (T m c) (ix2 (at_ t a) b) := by
  rw [o7_apply]
  simp only [row_x, row_g, row_w1, row_t, row_g3, row_w2]
  pointwise [val_main_v109]
  rw [ref83 (X m c) (G m c) (Wa m c) (Wb m c) (G3 m c) (T m c) hx hg hw1 hw2 hg3 htg]

/-- Result 3 after the run. -/
theorem final7 (c : Dev nD) (hx : ∀ j, Real1 (X m c j)) (hg : ∀ j, Real1 (G m c j))
    (hw1 : ∀ j, Real1 (Wa m c j)) (hw2 : ∀ j, Real1 (Wb m c j)) (hg3 : ∀ j, Real1 (G3 m c j)) (htg : ∀ j, Real1 (T m c j)) :
    (dats m 0 c).arrAt 7 (cfgs 0).N = val_main_v109 (X m c) (G m c) (Wa m c) (Wb m c) (G3 m c) (T m c) := by
  refine (dats m 0 c).arrAt_eq_of_covers 7 _ (by decide +kernel) fun t _ y => ?_
  blk_simp
  rw [after0_7]
  have key : (outsAt0 m c t.val t.isLt).2.2.2.1 = o7 (iblk m c 0 t) (iblk m c 1 t) (iblk m c 2 t) (iblk m c 3 t) (w1T m c) (w2T m c) := by
    by_cases h : t.val % 16 = 0
    · rw [outsAt0_A m c t h]; unfold outsA; dsimp only; exact outA_7_eq m c t h
    · rw [outsAt0_B m c t h]; unfold outsB; dsimp only; rw [outB_7_eq m c t h, scratch0 m c (t.val - 1) ⟨t.val - 1, Nat.lt_of_le_of_lt (Nat.sub_le _ _) t.isLt⟩ rfl, scratch1 m c (t.val - 1) ⟨t.val - 1, Nat.lt_of_le_of_lt (Nat.sub_le _ _) t.isLt⟩ rfl]
  rw [key]
  idx_vars y
  rw [point7 m c t y0 y1 hx hg hw1 hw2 hg3 htg]
  blk_ext [idx t]

theorem point8 (c : Dev nD) (t : Fin cfg0.N) (a : Fin 256) (b : Fin 1024) (hx : ∀ j, Real1 (X m c j)) (hg : ∀ j, Real1 (G m c j))
    (hw1 : ∀ j, Real1 (Wa m c j)) (hw2 : ∀ j, Real1 (Wb m c j)) (hg3 : ∀ j, Real1 (G3 m c j)) (htg : ∀ j, Real1 (T m c j)) :
    o8 (iblk m c 0 t) (iblk m c 1 t) (iblk m c 2 t) (iblk m c 3 t) (w1T m c) (w2T m c) (ix2 a b) = val_main_v110 (X m c) (G m c) (Wa m c) (Wb m c) (G3 m c) (T m c) (ix2 (at_ t a) b) := by
  rw [o8_apply]
  simp only [row_x, row_g, row_w1, row_t, row_g3, row_w2]
  rw [ref110 (X m c) (G m c) (Wa m c) (Wb m c) (G3 m c) (T m c) hx hg hw1 hw2 hg3 htg]

/-- Result 4 after the run. -/
theorem final8 (c : Dev nD) (hx : ∀ j, Real1 (X m c j)) (hg : ∀ j, Real1 (G m c j))
    (hw1 : ∀ j, Real1 (Wa m c j)) (hw2 : ∀ j, Real1 (Wb m c j)) (hg3 : ∀ j, Real1 (G3 m c j)) (htg : ∀ j, Real1 (T m c j)) :
    (dats m 0 c).arrAt 8 (cfgs 0).N = val_main_v110 (X m c) (G m c) (Wa m c) (Wb m c) (G3 m c) (T m c) := by
  refine (dats m 0 c).arrAt_eq_of_covers 8 _ (by decide +kernel) fun t _ y => ?_
  blk_simp
  rw [after0_8]
  have key : (outsAt0 m c t.val t.isLt).2.2.2.2.1 = o8 (iblk m c 0 t) (iblk m c 1 t) (iblk m c 2 t) (iblk m c 3 t) (w1T m c) (w2T m c) := by
    by_cases h : t.val % 16 = 0
    · rw [outsAt0_A m c t h]; unfold outsA; dsimp only; exact outA_8_eq m c t h
    · rw [outsAt0_B m c t h]; unfold outsB; dsimp only; rw [outB_8_eq m c t h, scratch0 m c (t.val - 1) ⟨t.val - 1, Nat.lt_of_le_of_lt (Nat.sub_le _ _) t.isLt⟩ rfl, scratch1 m c (t.val - 1) ⟨t.val - 1, Nat.lt_of_le_of_lt (Nat.sub_le _ _) t.isLt⟩ rfl]
  rw [key]
  idx_vars y
  rw [point8 m c t y0 y1 hx hg hw1 hw2 hg3 htg]
  blk_ext [idx t]

/-- What point `t` adds to result 5. -/
theorem add9 (c : Dev nD) (t : Fin cfg0.N) (acc : Vec Ideal S1x128 .f32) (b : Fin 128) (hx : ∀ j, Real1 (X m c j)) (hg : ∀ j, Real1 (G m c j))
    (hw1 : ∀ j, Real1 (Wa m c j)) (hw2 : ∀ j, Real1 (Wb m c j)) (hg3 : ∀ j, Real1 (G3 m c j)) (htg : ∀ j, Real1 (T m c j)) :
    o9 (iblk m c 0 t) (iblk m c 1 t) (iblk m c 2 t) (iblk m c 3 t) (w1T m c) (w2T m c) acc (ix2 0 b)
      = acc (ix2 0 b) + ∑ a : Fin 256, (∑ k : Fin 1024, Er (row (X m c) (at_ t a)) (row (G m c) 0) (R3 (G3 m c)) (row (T m c) (at_ t a)) (R1 (Wa m c)) (R2 (Wb m c)) k * Er (row (X m c) (at_ t a)) (row (G m c) 0) (R3 (G3 m c)) (row (T m c) (at_ t a)) (R1 (Wa m c)) (R2 (Wb m c)) k) * Ideal.ofBits .f32 0x3A000000#32 := by
  rw [o9_apply]
  simp only [row_x, row_g, row_t, row_g3, row_w1, row_w2]
  have re := fun i => real_Er (row (X m c) i) (row (G m c) 0) (R3 (G3 m c)) (row (T m c) i) (R1 (Wa m c)) (R2 (Wb m c))
    (fun k => hx _) (fun k => hg _) (fun k => hg3 _) (fun k => htg _) (fun f k => hw1 _) (fun f k => hw2 _)
  choose e re using re
  simp only [re, cinvhalf, ← EReal.coe_mul, Cert.Norm.coe_sum]
  rw [Finset.sum_mul]

theorem final9 (c : Dev nD) (hx : ∀ j, Real1 (X m c j)) (hg : ∀ j, Real1 (G m c j))
    (hw1 : ∀ j, Real1 (Wa m c j)) (hw2 : ∀ j, Real1 (Wb m c j)) (hg3 : ∀ j, Real1 (G3 m c j)) (htg : ∀ j, Real1 (T m c j)) :
    (dats m 0 c).arrAt 9 (cfgs 0).N = val_main_v111 (X m c) (G m c) (Wa m c) (Wb m c) (G3 m c) (T m c) := by
  refine (dats m 0 c).arrAt_eq_of_after_last 9 t0_15 (by decide +kernel) _ fun j => ?_
  blk_simp
  idx_vars j
  rw [after0_9, show j0 = 0 from Subsingleton.elim _ _]
  have key := Pipeline.eq_sum_fin_of_reset_step_apply_last (M := EReal) (fun n h (b : Fin 128) => (outsAt0 m c n h).2.2.2.2.2.1 (ix2 0 b)) 16 (fun _ => 0)
    (fun t b => ∑ a : Fin 256, (∑ k : Fin 1024, Er (row (X m c) (at_ t a)) (row (G m c) 0) (R3 (G3 m c)) (row (T m c) (at_ t a)) (R1 (Wa m c)) (R2 (Wb m c)) k * Er (row (X m c) (at_ t a)) (row (G m c) 0) (R3 (G3 m c)) (row (T m c) (at_ t a)) (R1 (Wa m c)) (R2 (Wb m c)) k) * Ideal.ofBits .f32 0x3A000000#32)
    (fun t h b => by
      rw [outsAt0_A m c t h]; unfold outsA; dsimp only
      rw [outA_9_eq m c t h, add9 m c t _ _ hx hg hw1 hw2 hg3 htg]
      congr 1
      pointwise [k0_pay2])
    (fun t h b => by
      rw [outsAt0_B m c t h]; unfold outsB; dsimp only
      rw [outB_9_eq m c t h, scratch0 m c (t.val - 1) ⟨t.val - 1, Nat.lt_of_le_of_lt (Nat.sub_le _ _) t.isLt⟩ rfl, scratch1 m c (t.val - 1) ⟨t.val - 1, Nat.lt_of_le_of_lt (Nat.sub_le _ _) t.isLt⟩ rfl, add9 m c t _ _ hx hg hw1 hw2 hg3 htg])
    (le_of_eq N_0) t0_15 rfl j1
  refine key.trans (Eq.trans ?_ (ref111 (X m c) (G m c) (Wa m c) (Wb m c) (G3 m c) (T m c) hx hg hw1 hw2 hg3 htg j1).symm)
  rw [zero_add]
  exact Fin.sum_mul_add_fin (L := 4096) 16 256 fun i => (∑ k : Fin 1024, Er (row (X m c) i) (row (G m c) 0) (R3 (G3 m c)) (row (T m c) i) (R1 (Wa m c)) (R2 (Wb m c)) k * Er (row (X m c) i) (row (G m c) 0) (R3 (G3 m c)) (row (T m c) i) (R1 (Wa m c)) (R2 (Wb m c)) k) * Ideal.ofBits .f32 0x3A000000#32

/-- What point `t` adds to result 6. -/
theorem add10 (c : Dev nD) (t : Fin cfg0.N) (acc : Vec Ideal S1x1024 .f32) (b : Fin 1024) :
    o10 (iblk m c 0 t) (iblk m c 1 t) (iblk m c 2 t) (iblk m c 3 t) (w1T m c) (w2T m c) acc (ix2 0 b)
      = acc (ix2 0 b) + ∑ a : Fin 256, Dy (row (X m c) (at_ t a)) (row (G m c) 0) (R3 (G3 m c)) (row (T m c) (at_ t a)) (R1 (Wa m c)) (R2 (Wb m c)) b * Hn (row (X m c) (at_ t a)) (row (G m c) 0) (R1 (Wa m c)) (R2 (Wb m c)) b := by
  rw [o10_apply]
  simp only [row_x, row_g, row_t, row_g3, row_w1, row_w2]

theorem final10 (c : Dev nD) (hx : ∀ j, Real1 (X m c j)) (hg : ∀ j, Real1 (G m c j))
    (hw1 : ∀ j, Real1 (Wa m c j)) (hw2 : ∀ j, Real1 (Wb m c j)) (hg3 : ∀ j, Real1 (G3 m c j)) (htg : ∀ j, Real1 (T m c j)) :
    (dats m 0 c).arrAt 10 (cfgs 0).N = val_main_v112 (X m c) (G m c) (Wa m c) (Wb m c) (G3 m c) (T m c) := by
  refine (dats m 0 c).arrAt_eq_of_after_last 10 t0_15 (by decide +kernel) _ fun j => ?_
  blk_simp
  idx_vars j
  rw [after0_10, show j0 = 0 from Subsingleton.elim _ _]
  have key := Pipeline.eq_sum_fin_of_reset_step_apply_last (M := EReal) (fun n h (b : Fin 1024) => (outsAt0 m c n h).2.2.2.2.2.2.1 (ix2 0 b)) 16 (fun _ => 0)
    (fun t b => ∑ a : Fin 256, Dy (row (X m c) (at_ t a)) (row (G m c) 0) (R3 (G3 m c)) (row (T m c) (at_ t a)) (R1 (Wa m c)) (R2 (Wb m c)) b * Hn (row (X m c) (at_ t a)) (row (G m c) 0) (R1 (Wa m c)) (R2 (Wb m c)) b)
    (fun t h b => by
      rw [outsAt0_A m c t h]; unfold outsA; dsimp only
      rw [outA_10_eq m c t h, add10 m c t _ _]
      congr 1
      pointwise [k0_pay3])
    (fun t h b => by
      rw [outsAt0_B m c t h]; unfold outsB; dsimp only
      rw [outB_10_eq m c t h, scratch0 m c (t.val - 1) ⟨t.val - 1, Nat.lt_of_le_of_lt (Nat.sub_le _ _) t.isLt⟩ rfl, scratch1 m c (t.val - 1) ⟨t.val - 1, Nat.lt_of_le_of_lt (Nat.sub_le _ _) t.isLt⟩ rfl, add10 m c t _ _])
    (le_of_eq N_0) t0_15 rfl j1
  refine key.trans (Eq.trans ?_ (ref112 (X m c) (G m c) (Wa m c) (Wb m c) (G3 m c) (T m c) hx hg hw1 hw2 hg3 htg j1).symm)
  rw [zero_add]
  exact Fin.sum_mul_add_fin (L := 4096) 16 256 fun i => Dy (row (X m c) i) (row (G m c) 0) (R3 (G3 m c)) (row (T m c) i) (R1 (Wa m c)) (R2 (Wb m c)) j1 * Hn (row (X m c) i) (row (G m c) 0) (R1 (Wa m c)) (R2 (Wb m c)) j1

/-- What point `t` adds to result 7. -/
theorem add11 (c : Dev nD) (t : Fin cfg0.N) (acc : Vec Ideal S1x1024 .f32) (b : Fin 1024) :
    o11 (iblk m c 0 t) (iblk m c 1 t) (iblk m c 2 t) (iblk m c 3 t) (w1T m c) (w2T m c) acc (ix2 0 b)
      = acc (ix2 0 b) + ∑ a : Fin 256, Dx (row (X m c) (at_ t a)) (row (G m c) 0) (R3 (G3 m c)) (row (T m c) (at_ t a)) (R1 (Wa m c)) (R2 (Wb m c)) b * (row (X m c) (at_ t a) b * rinv (row (X m c) (at_ t a))) := by
  rw [o11_apply]
  simp only [row_x, row_g, row_t, row_g3, row_w1, row_w2]
  exact congrArg (acc (ix2 0 b) + ·) (Finset.sum_congr rfl fun a _ =>
    congrArg (fun z => Dx (row (X m c) (at_ t a)) (row (G m c) 0) (R3 (G3 m c)) (row (T m c) (at_ t a)) (R1 (Wa m c)) (R2 (Wb m c)) b
      * (z * rinv (row (X m c) (at_ t a)))) (congrFun (row_x m c t a) b))

theorem final11 (c : Dev nD) (hx : ∀ j, Real1 (X m c j)) (hg : ∀ j, Real1 (G m c j))
    (hw1 : ∀ j, Real1 (Wa m c j)) (hw2 : ∀ j, Real1 (Wb m c j)) (hg3 : ∀ j, Real1 (G3 m c j)) (htg : ∀ j, Real1 (T m c j)) :
    (dats m 0 c).arrAt 11 (cfgs 0).N = val_main_v105 (X m c) (G m c) (Wa m c) (Wb m c) (G3 m c) (T m c) := by
  refine (dats m 0 c).arrAt_eq_of_after_last 11 t0_15 (by decide +kernel) _ fun j => ?_
  blk_simp
  idx_vars j
  rw [after0_11, show j0 = 0 from Subsingleton.elim _ _]
  have key := Pipeline.eq_sum_fin_of_reset_step_apply_last (M := EReal) (fun n h (b : Fin 1024) => (outsAt0 m c n h).2.2.2.2.2.2.2.1 (ix2 0 b)) 16 (fun _ => 0)
    (fun t b => ∑ a : Fin 256, Dx (row (X m c) (at_ t a)) (row (G m c) 0) (R3 (G3 m c)) (row (T m c) (at_ t a)) (R1 (Wa m c)) (R2 (Wb m c)) b * (row (X m c) (at_ t a) b * rinv (row (X m c) (at_ t a))))
    (fun t h b => by
      rw [outsAt0_A m c t h]; unfold outsA; dsimp only
      rw [outA_11_eq m c t h, add11 m c t _ _]
      congr 1
      pointwise [k0_pay4])
    (fun t h b => by
      rw [outsAt0_B m c t h]; unfold outsB; dsimp only
      rw [outB_11_eq m c t h, scratch0 m c (t.val - 1) ⟨t.val - 1, Nat.lt_of_le_of_lt (Nat.sub_le _ _) t.isLt⟩ rfl, scratch1 m c (t.val - 1) ⟨t.val - 1, Nat.lt_of_le_of_lt (Nat.sub_le _ _) t.isLt⟩ rfl, add11 m c t _ _])
    (le_of_eq N_0) t0_15 rfl j1
  refine key.trans (Eq.trans ?_ (ref105 (X m c) (G m c) (Wa m c) (Wb m c) (G3 m c) (T m c) hx hg hw1 hw2 hg3 htg j1).symm)
  rw [zero_add]
  exact Fin.sum_mul_add_fin (L := 4096) 16 256 fun i => Dx (row (X m c) i) (row (G m c) 0) (R3 (G3 m c)) (row (T m c) i) (R1 (Wa m c)) (R2 (Wb m c)) j1 * (row (X m c) i j1 * rinv (row (X m c) i))

end Cert.MlpIdeal.Own

end
-- ==== Proof.MlpIdeal.Claims.lean ====
module

public import proofs.«01_k».proof.Defs
public import proofs.«01_k».proof.Proof.Gen.Mlp
public import proofs.«01_k».proof.Proof.Gen.Pre_finite_mlp
public import proofs.«01_k».proof.Proof.MlpIdeal.Value
public import proofs.«01_k».proof.Proof.Gen.MlpRefIdeal.Run
public import Idealize.ShloMosaic.Lib.Tactic
public import Idealize.ShloMosaic.Lib.Claim

@[expose] public section

set_option maxRecDepth 16384

noncomputable section

namespace Cert.Proof.Mlp

open Idealize.ShloMosaic Idealize.ShloMosaic.TcCoe Idealize.SL.Sem

/-- The kernel as printed and the kernel read over the extended reals are one text. -/
theorem main_eq : Cert.Mlp.main (F := Bits) = Cert.MlpIdeal.main (F := Bits) := by sl_kernel_rfl
theorem defs_eq : Cert.Mlp.defs (F := Bits) = Cert.MlpIdeal.defs (F := Bits) := by sl_kernel_rfl

/-- So the one run, stated at any floats, is the run of the kernel as printed too. -/
theorem frame_bits : Cert.quiescent_Mlp := fun m ρ _ => by
  have h := Cert.MlpIdeal.Own.frame (F := Bits) m ρ
  rw [← main_eq, ← defs_eq] at h
  exact h

theorem frame_ideal : Cert.quiescent_MlpIdeal := fun m ρ _ => Cert.MlpIdeal.Own.frame m ρ

theorem frame_ideal_pre : Cert.quiescent_MlpIdeal_pre_finite_mlp := fun m ρ _ => Cert.MlpIdeal.Own.frame m ρ

/-- The reference has host operations alone: no operation writes an argument, and no semaphore is declared. -/
theorem frame_ref : Cert.quiescent_MlpRefIdeal := fun m ρ _ =>
  (θ_run Cert.MlpRefIdeal.defs _ _).mono (fun r h => ⟨fun c => (h c).2.2.2.2.2.2.2.2, sem_eq_zero_of_no_sems (by decide) r.2⟩)
    (Cert.MlpRefIdeal.Value.run m ρ)

theorem frame_ref_pre : Cert.quiescent_MlpRefIdeal_pre_finite_mlp := fun m ρ _ => frame_ref m ρ trivial

open Cert.MlpIdeal.Own in
/-- The precondition read at an element: every argument is a real. -/
theorem reals (m : (ℓ : Loc Cert.MlpIdeal.nD Cert.MlpIdeal.τ Cert.MlpIdeal.sig) → Buf (Elt Ideal) ℓ)
    (h : Cert.Pre_MlpIdeal_finite_mlp m) (c : Dev Cert.MlpIdeal.nD) :
    (∀ j, Real1 (X m c j)) ∧ (∀ j, Real1 (G m c j)) ∧ (∀ j, Real1 (Wa m c j)) ∧ (∀ j, Real1 (Wb m c j))
    ∧ (∀ j, Real1 (G3 m c j)) ∧ (∀ j, Real1 (T m c j)) := by
  obtain ⟨h0, h1, h2, h3, h4, h5⟩ := h c
  exact ⟨fun j => Cert.Norm.real_of_lt (congrFun h0 j), fun j => Cert.Norm.real_of_lt (congrFun h1 j),
    fun j => Cert.Norm.real_of_lt (congrFun h2 j), fun j => Cert.Norm.real_of_lt (congrFun h3 j),
    fun j => Cert.Norm.real_of_lt (congrFun h4 j), fun j => Cert.Norm.real_of_lt (congrFun h5 j)⟩

set_option maxHeartbeats 4000000 in
open Cert.MlpIdeal.Own Cert.MlpRefIdeal.Read in
theorem value : Cert.algebraic_MlpIdeal_MlpRefIdeal_pre_finite_mlp := by
  pair_intro
  · run_from Cert.MlpIdeal.Own.run_main m g & Cert.MlpIdeal.Own.frame m g
  · run_from Cert.MlpRefIdeal.Value.run m' g'
    all_goals
      obtain ⟨hx, hg, hw1, hw2, hg3, htg⟩ := reals m hpre c
      obtain ⟨e0, e1, e2, e3, e4, e5⟩ := hagree c
    · rw [final4 m c, val_main_v106_eq]
      change val_main_v106 (m' (c.tc.loc Cert.MlpRefIdeal.main_arg0)) (m' (c.tc.loc Cert.MlpRefIdeal.main_arg1)) = _
      rw [e0, e1]
    · rw [final5 m c, val_main_v107_eq]
      change val_main_v107 (m' (c.tc.loc Cert.MlpRefIdeal.main_arg0)) (m' (c.tc.loc Cert.MlpRefIdeal.main_arg1)) (m' (c.tc.loc Cert.MlpRefIdeal.main_arg2)) = _
      rw [e0, e1, e2]
    · rw [final6 m c hx hg hw1 hw2 hg3 htg, val_main_v108_eq]
      change val_main_v108 (m' (c.tc.loc Cert.MlpRefIdeal.main_arg0)) (m' (c.tc.loc Cert.MlpRefIdeal.main_arg1)) (m' (c.tc.loc Cert.MlpRefIdeal.main_arg2)) (m' (c.tc.loc Cert.MlpRefIdeal.main_arg3)) (m' (c.tc.loc Cert.MlpRefIdeal.main_arg4)) (m' (c.tc.loc Cert.MlpRefIdeal.main_arg5)) = _
      rw [e0, e1, e2, e3, e4, e5]
    · rw [final7 m c hx hg hw1 hw2 hg3 htg, val_main_v109_eq]
      change val_main_v109 (m' (c.tc.loc Cert.MlpRefIdeal.main_arg0)) (m' (c.tc.loc Cert.MlpRefIdeal.main_arg1)) (m' (c.tc.loc Cert.MlpRefIdeal.main_arg2)) (m' (c.tc.loc Cert.MlpRefIdeal.main_arg3)) (m' (c.tc.loc Cert.MlpRefIdeal.main_arg4)) (m' (c.tc.loc Cert.MlpRefIdeal.main_arg5)) = _
      rw [e0, e1, e2, e3, e4, e5]
    · rw [final8 m c hx hg hw1 hw2 hg3 htg, ← e0, val_main_v110_eq]
      change val_main_v110 (m' (c.tc.loc Cert.MlpRefIdeal.main_arg0)) (m' (c.tc.loc Cert.MlpRefIdeal.main_arg1)) (m' (c.tc.loc Cert.MlpRefIdeal.main_arg2)) (m' (c.tc.loc Cert.MlpRefIdeal.main_arg3)) (m' (c.tc.loc Cert.MlpRefIdeal.main_arg4)) (m' (c.tc.loc Cert.MlpRefIdeal.main_arg5)) = _
      rw [e0, e1, e2, e3, e4, e5]
    · rw [final9 m c hx hg hw1 hw2 hg3 htg, val_main_v111_eq]
      change val_main_v111 (m' (c.tc.loc Cert.MlpRefIdeal.main_arg0)) (m' (c.tc.loc Cert.MlpRefIdeal.main_arg1)) (m' (c.tc.loc Cert.MlpRefIdeal.main_arg2)) (m' (c.tc.loc Cert.MlpRefIdeal.main_arg3)) (m' (c.tc.loc Cert.MlpRefIdeal.main_arg4)) (m' (c.tc.loc Cert.MlpRefIdeal.main_arg5)) = _
      rw [e0, e1, e2, e3, e4, e5]
    · rw [final10 m c hx hg hw1 hw2 hg3 htg, val_main_v112_eq]
      change val_main_v112 (m' (c.tc.loc Cert.MlpRefIdeal.main_arg0)) (m' (c.tc.loc Cert.MlpRefIdeal.main_arg1)) (m' (c.tc.loc Cert.MlpRefIdeal.main_arg2)) (m' (c.tc.loc Cert.MlpRefIdeal.main_arg3)) (m' (c.tc.loc Cert.MlpRefIdeal.main_arg4)) (m' (c.tc.loc Cert.MlpRefIdeal.main_arg5)) = _
      rw [e0, e1, e2, e3, e4, e5]
    · rw [final11 m c hx hg hw1 hw2 hg3 htg, val_main_v105_eq]
      change val_main_v105 (m' (c.tc.loc Cert.MlpRefIdeal.main_arg0)) (m' (c.tc.loc Cert.MlpRefIdeal.main_arg1)) (m' (c.tc.loc Cert.MlpRefIdeal.main_arg2)) (m' (c.tc.loc Cert.MlpRefIdeal.main_arg3)) (m' (c.tc.loc Cert.MlpRefIdeal.main_arg4)) (m' (c.tc.loc Cert.MlpRefIdeal.main_arg5)) = _
      rw [e0, e1, e2, e3, e4, e5]

end Cert.Proof.Mlp

end
-- ==== Proof.AttIdeal.RunA.lean ====
module

public import proofs.«01_k».proof.Proof.Gen.AttIdeal.Frame.Runs

@[expose] public section

-- membership in a rectangle of production extents (`View.cover_of_tiled`): the elaborator's structural look
-- recurses once per coordinate of the long axes
set_option maxRecDepth 16384

noncomputable section

namespace Cert.AttIdeal.Own

open Cert.AttIdeal Cert.AttIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 20000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def runA (c : Dev nD) (i : grid0.Coords) (arg1 : Memref sig .tc .smem S8 .f32) (harg1 : arg1.IsWhole) (arg2 : Memref sig .tc .vmem S512x128 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S512x128 .bf16) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S128x1024 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S128x1024 .f32) (harg16 : arg16.IsWhole) (arg17 : Memref sig .tc .vmem S128x1024 .bf16) (harg17 : arg17.IsWhole) (arg18 : Memref sig .tc .vmem S1x4x128x256 .bf16) (harg18 : arg18.IsWhole) (arg19 : Memref sig .tc .vmem S1x1024 .f32) (harg19 : arg19.IsWhole) (arg20 : Memref sig .tc .vmem S4x128x128 .f32) (harg20 : arg20.IsWhole) (arg21 : Memref sig .tc .vmem S4x128x128 .f32) (harg21 : arg21.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S512x128 .bf16) (harg25 : arg25.IsWhole) (arg26 : Memref sig .tc .vmem S128x256 .bf16) (harg26 : arg26.IsWhole) (arg27 : Memref sig .tc .vmem S1x128 .f32) (harg27 : arg27.IsWhole) (arg28 : Memref sig .tc .vmem S128x3072 .bf16) (harg28 : arg28.IsWhole) (arg29 : Memref sig .tc .vmem S1x1024 .f32) (harg29 : arg29.IsWhole) (arg30 : Memref sig .tc .vmem S128x256 .f32) (harg30 : arg30.IsWhole) (arg31 : Memref sig .tc .vmem S4x128x256 .f32) (harg31 : arg31.IsWhole) (hc0 : cond0_0 i)
    (x0 : Vec F S8 .f32) (x1 : Vec F S512x128 .bf16) (x2 : Vec F S128x256 .bf16) (x3 : Vec F S128x256 .bf16) (x4 : Vec F S256x128 .bf16) (x5 : Vec F S256x128 .bf16) (x6 : Vec F S512x128 .bf16) (x7 : Vec F S128x128 .f32) (x8 : Vec F S128x128 .f32) (x9 : Vec F S128x128 .f32) (x10 : Vec F S8x128 .f32) (x11 : Vec F S8x128 .f32) (x12 : Vec F S128x1024 .bf16) (x13 : Vec F S128x1024 .bf16) (x14 : Vec F S128x1024 .bf16) (x15 : Vec F S128x1024 .f32) (x16 : Vec F S128x1024 .bf16) (x17 : Vec F S1x4x128x256 .bf16) (x18 : Vec F S1x1024 .f32) (x19 : Vec F S4x128x128 .f32) (x20 : Vec F S4x128x128 .f32) (x21 : Vec F S4x128x128 .f32) (x22 : Vec F S128x128 .f32) (x23 : Vec F S128x128 .f32) :
    Σ' (L24 : List (View.Piece (Elt F) S512x128 .bf16)), Σ' (L25 : List (View.Piece (Elt F) S128x256 .bf16)), Σ' (L26 : List (View.Piece (Elt F) S1x128 .f32)), Σ' (L27 : List (View.Piece (Elt F) S128x3072 .bf16)), Σ' (L28 : List (View.Piece (Elt F) S1x1024 .f32)), Σ' (LS0 : List (View.Piece (Elt F) S128x256 .f32)), { LS1 : List (View.Piece (Elt F) S4x128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28) ∗ (∃ f, arg30.view.loc (c : Thread nD τ) ↦[arg30.view.set]{fullShare} arg30.view.writes (Elt F) f LS0) ∗ (∃ f, arg31.view.loc (c : Thread nD τ) ↦[arg31.view.set]{fullShare} arg31.view.writes (Elt F) f LS1)) -∗ K ⟨⟩))
          ⊢ wp frame (wpE (defs₀ (F := F)) Variants.none c none) E (cc0_seq_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K } := by
  refine ⟨?_, ?_, ?_, ?_, ?_, ?_, ?_, fun E K => ?run⟩
  case run =>
    simp only [cc0_seq_bwd_eq_skeleton]; unfold cc0_seq_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, ⟨%d26, %f26, -, H26⟩, ⟨%d27, %f27, -, H27⟩, ⟨%d28, %f28, -, H28⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]; · iexists _; iexact H24
    isplitl [H25]; · iexists _; iexact H25
    isplitl [H26]; · iexists _; iexact H26
    isplitl [H27]; · iexists _; iexact H27
    isplitl [H28]; · iexists _; iexact H28
    isplitl [HS0]; · iexists _; iexact HS0
    iexists _; iexact HS1

end Cert.AttIdeal.Own

end
-- ==== Proof.AttIdeal.RunB.lean ====
module

public import proofs.«01_k».proof.Proof.Gen.AttIdeal.Frame.Runs

@[expose] public section

-- membership in a rectangle of production extents (`View.cover_of_tiled`): the elaborator's structural look
-- recurses once per coordinate of the long axes
set_option maxRecDepth 16384

noncomputable section

namespace Cert.AttIdeal.Own

open Cert.AttIdeal Cert.AttIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 20000000 in
/-- What the body's stores leave in each output's staging memref, as pieces (last first) IN CASE B (`scf.if` 0 not taken: points 1, 2, … 31: 31 of 32), WITH the
    proof that on whole staging memrefs — the inputs' at their contents, the outputs it reads before covering (26, 28) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def runB (c : Dev nD) (i : grid0.Coords) (arg1 : Memref sig .tc .smem S8 .f32) (harg1 : arg1.IsWhole) (arg2 : Memref sig .tc .vmem S512x128 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S512x128 .bf16) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S128x1024 .bf16) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S128x1024 .f32) (harg16 : arg16.IsWhole) (arg17 : Memref sig .tc .vmem S128x1024 .bf16) (harg17 : arg17.IsWhole) (arg18 : Memref sig .tc .vmem S1x4x128x256 .bf16) (harg18 : arg18.IsWhole) (arg19 : Memref sig .tc .vmem S1x1024 .f32) (harg19 : arg19.IsWhole) (arg20 : Memref sig .tc .vmem S4x128x128 .f32) (harg20 : arg20.IsWhole) (arg21 : Memref sig .tc .vmem S4x128x128 .f32) (harg21 : arg21.IsWhole) (arg22 : Memref sig .tc .vmem S4x128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S512x128 .bf16) (harg25 : arg25.IsWhole) (arg26 : Memref sig .tc .vmem S128x256 .bf16) (harg26 : arg26.IsWhole) (arg27 : Memref sig .tc .vmem S1x128 .f32) (harg27 : arg27.IsWhole) (arg28 : Memref sig .tc .vmem S128x3072 .bf16) (harg28 : arg28.IsWhole) (arg29 : Memref sig .tc .vmem S1x1024 .f32) (harg29 : arg29.IsWhole) (arg30 : Memref sig .tc .vmem S128x256 .f32) (harg30 : arg30.IsWhole) (arg31 : Memref sig .tc .vmem S4x128x256 .f32) (harg31 : arg31.IsWhole) (hc0 : ¬cond0_0 i)
    (x0 : Vec F S8 .f32) (x1 : Vec F S512x128 .bf16) (x2 : Vec F S128x256 .bf16) (x3 : Vec F S128x256 .bf16) (x4 : Vec F S256x128 .bf16) (x5 : Vec F S256x128 .bf16) (x6 : Vec F S512x128 .bf16) (x7 : Vec F S128x128 .f32) (x8 : Vec F S128x128 .f32) (x9 : Vec F S128x128 .f32) (x10 : Vec F S8x128 .f32) (x11 : Vec F S8x128 .f32) (x12 : Vec F S128x1024 .bf16) (x13 : Vec F S128x1024 .bf16) (x14 : Vec F S128x1024 .bf16) (x15 : Vec F S128x1024 .f32) (x16 : Vec F S128x1024 .bf16) (x17 : Vec F S1x4x128x256 .bf16) (x18 : Vec F S1x1024 .f32) (x19 : Vec F S4x128x128 .f32) (x20 : Vec F S4x128x128 .f32) (x21 : Vec F S4x128x128 .f32) (x22 : Vec F S128x128 .f32) (x23 : Vec F S128x128 .f32) (xo26 : Vec F S1x128 .f32) (xo28 : Vec F S1x1024 .f32) (xs0 : Vec F S128x256 .f32) (xs1 : Vec F S4x128x256 .f32) :
    Σ' (L24 : List (View.Piece (Elt F) S512x128 .bf16)), Σ' (L25 : List (View.Piece (Elt F) S128x256 .bf16)), Σ' (L26 : List (View.Piece (Elt F) S1x128 .f32)), Σ' (L27 : List (View.Piece (Elt F) S128x3072 .bf16)), Σ' (L28 : List (View.Piece (Elt F) S1x1024 .f32)), Σ' (LS0 : List (View.Piece (Elt F) S128x256 .f32)), { LS1 : List (View.Piece (Elt F) S4x128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ d, owns (c : Thread nD τ) arg25 fullShare d) ∗ (∃ d, owns (c : Thread nD τ) arg26 fullShare d) ∗ owns (c : Thread nD τ) arg27 fullShare xo26 ∗ (∃ d, owns (c : Thread nD τ) arg28 fullShare d) ∗ owns (c : Thread nD τ) arg29 fullShare xo28 ∗ owns (c : Thread nD τ) arg30 fullShare xs0 ∗ owns (c : Thread nD τ) arg31 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28) ∗ (∃ f, arg30.view.loc (c : Thread nD τ) ↦[arg30.view.set]{fullShare} arg30.view.writes (Elt F) f LS0) ∗ (∃ f, arg31.view.loc (c : Thread nD τ) ↦[arg31.view.set]{fullShare} arg31.view.writes (Elt F) f LS1)) -∗ K ⟨⟩))
          ⊢ wp frame (wpE (defs₀ (F := F)) Variants.none c none) E (cc0_seq_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K } := by
  refine ⟨?_, ?_, ?_, ?_, ?_, ?_, ?_, fun E K => ?run⟩
  case run =>
    simp only [cc0_seq_bwd_eq_skeleton]; unfold cc0_seq_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, ⟨%f26, %hf26, H26⟩, ⟨%d27, %f27, -, H27⟩, ⟨%f28, %hf28, H28⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg27.eq_unread hf26; obtain rfl := harg29.eq_unread hf28; obtain rfl := harg30.eq_unread hfs0; obtain rfl := harg31.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]; · iexists _; iexact H24
    isplitl [H25]; · iexists _; iexact H25
    isplitl [H26]; · iexists _; iexact H26
    isplitl [H27]; · iexists _; iexact H27
    isplitl [H28]; · iexists _; iexact H28
    isplitl [HS0]; · iexists _; iexact HS0
    iexists _; iexact HS1

end Cert.AttIdeal.Own

end
-- ==== Proof.AttIdeal.Frame.lean ====
module

public import proofs.«01_k».proof.Proof.AttIdeal.RunA
public import proofs.«01_k».proof.Proof.AttIdeal.RunB
public import Idealize.ShloMosaic.Lib.Claim

@[expose] public section

set_option maxRecDepth 16384

noncomputable section

namespace Cert.AttIdeal.Own

open Cert.AttIdeal Cert.AttIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What one grid point leaves: the outputs' blocks, then the scratch carried to the next point. -/
abbrev Outs (F : FTy → Type) [FloatOps F] := Vec F S512x128 .bf16 × Vec F S128x256 .bf16 × Vec F S1x128 .f32 × Vec F S128x3072 .bf16 × Vec F S1x1024 .f32 × Vec F S128x256 .f32 × Vec F S4x128x256 .f32

/-- Case A's run at grid point `t`, on the blocks of that point. -/
def atA (c : Dev nD) (t : Fin cfg0.N) (h : t.val % 32 = 0) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)

/-- Case B's run at grid point `t`, on the blocks of that point. -/
def atB (c : Dev nD) (t : Fin cfg0.N) (h : ¬t.val % 32 = 0) (p : Outs F) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) (fun e => h ((hcond0_0 t).mp e)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) p.2.2.1 p.2.2.2.2.1 p.2.2.2.2.2.1 p.2.2.2.2.2.2

theorem coverA_24 (c : Dev nD) (t : Fin cfg0.N) (h : t.val % 32 = 0) (y : S512x128.Idx) :
    ∃ pc ∈ (atA m c t h).1, y ∈ pc.1.set :=
  View.cover_of_tiledL (atA m c t h).1 S64x128.size (by sl_kernel_rfl) y

def outA_24 (c : Dev nD) (t : Fin cfg0.N) (h : t.val % 32 = 0) : Vec F S512x128 .bf16 :=
  VO0_24.read (Elt F) (VO0_24.writes (Elt F) VO0_24.junk (atA m c t h).1)

theorem coverA_25 (c : Dev nD) (t : Fin cfg0.N) (h : t.val % 32 = 0) (y : S128x256.Idx) :
    ∃ pc ∈ (atA m c t h).2.1, y ∈ pc.1.set :=
  View.cover_of_tiledL (atA m c t h).2.1 S128x128.size (by sl_kernel_rfl) y

def outA_25 (c : Dev nD) (t : Fin cfg0.N) (h : t.val % 32 = 0) : Vec F S128x256 .bf16 :=
  VO0_25.read (Elt F) (VO0_25.writes (Elt F) VO0_25.junk (atA m c t h).2.1)

theorem coverA_26 (c : Dev nD) (t : Fin cfg0.N) (h : t.val % 32 = 0) (y : S1x128.Idx) :
    ∃ pc ∈ (atA m c t h).2.2.1, y ∈ pc.1.set :=
  View.cover_of_tiledL (atA m c t h).2.2.1 S1x128.size (by sl_kernel_rfl) y

def outA_26 (c : Dev nD) (t : Fin cfg0.N) (h : t.val % 32 = 0) : Vec F S1x128 .f32 :=
  VO0_26.read (Elt F) (VO0_26.writes (Elt F) VO0_26.junk (atA m c t h).2.2.1)

theorem coverA_27 (c : Dev nD) (t : Fin cfg0.N) (h : t.val % 32 = 0) (y : S128x3072.Idx) :
    ∃ pc ∈ (atA m c t h).2.2.2.1, y ∈ pc.1.set :=
  View.cover_of_tiledBy (atA m c t h).2.2.2.1 ![128, 128] (by sl_kernel_rfl) y

def outA_27 (c : Dev nD) (t : Fin cfg0.N) (h : t.val % 32 = 0) : Vec F S128x3072 .bf16 :=
  VO0_27.read (Elt F) (VO0_27.writes (Elt F) VO0_27.junk (atA m c t h).2.2.2.1)

theorem coverA_28 (c : Dev nD) (t : Fin cfg0.N) (h : t.val % 32 = 0) (y : S1x1024.Idx) :
    ∃ pc ∈ (atA m c t h).2.2.2.2.1, y ∈ pc.1.set :=
  View.cover_of_tiledBy (atA m c t h).2.2.2.2.1 ![1, 256] (by sl_kernel_rfl) y

def outA_28 (c : Dev nD) (t : Fin cfg0.N) (h : t.val % 32 = 0) : Vec F S1x1024 .f32 :=
  VO0_28.read (Elt F) (VO0_28.writes (Elt F) VO0_28.junk (atA m c t h).2.2.2.2.1)

theorem scoverA_0 (c : Dev nD) (t : Fin cfg0.N) (h : t.val % 32 = 0) (y : S128x256.Idx) :
    ∃ pc ∈ (atA m c t h).2.2.2.2.2.1, y ∈ pc.1.set :=
  View.cover_of_tiledL (atA m c t h).2.2.2.2.2.1 S128x256.size (by sl_kernel_rfl) y

def soutA_0 (c : Dev nD) (t : Fin cfg0.N) (h : t.val % 32 = 0) : Vec F S128x256 .f32 :=
  VS0_0.read (Elt F) (VS0_0.writes (Elt F) VS0_0.junk (atA m c t h).2.2.2.2.2.1)

theorem scoverA_1 (c : Dev nD) (t : Fin cfg0.N) (h : t.val % 32 = 0) (y : S4x128x256.Idx) :
    ∃ pc ∈ (atA m c t h).2.2.2.2.2.2.1, y ∈ pc.1.set :=
  View.cover_of_wholeMem (atA m c t h).2.2.2.2.2.2.1  (by sl_whole_mem) y

def soutA_1 (c : Dev nD) (t : Fin cfg0.N) (h : t.val % 32 = 0) : Vec F S4x128x256 .f32 :=
  VS0_1.read (Elt F) (VS0_1.writes (Elt F) VS0_1.junk (atA m c t h).2.2.2.2.2.2.1)

theorem coverB_24 (c : Dev nD) (t : Fin cfg0.N) (h : ¬t.val % 32 = 0) (p : Outs F) (y : S512x128.Idx) :
    ∃ pc ∈ (atB m c t h p).1, y ∈ pc.1.set :=
  View.cover_of_tiledL (atB m c t h p).1 S64x128.size (by sl_kernel_rfl) y

def outB_24 (c : Dev nD) (t : Fin cfg0.N) (h : ¬t.val % 32 = 0) (p : Outs F) : Vec F S512x128 .bf16 :=
  VO0_24.read (Elt F) (VO0_24.writes (Elt F) VO0_24.junk (atB m c t h p).1)

theorem coverB_25 (c : Dev nD) (t : Fin cfg0.N) (h : ¬t.val % 32 = 0) (p : Outs F) (y : S128x256.Idx) :
    ∃ pc ∈ (atB m c t h p).2.1, y ∈ pc.1.set :=
  View.cover_of_tiledL (atB m c t h p).2.1 S128x128.size (by sl_kernel_rfl) y

def outB_25 (c : Dev nD) (t : Fin cfg0.N) (h : ¬t.val % 32 = 0) (p : Outs F) : Vec F S128x256 .bf16 :=
  VO0_25.read (Elt F) (VO0_25.writes (Elt F) VO0_25.junk (atB m c t h p).2.1)

theorem coverB_26 (c : Dev nD) (t : Fin cfg0.N) (h : ¬t.val % 32 = 0) (p : Outs F) (y : S1x128.Idx) :
    ∃ pc ∈ (atB m c t h p).2.2.1, y ∈ pc.1.set :=
  View.cover_of_tiledL (atB m c t h p).2.2.1 S1x128.size (by sl_kernel_rfl) y

def outB_26 (c : Dev nD) (t : Fin cfg0.N) (h : ¬t.val % 32 = 0) (p : Outs F) : Vec F S1x128 .f32 :=
  VO0_26.read (Elt F) (VO0_26.writes (Elt F) VO0_26.junk (atB m c t h p).2.2.1)

theorem coverB_27 (c : Dev nD) (t : Fin cfg0.N) (h : ¬t.val % 32 = 0) (p : Outs F) (y : S128x3072.Idx) :
    ∃ pc ∈ (atB m c t h p).2.2.2.1, y ∈ pc.1.set :=
  View.cover_of_tiledBy (atB m c t h p).2.2.2.1 ![128, 128] (by sl_kernel_rfl) y

def outB_27 (c : Dev nD) (t : Fin cfg0.N) (h : ¬t.val % 32 = 0) (p : Outs F) : Vec F S128x3072 .bf16 :=
  VO0_27.read (Elt F) (VO0_27.writes (Elt F) VO0_27.junk (atB m c t h p).2.2.2.1)

theorem coverB_28 (c : Dev nD) (t : Fin cfg0.N) (h : ¬t.val % 32 = 0) (p : Outs F) (y : S1x1024.Idx) :
    ∃ pc ∈ (atB m c t h p).2.2.2.2.1, y ∈ pc.1.set :=
  View.cover_of_tiledL (atB m c t h p).2.2.2.2.1 S1x256.size (by sl_kernel_rfl) y

def outB_28 (c : Dev nD) (t : Fin cfg0.N) (h : ¬t.val % 32 = 0) (p : Outs F) : Vec F S1x1024 .f32 :=
  VO0_28.read (Elt F) (VO0_28.writes (Elt F) VO0_28.junk (atB m c t h p).2.2.2.2.1)

theorem scoverB_0 (c : Dev nD) (t : Fin cfg0.N) (h : ¬t.val % 32 = 0) (p : Outs F) (y : S128x256.Idx) :
    ∃ pc ∈ (atB m c t h p).2.2.2.2.2.1, y ∈ pc.1.set :=
  View.cover_of_tiledL (atB m c t h p).2.2.2.2.2.1 S128x256.size (by sl_kernel_rfl) y

def soutB_0 (c : Dev nD) (t : Fin cfg0.N) (h : ¬t.val % 32 = 0) (p : Outs F) : Vec F S128x256 .f32 :=
  VS0_0.read (Elt F) (VS0_0.writes (Elt F) VS0_0.junk (atB m c t h p).2.2.2.2.2.1)

theorem scoverB_1 (c : Dev nD) (t : Fin cfg0.N) (h : ¬t.val % 32 = 0) (p : Outs F) (y : S4x128x256.Idx) :
    ∃ pc ∈ (atB m c t h p).2.2.2.2.2.2.1, y ∈ pc.1.set :=
  View.cover_of_tiledL (atB m c t h p).2.2.2.2.2.2.1 S1x128x256.size (by sl_kernel_rfl) y

def soutB_1 (c : Dev nD) (t : Fin cfg0.N) (h : ¬t.val % 32 = 0) (p : Outs F) : Vec F S4x128x256 .f32 :=
  VS0_1.read (Elt F) (VS0_1.writes (Elt F) VS0_1.junk (atB m c t h p).2.2.2.2.2.2.1)

def outsA (c : Dev nD) (t : Fin cfg0.N) (h : t.val % 32 = 0) : Outs F :=
  (outA_24 m c t h, outA_25 m c t h, outA_26 m c t h, outA_27 m c t h, outA_28 m c t h, soutA_0 m c t h, soutA_1 m c t h)

def outsB (c : Dev nD) (t : Fin cfg0.N) (h : ¬t.val % 32 = 0) (p : Outs F) : Outs F :=
  (outB_24 m c t h p, outB_25 m c t h p, outB_26 m c t h p, outB_27 m c t h p, outB_28 m c t h p, soutB_0 m c t h p, soutB_1 m c t h p)

/-- What is left after grid point `n`, by recursion on the points. -/
def outsAt0 (c : Dev nD) : (n : ℕ) → n < cfg0.N → Outs F
  | 0, hn => outsA m c ⟨0, hn⟩ (Nat.zero_mod _)
  | n + 1, hn =>
    if h : (n + 1) % 32 = 0 then outsA m c ⟨n + 1, hn⟩ h
    else outsB m c ⟨n + 1, hn⟩ h (outsAt0 c n (Nat.lt_of_succ_lt hn))

theorem outsAt0_A (c : Dev nD) (t : Fin cfg0.N) (h : t.val % 32 = 0) :
    outsAt0 m c t.val t.isLt = outsA m c t h := by
  obtain ⟨n, hn⟩ := t
  cases n with
  | zero => exact rfl
  | succ n => exact dif_pos h

theorem outsAt0_B (c : Dev nD) (t : Fin cfg0.N) (h : ¬t.val % 32 = 0) :
    outsAt0 m c t.val t.isLt
      = outsB m c t h (outsAt0 m c (t.val - 1) (Nat.lt_of_le_of_lt (Nat.sub_le _ _) t.isLt)) := by
  obtain ⟨n, hn⟩ := t
  cases n with
  | zero => exact absurd (Nat.zero_mod _) h
  | succ n => exact dif_neg h

/-- The invariant between the points: the carried scratch at what the last point left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.1) ∗ owns (c : Thread nD τ) scM0_1 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.1) ∗ owns (c : Thread nD τ) scM0_1 fullShare ((outsAt0 m c n hn).2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.1) ∗ owns (c : Thread nD τ) scM0_1 fullShare ((outsAt0 m c (n - 1) (by omega)).2.2.2.2.2.2)) ∗ (∃ r, prngReg c r)) := by
  cases n with
  | zero => exact absurd rfl hz
  | succ n => rfl

/-- The pipeline's proof data: input blocks unchanged, outputs and carried scratch as `outsAt0` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => (outsAt0 m c t.val t.isLt).1
    | ⟨25, _⟩ => (outsAt0 m c t.val t.isLt).2.1
    | ⟨26, _⟩ => (outsAt0 m c t.val t.isLt).2.2.1
    | ⟨27, _⟩ => (outsAt0 m c t.val t.isLt).2.2.2.1
    | ⟨28, _⟩ => (outsAt0 m c t.val t.isLt).2.2.2.2.1
    | ⟨_ + 29, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = (outsAt0 m c t.val t.isLt).1 := by dsimp only [dats]
theorem after0_25 (c : Dev nD) (t : Fin cfg0.N) : (dats m 0 c).after 25 t = (outsAt0 m c t.val t.isLt).2.1 := by dsimp only [dats]
theorem after0_26 (c : Dev nD) (t : Fin cfg0.N) : (dats m 0 c).after 26 t = (outsAt0 m c t.val t.isLt).2.2.1 := by dsimp only [dats]
theorem after0_27 (c : Dev nD) (t : Fin cfg0.N) : (dats m 0 c).after 27 t = (outsAt0 m c t.val t.isLt).2.2.2.1 := by dsimp only [dats]
theorem after0_28 (c : Dev nD) (t : Fin cfg0.N) : (dats m 0 c).after 28 t = (outsAt0 m c t.val t.isLt).2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_26_B (c : Dev nD) (t : Fin cfg0.N) (h0 : ¬t.val % 32 = 0) (d) :
    (dats m 0 c).before 26 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 26 rfl t (by omega) (Bool.eq_false_iff.mpr fun h => by have := (flush0_26 _).mp h; dsimp only at this; omega)
    (fun _ => rfl) (fun _ _ => rfl)]
  dsimp only [dats]
theorem before0_28_B (c : Dev nD) (t : Fin cfg0.N) (h0 : ¬t.val % 32 = 0) (d) :
    (dats m 0 c).before 28 t d = (outsAt0 m c (t.val - 1) (Nat.lt_of_le_of_lt (Nat.sub_le _ _) t.isLt)).2.2.2.2.1 := by
  have hN : t.val < 32 := lt_of_lt_of_eq t.isLt (show cfg0.N = 32 from N_0)
  rw [Dat.before_out_kept _ 28 rfl t (by omega) (Bool.eq_false_iff.mpr fun h => by have := (flush0_28 _).mp h; dsimp only at this; omega)
    (fun _ => rfl) (fun _ _ => rfl)]
  dsimp only [dats]

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d)))

/-- What the body gives back at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t))

set_option maxHeartbeats 22400000 in
/-- The body's triple at every point, by the two cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc m c t, PhiS_zero m c _ _ hz, PhiA0_eq]
      rw [outsAt0_A m c t h0]
      unfold outsA outA_24 outA_25 outA_26 outA_27 outA_28 soutA_0 soutA_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
      iapply ((atA m c t h0).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexists _; iexact H24
      isplitl [H25]; · iexists _; iexact H25
      isplitl [H26]; · iexists _; iexact H26
      isplitl [H27]; · iexists _; iexact H27
      isplitl [H28]; · iexists _; iexact H28
      isplitl [HS0]; · iexact HS0
      isplitl [HS1]; · iexact HS1
      iintro ⟨H0, H1, H2, H3, H4, H5, H6, H7, H8, H9, H10, H11, H12, H13, H14, H15, H16, H17, H18, H19, H20, H21, H22, H23, ⟨%e24, H24⟩, ⟨%e25, H25⟩, ⟨%e26, H26⟩, ⟨%e27, H27⟩, ⟨%e28, H28⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA_0 m c t h0)
          unfold owns; iexists _; isplitr
          swap; · iexact HS1
          ipureintro; exact View.read_writes_of_cover _ _ _ _ _ (scoverA_1 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]
      · unfold owns; iexists _; isplitr
        swap; · iexact H24
        ipureintro; exact View.read_writes_of_cover _ _ _ _ _ (coverA_24 m c t h0)
      isplitl [H25]
      · unfold owns; iexists _; isplitr
        swap; · iexact H25
        ipureintro; exact View.read_writes_of_cover _ _ _ _ _ (coverA_25 m c t h0)
      isplitl [H26]
      · unfold owns; iexists _; isplitr
        swap; · iexact H26
        ipureintro; exact View.read_writes_of_cover _ _ _ _ _ (coverA_26 m c t h0)
      isplitl [H27]
      · unfold owns; iexists _; isplitr
        swap; · iexact H27
        ipureintro; exact View.read_writes_of_cover _ _ _ _ _ (coverA_27 m c t h0)
      unfold owns; iexists _; isplitr
      swap; · iexact H28
      ipureintro; exact View.read_writes_of_cover _ _ _ _ _ (coverA_28 m c t h0)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      simp only [before0_26_B m c t h0, before0_28_B m c t h0]
      unfold outsB outB_24 outB_25 outB_26 outB_27 outB_28 soutB_0 soutB_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
      iapply ((atB m c t h0 _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexists _; iexact H24
      isplitl [H25]; · iexists _; iexact H25
      isplitl [H26]; · iexact H26
      isplitl [H27]; · iexists _; iexact H27
      isplitl [H28]; · iexact H28
      isplitl [HS0]; · iexact HS0
      isplitl [HS1]; · iexact HS1
      iintro ⟨H0, H1, H2, H3, H4, H5, H6, H7, H8, H9, H10, H11, H12, H13, H14, H15, H16, H17, H18, H19, H20, H21, H22, H23, ⟨%e24, H24⟩, ⟨%e25, H25⟩, ⟨%e26, H26⟩, ⟨%e27, H27⟩, ⟨%e28, H28⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverB_0 m c t h0 _)
          unfold owns; iexists _; isplitr
          swap; · iexact HS1
          ipureintro; exact View.read_writes_of_cover _ _ _ _ _ (scoverB_1 m c t h0 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]
      · unfold owns; iexists _; isplitr
        swap; · iexact H24
        ipureintro; exact View.read_writes_of_cover _ _ _ _ _ (coverB_24 m c t h0 _)
      isplitl [H25]
      · unfold owns; iexists _; isplitr
        swap; · iexact H25
        ipureintro; exact View.read_writes_of_cover _ _ _ _ _ (coverB_25 m c t h0 _)
      isplitl [H26]
      · unfold owns; iexists _; isplitr
        swap; · iexact H26
        ipureintro; exact View.read_writes_of_cover _ _ _ _ _ (coverB_26 m c t h0 _)
      isplitl [H27]
      · unfold owns; iexists _; isplitr
        swap; · iexact H27
        ipureintro; exact View.read_writes_of_cover _ _ _ _ _ (coverB_27 m c t h0 _)
      unfold owns; iexists _; isplitr
      swap; · iexact H28
      ipureintro; exact View.read_writes_of_cover _ _ _ _ _ (coverB_28 m c t h0 _)

theorem defs₀_row (t : Fin cfg0.N) :
    defs₀ (F := F) .tc cfg0.body (cfg0.bodyArgs t (cfg0.slots t)) = bodyAt0 t := by
  unfold defs₀; rw [Defs.onTc_tc]

set_option maxHeartbeats 2000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 2000000 in
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 32 := N_0; omega)

-- `θ_run_frame_track_shared`'s implicit arguments are found by unifying its conclusion with this one, which takes unfolding plain
-- definitions in a metavariable's type
set_option backward.isDefEq.respectTransparency.types false in
/-- The launch: the arrays after the run, and every semaphore back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame statement: the run ends, the arguments are unchanged, the semaphores are at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.AttIdeal.Own

end
-- ==== Proof.AttIdeal.Claims.lean ====
module

public import proofs.«01_k».proof.Defs
public import proofs.«01_k».proof.Proof.Gen.AttRefIdeal
public import proofs.«01_k».proof.Proof.AttIdeal.Frame
public import proofs.«01_k».proof.Proof.Att.Frame
public import Idealize.ShloMosaic.Lib.Claim

@[expose] public section

set_option maxRecDepth 16384

noncomputable section

namespace Cert.Proof.Att

open Idealize.ShloMosaic Idealize.ShloMosaic.TcCoe Idealize.SL.Sem

theorem frame_bits : Cert.quiescent_Att := fun m ρ _ => Cert.Att.Own.frame m ρ

theorem frame_ideal : Cert.quiescent_AttIdeal := fun m ρ _ => Cert.AttIdeal.Own.frame m ρ

set_option maxHeartbeats 8000000 in
/-- The reference has host operations alone: no operation writes an argument, and no semaphore is declared. -/
theorem frame_ref : Cert.quiescent_AttRefIdeal := fun m ρ _ => by
  hlo_run
  · exact fun _ => ⟨trivial, trivial, trivial, trivial, trivial⟩
  · exact sem_eq_zero_of_no_sems (by decide) _

/-- The mask's value is the one constant that the two programs do not share. -/
theorem preserves : Cert.preserves_Att_AttIdeal := by
  apply IdealRules.named_const.statement; rfl

end Cert.Proof.Att

end
-- ==== Proof.MixfIdeal.Value.lean ====
module

public import proofs.«01_k».proof.Proof.Gen.MixfIdeal.Frame
public import proofs.«01_k».proof.Proof.Gen.MixfRefIdeal.Read
public import Idealize.ShloMosaic.Lib.Pipeline.ValueKit

@[expose] public section

set_option maxRecDepth 16384

noncomputable section

namespace Cert.MixfIdeal.Own

/-! The values of one token and column, from the argument arrays. -/

section
open Cert.MixfRefIdeal Cert.MixfRefIdeal.Read Idealize.ShloMosaic Idealize.ShloMosaic.TcCoe Idealize.SL.Sem
variable (x0 : Vec Ideal S4096x1024 .f32) (x1 : Vec Ideal S4096x512 .f32) (x2 : Vec Ideal S4096x1024 .f32) (x3 : Vec Ideal S4096x2048 .f32)
  (x4 : Vec Ideal S1x2048 .f32) (x5 : Vec Ideal S1x512x1024 .f32) (x6 x7 : Vec Ideal S1x1024x1024 .f32)

/-- The sigmoid of a gate and its bias. -/
def Sg (r : Fin 4096) (j : Fin 2048) : EReal := Ideal.div 1 (1 + Ideal.exp (-(x3 (ix2 r j) + x4 (ix2 0 j))))
abbrev lf (b : Fin 1024) : Fin 2048 := ⟨b.val, by omega⟩
abbrev rt (b : Fin 1024) : Fin 2048 := ⟨1024 + b.val, by omega⟩
/-- The two branches brought up, their gated sum, and the stream it is added to. -/
def Ya (r : Fin 4096) (b : Fin 1024) : EReal := ∑ k, x1 (ix2 r k) * x5 (ix3 0 k b)
def Yr (r : Fin 4096) (b : Fin 1024) : EReal := ∑ k, x2 (ix2 r k) * x6 (ix3 0 k b)
def Mg (r : Fin 4096) (b : Fin 1024) : EReal := Sg x3 x4 r (lf b) * Ya x1 x5 r b + Sg x3 x4 r (rt b) * Yr x2 x6 r b
def Hd (r : Fin 4096) (b : Fin 1024) : EReal := x0 (ix2 r b) + ∑ k, Mg x1 x2 x3 x4 x5 x6 r k * x7 (ix3 0 k b)

/-- An array of tokens by columns, from its entries. -/
def At2 (f : Fin 4096 → Fin 1024 → EReal) : S4096x1024.Idx → EReal := fun y => f (y 0) (y 1)
theorem At2_apply (f : Fin 4096 → Fin 1024 → EReal) (a : Fin 4096) (b : Fin 1024) : At2 f (ix2 a b) = f a b := rfl

/-! The reference's results, in these values. -/

theorem ref30 : val_main_v30 x1 x5 = At2 (Ya x1 x5) := by
  funext y
  idx_vars y
  rw [At2_apply]
  pointwise [val_main_v0, val_main_v1, val_main_v30]
  unfold Ya; try rfl
theorem ref31 : val_main_v31 x2 x6 = At2 (Yr x2 x6) := by
  funext y
  idx_vars y
  rw [At2_apply]
  pointwise [val_main_v2, val_main_v3, val_main_v31]
  unfold Yr; try rfl
theorem ref32 : val_main_v32 x1 x2 x3 x4 x5 x6 = At2 (Mg x1 x2 x3 x4 x5 x6) := by
  funext y
  idx_vars y
  rw [At2_apply]
  pointwise [val_main_cst, val_main_cst_0, val_main_cst_1, val_main_cst_2, val_main_v0, val_main_v1, val_main_v10, val_main_v11, val_main_v12, val_main_v13, val_main_v14, val_main_v15, val_main_v16, val_main_v17, val_main_v18, val_main_v19, val_main_v2, val_main_v20, val_main_v21, val_main_v22, val_main_v23, val_main_v24, val_main_v25, val_main_v26, val_main_v27, val_main_v28, val_main_v29, val_main_v3, val_main_v32, val_main_v4, val_main_v5, val_main_v6, val_main_v7, val_main_v8, val_main_v9]
  unfold Mg Ya Yr Sg; try rfl
theorem ref35 : val_main_v35 x0 x1 x2 x3 x4 x5 x6 x7 = At2 (Hd x0 x1 x2 x3 x4 x5 x6 x7) := by
  funext y
  idx_vars y
  rw [At2_apply]
  pointwise [val_main_cst, val_main_cst_0, val_main_cst_1, val_main_cst_2, val_main_v0, val_main_v1, val_main_v10, val_main_v11, val_main_v12, val_main_v13, val_main_v14, val_main_v15, val_main_v16, val_main_v17, val_main_v18, val_main_v19, val_main_v2, val_main_v20, val_main_v21, val_main_v22, val_main_v23, val_main_v24, val_main_v25, val_main_v26, val_main_v27, val_main_v28, val_main_v29, val_main_v3, val_main_v33, val_main_v34, val_main_v35, val_main_v4, val_main_v5, val_main_v6, val_main_v7, val_main_v8, val_main_v9]
  unfold Hd Mg Ya Yr Sg; try rfl
end

open Cert.MixfIdeal Cert.MixfIdeal.Gen Idealize.ShloMosaic Idealize.ShloMosaic.TcCoe Idealize.SL.Sem
open Idealize.ShloMosaic.Pipeline (Dat)

theorem idx0 : ∀ t : Fin cfg0.N, win0_0.index t = ![0, t.val] ∧ win0_1.index t = ![t.val, 0]
    ∧ win0_2.index t = ![t.val, 0] ∧ win0_3.index t = ![0, 0] ∧ win0_4.index t = ![t.val, 0]
    ∧ win0_5.index t = ![0, 0] ∧ win0_6.index t = ![0, 0] ∧ win0_7.index t = ![0, 0]
    ∧ win0_8.index t = ![t.val, 0] ∧ win0_9.index t = ![t.val, 0] ∧ win0_10.index t = ![t.val, 0]
    ∧ win0_11.index t = ![t.val, 0] ∧ t.val < 8 := (by decide +kernel : ∀ t : Fin grid0.N, _)

theorem lt0 (t : Fin cfg0.N) (a : Fin 512) : t.val * 512 + a.val < 4096 := by
  have := (idx0 t).2.2.2.2.2.2.2.2.2.2.2.2; omega
/-- Row `a` of point `t`'s blocks. -/
abbrev at0 (t : Fin cfg0.N) (a : Fin 512) : Fin 4096 := ⟨t.val * 512 + a.val, lt0 t a⟩

variable (m : (ℓ : Loc nD τ sig) → Buf (Elt Ideal) ℓ) (c : Dev nD)

/-- The arguments of device `c`. -/
abbrev X0 : Vec Ideal S4096x1024 .f32 := m ((c : Thread nD τ).loc main_arg0)
abbrev X1 : Vec Ideal S4096x512 .f32 := m ((c : Thread nD τ).loc main_arg1)
abbrev X2 : Vec Ideal S4096x1024 .f32 := m ((c : Thread nD τ).loc main_arg2)
abbrev X3 : Vec Ideal S4096x2048 .f32 := m ((c : Thread nD τ).loc main_arg3)
abbrev X4 : Vec Ideal S1x2048 .f32 := m ((c : Thread nD τ).loc main_arg4)
abbrev X5 : Vec Ideal S1x512x1024 .f32 := m ((c : Thread nD τ).loc main_arg5)
abbrev X6 : Vec Ideal S1x1024x1024 .f32 := m ((c : Thread nD τ).loc main_arg6)
abbrev X7 : Vec Ideal S1x1024x1024 .f32 := m ((c : Thread nD τ).loc main_arg7)

/-! What the call is entered with. -/

theorem in_v1 (a : Fin 512) (b : Fin 4096) : (V m c main_v1 : Vec Ideal S512x4096 .bf16) (ix2 a b) = X1 m c (ix2 b a) := by
  entry_read
  pointwise
theorem in_v2 (a : Fin 4096) (b : Fin 1024) : (V m c main_v2 : Vec Ideal S4096x1024 .bf16) (ix2 a b) = X2 m c (ix2 a b) := by
  entry_read
  pointwise
theorem in_v3 (a : Fin 4096) (b : Fin 2048) : (V m c main_v3 : Vec Ideal S4096x2048 .bf16) (ix2 a b) = X3 m c (ix2 a b) := by
  entry_read
  pointwise
theorem in_v5 (a : Fin 512) (b : Fin 1024) : (V m c main_v5 : Vec Ideal S512x1024 .bf16) (ix2 a b) = X5 m c (ix3 0 a b) := by
  entry_read
  pointwise
theorem in_v7 (a : Fin 1024) (b : Fin 1024) : (V m c main_v7 : Vec Ideal S1024x1024 .bf16) (ix2 a b) = X6 m c (ix3 0 a b) := by
  entry_read
  pointwise
theorem in_v9 (a : Fin 1024) (b : Fin 1024) : (V m c main_v9 : Vec Ideal S1024x1024 .bf16) (ix2 a b) = X7 m c (ix3 0 a b) := by
  entry_read
  pointwise
theorem in_a0 (a : Fin 4096) (b : Fin 1024) : (V m c main_arg0 : Vec Ideal S4096x1024 .f32) (ix2 a b) = X0 m c (ix2 a b) := by
  entry_read
  rfl
theorem in_a4 (a : Fin 1) (b : Fin 2048) : (V m c main_arg4 : Vec Ideal S1x2048 .f32) (ix2 a b) = X4 m c (ix2 a b) := by
  entry_read
  rfl

/-! A block of an array, read at an index. -/

theorem blk0 (t : Fin cfg0.N) (a : Fin 512) (b : Fin 512) : iblk m c 0 t (ix2 a b) = X1 m c (ix2 (at0 t b) a) := by
  refine Eq.trans (b := (V m c main_v1 : Vec Ideal S512x4096 .bf16) (ix2 a (at0 t b))) ?_ (in_v1 m c _ _)
  blk_ext [iblk, idx0 t]
theorem blk1 (t : Fin cfg0.N) (a : Fin 512) (b : Fin 1024) : iblk m c 1 t (ix2 a b) = X2 m c (ix2 (at0 t a) b) := by
  refine Eq.trans (b := (V m c main_v2 : Vec Ideal S4096x1024 .bf16) (ix2 (at0 t a) b)) ?_ (in_v2 m c _ _)
  blk_ext [iblk, idx0 t]
theorem blk2 (t : Fin cfg0.N) (a : Fin 512) (b : Fin 2048) : iblk m c 2 t (ix2 a b) = X3 m c (ix2 (at0 t a) b) := by
  refine Eq.trans (b := (V m c main_v3 : Vec Ideal S4096x2048 .bf16) (ix2 (at0 t a) b)) ?_ (in_v3 m c _ _)
  blk_ext [iblk, idx0 t]
theorem blk3 (t : Fin cfg0.N) (a : Fin 1) (b : Fin 2048) : iblk m c 3 t (ix2 a b) = X4 m c (ix2 a b) := by
  refine Eq.trans (b := (V m c main_arg4 : Vec Ideal S1x2048 .f32) (ix2 a b)) ?_ (in_a4 m c _ _)
  blk_ext [iblk, idx0 t]
theorem blk4 (t : Fin cfg0.N) (a : Fin 512) (b : Fin 1024) : iblk m c 4 t (ix2 a b) = X0 m c (ix2 (at0 t a) b) := by
  refine Eq.trans (b := (V m c main_arg0 : Vec Ideal S4096x1024 .f32) (ix2 (at0 t a) b)) ?_ (in_a0 m c _ _)
  blk_ext [iblk, idx0 t]
theorem blk5 (t : Fin cfg0.N) (a : Fin 512) (b : Fin 1024) : iblk m c 5 t (ix2 a b) = X5 m c (ix3 0 a b) := by
  refine Eq.trans (b := (V m c main_v5 : Vec Ideal S512x1024 .bf16) (ix2 a b)) ?_ (in_v5 m c _ _)
  blk_ext [iblk, idx0 t]
theorem blk6 (t : Fin cfg0.N) (a : Fin 1024) (b : Fin 1024) : iblk m c 6 t (ix2 a b) = X6 m c (ix3 0 a b) := by
  refine Eq.trans (b := (V m c main_v7 : Vec Ideal S1024x1024 .bf16) (ix2 a b)) ?_ (in_v7 m c _ _)
  blk_ext [iblk, idx0 t]
theorem blk7 (t : Fin cfg0.N) (a : Fin 1024) (b : Fin 1024) : iblk m c 7 t (ix2 a b) = X7 m c (ix3 0 a b) := by
  refine Eq.trans (b := (V m c main_v9 : Vec Ideal S1024x1024 .bf16) (ix2 a b)) ?_ (in_v9 m c _ _)
  blk_ext [iblk, idx0 t]

/-! What the call leaves. -/

theorem out8_eq (x0 : Vec Ideal S512x512 .bf16) (x1 : Vec Ideal S512x1024 .bf16) (x2 : Vec Ideal S512x2048 .bf16) (x3 : Vec Ideal S1x2048 .f32) (x4 : Vec Ideal S512x1024 .f32) (x5 : Vec Ideal S512x1024 .bf16) (x6 x7 : Vec Ideal S1024x1024 .bf16) :
    out0_8 x0 x1 x2 x3 x4 x5 x6 x7 = k0_pay5 x0 x5 := by
  unfold out0_8; frame_out
theorem fwd8 (t : Fin cfg0.N) (a : Fin 512) (b : Fin 1024) : k0_pay5 (iblk m c 0 t) (iblk m c 5 t) (ix2 a b) = Ya (X1 m c) (X5 m c) (at0 t a) b := by
  pointwise [k0_pay5, k0_pay2]
  simp only [blk0, blk1, blk2, blk3, blk4, blk5, blk6, blk7, sub_eq_add_neg, zero_add]
  rfl
theorem end8 : (dats m 0 c).arrAt 8 cfg0.N = At2 (Ya (X1 m c) (X5 m c)) := by
  refine (dats m 0 c).arrAt_eq_of_covers 8 _ (by decide +kernel) fun t _ y => ?_
  blk_simp
  rw [after0_8, out8_eq]
  idx_vars y
  rw [fwd8 m c t y0 y1, ← At2_apply (Ya (X1 m c) (X5 m c))]
  blk_ext [idx0 t]

theorem out9_eq (x0 : Vec Ideal S512x512 .bf16) (x1 : Vec Ideal S512x1024 .bf16) (x2 : Vec Ideal S512x2048 .bf16) (x3 : Vec Ideal S1x2048 .f32) (x4 : Vec Ideal S512x1024 .f32) (x5 : Vec Ideal S512x1024 .bf16) (x6 x7 : Vec Ideal S1024x1024 .bf16) :
    out0_9 x0 x1 x2 x3 x4 x5 x6 x7 = k0_pay6 x1 x6 := by
  unfold out0_9; frame_out
theorem fwd9 (t : Fin cfg0.N) (a : Fin 512) (b : Fin 1024) : k0_pay6 (iblk m c 1 t) (iblk m c 6 t) (ix2 a b) = Yr (X2 m c) (X6 m c) (at0 t a) b := by
  pointwise [k0_pay6, k0_pay3]
  simp only [blk0, blk1, blk2, blk3, blk4, blk5, blk6, blk7, sub_eq_add_neg, zero_add]
  rfl
theorem end9 : (dats m 0 c).arrAt 9 cfg0.N = At2 (Yr (X2 m c) (X6 m c)) := by
  refine (dats m 0 c).arrAt_eq_of_covers 9 _ (by decide +kernel) fun t _ y => ?_
  blk_simp
  rw [after0_9, out9_eq]
  idx_vars y
  rw [fwd9 m c t y0 y1, ← At2_apply (Yr (X2 m c) (X6 m c))]
  blk_ext [idx0 t]

theorem out10_eq (x0 : Vec Ideal S512x512 .bf16) (x1 : Vec Ideal S512x1024 .bf16) (x2 : Vec Ideal S512x2048 .bf16) (x3 : Vec Ideal S1x2048 .f32) (x4 : Vec Ideal S512x1024 .f32) (x5 : Vec Ideal S512x1024 .bf16) (x6 x7 : Vec Ideal S1024x1024 .bf16) :
    out0_10 x0 x1 x2 x3 x4 x5 x6 x7 = k0_pay4 x0 x5 x1 x6 x2 x3 := by
  unfold out0_10 k0_pay7; frame_out
theorem fwd10 (t : Fin cfg0.N) (a : Fin 512) (b : Fin 1024) : k0_pay4 (iblk m c 0 t) (iblk m c 5 t) (iblk m c 1 t) (iblk m c 6 t) (iblk m c 2 t) (iblk m c 3 t) (ix2 a b) = Mg (X1 m c) (X2 m c) (X3 m c) (X4 m c) (X5 m c) (X6 m c) (at0 t a) b := by
  pointwise [k0_pay4, k0_pay2, k0_pay3]
  simp only [blk0, blk1, blk2, blk3, blk4, blk5, blk6, blk7, sub_eq_add_neg, zero_add]
  rfl
theorem end10 : (dats m 0 c).arrAt 10 cfg0.N = At2 (Mg (X1 m c) (X2 m c) (X3 m c) (X4 m c) (X5 m c) (X6 m c)) := by
  refine (dats m 0 c).arrAt_eq_of_covers 10 _ (by decide +kernel) fun t _ y => ?_
  blk_simp
  rw [after0_10, out10_eq]
  idx_vars y
  rw [fwd10 m c t y0 y1, ← At2_apply (Mg (X1 m c) (X2 m c) (X3 m c) (X4 m c) (X5 m c) (X6 m c))]
  blk_ext [idx0 t]

theorem out11_eq (x0 : Vec Ideal S512x512 .bf16) (x1 : Vec Ideal S512x1024 .bf16) (x2 : Vec Ideal S512x2048 .bf16) (x3 : Vec Ideal S1x2048 .f32) (x4 : Vec Ideal S512x1024 .f32) (x5 : Vec Ideal S512x1024 .bf16) (x6 x7 : Vec Ideal S1024x1024 .bf16) :
    out0_11 x0 x1 x2 x3 x4 x5 x6 x7 = k0_pay1 (k0_pay4 x0 x5 x1 x6 x2 x3) x4 x7 := by
  unfold out0_11 k0_pay7; frame_out
theorem fwd11 (t : Fin cfg0.N) (a : Fin 512) (b : Fin 1024) : k0_pay1 (k0_pay4 (iblk m c 0 t) (iblk m c 5 t) (iblk m c 1 t) (iblk m c 6 t) (iblk m c 2 t) (iblk m c 3 t)) (iblk m c 4 t) (iblk m c 7 t) (ix2 a b) = Hd (X0 m c) (X1 m c) (X2 m c) (X3 m c) (X4 m c) (X5 m c) (X6 m c) (X7 m c) (at0 t a) b := by
  pointwise [k0_pay1, k0_pay4, k0_pay2, k0_pay3]
  simp only [blk0, blk1, blk2, blk3, blk4, blk5, blk6, blk7, sub_eq_add_neg, zero_add]
  rfl
theorem end11 : (dats m 0 c).arrAt 11 cfg0.N = At2 (Hd (X0 m c) (X1 m c) (X2 m c) (X3 m c) (X4 m c) (X5 m c) (X6 m c) (X7 m c)) := by
  refine (dats m 0 c).arrAt_eq_of_covers 11 _ (by decide +kernel) fun t _ y => ?_
  blk_simp
  rw [after0_11, out11_eq]
  idx_vars y
  rw [fwd11 m c t y0 y1, ← At2_apply (Hd (X0 m c) (X1 m c) (X2 m c) (X3 m c) (X4 m c) (X5 m c) (X6 m c) (X7 m c))]
  blk_ext [idx0 t]

end Cert.MixfIdeal.Own

end
-- ==== Proof.MixfIdeal.Claims.lean ====
module

public import proofs.«01_k».proof.Defs
public import proofs.«01_k».proof.Proof.Gen.Mixf.Frame
public import proofs.«01_k».proof.Proof.Gen.MixfIdeal.Frame
public import proofs.«01_k».proof.Proof.Gen.MixfRefIdeal.Run
public import proofs.«01_k».proof.Proof.MixfIdeal.Value
public import Idealize.ShloMosaic.Lib.Tactic
public import Idealize.ShloMosaic.Lib.Claim

@[expose] public section

set_option maxRecDepth 16384

noncomputable section

namespace Cert.Proof.Mixf

open Idealize.ShloMosaic Idealize.ShloMosaic.TcCoe Idealize.SL.Sem

theorem frame_bits : Cert.quiescent_Mixf := fun m ρ _ => Cert.Mixf.Gen.frame m ρ

theorem frame_ideal : Cert.quiescent_MixfIdeal := fun m ρ _ => Cert.MixfIdeal.Gen.frame m ρ

/-- The reference has host operations alone: no operation writes an argument, and no semaphore is declared. -/
theorem frame_ref : Cert.quiescent_MixfRefIdeal := fun m ρ _ =>
  (θ_run Cert.MixfRefIdeal.defs _ _).mono (fun r h => ⟨fun c => (h c).2.2.2.2, sem_eq_zero_of_no_sems (by decide) r.2⟩)
    (Cert.MixfRefIdeal.Value.run m ρ)

set_option maxHeartbeats 4000000 in
open Cert.MixfIdeal.Gen Cert.MixfIdeal.Own Cert.MixfRefIdeal.Read in
theorem value : Cert.algebraic_MixfIdeal_MixfRefIdeal := by
  pair_intro
  · run_from Cert.MixfIdeal.Gen.run_main m g
  · run_from Cert.MixfRefIdeal.Value.run m' g'
    all_goals
      obtain ⟨e0, e1, e2, e3, e4, e5, e6, e7⟩ := hagree c
    · rw [end8, val_main_v30_eq, ref30]
    · rw [end9, val_main_v31_eq, ref31]
    · rw [end10, val_main_v32_eq, ref32]
    · rw [end11, val_main_v35_eq, ref35]

end Cert.Proof.Mixf

end
-- ==== Proof.MmIdeal.Value.lean ====
module

public import proofs.«01_k».proof.Proof.Gen.MmIdeal.Frame
public import proofs.«01_k».proof.Proof.Gen.MmRefIdeal.Read
public import Idealize.ShloMosaic.Lib.StableHlo.ReadAt
public import Idealize.ShloMosaic.Lib.Pipeline.ValueKit

@[expose] public section

set_option maxRecDepth 16384

noncomputable section

namespace Cert.MmIdeal.Own

section
open Cert.MmRefIdeal Cert.MmRefIdeal.Read Idealize.ShloMosaic Idealize.ShloMosaic.TcCoe Idealize.SL.Sem
variable (x0 : Vec Ideal S4096x4096 .f32) (x1 : Vec Ideal S4096x1024 .f32)

/-- The gradient of one weight: the sum over the tokens. -/
def Gw (a : Fin 4096) (b : Fin 1024) : EReal := ∑ k, x0 (ix2 k a) * x1 (ix2 k b)

/-- An array of hidden columns by columns, from its entries. -/
def At2 (f : Fin 4096 → Fin 1024 → EReal) : S4096x1024.Idx → EReal := fun y => f (y 0) (y 1)
theorem At2_apply (f : Fin 4096 → Fin 1024 → EReal) (a : Fin 4096) (b : Fin 1024) : At2 f (ix2 a b) = f a b := rfl

theorem ref4 : val_main_v4 x0 x1 = At2 (Gw x0 x1) := by
  funext y
  idx_vars y
  rw [At2_apply]
  pointwise [val_main_v3, val_main_v4]
  unfold Gw; exact Finset.sum_congr rfl fun k _ => mul_comm _ _
/-- The reference's result. -/
abbrev val5 : Vec Ideal S1x4096x1024 .f32 := val_main_v5 x0 x1
end

open Cert.MmIdeal Cert.MmIdeal.Gen Idealize.ShloMosaic Idealize.ShloMosaic.TcCoe Idealize.SL.Sem
open Idealize.ShloMosaic.Pipeline (Dat)

theorem idx0 : ∀ t : Fin cfg0.N, win0_0.index t = ![0, t.val] ∧ win0_1.index t = ![0, 0]
    ∧ win0_2.index t = ![t.val, 0] ∧ t.val < 4 := (by decide +kernel : ∀ t : Fin grid0.N, _)

theorem lt0 (t : Fin cfg0.N) (a : Fin 1024) : t.val * 1024 + a.val < 4096 := by
  have := (idx0 t).2.2.2; omega
/-- Row `a` of point `t`'s block of the result. -/
abbrev at0 (t : Fin cfg0.N) (a : Fin 1024) : Fin 4096 := ⟨t.val * 1024 + a.val, lt0 t a⟩

variable (m : (ℓ : Loc nD τ sig) → Buf (Elt Ideal) ℓ) (c : Dev nD)

/-- The arguments of device `c`. -/
abbrev X0 : Vec Ideal S4096x4096 .f32 := m ((c : Thread nD τ).loc main_arg0)
abbrev X1 : Vec Ideal S4096x1024 .f32 := m ((c : Thread nD τ).loc main_arg1)

theorem in_v0 (a b : Fin 4096) : (V m c main_v0 : Vec Ideal S4096x4096 .bf16) (ix2 a b) = X0 m c (ix2 a b) := by
  change (StableHlo.after hostOps0 (fun b => m (c, b)) (Proc.devRef .tc main_v0) : Vec Ideal S4096x4096 .bf16) (ix2 a b) = _
  entry_read
  pointwise
theorem in_a1 (a : Fin 4096) (b : Fin 1024) : (V m c main_arg1 : Vec Ideal S4096x1024 .f32) (ix2 a b) = X1 m c (ix2 a b) := by
  entry_read
  rfl
theorem blk0 (t : Fin cfg0.N) (a : Fin 4096) (b : Fin 1024) :
    iblk m c 0 t (ix2 a b) = (V m c main_v0 : Vec Ideal S4096x4096 .bf16) (ix2 a (at0 t b)) := by blk_ext [iblk, idx0 t]
theorem blk1 (t : Fin cfg0.N) (a : Fin 4096) (b : Fin 1024) :
    iblk m c 1 t (ix2 a b) = (V m c main_arg1 : Vec Ideal S4096x1024 .f32) (ix2 a b) := by blk_ext [iblk, idx0 t]

theorem out2_eq (x0 : Vec Ideal S4096x1024 .bf16) (x1 : Vec Ideal S4096x1024 .f32) : out0_2 x0 x1 = k0_pay1 x0 x1 := by
  unfold out0_2; frame_out
theorem fwd2 (t : Fin cfg0.N) (a b : Fin 1024) : k0_pay1 (iblk m c 0 t) (iblk m c 1 t) (ix2 a b) = Gw (X0 m c) (X1 m c) (at0 t a) b := by
  pointwise [k0_pay1]
  simp only [blk0, blk1, in_v0, in_a1, zero_add]
  rfl
theorem end2 : (dats m 0 c).arrAt 2 cfg0.N = At2 (Gw (X0 m c) (X1 m c)) := by
  refine (dats m 0 c).arrAt_eq_of_covers 2 _ (by decide +kernel) fun t _ y => ?_
  blk_simp
  rw [after0_2, out2_eq]
  idx_vars y
  rw [fwd2 m c t y0 y1, ← At2_apply (Gw (X0 m c) (X1 m c))]
  blk_ext [idx0 t]

/-- What the line after the call makes of it. -/
theorem tail2 : (Pipeline.afterTail₀ cfgs (dats m) 0 (V0 m) [hostOps1] c main_v2 : Vec Ideal S1x4096x1024 .f32) = val5 (X0 m c) (X1 m c) := by
  have h : Pipeline.withArrays (cfgs 0).spec c (V0 m c) (fun w => (dats m 0 c).arrAt w (cfgs 0).N) (Proc.devRef .tc main_v1) = At2 (Gw (X0 m c) (X1 m c)) :=
    (Pipeline.withArrays_arr spec0 (by decide) c _ _ 2).trans (end2 m c)
  unfold Pipeline.afterTail₀
  after_reads_simp
  rw [h, ← ref4]
  rfl

end Cert.MmIdeal.Own

end
-- ==== Proof.MmIdeal.Claims.lean ====
module

public import proofs.«01_k».proof.Defs
public import proofs.«01_k».proof.Proof.Gen.Mm.Frame
public import proofs.«01_k».proof.Proof.Gen.MmIdeal.Frame
public import proofs.«01_k».proof.Proof.Gen.MmRefIdeal.Run
public import proofs.«01_k».proof.Proof.MmIdeal.Value
public import Idealize.ShloMosaic.Lib.Tactic
public import Idealize.ShloMosaic.Lib.Claim

@[expose] public section

set_option maxRecDepth 16384

noncomputable section

namespace Cert.Proof.Mm

open Idealize.ShloMosaic Idealize.ShloMosaic.TcCoe Idealize.SL.Sem

theorem frame_bits : Cert.quiescent_Mm := fun m ρ _ => Cert.Mm.Gen.frame m ρ

theorem frame_ideal : Cert.quiescent_MmIdeal := fun m ρ _ => Cert.MmIdeal.Gen.frame m ρ

/-- The reference has host operations alone: no operation writes an argument, and no semaphore is declared. -/
theorem frame_ref : Cert.quiescent_MmRefIdeal := fun m ρ _ =>
  (θ_run Cert.MmRefIdeal.defs _ _).mono (fun r h => ⟨fun c => (h c).2, sem_eq_zero_of_no_sems (by decide) r.2⟩)
    (Cert.MmRefIdeal.Value.run m ρ)

set_option maxHeartbeats 4000000 in
open Cert.MmIdeal.Gen Cert.MmIdeal.Own Cert.MmRefIdeal.Read in
theorem value : Cert.algebraic_MmIdeal_MmRefIdeal := by
  pair_intro
  · run_from Cert.MmIdeal.Gen.run_main m g & Cert.MmIdeal.Gen.frame m g
    exact Cert.MmIdeal.Gen.W_main_arg0 m _ c
  · run_from Cert.MmRefIdeal.Value.run m' g'
    all_goals
      obtain ⟨e0, e1⟩ := hagree c
    rw [tail2, val_main_v5_eq]

end Cert.Proof.Mm

end
-- ==== Proof.AdamRefIdeal.Run.lean ====
module

public import proofs.«01_k».proof.Proof.Gen.AdamRefIdeal.Run
public import proofs.«01_k».proof.Proof.Gen.AdamRefIdeal.Read
public import Idealize.ShloMosaic.Lib.Tactic

@[expose] public section

set_option maxRecDepth 16384

noncomputable section

namespace Cert.AdamRefIdeal.Own

open Cert.AdamRefIdeal Cert.AdamRefIdeal.Read Idealize.ShloMosaic Idealize.ShloMosaic.TcCoe Idealize.ShloMosaic.StableHlo Idealize.SL.Sem

set_option maxHeartbeats 4000000 in
/-- A run of the reference leaves its results at their stages, and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = val_main_v0 (F := Ideal) (m ((c.tc : Thread nD τ).loc main_arg0))
      ∧ r.2.mem ((c.tc : Thread nD τ).loc main_v1) = val_main_v1 (F := Ideal) (m ((c.tc : Thread nD τ).loc main_arg1))
      ∧ r.2.mem ((c.tc : Thread nD τ).loc main_v2) = val_main_v2 (F := Ideal) (m ((c.tc : Thread nD τ).loc main_arg2))
      ∧ r.2.mem ((c.tc : Thread nD τ).loc main_v3) = val_main_v3 (F := Ideal) (m ((c.tc : Thread nD τ).loc main_arg3))
      ∧ r.2.mem ((c.tc : Thread nD τ).loc main_v4) = val_main_v4 (F := Ideal) (m ((c.tc : Thread nD τ).loc main_arg4))
      ∧ r.2.mem ((c.tc : Thread nD τ).loc main_v5) = val_main_v5 (F := Ideal) (m ((c.tc : Thread nD τ).loc main_arg5))
      ∧ r.2.mem ((c.tc : Thread nD τ).loc main_v29) = val_main_v29 (F := Ideal) (m ((c.tc : Thread nD τ).loc main_arg0)) (m ((c.tc : Thread nD τ).loc main_arg6)) (m ((c.tc : Thread nD τ).loc main_arg12)) (m ((c.tc : Thread nD τ).loc main_arg18))
      ∧ r.2.mem ((c.tc : Thread nD τ).loc main_v53) = val_main_v53 (F := Ideal) (m ((c.tc : Thread nD τ).loc main_arg1)) (m ((c.tc : Thread nD τ).loc main_arg7)) (m ((c.tc : Thread nD τ).loc main_arg13)) (m ((c.tc : Thread nD τ).loc main_arg19))
      ∧ r.2.mem ((c.tc : Thread nD τ).loc main_v77) = val_main_v77 (F := Ideal) (m ((c.tc : Thread nD τ).loc main_arg2)) (m ((c.tc : Thread nD τ).loc main_arg8)) (m ((c.tc : Thread nD τ).loc main_arg14)) (m ((c.tc : Thread nD τ).loc main_arg20))
      ∧ r.2.mem ((c.tc : Thread nD τ).loc main_v101) = val_main_v101 (F := Ideal) (m ((c.tc : Thread nD τ).loc main_arg3)) (m ((c.tc : Thread nD τ).loc main_arg9)) (m ((c.tc : Thread nD τ).loc main_arg15)) (m ((c.tc : Thread nD τ).loc main_arg21))
      ∧ r.2.mem ((c.tc : Thread nD τ).loc main_v125) = val_main_v125 (F := Ideal) (m ((c.tc : Thread nD τ).loc main_arg4)) (m ((c.tc : Thread nD τ).loc main_arg10)) (m ((c.tc : Thread nD τ).loc main_arg16)) (m ((c.tc : Thread nD τ).loc main_arg22))
      ∧ r.2.mem ((c.tc : Thread nD τ).loc main_v149) = val_main_v149 (F := Ideal) (m ((c.tc : Thread nD τ).loc main_arg5)) (m ((c.tc : Thread nD τ).loc main_arg11)) (m ((c.tc : Thread nD τ).loc main_arg17)) (m ((c.tc : Thread nD τ).loc main_arg23))
      ∧ r.2.mem ((c.tc : Thread nD τ).loc main_v10) = val_main_v10 (F := Ideal) (m ((c.tc : Thread nD τ).loc main_arg0)) (m ((c.tc : Thread nD τ).loc main_arg12))
      ∧ r.2.mem ((c.tc : Thread nD τ).loc main_v34) = val_main_v34 (F := Ideal) (m ((c.tc : Thread nD τ).loc main_arg1)) (m ((c.tc : Thread nD τ).loc main_arg13))
      ∧ r.2.mem ((c.tc : Thread nD τ).loc main_v58) = val_main_v58 (F := Ideal) (m ((c.tc : Thread nD τ).loc main_arg2)) (m ((c.tc : Thread nD τ).loc main_arg14))
      ∧ r.2.mem ((c.tc : Thread nD τ).loc main_v82) = val_main_v82 (F := Ideal) (m ((c.tc : Thread nD τ).loc main_arg3)) (m ((c.tc : Thread nD τ).loc main_arg15))
      ∧ r.2.mem ((c.tc : Thread nD τ).loc main_v106) = val_main_v106 (F := Ideal) (m ((c.tc : Thread nD τ).loc main_arg4)) (m ((c.tc : Thread nD τ).loc main_arg16))
      ∧ r.2.mem ((c.tc : Thread nD τ).loc main_v130) = val_main_v130 (F := Ideal) (m ((c.tc : Thread nD τ).loc main_arg5)) (m ((c.tc : Thread nD τ).loc main_arg17))
      ∧ r.2.mem ((c.tc : Thread nD τ).loc main_v16) = val_main_v16 (F := Ideal) (m ((c.tc : Thread nD τ).loc main_arg0)) (m ((c.tc : Thread nD τ).loc main_arg18))
      ∧ r.2.mem ((c.tc : Thread nD τ).loc main_v40) = val_main_v40 (F := Ideal) (m ((c.tc : Thread nD τ).loc main_arg1)) (m ((c.tc : Thread nD τ).loc main_arg19))
      ∧ r.2.mem ((c.tc : Thread nD τ).loc main_v64) = val_main_v64 (F := Ideal) (m ((c.tc : Thread nD τ).loc main_arg2)) (m ((c.tc : Thread nD τ).loc main_arg20))
      ∧ r.2.mem ((c.tc : Thread nD τ).loc main_v88) = val_main_v88 (F := Ideal) (m ((c.tc : Thread nD τ).loc main_arg3)) (m ((c.tc : Thread nD τ).loc main_arg21))
      ∧ r.2.mem ((c.tc : Thread nD τ).loc main_v112) = val_main_v112 (F := Ideal) (m ((c.tc : Thread nD τ).loc main_arg4)) (m ((c.tc : Thread nD τ).loc main_arg22))
      ∧ r.2.mem ((c.tc : Thread nD τ).loc main_v136) = val_main_v136 (F := Ideal) (m ((c.tc : Thread nD τ).loc main_arg5)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) := by
  refine (θ_run defs _ _).mono (fun r h c => ?_) (Cert.AdamRefIdeal.Value.run m ρ)
  obtain ⟨h0, h1, h2, h3, h4, h5, h6, h7, h8, h9, h10, h11, h12, h13, h14, h15, h16, h17, h18, h19, h20, h21, h22, h23, hr⟩ := h c
  exact ⟨h0.trans (val_main_v0_eq (launchContents m c)),
    h1.trans (val_main_v1_eq (launchContents m c)),
    h2.trans (val_main_v2_eq (launchContents m c)),
    h3.trans (val_main_v3_eq (launchContents m c)),
    h4.trans (val_main_v4_eq (launchContents m c)),
    h5.trans (val_main_v5_eq (launchContents m c)),
    h6.trans (val_main_v29_eq (launchContents m c)),
    h7.trans (val_main_v53_eq (launchContents m c)),
    h8.trans (val_main_v77_eq (launchContents m c)),
    h9.trans (val_main_v101_eq (launchContents m c)),
    h10.trans (val_main_v125_eq (launchContents m c)),
    h11.trans (val_main_v149_eq (launchContents m c)),
    h12.trans (val_main_v10_eq (launchContents m c)),
    h13.trans (val_main_v34_eq (launchContents m c)),
    h14.trans (val_main_v58_eq (launchContents m c)),
    h15.trans (val_main_v82_eq (launchContents m c)),
    h16.trans (val_main_v106_eq (launchContents m c)),
    h17.trans (val_main_v130_eq (launchContents m c)),
    h18.trans (val_main_v16_eq (launchContents m c)),
    h19.trans (val_main_v40_eq (launchContents m c)),
    h20.trans (val_main_v64_eq (launchContents m c)),
    h21.trans (val_main_v88_eq (launchContents m c)),
    h22.trans (val_main_v112_eq (launchContents m c)),
    h23.trans (val_main_v136_eq (launchContents m c)), hr⟩

end Cert.AdamRefIdeal.Own

end
-- ==== Proof.AdamIdeal.Rows.lean ====
module

public import proofs.«01_k».proof.Proof.Gen.AdamIdeal.Frame
public import Idealize.ShloMosaic.Lib.Pipeline.ValueKit
public import Idealize.ShloMosaic.Lib.StableHlo.ReadAt

@[expose] public section

set_option maxRecDepth 16384

noncomputable section

namespace Cert.AdamIdeal.Own

open Cert.AdamIdeal Cert.AdamIdeal.Gen Idealize.ShloMosaic Idealize.ShloMosaic.TcCoe Idealize.SL.Sem
open Idealize.ShloMosaic.Pipeline (Dat)

/-! One weight's update: the devices' gradients summed, the two means, the step. -/

def Gs (p : Fin 8 → EReal) : EReal := ∑ k, p k
def Nm (g mm : EReal) : EReal := Ideal.ofBits FTy.f32 0x3F666666#32 * mm + Ideal.ofBits FTy.f32 0x3DCCCCCD#32 * g
def Nv (g vv : EReal) : EReal := Ideal.ofBits FTy.f32 0x3F7FBE77#32 * vv + Ideal.ofBits FTy.f32 0x3A83126F#32 * (g * g)
def Dl (g w mm vv : EReal) : EReal :=
  Ideal.ofBits FTy.f32 0xBA83126F#32 * (Ideal.div (Ideal.div (Nm g mm) (Ideal.ofBits FTy.f32 0x3F26BD02#32))
    (Ideal.sqrt (Ideal.div (Nv g vv) (Ideal.ofBits FTy.f32 0x3C231ACC#32)) + Ideal.ofBits FTy.f32 0x322BCC77#32) + Ideal.ofBits FTy.f32 0x3C23D70A#32 * w)

variable (m : (ℓ : Loc nD τ sig) → Buf (Elt Ideal) ℓ) (c : Dev nD)

/-- The rows in which the six arrays are packed: the gates' biases take two, the sinks the first eight columns of one. -/
structure Rows (A : Fin 8 → Fin 1024 → EReal) (w1 : Fin 1024 → EReal) (w2 : Fin 2048 → EReal) (w3 : Fin 8 → EReal) (w4 w5 w6 : Fin 1024 → EReal) : Prop where
  r0 : ∀ b, A 0 b = w1 b
  r1 : ∀ b : Fin 1024, A 1 b = w2 ⟨b.val, by omega⟩
  r2 : ∀ b : Fin 1024, A 2 b = w2 ⟨1024 + b.val, by omega⟩
  r3 : ∀ b, A 3 b = w4 b
  r4 : ∀ b, A 4 b = w5 b
  r5 : ∀ b, A 5 b = w6 b
  r6 : ∀ b : Fin 8, A 6 ⟨b.val, by omega⟩ = w3 b

/-- The four packed operands: the gradients' parts, the weights, the first means, the second means. -/
def Pp (k : Fin 8) (i : Fin 8) (b : Fin 1024) : EReal := (V m c main_v33 : Vec Ideal S8x8x1024 .f32) (ix3 k i b)
def Pw (i : Fin 8) (b : Fin 1024) : EReal := (V m c main_v67 : Vec Ideal S8x1024 .f32) (ix2 i b)
def Pm (i : Fin 8) (b : Fin 1024) : EReal := (V m c main_v101 : Vec Ideal S8x1024 .f32) (ix2 i b)
def Pv (i : Fin 8) (b : Fin 1024) : EReal := (V m c main_v135 : Vec Ideal S8x1024 .f32) (ix2 i b)

set_option maxHeartbeats 4000000 in
theorem rowsPp (k : Fin 8) : Rows (Pp m c k)
    (fun b => (m ((c : Thread nD τ).loc main_arg0) : Vec Ideal S8x1x1024 .f32) (ix3 k 0 b))
    (fun b => (m ((c : Thread nD τ).loc main_arg1) : Vec Ideal S8x1x2048 .f32) (ix3 k 0 b))
    (fun b => (m ((c : Thread nD τ).loc main_arg2) : Vec Ideal S8x1x8 .f32) (ix3 k 0 b))
    (fun b => (m ((c : Thread nD τ).loc main_arg3) : Vec Ideal S8x1x1024 .f32) (ix3 k 0 b))
    (fun b => (m ((c : Thread nD τ).loc main_arg4) : Vec Ideal S8x1x1024 .f32) (ix3 k 0 b))
    (fun b => (m ((c : Thread nD τ).loc main_arg5) : Vec Ideal S8x1024 .f32) (ix2 k b)) := by
  constructor <;> intro b <;> unfold Pp V V0 <;> after_reads_at <;> first | rfl | (rw [dif_pos b.isLt]; rfl)
set_option maxHeartbeats 4000000 in
theorem rowsPw : Rows (Pw m c)
    (fun b => (m ((c : Thread nD τ).loc main_arg6) : Vec Ideal S1x1024 .f32) (ix2 0 b))
    (fun b => (m ((c : Thread nD τ).loc main_arg7) : Vec Ideal S1x2048 .f32) (ix2 0 b))
    (fun b => (m ((c : Thread nD τ).loc main_arg8) : Vec Ideal S1x8 .f32) (ix2 0 b))
    (fun b => (m ((c : Thread nD τ).loc main_arg9) : Vec Ideal S1x1024 .f32) (ix2 0 b))
    (fun b => (m ((c : Thread nD τ).loc main_arg10) : Vec Ideal S1x1024 .f32) (ix2 0 b))
    (fun b => (m ((c : Thread nD τ).loc main_arg11) : Vec Ideal S1024 .f32) (ix1 b)) := by
  constructor <;> intro b <;> unfold Pw V V0 <;> after_reads_at <;> first | rfl | (rw [dif_pos b.isLt]; rfl)
set_option maxHeartbeats 4000000 in
theorem rowsPm : Rows (Pm m c)
    (fun b => (m ((c : Thread nD τ).loc main_arg12) : Vec Ideal S1x1024 .f32) (ix2 0 b))
    (fun b => (m ((c : Thread nD τ).loc main_arg13) : Vec Ideal S1x2048 .f32) (ix2 0 b))
    (fun b => (m ((c : Thread nD τ).loc main_arg14) : Vec Ideal S1x8 .f32) (ix2 0 b))
    (fun b => (m ((c : Thread nD τ).loc main_arg15) : Vec Ideal S1x1024 .f32) (ix2 0 b))
    (fun b => (m ((c : Thread nD τ).loc main_arg16) : Vec Ideal S1x1024 .f32) (ix2 0 b))
    (fun b => (m ((c : Thread nD τ).loc main_arg17) : Vec Ideal S1024 .f32) (ix1 b)) := by
  constructor <;> intro b <;> unfold Pm V V0 <;> after_reads_at <;> first | rfl | (rw [dif_pos b.isLt]; rfl)
set_option maxHeartbeats 4000000 in
theorem rowsPv : Rows (Pv m c)
    (fun b => (m ((c : Thread nD τ).loc main_arg18) : Vec Ideal S1x1024 .f32) (ix2 0 b))
    (fun b => (m ((c : Thread nD τ).loc main_arg19) : Vec Ideal S1x2048 .f32) (ix2 0 b))
    (fun b => (m ((c : Thread nD τ).loc main_arg20) : Vec Ideal S1x8 .f32) (ix2 0 b))
    (fun b => (m ((c : Thread nD τ).loc main_arg21) : Vec Ideal S1x1024 .f32) (ix2 0 b))
    (fun b => (m ((c : Thread nD τ).loc main_arg22) : Vec Ideal S1x1024 .f32) (ix2 0 b))
    (fun b => (m ((c : Thread nD τ).loc main_arg23) : Vec Ideal S1024 .f32) (ix1 b)) := by
  constructor <;> intro b <;> unfold Pv V V0 <;> after_reads_at <;> first | rfl | (rw [dif_pos b.isLt]; rfl)

end Cert.AdamIdeal.Own

end
-- ==== Proof.AdamIdeal.Value.lean ====
module

public import proofs.«01_k».proof.Proof.AdamIdeal.Rows
public import Idealize.ShloMosaic.Lib.Pipeline.ValueKit

@[expose] public section

set_option maxRecDepth 16384

noncomputable section

namespace Cert.AdamIdeal.Own

open Cert.AdamIdeal Cert.AdamIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-! The packed results, entry by entry. -/

theorem idx0 : ∀ t : Fin cfg0.N, win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] := (by decide +kernel : ∀ t : Fin grid0.N, _)

theorem blk0 (t : Fin cfg0.N) (k i : Fin 8) (b : Fin 1024) : iblk m c 0 t (ix3 k i b) = Pp m c k i b := by
  unfold Pp; blk_ext [iblk, idx0 t]
theorem blk1 (t : Fin cfg0.N) (i : Fin 8) (b : Fin 1024) : iblk m c 1 t (ix2 i b) = Pw m c i b := by
  unfold Pw; blk_ext [iblk, idx0 t]
theorem blk2 (t : Fin cfg0.N) (i : Fin 8) (b : Fin 1024) : iblk m c 2 t (ix2 i b) = Pm m c i b := by
  unfold Pm; blk_ext [iblk, idx0 t]
theorem blk3 (t : Fin cfg0.N) (i : Fin 8) (b : Fin 1024) : iblk m c 3 t (ix2 i b) = Pv m c i b := by
  unfold Pv; blk_ext [iblk, idx0 t]

/-- A packed array from its entries. -/
def At2 (f : Fin 8 → Fin 1024 → EReal) : S8x1024.Idx → EReal := fun y => f (y 0) (y 1)
theorem At2_apply (f : Fin 8 → Fin 1024 → EReal) (a : Fin 8) (b : Fin 1024) : At2 f (ix2 a b) = f a b := rfl

theorem fwd4 (t : Fin cfg0.N) (i : Fin 8) (b : Fin 1024) : out0_4 (iblk m c 0 t) (iblk m c 1 t) (iblk m c 2 t) (iblk m c 3 t) (ix2 i b) = Gs (fun k => Pp m c k i b) := by
  unfold out0_4 k0_pay8
  frame_out
  pointwise [k0_pay1, k0_pay2, k0_pay3, k0_pay4, k0_pay5, k0_pay6, k0_pay7]
  simp only [blk0, blk1, blk2, blk3]
  simp only [Dl, Nm, Nv, Gs]; rw [Fin.sum_univ_eight]
theorem end4 : (dats m 0 c).arrAt 4 cfg0.N = At2 fun i b => Gs (fun k => Pp m c k i b) := by
  refine (dats m 0 c).arrAt_eq_of_covers 4 _ (by decide +kernel) fun t _ y => ?_
  blk_simp
  rw [after0_4]
  idx_vars y
  rw [fwd4 m c t y0 y1, ← At2_apply (fun i b => Gs (fun k => Pp m c k i b))]
  blk_ext [idx0 t]
theorem fwd5 (t : Fin cfg0.N) (i : Fin 8) (b : Fin 1024) : out0_5 (iblk m c 0 t) (iblk m c 1 t) (iblk m c 2 t) (iblk m c 3 t) (ix2 i b) = Dl (Gs (fun k => Pp m c k i b)) (Pw m c i b) (Pm m c i b) (Pv m c i b) := by
  unfold out0_5 k0_pay8 k0_pay9 k0_pay10
  frame_out
  pointwise [k0_pay1, k0_pay2, k0_pay3, k0_pay4, k0_pay5, k0_pay6, k0_pay7]
  simp only [blk0, blk1, blk2, blk3]
  simp only [Dl, Nm, Nv, Gs]; rw [Fin.sum_univ_eight]
theorem end5 : (dats m 0 c).arrAt 5 cfg0.N = At2 fun i b => Dl (Gs (fun k => Pp m c k i b)) (Pw m c i b) (Pm m c i b) (Pv m c i b) := by
  refine (dats m 0 c).arrAt_eq_of_covers 5 _ (by decide +kernel) fun t _ y => ?_
  blk_simp
  rw [after0_5]
  idx_vars y
  rw [fwd5 m c t y0 y1, ← At2_apply (fun i b => Dl (Gs (fun k => Pp m c k i b)) (Pw m c i b) (Pm m c i b) (Pv m c i b))]
  blk_ext [idx0 t]
theorem fwd6 (t : Fin cfg0.N) (i : Fin 8) (b : Fin 1024) : out0_6 (iblk m c 0 t) (iblk m c 1 t) (iblk m c 2 t) (iblk m c 3 t) (ix2 i b) = Nm (Gs (fun k => Pp m c k i b)) (Pm m c i b) := by
  unfold out0_6 k0_pay8 k0_pay9
  frame_out
  pointwise [k0_pay1, k0_pay2, k0_pay3, k0_pay4, k0_pay5, k0_pay6, k0_pay7]
  simp only [blk0, blk1, blk2, blk3]
  simp only [Dl, Nm, Nv, Gs]; rw [Fin.sum_univ_eight]
theorem end6 : (dats m 0 c).arrAt 6 cfg0.N = At2 fun i b => Nm (Gs (fun k => Pp m c k i b)) (Pm m c i b) := by
  refine (dats m 0 c).arrAt_eq_of_covers 6 _ (by decide +kernel) fun t _ y => ?_
  blk_simp
  rw [after0_6]
  idx_vars y
  rw [fwd6 m c t y0 y1, ← At2_apply (fun i b => Nm (Gs (fun k => Pp m c k i b)) (Pm m c i b))]
  blk_ext [idx0 t]
theorem fwd7 (t : Fin cfg0.N) (i : Fin 8) (b : Fin 1024) : out0_7 (iblk m c 0 t) (iblk m c 1 t) (iblk m c 2 t) (iblk m c 3 t) (ix2 i b) = Nv (Gs (fun k => Pp m c k i b)) (Pv m c i b) := by
  unfold out0_7 k0_pay8 k0_pay10
  frame_out
  pointwise [k0_pay1, k0_pay2, k0_pay3, k0_pay4, k0_pay5, k0_pay6, k0_pay7]
  simp only [blk0, blk1, blk2, blk3]
  simp only [Dl, Nm, Nv, Gs]; rw [Fin.sum_univ_eight]
theorem end7 : (dats m 0 c).arrAt 7 cfg0.N = At2 fun i b => Nv (Gs (fun k => Pp m c k i b)) (Pv m c i b) := by
  refine (dats m 0 c).arrAt_eq_of_covers 7 _ (by decide +kernel) fun t _ y => ?_
  blk_simp
  rw [after0_7]
  idx_vars y
  rw [fwd7 m c t y0 y1, ← At2_apply (fun i b => Nv (Gs (fun k => Pp m c k i b)) (Pv m c i b))]
  blk_ext [idx0 t]

end Cert.AdamIdeal.Own

end
-- ==== Proof.AdamIdeal.Tail.lean ====
module

public import proofs.«01_k».proof.Proof.AdamIdeal.Value
public import proofs.«01_k».proof.Proof.Gen.AdamRefIdeal.Read
public import Idealize.ShloMosaic.Lib.Pipeline.ValueKit
public import Idealize.ShloMosaic.Lib.StableHlo.ReadAt

@[expose] public section

set_option maxRecDepth 16384

noncomputable section

namespace Cert.AdamIdeal.Own

open Cert.AdamIdeal Cert.AdamIdeal.Gen Idealize.ShloMosaic Idealize.ShloMosaic.TcCoe Idealize.SL.Sem
open Cert.AdamRefIdeal.Read

variable (m : (ℓ : Loc nD τ sig) → Buf (Elt Ideal) ℓ) (c : Dev nD)

/-- The arguments of device `c`. -/
abbrev X0 : Vec Ideal S8x1x1024 .f32 := m ((c : Thread nD τ).loc main_arg0)
abbrev X1 : Vec Ideal S8x1x2048 .f32 := m ((c : Thread nD τ).loc main_arg1)
abbrev X2 : Vec Ideal S8x1x8 .f32 := m ((c : Thread nD τ).loc main_arg2)
abbrev X3 : Vec Ideal S8x1x1024 .f32 := m ((c : Thread nD τ).loc main_arg3)
abbrev X4 : Vec Ideal S8x1x1024 .f32 := m ((c : Thread nD τ).loc main_arg4)
abbrev X5 : Vec Ideal S8x1024 .f32 := m ((c : Thread nD τ).loc main_arg5)
abbrev X6 : Vec Ideal S1x1024 .f32 := m ((c : Thread nD τ).loc main_arg6)
abbrev X7 : Vec Ideal S1x2048 .f32 := m ((c : Thread nD τ).loc main_arg7)
abbrev X8 : Vec Ideal S1x8 .f32 := m ((c : Thread nD τ).loc main_arg8)
abbrev X9 : Vec Ideal S1x1024 .f32 := m ((c : Thread nD τ).loc main_arg9)
abbrev X10 : Vec Ideal S1x1024 .f32 := m ((c : Thread nD τ).loc main_arg10)
abbrev X11 : Vec Ideal S1024 .f32 := m ((c : Thread nD τ).loc main_arg11)
abbrev X12 : Vec Ideal S1x1024 .f32 := m ((c : Thread nD τ).loc main_arg12)
abbrev X13 : Vec Ideal S1x2048 .f32 := m ((c : Thread nD τ).loc main_arg13)
abbrev X14 : Vec Ideal S1x8 .f32 := m ((c : Thread nD τ).loc main_arg14)
abbrev X15 : Vec Ideal S1x1024 .f32 := m ((c : Thread nD τ).loc main_arg15)
abbrev X16 : Vec Ideal S1x1024 .f32 := m ((c : Thread nD τ).loc main_arg16)
abbrev X17 : Vec Ideal S1024 .f32 := m ((c : Thread nD τ).loc main_arg17)
abbrev X18 : Vec Ideal S1x1024 .f32 := m ((c : Thread nD τ).loc main_arg18)
abbrev X19 : Vec Ideal S1x2048 .f32 := m ((c : Thread nD τ).loc main_arg19)
abbrev X20 : Vec Ideal S1x8 .f32 := m ((c : Thread nD τ).loc main_arg20)
abbrev X21 : Vec Ideal S1x1024 .f32 := m ((c : Thread nD τ).loc main_arg21)
abbrev X22 : Vec Ideal S1x1024 .f32 := m ((c : Thread nD τ).loc main_arg22)
abbrev X23 : Vec Ideal S1024 .f32 := m ((c : Thread nD τ).loc main_arg23)

/-- What the lines after the call read: the packed results, the sum over the devices written without its zero. -/
theorem arr4 : Pipeline.withArrays (cfgs 0).spec c (V0 m c) (fun w => (dats m 0 c).arrAt w (cfgs 0).N) (Proc.devRef .tc main_v136_0) = At2 (fun i b => Gs (fun k => Pp m c k i b)) :=
  (Pipeline.withArrays_arr spec0 (by decide) c _ _ 4).trans (end4 m c)
theorem arr5 : Pipeline.withArrays (cfgs 0).spec c (V0 m c) (fun w => (dats m 0 c).arrAt w (cfgs 0).N) (Proc.devRef .tc main_v136_1) = At2 (fun i b => Dl (Gs (fun k => Pp m c k i b)) (Pw m c i b) (Pm m c i b) (Pv m c i b)) :=
  (Pipeline.withArrays_arr spec0 (by decide) c _ _ 5).trans (end5 m c)
theorem arr6 : Pipeline.withArrays (cfgs 0).spec c (V0 m c) (fun w => (dats m 0 c).arrAt w (cfgs 0).N) (Proc.devRef .tc main_v136_2) = At2 (fun i b => Nm (Gs (fun k => Pp m c k i b)) (Pm m c i b)) :=
  (Pipeline.withArrays_arr spec0 (by decide) c _ _ 6).trans (end6 m c)
theorem arr7 : Pipeline.withArrays (cfgs 0).spec c (V0 m c) (fun w => (dats m 0 c).arrAt w (cfgs 0).N) (Proc.devRef .tc main_v136_3) = At2 (fun i b => Nv (Gs (fun k => Pp m c k i b)) (Pv m c i b)) :=
  (Pipeline.withArrays_arr spec0 (by decide) c _ _ 7).trans (end7 m c)
set_option maxHeartbeats 4000000 in
theorem tail137 : (Pipeline.afterTail₀ cfgs (dats m) 0 (V0 m) [hostOps1] c main_v137 : Vec Ideal S1x1024 .f32) = val_main_v0 (X0 m c) := by
  unfold Pipeline.afterTail₀
  after_reads_simp
  rw [arr4]
  funext y
  idx_vars y
  obtain rfl : y0 = 0 := Subsingleton.elim _ _
  pointwise [val_main_cst, val_main_v0, At2]
  simp only [(rowsPp m c _).r0, Gs, zero_add]
set_option maxHeartbeats 4000000 in
theorem tail149 : (Pipeline.afterTail₀ cfgs (dats m) 0 (V0 m) [hostOps1] c main_v149 : Vec Ideal S1x2048 .f32) = val_main_v1 (X1 m c) := by
  unfold Pipeline.afterTail₀
  funext y
  idx_vars y
  obtain rfl : y0 = 0 := Subsingleton.elim _ _
  after_reads_at
  split
  · rename_i h
    refine (congrFun (arr4 m c) _).trans ?_
    pointwise [val_main_cst_0, val_main_v1, At2]
    simp only [(rowsPp m c _).r1, Gs, zero_add]
  · rename_i h
    refine (congrFun (arr4 m c) _).trans ?_
    pointwise [val_main_cst_0, val_main_v1, At2]
    have e : ∀ p, (⟨1024 + (y1.val - 1024), p⟩ : Fin 2048) = y1 := fun p => Fin.ext (by dsimp only; omega)
    simp only [(rowsPp m c _).r2, Gs, zero_add, e]
set_option maxHeartbeats 4000000 in
theorem tail163 : (Pipeline.afterTail₀ cfgs (dats m) 0 (V0 m) [hostOps1] c main_v163 : Vec Ideal S1x8 .f32) = val_main_v2 (X2 m c) := by
  unfold Pipeline.afterTail₀
  after_reads_simp
  rw [arr4]
  funext y
  idx_vars y
  obtain rfl : y0 = 0 := Subsingleton.elim _ _
  pointwise [val_main_cst_1, val_main_v2, At2]
  simp only [(rowsPp m c _).r6, Gs, zero_add]
set_option maxHeartbeats 4000000 in
theorem tail168 : (Pipeline.afterTail₀ cfgs (dats m) 0 (V0 m) [hostOps1] c main_v168 : Vec Ideal S1x1024 .f32) = val_main_v3 (X3 m c) := by
  unfold Pipeline.afterTail₀
  after_reads_simp
  rw [arr4]
  funext y
  idx_vars y
  obtain rfl : y0 = 0 := Subsingleton.elim _ _
  pointwise [val_main_cst_2, val_main_v3, At2]
  simp only [(rowsPp m c _).r3, Gs, zero_add]
set_option maxHeartbeats 4000000 in
theorem tail178 : (Pipeline.afterTail₀ cfgs (dats m) 0 (V0 m) [hostOps1] c main_v178 : Vec Ideal S1x1024 .f32) = val_main_v4 (X4 m c) := by
  unfold Pipeline.afterTail₀
  after_reads_simp
  rw [arr4]
  funext y
  idx_vars y
  obtain rfl : y0 = 0 := Subsingleton.elim _ _
  pointwise [val_main_cst_3, val_main_v4, At2]
  simp only [(rowsPp m c _).r4, Gs, zero_add]
set_option maxHeartbeats 4000000 in
theorem tail189 : (Pipeline.afterTail₀ cfgs (dats m) 0 (V0 m) [hostOps1] c main_v189 : Vec Ideal S1024 .f32) = val_main_v5 (X5 m c) := by
  unfold Pipeline.afterTail₀
  after_reads_simp
  rw [arr4]
  funext y
  idx_vars y
  pointwise [val_main_cst_4, val_main_v5, At2]
  simp only [(rowsPp m c _).r5, Gs, zero_add]
set_option maxHeartbeats 4000000 in
theorem tail191 : (Pipeline.afterTail₀ cfgs (dats m) 0 (V0 m) [hostOps1] c main_v191 : Vec Ideal S1x1024 .f32) = val_main_v29 (X0 m c) (X6 m c) (X12 m c) (X18 m c) := by
  unfold Pipeline.afterTail₀
  after_reads_simp
  rw [arr5]
  funext y
  idx_vars y
  obtain rfl : y0 = 0 := Subsingleton.elim _ _
  pointwise [val_main_cst, val_main_cst_10, val_main_cst_11, val_main_cst_12, val_main_cst_13, val_main_cst_5, val_main_cst_6, val_main_cst_7, val_main_cst_8, val_main_cst_9, val_main_v0, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v6, val_main_v7, val_main_v8, val_main_v9, At2]
  simp only [(rowsPp m c _).r0, (rowsPw m c).r0, (rowsPm m c).r0, (rowsPv m c).r0, Dl, Nm, Nv, Gs, zero_add]
set_option maxHeartbeats 4000000 in
theorem tail203 : (Pipeline.afterTail₀ cfgs (dats m) 0 (V0 m) [hostOps1] c main_v203 : Vec Ideal S1x2048 .f32) = val_main_v53 (X1 m c) (X7 m c) (X13 m c) (X19 m c) := by
  unfold Pipeline.afterTail₀
  funext y
  idx_vars y
  obtain rfl : y0 = 0 := Subsingleton.elim _ _
  after_reads_at
  split
  · rename_i h
    refine (congrFun (arr5 m c) _).trans ?_
    pointwise [val_main_cst_0, val_main_cst_14, val_main_cst_15, val_main_cst_16, val_main_cst_17, val_main_cst_18, val_main_cst_19, val_main_cst_20, val_main_cst_21, val_main_cst_22, val_main_v1, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, At2]
    simp only [(rowsPp m c _).r1, (rowsPw m c).r1, (rowsPm m c).r1, (rowsPv m c).r1, Dl, Nm, Nv, Gs, zero_add]
  · rename_i h
    refine (congrFun (arr5 m c) _).trans ?_
    pointwise [val_main_cst_0, val_main_cst_14, val_main_cst_15, val_main_cst_16, val_main_cst_17, val_main_cst_18, val_main_cst_19, val_main_cst_20, val_main_cst_21, val_main_cst_22, val_main_v1, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, At2]
    have e : ∀ p, (⟨1024 + (y1.val - 1024), p⟩ : Fin 2048) = y1 := fun p => Fin.ext (by dsimp only; omega)
    simp only [(rowsPp m c _).r2, (rowsPw m c).r2, (rowsPm m c).r2, (rowsPv m c).r2, Dl, Nm, Nv, Gs, zero_add, e]
set_option maxHeartbeats 4000000 in
theorem tail217 : (Pipeline.afterTail₀ cfgs (dats m) 0 (V0 m) [hostOps1] c main_v217 : Vec Ideal S1x8 .f32) = val_main_v77 (X2 m c) (X8 m c) (X14 m c) (X20 m c) := by
  unfold Pipeline.afterTail₀
  after_reads_simp
  rw [arr5]
  funext y
  idx_vars y
  obtain rfl : y0 = 0 := Subsingleton.elim _ _
  pointwise [val_main_cst_1, val_main_cst_23, val_main_cst_24, val_main_cst_25, val_main_cst_26, val_main_cst_27, val_main_cst_28, val_main_cst_29, val_main_cst_30, val_main_cst_31, val_main_v2, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, At2]
  simp only [(rowsPp m c _).r6, (rowsPw m c).r6, (rowsPm m c).r6, (rowsPv m c).r6, Dl, Nm, Nv, Gs, zero_add]
set_option maxHeartbeats 4000000 in
theorem tail222 : (Pipeline.afterTail₀ cfgs (dats m) 0 (V0 m) [hostOps1] c main_v222 : Vec Ideal S1x1024 .f32) = val_main_v101 (X3 m c) (X9 m c) (X15 m c) (X21 m c) := by
  unfold Pipeline.afterTail₀
  after_reads_simp
  rw [arr5]
  funext y
  idx_vars y
  obtain rfl : y0 = 0 := Subsingleton.elim _ _
  pointwise [val_main_cst_2, val_main_cst_32, val_main_cst_33, val_main_cst_34, val_main_cst_35, val_main_cst_36, val_main_cst_37, val_main_cst_38, val_main_cst_39, val_main_cst_40, val_main_v100, val_main_v101, val_main_v3, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, At2]
  simp only [(rowsPp m c _).r3, (rowsPw m c).r3, (rowsPm m c).r3, (rowsPv m c).r3, Dl, Nm, Nv, Gs, zero_add]
set_option maxHeartbeats 4000000 in
theorem tail232 : (Pipeline.afterTail₀ cfgs (dats m) 0 (V0 m) [hostOps1] c main_v232 : Vec Ideal S1x1024 .f32) = val_main_v125 (X4 m c) (X10 m c) (X16 m c) (X22 m c) := by
  unfold Pipeline.afterTail₀
  after_reads_simp
  rw [arr5]
  funext y
  idx_vars y
  obtain rfl : y0 = 0 := Subsingleton.elim _ _
  pointwise [val_main_cst_3, val_main_cst_41, val_main_cst_42, val_main_cst_43, val_main_cst_44, val_main_cst_45, val_main_cst_46, val_main_cst_47, val_main_cst_48, val_main_cst_49, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v4, At2]
  simp only [(rowsPp m c _).r4, (rowsPw m c).r4, (rowsPm m c).r4, (rowsPv m c).r4, Dl, Nm, Nv, Gs, zero_add]
set_option maxHeartbeats 4000000 in
theorem tail243 : (Pipeline.afterTail₀ cfgs (dats m) 0 (V0 m) [hostOps1] c main_v243 : Vec Ideal S1024 .f32) = val_main_v149 (X5 m c) (X11 m c) (X17 m c) (X23 m c) := by
  unfold Pipeline.afterTail₀
  after_reads_simp
  rw [arr5]
  funext y
  idx_vars y
  pointwise [val_main_cst_4, val_main_cst_50, val_main_cst_51, val_main_cst_52, val_main_cst_53, val_main_cst_54, val_main_cst_55, val_main_cst_56, val_main_cst_57, val_main_cst_58, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v5, At2]
  simp only [(rowsPp m c _).r5, (rowsPw m c).r5, (rowsPm m c).r5, (rowsPv m c).r5, Dl, Nm, Nv, Gs, zero_add]
set_option maxHeartbeats 4000000 in
theorem tail245 : (Pipeline.afterTail₀ cfgs (dats m) 0 (V0 m) [hostOps1] c main_v245 : Vec Ideal S1x1024 .f32) = val_main_v10 (X0 m c) (X12 m c) := by
  unfold Pipeline.afterTail₀
  after_reads_simp
  rw [arr6]
  funext y
  idx_vars y
  obtain rfl : y0 = 0 := Subsingleton.elim _ _
  pointwise [val_main_cst, val_main_cst_5, val_main_cst_6, val_main_v0, val_main_v10, val_main_v6, val_main_v7, val_main_v8, val_main_v9, At2]
  simp only [(rowsPp m c _).r0, (rowsPm m c).r0, Nm, Gs, zero_add]
set_option maxHeartbeats 4000000 in
theorem tail257 : (Pipeline.afterTail₀ cfgs (dats m) 0 (V0 m) [hostOps1] c main_v257 : Vec Ideal S1x2048 .f32) = val_main_v34 (X1 m c) (X13 m c) := by
  unfold Pipeline.afterTail₀
  funext y
  idx_vars y
  obtain rfl : y0 = 0 := Subsingleton.elim _ _
  after_reads_at
  split
  · rename_i h
    refine (congrFun (arr6 m c) _).trans ?_
    pointwise [val_main_cst_0, val_main_cst_14, val_main_cst_15, val_main_v1, val_main_v30, val_main_v31, val_main_v32, val_main_v33, val_main_v34, At2]
    simp only [(rowsPp m c _).r1, (rowsPm m c).r1, Nm, Gs, zero_add]
  · rename_i h
    refine (congrFun (arr6 m c) _).trans ?_
    pointwise [val_main_cst_0, val_main_cst_14, val_main_cst_15, val_main_v1, val_main_v30, val_main_v31, val_main_v32, val_main_v33, val_main_v34, At2]
    have e : ∀ p, (⟨1024 + (y1.val - 1024), p⟩ : Fin 2048) = y1 := fun p => Fin.ext (by dsimp only; omega)
    simp only [(rowsPp m c _).r2, (rowsPm m c).r2, Nm, Gs, zero_add, e]
set_option maxHeartbeats 4000000 in
theorem tail271 : (Pipeline.afterTail₀ cfgs (dats m) 0 (V0 m) [hostOps1] c main_v271 : Vec Ideal S1x8 .f32) = val_main_v58 (X2 m c) (X14 m c) := by
  unfold Pipeline.afterTail₀
  after_reads_simp
  rw [arr6]
  funext y
  idx_vars y
  obtain rfl : y0 = 0 := Subsingleton.elim _ _
  pointwise [val_main_cst_1, val_main_cst_23, val_main_cst_24, val_main_v2, val_main_v54, val_main_v55, val_main_v56, val_main_v57, val_main_v58, At2]
  simp only [(rowsPp m c _).r6, (rowsPm m c).r6, Nm, Gs, zero_add]
set_option maxHeartbeats 4000000 in
theorem tail276 : (Pipeline.afterTail₀ cfgs (dats m) 0 (V0 m) [hostOps1] c main_v276 : Vec Ideal S1x1024 .f32) = val_main_v82 (X3 m c) (X15 m c) := by
  unfold Pipeline.afterTail₀
  after_reads_simp
  rw [arr6]
  funext y
  idx_vars y
  obtain rfl : y0 = 0 := Subsingleton.elim _ _
  pointwise [val_main_cst_2, val_main_cst_32, val_main_cst_33, val_main_v3, val_main_v78, val_main_v79, val_main_v80, val_main_v81, val_main_v82, At2]
  simp only [(rowsPp m c _).r3, (rowsPm m c).r3, Nm, Gs, zero_add]
set_option maxHeartbeats 4000000 in
theorem tail286 : (Pipeline.afterTail₀ cfgs (dats m) 0 (V0 m) [hostOps1] c main_v286 : Vec Ideal S1x1024 .f32) = val_main_v106 (X4 m c) (X16 m c) := by
  unfold Pipeline.afterTail₀
  after_reads_simp
  rw [arr6]
  funext y
  idx_vars y
  obtain rfl : y0 = 0 := Subsingleton.elim _ _
  pointwise [val_main_cst_3, val_main_cst_41, val_main_cst_42, val_main_v102, val_main_v103, val_main_v104, val_main_v105, val_main_v106, val_main_v4, At2]
  simp only [(rowsPp m c _).r4, (rowsPm m c).r4, Nm, Gs, zero_add]
set_option maxHeartbeats 4000000 in
theorem tail297 : (Pipeline.afterTail₀ cfgs (dats m) 0 (V0 m) [hostOps1] c main_v297 : Vec Ideal S1024 .f32) = val_main_v130 (X5 m c) (X17 m c) := by
  unfold Pipeline.afterTail₀
  after_reads_simp
  rw [arr6]
  funext y
  idx_vars y
  pointwise [val_main_cst_4, val_main_cst_50, val_main_cst_51, val_main_v126, val_main_v127, val_main_v128, val_main_v129, val_main_v130, val_main_v5, At2]
  simp only [(rowsPp m c _).r5, (rowsPm m c).r5, Nm, Gs, zero_add]
set_option maxHeartbeats 4000000 in
theorem tail299 : (Pipeline.afterTail₀ cfgs (dats m) 0 (V0 m) [hostOps1] c main_v299 : Vec Ideal S1x1024 .f32) = val_main_v16 (X0 m c) (X18 m c) := by
  unfold Pipeline.afterTail₀
  after_reads_simp
  rw [arr7]
  funext y
  idx_vars y
  obtain rfl : y0 = 0 := Subsingleton.elim _ _
  pointwise [val_main_cst, val_main_cst_7, val_main_cst_8, val_main_v0, val_main_v11, val_main_v12, val_main_v13, val_main_v14, val_main_v15, val_main_v16, At2]
  simp only [(rowsPp m c _).r0, (rowsPv m c).r0, Nv, Gs, zero_add]
set_option maxHeartbeats 4000000 in
theorem tail311 : (Pipeline.afterTail₀ cfgs (dats m) 0 (V0 m) [hostOps1] c main_v311 : Vec Ideal S1x2048 .f32) = val_main_v40 (X1 m c) (X19 m c) := by
  unfold Pipeline.afterTail₀
  funext y
  idx_vars y
  obtain rfl : y0 = 0 := Subsingleton.elim _ _
  after_reads_at
  split
  · rename_i h
    refine (congrFun (arr7 m c) _).trans ?_
    pointwise [val_main_cst_0, val_main_cst_16, val_main_cst_17, val_main_v1, val_main_v35, val_main_v36, val_main_v37, val_main_v38, val_main_v39, val_main_v40, At2]
    simp only [(rowsPp m c _).r1, (rowsPv m c).r1, Nv, Gs, zero_add]
  · rename_i h
    refine (congrFun (arr7 m c) _).trans ?_
    pointwise [val_main_cst_0, val_main_cst_16, val_main_cst_17, val_main_v1, val_main_v35, val_main_v36, val_main_v37, val_main_v38, val_main_v39, val_main_v40, At2]
    have e : ∀ p, (⟨1024 + (y1.val - 1024), p⟩ : Fin 2048) = y1 := fun p => Fin.ext (by dsimp only; omega)
    simp only [(rowsPp m c _).r2, (rowsPv m c).r2, Nv, Gs, zero_add, e]
set_option maxHeartbeats 4000000 in
theorem tail325 : (Pipeline.afterTail₀ cfgs (dats m) 0 (V0 m) [hostOps1] c main_v325 : Vec Ideal S1x8 .f32) = val_main_v64 (X2 m c) (X20 m c) := by
  unfold Pipeline.afterTail₀
  after_reads_simp
  rw [arr7]
  funext y
  idx_vars y
  obtain rfl : y0 = 0 := Subsingleton.elim _ _
  pointwise [val_main_cst_1, val_main_cst_25, val_main_cst_26, val_main_v2, val_main_v59, val_main_v60, val_main_v61, val_main_v62, val_main_v63, val_main_v64, At2]
  simp only [(rowsPp m c _).r6, (rowsPv m c).r6, Nv, Gs, zero_add]
set_option maxHeartbeats 4000000 in
theorem tail330 : (Pipeline.afterTail₀ cfgs (dats m) 0 (V0 m) [hostOps1] c main_v330 : Vec Ideal S1x1024 .f32) = val_main_v88 (X3 m c) (X21 m c) := by
  unfold Pipeline.afterTail₀
  after_reads_simp
  rw [arr7]
  funext y
  idx_vars y
  obtain rfl : y0 = 0 := Subsingleton.elim _ _
  pointwise [val_main_cst_2, val_main_cst_34, val_main_cst_35, val_main_v3, val_main_v83, val_main_v84, val_main_v85, val_main_v86, val_main_v87, val_main_v88, At2]
  simp only [(rowsPp m c _).r3, (rowsPv m c).r3, Nv, Gs, zero_add]
set_option maxHeartbeats 4000000 in
theorem tail340 : (Pipeline.afterTail₀ cfgs (dats m) 0 (V0 m) [hostOps1] c main_v340 : Vec Ideal S1x1024 .f32) = val_main_v112 (X4 m c) (X22 m c) := by
  unfold Pipeline.afterTail₀
  after_reads_simp
  rw [arr7]
  funext y
  idx_vars y
  obtain rfl : y0 = 0 := Subsingleton.elim _ _
  pointwise [val_main_cst_3, val_main_cst_43, val_main_cst_44, val_main_v107, val_main_v108, val_main_v109, val_main_v110, val_main_v111, val_main_v112, val_main_v4, At2]
  simp only [(rowsPp m c _).r4, (rowsPv m c).r4, Nv, Gs, zero_add]
set_option maxHeartbeats 4000000 in
theorem tail351 : (Pipeline.afterTail₀ cfgs (dats m) 0 (V0 m) [hostOps1] c main_v351 : Vec Ideal S1024 .f32) = val_main_v136 (X5 m c) (X23 m c) := by
  unfold Pipeline.afterTail₀
  after_reads_simp
  rw [arr7]
  funext y
  idx_vars y
  pointwise [val_main_cst_4, val_main_cst_52, val_main_cst_53, val_main_v131, val_main_v132, val_main_v133, val_main_v134, val_main_v135, val_main_v136, val_main_v5, At2]
  simp only [(rowsPp m c _).r5, (rowsPv m c).r5, Nv, Gs, zero_add]

end Cert.AdamIdeal.Own

end
-- ==== Proof.AdamIdeal.Claims.lean ====
module

public import proofs.«01_k».proof.Defs
public import proofs.«01_k».proof.Proof.Gen.Adam.Frame
public import proofs.«01_k».proof.Proof.Gen.AdamIdeal.Frame
public import proofs.«01_k».proof.Proof.AdamRefIdeal.Run
public import proofs.«01_k».proof.Proof.AdamIdeal.Tail
public import Idealize.ShloMosaic.Lib.Tactic
public import Idealize.ShloMosaic.Lib.Claim

@[expose] public section

set_option maxRecDepth 16384

noncomputable section

namespace Cert.Proof.Adam

open Idealize.ShloMosaic Idealize.ShloMosaic.TcCoe Idealize.SL.Sem

theorem frame_bits : Cert.quiescent_Adam := fun m ρ _ => Cert.Adam.Gen.frame m ρ

theorem frame_ideal : Cert.quiescent_AdamIdeal := fun m ρ _ => Cert.AdamIdeal.Gen.frame m ρ

/-- The reference has host operations alone: no operation writes an argument, and no semaphore is declared. -/
theorem frame_ref : Cert.quiescent_AdamRefIdeal := fun m ρ _ =>
  (θ_run Cert.AdamRefIdeal.defs _ _).mono (fun r h => ⟨fun c => (h c).2.2.2.2.2.2.2.2.2.2.2.2.2.2.2.2.2.2.2.2.2.2.2.2, sem_eq_zero_of_no_sems (by decide) r.2⟩)
    (Cert.AdamRefIdeal.Value.run m ρ)

set_option maxHeartbeats 4000000 in
open Cert.AdamIdeal.Gen Cert.AdamIdeal.Own Cert.AdamRefIdeal.Read in
theorem value : Cert.algebraic_AdamIdeal_AdamRefIdeal := by
  pair_intro
  · run_from Cert.AdamIdeal.Gen.run_main m g & Cert.AdamIdeal.Gen.frame m g
    · exact Cert.AdamIdeal.Gen.W_main_arg0 m _ c
    · exact Cert.AdamIdeal.Gen.W_main_arg1 m _ c
    · exact Cert.AdamIdeal.Gen.W_main_arg2 m _ c
    · exact Cert.AdamIdeal.Gen.W_main_arg3 m _ c
    · exact Cert.AdamIdeal.Gen.W_main_arg4 m _ c
    · exact Cert.AdamIdeal.Gen.W_main_arg5 m _ c
    · exact Cert.AdamIdeal.Gen.W_main_arg6 m _ c
    · exact Cert.AdamIdeal.Gen.W_main_arg7 m _ c
    · exact Cert.AdamIdeal.Gen.W_main_arg8 m _ c
    · exact Cert.AdamIdeal.Gen.W_main_arg9 m _ c
    · exact Cert.AdamIdeal.Gen.W_main_arg10 m _ c
    · exact Cert.AdamIdeal.Gen.W_main_arg11 m _ c
    · exact Cert.AdamIdeal.Gen.W_main_arg12 m _ c
    · exact Cert.AdamIdeal.Gen.W_main_arg13 m _ c
    · exact Cert.AdamIdeal.Gen.W_main_arg14 m _ c
    · exact Cert.AdamIdeal.Gen.W_main_arg15 m _ c
    · exact Cert.AdamIdeal.Gen.W_main_arg16 m _ c
    · exact Cert.AdamIdeal.Gen.W_main_arg17 m _ c
    · exact Cert.AdamIdeal.Gen.W_main_arg18 m _ c
    · exact Cert.AdamIdeal.Gen.W_main_arg19 m _ c
    · exact Cert.AdamIdeal.Gen.W_main_arg20 m _ c
    · exact Cert.AdamIdeal.Gen.W_main_arg21 m _ c
    · exact Cert.AdamIdeal.Gen.W_main_arg22 m _ c
    · exact Cert.AdamIdeal.Gen.W_main_arg23 m _ c
  · run_from Cert.AdamRefIdeal.Own.run m' g'
    · rw [tail137]
    · rw [tail149]
    · rw [tail163]
    · rw [tail168]
    · rw [tail178]
    · rw [tail189]
    · rw [tail191]
    · rw [tail203]
    · rw [tail217]
    · rw [tail222]
    · rw [tail232]
    · rw [tail243]
    · rw [tail245]
    · rw [tail257]
    · rw [tail271]
    · rw [tail276]
    · rw [tail286]
    · rw [tail297]
    · rw [tail299]
    · rw [tail311]
    · rw [tail325]
    · rw [tail330]
    · rw [tail340]
    · rw [tail351]

end Cert.Proof.Adam

end
-- ==== Proof.DwIdeal.Value.lean ====
module

public import proofs.«01_k».proof.Proof.Gen.DwIdeal.Frame
public import proofs.«01_k».proof.Proof.Gen.DwRefIdeal.Read
public import Idealize.ShloMosaic.Lib.StableHlo.ReadAt
public import Idealize.ShloMosaic.Lib.Pipeline.ValueKit

@[expose] public section

set_option maxRecDepth 16384

noncomputable section

namespace Cert.DwIdeal.Own

section
open Cert.DwRefIdeal Cert.DwRefIdeal.Read Idealize.ShloMosaic Idealize.ShloMosaic.TcCoe Idealize.SL.Sem
variable (x0 : Vec Ideal S4096x1024 .f32) (x1 : Vec Ideal S4096x512 .f32) (x2 : Vec Ideal S4096x256 .f32) (x3 : Vec Ideal S4096x3072 .f32) (x4 : Vec Ideal S4096x2048 .f32)

/-- The gradient of the projections' outputs, side by side: 512 query columns, 256 of keys and values, 3072 of the
retention and 2048 of the gates. -/
def Col (k : Fin 4096) (r : Fin 5888) : EReal := val_main_v3 (F := Ideal) x1 x2 x3 x4 (ix2 k r)

theorem col_q (k : Fin 4096) (r : Fin 5888) (i : Fin 512) (h : r.val = i.val) : Col x1 x2 x3 x4 k r = x1 (ix2 k i) := by
  obtain ⟨r, hr⟩ := r
  dsimp only at h
  subst h
  unfold Col val_main_v3
  pointwise
  all_goals rw [dif_pos i.isLt]
  all_goals exact congrArg (fun j => x1 (ix2 k j)) (Fin.ext (by dsimp only; omega))
theorem col_kv (k : Fin 4096) (r : Fin 5888) (i : Fin 256) (h : r.val = 512 + i.val) : Col x1 x2 x3 x4 k r = x2 (ix2 k i) := by
  obtain ⟨r, hr⟩ := r
  dsimp only at h
  subst h
  unfold Col val_main_v3
  pointwise
  all_goals rw [dif_neg (by omega), dif_pos (by omega)]
  all_goals exact congrArg (fun j => x2 (ix2 k j)) (Fin.ext (by dsimp only; omega))
theorem col_r (k : Fin 4096) (r : Fin 5888) (i : Fin 3072) (h : r.val = 768 + i.val) : Col x1 x2 x3 x4 k r = x3 (ix2 k i) := by
  obtain ⟨r, hr⟩ := r
  dsimp only at h
  subst h
  unfold Col val_main_v3
  pointwise
  all_goals rw [dif_neg (by omega), dif_neg (by omega), dif_pos (by omega)]
  all_goals exact congrArg (fun j => x3 (ix2 k j)) (Fin.ext (by dsimp only; omega))
theorem col_g (k : Fin 4096) (r : Fin 5888) (i : Fin 2048) (h : r.val = 3840 + i.val) : Col x1 x2 x3 x4 k r = x4 (ix2 k i) := by
  obtain ⟨r, hr⟩ := r
  dsimp only at h
  subst h
  unfold Col val_main_v3
  pointwise
  all_goals rw [dif_neg (by omega), dif_neg (by omega), dif_neg (by omega)]
  all_goals exact congrArg (fun j => x4 (ix2 k j)) (Fin.ext (by dsimp only; omega))

/-- The gradient of one weight: the sum over the tokens. -/
def Gw (a : Fin 5888) (b : Fin 1024) : EReal := ∑ k, Col x1 x2 x3 x4 k a * x0 (ix2 k b)

/-- An array of columns by model entries, from its entries. -/
def At2 (f : Fin 5888 → Fin 1024 → EReal) : S5888x1024.Idx → EReal := fun y => f (y 0) (y 1)
theorem At2_apply (f : Fin 5888 → Fin 1024 → EReal) (a : Fin 5888) (b : Fin 1024) : At2 f (ix2 a b) = f a b := rfl

theorem ref4 : val_main_v4 x0 x1 x2 x3 x4 = At2 (Gw x0 x1 x2 x3 x4) := by
  funext y
  idx_vars y
  rw [At2_apply]
  pointwise [val_main_v4]
  rfl
/-- The reference's result. -/
abbrev val6 : Vec Ideal S1x1024x5888 .f32 := val_main_v6 x0 x1 x2 x3 x4
end

open Cert.DwIdeal Cert.DwIdeal.Gen Idealize.ShloMosaic Idealize.ShloMosaic.TcCoe Idealize.SL.Sem
open Idealize.ShloMosaic.Pipeline (Dat)

/-- Which piece a point reads, and where. -/
theorem idx0 : ∀ t : Fin cfg0.N, (t.val < 2 → win0_0.index t = ![t.val, 0]) ∧ (t.val = 2 → win0_1.index t = ![0, 0])
    ∧ (3 ≤ t.val → t.val ≤ 14 → win0_2.index t = ![0, t.val - 3]) ∧ (15 ≤ t.val → win0_3.index t = ![0, t.val - 15])
    ∧ win0_4.index t = ![0, 0] ∧ win0_5.index t = ![t.val, 0] ∧ t.val < 23 := (by decide +kernel : ∀ t : Fin grid0.N, _)

theorem lt0 (t : Fin cfg0.N) (a : Fin 256) : t.val * 256 + a.val < 5888 := by
  have := (idx0 t).2.2.2.2.2.2; omega
/-- Row `a` of point `t`'s block of the result. -/
abbrev at0 (t : Fin cfg0.N) (a : Fin 256) : Fin 5888 := ⟨t.val * 256 + a.val, lt0 t a⟩

variable (m : (ℓ : Loc nD τ sig) → Buf (Elt Ideal) ℓ) (c : Dev nD)

/-- The arguments of device `c`. -/
abbrev X0 : Vec Ideal S4096x1024 .f32 := m ((c : Thread nD τ).loc main_arg0)
abbrev X1 : Vec Ideal S4096x512 .f32 := m ((c : Thread nD τ).loc main_arg1)
abbrev X2 : Vec Ideal S4096x256 .f32 := m ((c : Thread nD τ).loc main_arg2)
abbrev X3 : Vec Ideal S4096x3072 .f32 := m ((c : Thread nD τ).loc main_arg3)
abbrev X4 : Vec Ideal S4096x2048 .f32 := m ((c : Thread nD τ).loc main_arg4)

theorem in_v1 (a : Fin 512) (b : Fin 4096) : (V m c main_v1 : Vec Ideal S512x4096 .bf16) (ix2 a b) = X1 m c (ix2 b a) := by
  change (StableHlo.after hostOps0 (fun b => m (c, b)) (Proc.devRef .tc main_v1) : Vec Ideal S512x4096 .bf16) (ix2 a b) = _
  entry_read
  pointwise
theorem in_v2 (a : Fin 4096) (b : Fin 256) : (V m c main_v2 : Vec Ideal S4096x256 .bf16) (ix2 a b) = X2 m c (ix2 a b) := by
  change (StableHlo.after hostOps0 (fun b => m (c, b)) (Proc.devRef .tc main_v2) : Vec Ideal S4096x256 .bf16) (ix2 a b) = _
  entry_read
  pointwise
theorem in_v3 (a : Fin 4096) (b : Fin 3072) : (V m c main_v3 : Vec Ideal S4096x3072 .bf16) (ix2 a b) = X3 m c (ix2 a b) := by
  change (StableHlo.after hostOps0 (fun b => m (c, b)) (Proc.devRef .tc main_v3) : Vec Ideal S4096x3072 .bf16) (ix2 a b) = _
  entry_read
  pointwise
theorem in_v4 (a : Fin 4096) (b : Fin 2048) : (V m c main_v4 : Vec Ideal S4096x2048 .bf16) (ix2 a b) = X4 m c (ix2 a b) := by
  change (StableHlo.after hostOps0 (fun b => m (c, b)) (Proc.devRef .tc main_v4) : Vec Ideal S4096x2048 .bf16) (ix2 a b) = _
  entry_read
  pointwise
theorem in_v5 (a : Fin 4096) (b : Fin 1024) : (V m c main_v5 : Vec Ideal S4096x1024 .bf16) (ix2 a b) = X0 m c (ix2 a b) := by
  change (StableHlo.after hostOps0 (fun b => m (c, b)) (Proc.devRef .tc main_v5) : Vec Ideal S4096x1024 .bf16) (ix2 a b) = _
  entry_read
  pointwise

theorem blk0 (t : Fin cfg0.N) (h : t.val < 2) (a : Fin 256) (b : Fin 4096) :
    iblk m c 0 t (ix2 a b) = Col (X1 m c) (X2 m c) (X3 m c) (X4 m c) b (at0 t a) := by
  rw [col_q _ _ _ _ b (at0 t a) ⟨t.val * 256 + a.val, by omega⟩ rfl, ← in_v1 m c _ b]
  blk_ext [iblk, (idx0 t).1 h]
theorem blk1 (t : Fin cfg0.N) (h : t.val = 2) (a : Fin 4096) (b : Fin 256) :
    iblk m c 1 t (ix2 a b) = Col (X1 m c) (X2 m c) (X3 m c) (X4 m c) a (at0 t b) := by
  rw [col_kv _ _ _ _ a (at0 t b) b (by simp only [h]), ← in_v2 m c a b]
  blk_ext [iblk, (idx0 t).2.1 h]
theorem blk2 (t : Fin cfg0.N) (h : 3 ≤ t.val) (h' : t.val ≤ 14) (a : Fin 4096) (b : Fin 256) :
    iblk m c 2 t (ix2 a b) = Col (X1 m c) (X2 m c) (X3 m c) (X4 m c) a (at0 t b) := by
  rw [col_r _ _ _ _ a (at0 t b) ⟨(t.val - 3) * 256 + b.val, by omega⟩ (by simp only; omega), ← in_v3 m c a _]
  blk_ext [iblk, (idx0 t).2.2.1 h h']
theorem blk3 (t : Fin cfg0.N) (h : 15 ≤ t.val) (a : Fin 4096) (b : Fin 256) :
    iblk m c 3 t (ix2 a b) = Col (X1 m c) (X2 m c) (X3 m c) (X4 m c) a (at0 t b) := by
  have h23 := (idx0 t).2.2.2.2.2.2
  rw [col_g _ _ _ _ a (at0 t b) ⟨(t.val - 15) * 256 + b.val, by omega⟩ (by simp only; omega), ← in_v4 m c a _]
  blk_ext [iblk, (idx0 t).2.2.2.1 h]
theorem blk4 (t : Fin cfg0.N) (a : Fin 4096) (b : Fin 1024) : iblk m c 4 t (ix2 a b) = X0 m c (ix2 a b) := by
  rw [← in_v5 m c a b]
  blk_ext [iblk, (idx0 t).2.2.2.2.1]

/-- The block of one point, whichever piece it reads. -/
theorem out5 (t : Fin cfg0.N) (a : Fin 256) (b : Fin 1024) :
    (outsAt0 m c t.val t.isLt).1 (ix2 a b) = Gw (X0 m c) (X1 m c) (X2 m c) (X3 m c) (X4 m c) (at0 t a) b := by
  have h23 := (idx0 t).2.2.2.2.2.2
  unfold Gw
  by_cases hA : t.val < 2
  · rw [outsAt0_A m c t hA (by omega) (by omega) (by omega)]
    have e : ∀ x0 x1 x2 x3 x4, out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr hA) (fun h => absurd ((hcond0_1 t).mp h) (by omega)) (fun h => absurd ((hcond0_2 t).mp h) (by omega)) (fun h => absurd ((hcond0_3 t).mp h) (by omega)) x0 x1 x2 x3 x4 = k0_pay1 (F := Ideal) x0 x4 := by
      intros; unfold out0_A_5; frame_out
    dsimp only
    rw [e]
    pointwise [k0_pay1]
    simp only [blk0 m c t hA, blk4, zero_add]
  by_cases hB : t.val = 2
  · rw [outsAt0_B m c t (by omega) (by omega) (by omega) (by omega)]
    have e : ∀ x0 x1 x2 x3 x4, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => absurd ((hcond0_0 t).mp h) (by omega)) ((hcond0_1 t).mpr (by omega)) (fun h => absurd ((hcond0_2 t).mp h) (by omega)) (fun h => absurd ((hcond0_3 t).mp h) (by omega)) x0 x1 x2 x3 x4 = k0_pay3 (F := Ideal) x1 x4 := by
      intros; unfold out0_B_5; frame_out
    dsimp only
    rw [e]
    pointwise [k0_pay3]
    simp only [blk1 m c t hB, blk4, zero_add]
  by_cases hC : t.val ≤ 14
  · rw [outsAt0_C m c t (by omega) (by omega) (by omega) (by omega)]
    have e : ∀ x0 x1 x2 x3 x4, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => absurd ((hcond0_0 t).mp h) (by omega)) (fun h => absurd ((hcond0_1 t).mp h) (by omega)) ((hcond0_2 t).mpr (by omega)) (fun h => absurd ((hcond0_3 t).mp h) (by omega)) x0 x1 x2 x3 x4 = k0_pay5 (F := Ideal) x2 x4 := by
      intros; unfold out0_C_5; frame_out
    dsimp only
    rw [e]
    pointwise [k0_pay5]
    simp only [blk2 m c t (by omega) hC, blk4, zero_add]
  · rw [outsAt0_D m c t (by omega) (by omega) (by omega) (by omega)]
    have e : ∀ x0 x1 x2 x3 x4, out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => absurd ((hcond0_0 t).mp h) (by omega)) (fun h => absurd ((hcond0_1 t).mp h) (by omega)) (fun h => absurd ((hcond0_2 t).mp h) (by omega)) ((hcond0_3 t).mpr (by omega)) x0 x1 x2 x3 x4 = k0_pay7 (F := Ideal) x3 x4 := by
      intros; unfold out0_D_5; frame_out
    dsimp only
    rw [e]
    pointwise [k0_pay7]
    simp only [blk3 m c t (by omega), blk4, zero_add]
theorem end5 : (dats m 0 c).arrAt 5 cfg0.N = At2 (Gw (X0 m c) (X1 m c) (X2 m c) (X3 m c) (X4 m c)) := by
  refine (dats m 0 c).arrAt_eq_of_covers 5 _ (by decide +kernel) fun t _ y => ?_
  blk_simp
  rw [after0_5]
  idx_vars y
  rw [out5 m c t y0 y1, ← At2_apply (Gw (X0 m c) (X1 m c) (X2 m c) (X3 m c) (X4 m c))]
  blk_ext [(idx0 t).2.2.2.2.2.1]

/-- What the lines after the call make of it. -/
theorem tail8 : (Pipeline.afterTail₀ cfgs (dats m) 0 (V0 m) [hostOps1] c main_v8 : Vec Ideal S1x1024x5888 .f32) = val6 (X0 m c) (X1 m c) (X2 m c) (X3 m c) (X4 m c) := by
  have h : Pipeline.withArrays (cfgs 0).spec c (V0 m c) (fun w => (dats m 0 c).arrAt w (cfgs 0).N) (Proc.devRef .tc main_v6_0) = At2 (Gw (X0 m c) (X1 m c) (X2 m c) (X3 m c) (X4 m c)) :=
    (Pipeline.withArrays_arr spec0 (by decide) c _ _ 5).trans (end5 m c)
  unfold Pipeline.afterTail₀
  after_reads_simp
  rw [h, ← ref4]
  rfl

end Cert.DwIdeal.Own

end
-- ==== Proof.DwIdeal.Claims.lean ====
module

public import proofs.«01_k».proof.Defs
public import proofs.«01_k».proof.Proof.Gen.Dw.Frame
public import proofs.«01_k».proof.Proof.Gen.DwIdeal.Frame
public import proofs.«01_k».proof.Proof.Gen.DwRefIdeal.Run
public import proofs.«01_k».proof.Proof.DwIdeal.Value
public import Idealize.ShloMosaic.Lib.Tactic
public import Idealize.ShloMosaic.Lib.Claim

@[expose] public section

set_option maxRecDepth 16384

noncomputable section

namespace Cert.Proof.Dw

open Idealize.ShloMosaic Idealize.ShloMosaic.TcCoe Idealize.SL.Sem

theorem frame_bits : Cert.quiescent_Dw := fun m ρ _ => Cert.Dw.Gen.frame m ρ

theorem frame_ideal : Cert.quiescent_DwIdeal := fun m ρ _ => Cert.DwIdeal.Gen.frame m ρ

/-- The reference has host operations alone: no operation writes an argument, and no semaphore is declared. -/
theorem frame_ref : Cert.quiescent_DwRefIdeal := fun m ρ _ =>
  (θ_run Cert.DwRefIdeal.defs _ _).mono (fun r h => ⟨fun c => (h c).2, sem_eq_zero_of_no_sems (by decide) r.2⟩)
    (Cert.DwRefIdeal.Value.run m ρ)

set_option maxHeartbeats 4000000 in
open Cert.DwIdeal.Gen Cert.DwIdeal.Own Cert.DwRefIdeal.Read in
theorem value : Cert.algebraic_DwIdeal_DwRefIdeal := by
  pair_intro
  · run_from Cert.DwIdeal.Gen.run_main m g & Cert.DwIdeal.Gen.frame m g
    · exact Cert.DwIdeal.Gen.W_main_arg0 m _ c
    · exact Cert.DwIdeal.Gen.W_main_arg1 m _ c
    · exact Cert.DwIdeal.Gen.W_main_arg2 m _ c
    · exact Cert.DwIdeal.Gen.W_main_arg3 m _ c
    · exact Cert.DwIdeal.Gen.W_main_arg4 m _ c
  · run_from Cert.DwRefIdeal.Value.run m' g'
    all_goals
      obtain ⟨e0, e1, e2, e3, e4⟩ := hagree c
    rw [tail8, val_main_v6_eq, e1, e2, e3, e4]

end Cert.Proof.Dw

end
-- ==== Proof.lean ====
/- The proof of the certificate's claim. Every conjunct is proved in a module of its own program pair,
   `Proof/<program>/Claims.lean`; here they are put together in the claim's order. The conjuncts on rewrites
   (`preserves`) are trivial except that of `Att`, which names one constant. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Inp
public import proofs.«01_k».proof.Proof.Gen.InpIdeal
public import proofs.«01_k».proof.Proof.Gen.InpRefIdeal
public import proofs.«01_k».proof.Proof.Gen.Mlp
public import proofs.«01_k».proof.Proof.Gen.MlpIdeal
public import proofs.«01_k».proof.Proof.Gen.MlpRefIdeal
public import proofs.«01_k».proof.Proof.Gen.Att
public import proofs.«01_k».proof.Proof.Gen.AttIdeal
public import proofs.«01_k».proof.Proof.Gen.AttRefIdeal
public import proofs.«01_k».proof.Proof.Gen.Mixf
public import proofs.«01_k».proof.Proof.Gen.MixfIdeal
public import proofs.«01_k».proof.Proof.Gen.MixfRefIdeal
public import proofs.«01_k».proof.Proof.Gen.Mm
public import proofs.«01_k».proof.Proof.Gen.MmIdeal
public import proofs.«01_k».proof.Proof.Gen.MmRefIdeal
public import proofs.«01_k».proof.Proof.Gen.Adam
public import proofs.«01_k».proof.Proof.Gen.AdamIdeal
public import proofs.«01_k».proof.Proof.Gen.AdamRefIdeal
public import proofs.«01_k».proof.Proof.Gen.Dw
public import proofs.«01_k».proof.Proof.Gen.DwIdeal
public import proofs.«01_k».proof.Proof.Gen.DwRefIdeal
public import proofs.«01_k».proof.Proof.Gen.Pre_finite_inp
public import proofs.«01_k».proof.Proof.Gen.Pre_finite_mlp
public import proofs.«01_k».proof.Proof.KernelIdeal.Claims
public import proofs.«01_k».proof.Proof.Gen.ReferenceIdeal.Run
public import proofs.«01_k».proof.Proof.Gen.ReferenceIdeal.Read
public import proofs.«01_k».proof.Proof.InpIdeal.Claims
public import proofs.«01_k».proof.Proof.Gen.InpRefIdeal.Run
public import proofs.«01_k».proof.Proof.Gen.InpRefIdeal.Read
public import proofs.«01_k».proof.Proof.MlpIdeal.Claims
public import proofs.«01_k».proof.Proof.Gen.MlpRefIdeal.Run
public import proofs.«01_k».proof.Proof.Gen.MlpRefIdeal.Read
public import proofs.«01_k».proof.Proof.AttIdeal.Claims
public import proofs.«01_k».proof.Proof.MixfIdeal.Claims
public import proofs.«01_k».proof.Proof.Gen.MixfRefIdeal.Run
public import proofs.«01_k».proof.Proof.Gen.MixfRefIdeal.Read
public import proofs.«01_k».proof.Proof.MmIdeal.Claims
public import proofs.«01_k».proof.Proof.Gen.MmRefIdeal.Run
public import proofs.«01_k».proof.Proof.Gen.MmRefIdeal.Read
public import proofs.«01_k».proof.Proof.AdamIdeal.Claims
public import proofs.«01_k».proof.Proof.Gen.AdamRefIdeal.Run
public import proofs.«01_k».proof.Proof.Gen.AdamRefIdeal.Read
public import proofs.«01_k».proof.Proof.DwIdeal.Claims
public import proofs.«01_k».proof.Proof.Gen.DwRefIdeal.Run
public import proofs.«01_k».proof.Proof.Gen.DwRefIdeal.Read

@[expose] public section

noncomputable section

namespace Cert.Proof

theorem claim : Cert.Claim :=
  ⟨Cert.Kernel.Gen.facts,
    Cert.KernelIdeal.Gen.facts,
    Cert.ReferenceIdeal.Gen.facts,
    Cert.Inp.Gen.facts,
    Cert.InpIdeal.Gen.facts,
    Cert.InpRefIdeal.Gen.facts,
    Cert.Mlp.Gen.facts,
    Cert.MlpIdeal.Gen.facts,
    Cert.MlpRefIdeal.Gen.facts,
    Cert.Att.Gen.facts,
    Cert.AttIdeal.Gen.facts,
    Cert.AttRefIdeal.Gen.facts,
    Cert.Mixf.Gen.facts,
    Cert.MixfIdeal.Gen.facts,
    Cert.MixfRefIdeal.Gen.facts,
    Cert.Mm.Gen.facts,
    Cert.MmIdeal.Gen.facts,
    Cert.MmRefIdeal.Gen.facts,
    Cert.Adam.Gen.facts,
    Cert.AdamIdeal.Gen.facts,
    Cert.AdamRefIdeal.Gen.facts,
    Cert.Dw.Gen.facts,
    Cert.DwIdeal.Gen.facts,
    Cert.DwRefIdeal.Gen.facts,
    Cert.Pre_finite_inp.Gen.facts,
    Cert.Pre_finite_mlp.Gen.facts,
    Cert.Proof.Mix.frame_bits,
    Cert.Proof.Mix.frame_ideal,
    Cert.Proof.Mix.frame_ref,
    Cert.Proof.Inp.frame_bits,
    Cert.Proof.Inp.frame_ideal,
    Cert.Proof.Inp.frame_ideal_pre,
    Cert.Proof.Inp.frame_ref,
    Cert.Proof.Inp.frame_ref_pre,
    Cert.Proof.Mlp.frame_bits,
    Cert.Proof.Mlp.frame_ideal,
    Cert.Proof.Mlp.frame_ideal_pre,
    Cert.Proof.Mlp.frame_ref,
    Cert.Proof.Mlp.frame_ref_pre,
    Cert.Proof.Att.frame_bits,
    Cert.Proof.Att.frame_ideal,
    Cert.Proof.Att.frame_ref,
    Cert.Proof.Mixf.frame_bits,
    Cert.Proof.Mixf.frame_ideal,
    Cert.Proof.Mixf.frame_ref,
    Cert.Proof.Mm.frame_bits,
    Cert.Proof.Mm.frame_ideal,
    Cert.Proof.Mm.frame_ref,
    Cert.Proof.Adam.frame_bits,
    Cert.Proof.Adam.frame_ideal,
    Cert.Proof.Adam.frame_ref,
    Cert.Proof.Dw.frame_bits,
    Cert.Proof.Dw.frame_ideal,
    Cert.Proof.Dw.frame_ref,
    trivial,
    Cert.Proof.Mix.value,
    trivial,
    Cert.Proof.Inp.value,
    trivial,
    Cert.Proof.Mlp.value,
    Cert.Proof.Att.preserves,
    trivial,
    Cert.Proof.Mixf.value,
    trivial,
    Cert.Proof.Mm.value,
    trivial,
    Cert.Proof.Adam.value,
    trivial,
    Cert.Proof.Dw.value⟩

end Cert.Proof

end
